-- ==== Defs.lean ====
def Pre_Even (m : (ℓ : Loc Cert.Even.nD Cert.Even.τ Cert.Even.sig) → Buf (Elt Bits) ℓ) : Prop :=
  True

def Pre_EvenIdeal (m : (ℓ : Loc Cert.EvenIdeal.nD Cert.EvenIdeal.τ Cert.EvenIdeal.sig) → Buf (Elt Ideal) ℓ) : Prop :=
  True

def Pre_EvenIdeal_finite [hPre_finite : Cert.Pre_finite.Facts] (m : (ℓ : Loc Cert.EvenIdeal.nD Cert.EvenIdeal.τ Cert.EvenIdeal.sig) → Buf (Elt Ideal) ℓ) : Prop :=
  ∀ c : Dev Cert.EvenIdeal.nD,
    (Cert.Pre_finite.fn (F := Ideal) (m ((c.tc : Thread Cert.EvenIdeal.nD Cert.EvenIdeal.τ).loc Cert.EvenIdeal.main_arg0)) (m ((c.tc : Thread Cert.EvenIdeal.nD Cert.EvenIdeal.τ).loc Cert.EvenIdeal.main_arg1)) (m ((c.tc : Thread Cert.EvenIdeal.nD Cert.EvenIdeal.τ).loc Cert.EvenIdeal.main_arg2)) (m ((c.tc : Thread Cert.EvenIdeal.nD Cert.EvenIdeal.τ).loc Cert.EvenIdeal.main_arg3)) (m ((c.tc : Thread Cert.EvenIdeal.nD Cert.EvenIdeal.τ).loc Cert.EvenIdeal.main_arg4)) (m ((c.tc : Thread Cert.EvenIdeal.nD Cert.EvenIdeal.τ).loc Cert.EvenIdeal.main_arg5)) (m ((c.tc : Thread Cert.EvenIdeal.nD Cert.EvenIdeal.τ).loc Cert.EvenIdeal.main_arg6)) (m ((c.tc : Thread Cert.EvenIdeal.nD Cert.EvenIdeal.τ).loc Cert.EvenIdeal.main_arg7)) (m ((c.tc : Thread Cert.EvenIdeal.nD Cert.EvenIdeal.τ).loc Cert.EvenIdeal.main_arg8)) (m ((c.tc : Thread Cert.EvenIdeal.nD Cert.EvenIdeal.τ).loc Cert.EvenIdeal.main_arg9)) (m ((c.tc : Thread Cert.EvenIdeal.nD Cert.EvenIdeal.τ).loc Cert.EvenIdeal.main_arg10)) (m ((c.tc : Thread Cert.EvenIdeal.nD Cert.EvenIdeal.τ).loc Cert.EvenIdeal.main_arg11)) (m ((c.tc : Thread Cert.EvenIdeal.nD Cert.EvenIdeal.τ).loc Cert.EvenIdeal.main_arg12)) (m ((c.tc : Thread Cert.EvenIdeal.nD Cert.EvenIdeal.τ).loc Cert.EvenIdeal.main_arg13)) (m ((c.tc : Thread Cert.EvenIdeal.nD Cert.EvenIdeal.τ).loc Cert.EvenIdeal.main_arg14)) (m ((c.tc : Thread Cert.EvenIdeal.nD Cert.EvenIdeal.τ).loc Cert.EvenIdeal.main_arg15)) (m ((c.tc : Thread Cert.EvenIdeal.nD Cert.EvenIdeal.τ).loc Cert.EvenIdeal.main_arg16))).1 = (fun _ => 1#1)
    ∧ (Cert.Pre_finite.fn (F := Ideal) (m ((c.tc : Thread Cert.EvenIdeal.nD Cert.EvenIdeal.τ).loc Cert.EvenIdeal.main_arg0)) (m ((c.tc : Thread Cert.EvenIdeal.nD Cert.EvenIdeal.τ).loc Cert.EvenIdeal.main_arg1)) (m ((c.tc : Thread Cert.EvenIdeal.nD Cert.EvenIdeal.τ).loc Cert.EvenIdeal.main_arg2)) (m ((c.tc : Thread Cert.EvenIdeal.nD Cert.EvenIdeal.τ).loc Cert.EvenIdeal.main_arg3)) (m ((c.tc : Thread Cert.EvenIdeal.nD Cert.EvenIdeal.τ).loc Cert.EvenIdeal.main_arg4)) (m ((c.tc : Thread Cert.EvenIdeal.nD Cert.EvenIdeal.τ).loc Cert.EvenIdeal.main_arg5)) (m ((c.tc : Thread Cert.EvenIdeal.nD Cert.EvenIdeal.τ).loc Cert.EvenIdeal.main_arg6)) (m ((c.tc : Thread Cert.EvenIdeal.nD Cert.EvenIdeal.τ).loc Cert.EvenIdeal.main_arg7)) (m ((c.tc : Thread Cert.EvenIdeal.nD Cert.EvenIdeal.τ).loc Cert.EvenIdeal.main_arg8)) (m ((c.tc : Thread Cert.EvenIdeal.nD Cert.EvenIdeal.τ).loc Cert.EvenIdeal.main_arg9)) (m ((c.tc : Thread Cert.EvenIdeal.nD Cert.EvenIdeal.τ).loc Cert.EvenIdeal.main_arg10)) (m ((c.tc : Thread Cert.EvenIdeal.nD Cert.EvenIdeal.τ).loc Cert.EvenIdeal.main_arg11)) (m ((c.tc : Thread Cert.EvenIdeal.nD Cert.EvenIdeal.τ).loc Cert.EvenIdeal.main_arg12)) (m ((c.tc : Thread Cert.EvenIdeal.nD Cert.EvenIdeal.τ).loc Cert.EvenIdeal.main_arg13)) (m ((c.tc : Thread Cert.EvenIdeal.nD Cert.EvenIdeal.τ).loc Cert.EvenIdeal.main_arg14)) (m ((c.tc : Thread Cert.EvenIdeal.nD Cert.EvenIdeal.τ).loc Cert.EvenIdeal.main_arg15)) (m ((c.tc : Thread Cert.EvenIdeal.nD Cert.EvenIdeal.τ).loc Cert.EvenIdeal.main_arg16))).2.1 = (fun _ => 1#1)
    ∧ (Cert.Pre_finite.fn (F := Ideal) (m ((c.tc : Thread Cert.EvenIdeal.nD Cert.EvenIdeal.τ).loc Cert.EvenIdeal.main_arg0)) (m ((c.tc : Thread Cert.EvenIdeal.nD Cert.EvenIdeal.τ).loc Cert.EvenIdeal.main_arg1)) (m ((c.tc : Thread Cert.EvenIdeal.nD Cert.EvenIdeal.τ).loc Cert.EvenIdeal.main_arg2)) (m ((c.tc : Thread Cert.EvenIdeal.nD Cert.EvenIdeal.τ).loc Cert.EvenIdeal.main_arg3)) (m ((c.tc : Thread Cert.EvenIdeal.nD Cert.EvenIdeal.τ).loc Cert.EvenIdeal.main_arg4)) (m ((c.tc : Thread Cert.EvenIdeal.nD Cert.EvenIdeal.τ).loc Cert.EvenIdeal.main_arg5)) (m ((c.tc : Thread Cert.EvenIdeal.nD Cert.EvenIdeal.τ).loc Cert.EvenIdeal.main_arg6)) (m ((c.tc : Thread Cert.EvenIdeal.nD Cert.EvenIdeal.τ).loc Cert.EvenIdeal.main_arg7)) (m ((c.tc : Thread Cert.EvenIdeal.nD Cert.EvenIdeal.τ).loc Cert.EvenIdeal.main_arg8)) (m ((c.tc : Thread Cert.EvenIdeal.nD Cert.EvenIdeal.τ).loc Cert.EvenIdeal.main_arg9)) (m ((c.tc : Thread Cert.EvenIdeal.nD Cert.EvenIdeal.τ).loc Cert.EvenIdeal.main_arg10)) (m ((c.tc : Thread Cert.EvenIdeal.nD Cert.EvenIdeal.τ).loc Cert.EvenIdeal.main_arg11)) (m ((c.tc : Thread Cert.EvenIdeal.nD Cert.EvenIdeal.τ).loc Cert.EvenIdeal.main_arg12)) (m ((c.tc : Thread Cert.EvenIdeal.nD Cert.EvenIdeal.τ).loc Cert.EvenIdeal.main_arg13)) (m ((c.tc : Thread Cert.EvenIdeal.nD Cert.EvenIdeal.τ).loc Cert.EvenIdeal.main_arg14)) (m ((c.tc : Thread Cert.EvenIdeal.nD Cert.EvenIdeal.τ).loc Cert.EvenIdeal.main_arg15)) (m ((c.tc : Thread Cert.EvenIdeal.nD Cert.EvenIdeal.τ).loc Cert.EvenIdeal.main_arg16))).2.2.1 = (fun _ => 1#1)
    ∧ (Cert.Pre_finite.fn (F := Ideal) (m ((c.tc : Thread Cert.EvenIdeal.nD Cert.EvenIdeal.τ).loc Cert.EvenIdeal.main_arg0)) (m ((c.tc : Thread Cert.EvenIdeal.nD Cert.EvenIdeal.τ).loc Cert.EvenIdeal.main_arg1)) (m ((c.tc : Thread Cert.EvenIdeal.nD Cert.EvenIdeal.τ).loc Cert.EvenIdeal.main_arg2)) (m ((c.tc : Thread Cert.EvenIdeal.nD Cert.EvenIdeal.τ).loc Cert.EvenIdeal.main_arg3)) (m ((c.tc : Thread Cert.EvenIdeal.nD Cert.EvenIdeal.τ).loc Cert.EvenIdeal.main_arg4)) (m ((c.tc : Thread Cert.EvenIdeal.nD Cert.EvenIdeal.τ).loc Cert.EvenIdeal.main_arg5)) (m ((c.tc : Thread Cert.EvenIdeal.nD Cert.EvenIdeal.τ).loc Cert.EvenIdeal.main_arg6)) (m ((c.tc : Thread Cert.EvenIdeal.nD Cert.EvenIdeal.τ).loc Cert.EvenIdeal.main_arg7)) (m ((c.tc : Thread Cert.EvenIdeal.nD Cert.EvenIdeal.τ).loc Cert.EvenIdeal.main_arg8)) (m ((c.tc : Thread Cert.EvenIdeal.nD Cert.EvenIdeal.τ).loc Cert.EvenIdeal.main_arg9)) (m ((c.tc : Thread Cert.EvenIdeal.nD Cert.EvenIdeal.τ).loc Cert.EvenIdeal.main_arg10)) (m ((c.tc : Thread Cert.EvenIdeal.nD Cert.EvenIdeal.τ).loc Cert.EvenIdeal.main_arg11)) (m ((c.tc : Thread Cert.EvenIdeal.nD Cert.EvenIdeal.τ).loc Cert.EvenIdeal.main_arg12)) (m ((c.tc : Thread Cert.EvenIdeal.nD Cert.EvenIdeal.τ).loc Cert.EvenIdeal.main_arg13)) (m ((c.tc : Thread Cert.EvenIdeal.nD Cert.EvenIdeal.τ).loc Cert.EvenIdeal.main_arg14)) (m ((c.tc : Thread Cert.EvenIdeal.nD Cert.EvenIdeal.τ).loc Cert.EvenIdeal.main_arg15)) (m ((c.tc : Thread Cert.EvenIdeal.nD Cert.EvenIdeal.τ).loc Cert.EvenIdeal.main_arg16))).2.2.2.1 = (fun _ => 1#1)
    ∧ (Cert.Pre_finite.fn (F := Ideal) (m ((c.tc : Thread Cert.EvenIdeal.nD Cert.EvenIdeal.τ).loc Cert.EvenIdeal.main_arg0)) (m ((c.tc : Thread Cert.EvenIdeal.nD Cert.EvenIdeal.τ).loc Cert.EvenIdeal.main_arg1)) (m ((c.tc : Thread Cert.EvenIdeal.nD Cert.EvenIdeal.τ).loc Cert.EvenIdeal.main_arg2)) (m ((c.tc : Thread Cert.EvenIdeal.nD Cert.EvenIdeal.τ).loc Cert.EvenIdeal.main_arg3)) (m ((c.tc : Thread Cert.EvenIdeal.nD Cert.EvenIdeal.τ).loc Cert.EvenIdeal.main_arg4)) (m ((c.tc : Thread Cert.EvenIdeal.nD Cert.EvenIdeal.τ).loc Cert.EvenIdeal.main_arg5)) (m ((c.tc : Thread Cert.EvenIdeal.nD Cert.EvenIdeal.τ).loc Cert.EvenIdeal.main_arg6)) (m ((c.tc : Thread Cert.EvenIdeal.nD Cert.EvenIdeal.τ).loc Cert.EvenIdeal.main_arg7)) (m ((c.tc : Thread Cert.EvenIdeal.nD Cert.EvenIdeal.τ).loc Cert.EvenIdeal.main_arg8)) (m ((c.tc : Thread Cert.EvenIdeal.nD Cert.EvenIdeal.τ).loc Cert.EvenIdeal.main_arg9)) (m ((c.tc : Thread Cert.EvenIdeal.nD Cert.EvenIdeal.τ).loc Cert.EvenIdeal.main_arg10)) (m ((c.tc : Thread Cert.EvenIdeal.nD Cert.EvenIdeal.τ).loc Cert.EvenIdeal.main_arg11)) (m ((c.tc : Thread Cert.EvenIdeal.nD Cert.EvenIdeal.τ).loc Cert.EvenIdeal.main_arg12)) (m ((c.tc : Thread Cert.EvenIdeal.nD Cert.EvenIdeal.τ).loc Cert.EvenIdeal.main_arg13)) (m ((c.tc : Thread Cert.EvenIdeal.nD Cert.EvenIdeal.τ).loc Cert.EvenIdeal.main_arg14)) (m ((c.tc : Thread Cert.EvenIdeal.nD Cert.EvenIdeal.τ).loc Cert.EvenIdeal.main_arg15)) (m ((c.tc : Thread Cert.EvenIdeal.nD Cert.EvenIdeal.τ).loc Cert.EvenIdeal.main_arg16))).2.2.2.2.1 = (fun _ => 1#1)
    ∧ (Cert.Pre_finite.fn (F := Ideal) (m ((c.tc : Thread Cert.EvenIdeal.nD Cert.EvenIdeal.τ).loc Cert.EvenIdeal.main_arg0)) (m ((c.tc : Thread Cert.EvenIdeal.nD Cert.EvenIdeal.τ).loc Cert.EvenIdeal.main_arg1)) (m ((c.tc : Thread Cert.EvenIdeal.nD Cert.EvenIdeal.τ).loc Cert.EvenIdeal.main_arg2)) (m ((c.tc : Thread Cert.EvenIdeal.nD Cert.EvenIdeal.τ).loc Cert.EvenIdeal.main_arg3)) (m ((c.tc : Thread Cert.EvenIdeal.nD Cert.EvenIdeal.τ).loc Cert.EvenIdeal.main_arg4)) (m ((c.tc : Thread Cert.EvenIdeal.nD Cert.EvenIdeal.τ).loc Cert.EvenIdeal.main_arg5)) (m ((c.tc : Thread Cert.EvenIdeal.nD Cert.EvenIdeal.τ).loc Cert.EvenIdeal.main_arg6)) (m ((c.tc : Thread Cert.EvenIdeal.nD Cert.EvenIdeal.τ).loc Cert.EvenIdeal.main_arg7)) (m ((c.tc : Thread Cert.EvenIdeal.nD Cert.EvenIdeal.τ).loc Cert.EvenIdeal.main_arg8)) (m ((c.tc : Thread Cert.EvenIdeal.nD Cert.EvenIdeal.τ).loc Cert.EvenIdeal.main_arg9)) (m ((c.tc : Thread Cert.EvenIdeal.nD Cert.EvenIdeal.τ).loc Cert.EvenIdeal.main_arg10)) (m ((c.tc : Thread Cert.EvenIdeal.nD Cert.EvenIdeal.τ).loc Cert.EvenIdeal.main_arg11)) (m ((c.tc : Thread Cert.EvenIdeal.nD Cert.EvenIdeal.τ).loc Cert.EvenIdeal.main_arg12)) (m ((c.tc : Thread Cert.EvenIdeal.nD Cert.EvenIdeal.τ).loc Cert.EvenIdeal.main_arg13)) (m ((c.tc : Thread Cert.EvenIdeal.nD Cert.EvenIdeal.τ).loc Cert.EvenIdeal.main_arg14)) (m ((c.tc : Thread Cert.EvenIdeal.nD Cert.EvenIdeal.τ).loc Cert.EvenIdeal.main_arg15)) (m ((c.tc : Thread Cert.EvenIdeal.nD Cert.EvenIdeal.τ).loc Cert.EvenIdeal.main_arg16))).2.2.2.2.2.1 = (fun _ => 1#1)
    ∧ (Cert.Pre_finite.fn (F := Ideal) (m ((c.tc : Thread Cert.EvenIdeal.nD Cert.EvenIdeal.τ).loc Cert.EvenIdeal.main_arg0)) (m ((c.tc : Thread Cert.EvenIdeal.nD Cert.EvenIdeal.τ).loc Cert.EvenIdeal.main_arg1)) (m ((c.tc : Thread Cert.EvenIdeal.nD Cert.EvenIdeal.τ).loc Cert.EvenIdeal.main_arg2)) (m ((c.tc : Thread Cert.EvenIdeal.nD Cert.EvenIdeal.τ).loc Cert.EvenIdeal.main_arg3)) (m ((c.tc : Thread Cert.EvenIdeal.nD Cert.EvenIdeal.τ).loc Cert.EvenIdeal.main_arg4)) (m ((c.tc : Thread Cert.EvenIdeal.nD Cert.EvenIdeal.τ).loc Cert.EvenIdeal.main_arg5)) (m ((c.tc : Thread Cert.EvenIdeal.nD Cert.EvenIdeal.τ).loc Cert.EvenIdeal.main_arg6)) (m ((c.tc : Thread Cert.EvenIdeal.nD Cert.EvenIdeal.τ).loc Cert.EvenIdeal.main_arg7)) (m ((c.tc : Thread Cert.EvenIdeal.nD Cert.EvenIdeal.τ).loc Cert.EvenIdeal.main_arg8)) (m ((c.tc : Thread Cert.EvenIdeal.nD Cert.EvenIdeal.τ).loc Cert.EvenIdeal.main_arg9)) (m ((c.tc : Thread Cert.EvenIdeal.nD Cert.EvenIdeal.τ).loc Cert.EvenIdeal.main_arg10)) (m ((c.tc : Thread Cert.EvenIdeal.nD Cert.EvenIdeal.τ).loc Cert.EvenIdeal.main_arg11)) (m ((c.tc : Thread Cert.EvenIdeal.nD Cert.EvenIdeal.τ).loc Cert.EvenIdeal.main_arg12)) (m ((c.tc : Thread Cert.EvenIdeal.nD Cert.EvenIdeal.τ).loc Cert.EvenIdeal.main_arg13)) (m ((c.tc : Thread Cert.EvenIdeal.nD Cert.EvenIdeal.τ).loc Cert.EvenIdeal.main_arg14)) (m ((c.tc : Thread Cert.EvenIdeal.nD Cert.EvenIdeal.τ).loc Cert.EvenIdeal.main_arg15)) (m ((c.tc : Thread Cert.EvenIdeal.nD Cert.EvenIdeal.τ).loc Cert.EvenIdeal.main_arg16))).2.2.2.2.2.2.1 = (fun _ => 1#1)
    ∧ (Cert.Pre_finite.fn (F := Ideal) (m ((c.tc : Thread Cert.EvenIdeal.nD Cert.EvenIdeal.τ).loc Cert.EvenIdeal.main_arg0)) (m ((c.tc : Thread Cert.EvenIdeal.nD Cert.EvenIdeal.τ).loc Cert.EvenIdeal.main_arg1)) (m ((c.tc : Thread Cert.EvenIdeal.nD Cert.EvenIdeal.τ).loc Cert.EvenIdeal.main_arg2)) (m ((c.tc : Thread Cert.EvenIdeal.nD Cert.EvenIdeal.τ).loc Cert.EvenIdeal.main_arg3)) (m ((c.tc : Thread Cert.EvenIdeal.nD Cert.EvenIdeal.τ).loc Cert.EvenIdeal.main_arg4)) (m ((c.tc : Thread Cert.EvenIdeal.nD Cert.EvenIdeal.τ).loc Cert.EvenIdeal.main_arg5)) (m ((c.tc : Thread Cert.EvenIdeal.nD Cert.EvenIdeal.τ).loc Cert.EvenIdeal.main_arg6)) (m ((c.tc : Thread Cert.EvenIdeal.nD Cert.EvenIdeal.τ).loc Cert.EvenIdeal.main_arg7)) (m ((c.tc : Thread Cert.EvenIdeal.nD Cert.EvenIdeal.τ).loc Cert.EvenIdeal.main_arg8)) (m ((c.tc : Thread Cert.EvenIdeal.nD Cert.EvenIdeal.τ).loc Cert.EvenIdeal.main_arg9)) (m ((c.tc : Thread Cert.EvenIdeal.nD Cert.EvenIdeal.τ).loc Cert.EvenIdeal.main_arg10)) (m ((c.tc : Thread Cert.EvenIdeal.nD Cert.EvenIdeal.τ).loc Cert.EvenIdeal.main_arg11)) (m ((c.tc : Thread Cert.EvenIdeal.nD Cert.EvenIdeal.τ).loc Cert.EvenIdeal.main_arg12)) (m ((c.tc : Thread Cert.EvenIdeal.nD Cert.EvenIdeal.τ).loc Cert.EvenIdeal.main_arg13)) (m ((c.tc : Thread Cert.EvenIdeal.nD Cert.EvenIdeal.τ).loc Cert.EvenIdeal.main_arg14)) (m ((c.tc : Thread Cert.EvenIdeal.nD Cert.EvenIdeal.τ).loc Cert.EvenIdeal.main_arg15)) (m ((c.tc : Thread Cert.EvenIdeal.nD Cert.EvenIdeal.τ).loc Cert.EvenIdeal.main_arg16))).2.2.2.2.2.2.2.1 = (fun _ => 1#1)
    ∧ (Cert.Pre_finite.fn (F := Ideal) (m ((c.tc : Thread Cert.EvenIdeal.nD Cert.EvenIdeal.τ).loc Cert.EvenIdeal.main_arg0)) (m ((c.tc : Thread Cert.EvenIdeal.nD Cert.EvenIdeal.τ).loc Cert.EvenIdeal.main_arg1)) (m ((c.tc : Thread Cert.EvenIdeal.nD Cert.EvenIdeal.τ).loc Cert.EvenIdeal.main_arg2)) (m ((c.tc : Thread Cert.EvenIdeal.nD Cert.EvenIdeal.τ).loc Cert.EvenIdeal.main_arg3)) (m ((c.tc : Thread Cert.EvenIdeal.nD Cert.EvenIdeal.τ).loc Cert.EvenIdeal.main_arg4)) (m ((c.tc : Thread Cert.EvenIdeal.nD Cert.EvenIdeal.τ).loc Cert.EvenIdeal.main_arg5)) (m ((c.tc : Thread Cert.EvenIdeal.nD Cert.EvenIdeal.τ).loc Cert.EvenIdeal.main_arg6)) (m ((c.tc : Thread Cert.EvenIdeal.nD Cert.EvenIdeal.τ).loc Cert.EvenIdeal.main_arg7)) (m ((c.tc : Thread Cert.EvenIdeal.nD Cert.EvenIdeal.τ).loc Cert.EvenIdeal.main_arg8)) (m ((c.tc : Thread Cert.EvenIdeal.nD Cert.EvenIdeal.τ).loc Cert.EvenIdeal.main_arg9)) (m ((c.tc : Thread Cert.EvenIdeal.nD Cert.EvenIdeal.τ).loc Cert.EvenIdeal.main_arg10)) (m ((c.tc : Thread Cert.EvenIdeal.nD Cert.EvenIdeal.τ).loc Cert.EvenIdeal.main_arg11)) (m ((c.tc : Thread Cert.EvenIdeal.nD Cert.EvenIdeal.τ).loc Cert.EvenIdeal.main_arg12)) (m ((c.tc : Thread Cert.EvenIdeal.nD Cert.EvenIdeal.τ).loc Cert.EvenIdeal.main_arg13)) (m ((c.tc : Thread Cert.EvenIdeal.nD Cert.EvenIdeal.τ).loc Cert.EvenIdeal.main_arg14)) (m ((c.tc : Thread Cert.EvenIdeal.nD Cert.EvenIdeal.τ).loc Cert.EvenIdeal.main_arg15)) (m ((c.tc : Thread Cert.EvenIdeal.nD Cert.EvenIdeal.τ).loc Cert.EvenIdeal.main_arg16))).2.2.2.2.2.2.2.2.1 = (fun _ => 1#1)
    ∧ (Cert.Pre_finite.fn (F := Ideal) (m ((c.tc : Thread Cert.EvenIdeal.nD Cert.EvenIdeal.τ).loc Cert.EvenIdeal.main_arg0)) (m ((c.tc : Thread Cert.EvenIdeal.nD Cert.EvenIdeal.τ).loc Cert.EvenIdeal.main_arg1)) (m ((c.tc : Thread Cert.EvenIdeal.nD Cert.EvenIdeal.τ).loc Cert.EvenIdeal.main_arg2)) (m ((c.tc : Thread Cert.EvenIdeal.nD Cert.EvenIdeal.τ).loc Cert.EvenIdeal.main_arg3)) (m ((c.tc : Thread Cert.EvenIdeal.nD Cert.EvenIdeal.τ).loc Cert.EvenIdeal.main_arg4)) (m ((c.tc : Thread Cert.EvenIdeal.nD Cert.EvenIdeal.τ).loc Cert.EvenIdeal.main_arg5)) (m ((c.tc : Thread Cert.EvenIdeal.nD Cert.EvenIdeal.τ).loc Cert.EvenIdeal.main_arg6)) (m ((c.tc : Thread Cert.EvenIdeal.nD Cert.EvenIdeal.τ).loc Cert.EvenIdeal.main_arg7)) (m ((c.tc : Thread Cert.EvenIdeal.nD Cert.EvenIdeal.τ).loc Cert.EvenIdeal.main_arg8)) (m ((c.tc : Thread Cert.EvenIdeal.nD Cert.EvenIdeal.τ).loc Cert.EvenIdeal.main_arg9)) (m ((c.tc : Thread Cert.EvenIdeal.nD Cert.EvenIdeal.τ).loc Cert.EvenIdeal.main_arg10)) (m ((c.tc : Thread Cert.EvenIdeal.nD Cert.EvenIdeal.τ).loc Cert.EvenIdeal.main_arg11)) (m ((c.tc : Thread Cert.EvenIdeal.nD Cert.EvenIdeal.τ).loc Cert.EvenIdeal.main_arg12)) (m ((c.tc : Thread Cert.EvenIdeal.nD Cert.EvenIdeal.τ).loc Cert.EvenIdeal.main_arg13)) (m ((c.tc : Thread Cert.EvenIdeal.nD Cert.EvenIdeal.τ).loc Cert.EvenIdeal.main_arg14)) (m ((c.tc : Thread Cert.EvenIdeal.nD Cert.EvenIdeal.τ).loc Cert.EvenIdeal.main_arg15)) (m ((c.tc : Thread Cert.EvenIdeal.nD Cert.EvenIdeal.τ).loc Cert.EvenIdeal.main_arg16))).2.2.2.2.2.2.2.2.2 = (fun _ => 1#1)

def Pre_EvenRefIdeal (m : (ℓ : Loc Cert.EvenRefIdeal.nD Cert.EvenRefIdeal.τ Cert.EvenRefIdeal.sig) → Buf (Elt Ideal) ℓ) : Prop :=
  True

def Pre_EvenRefIdeal_finite [hPre_finite : Cert.Pre_finite.Facts] (m : (ℓ : Loc Cert.EvenRefIdeal.nD Cert.EvenRefIdeal.τ Cert.EvenRefIdeal.sig) → Buf (Elt Ideal) ℓ) : Prop :=
  ∀ c : Dev Cert.EvenRefIdeal.nD,
    (Cert.Pre_finite.fn (F := Ideal) (m ((c.tc : Thread Cert.EvenRefIdeal.nD Cert.EvenRefIdeal.τ).loc Cert.EvenRefIdeal.main_arg0)) (m ((c.tc : Thread Cert.EvenRefIdeal.nD Cert.EvenRefIdeal.τ).loc Cert.EvenRefIdeal.main_arg1)) (m ((c.tc : Thread Cert.EvenRefIdeal.nD Cert.EvenRefIdeal.τ).loc Cert.EvenRefIdeal.main_arg2)) (m ((c.tc : Thread Cert.EvenRefIdeal.nD Cert.EvenRefIdeal.τ).loc Cert.EvenRefIdeal.main_arg3)) (m ((c.tc : Thread Cert.EvenRefIdeal.nD Cert.EvenRefIdeal.τ).loc Cert.EvenRefIdeal.main_arg4)) (m ((c.tc : Thread Cert.EvenRefIdeal.nD Cert.EvenRefIdeal.τ).loc Cert.EvenRefIdeal.main_arg5)) (m ((c.tc : Thread Cert.EvenRefIdeal.nD Cert.EvenRefIdeal.τ).loc Cert.EvenRefIdeal.main_arg6)) (m ((c.tc : Thread Cert.EvenRefIdeal.nD Cert.EvenRefIdeal.τ).loc Cert.EvenRefIdeal.main_arg7)) (m ((c.tc : Thread Cert.EvenRefIdeal.nD Cert.EvenRefIdeal.τ).loc Cert.EvenRefIdeal.main_arg8)) (m ((c.tc : Thread Cert.EvenRefIdeal.nD Cert.EvenRefIdeal.τ).loc Cert.EvenRefIdeal.main_arg9)) (m ((c.tc : Thread Cert.EvenRefIdeal.nD Cert.EvenRefIdeal.τ).loc Cert.EvenRefIdeal.main_arg10)) (m ((c.tc : Thread Cert.EvenRefIdeal.nD Cert.EvenRefIdeal.τ).loc Cert.EvenRefIdeal.main_arg11)) (m ((c.tc : Thread Cert.EvenRefIdeal.nD Cert.EvenRefIdeal.τ).loc Cert.EvenRefIdeal.main_arg12)) (m ((c.tc : Thread Cert.EvenRefIdeal.nD Cert.EvenRefIdeal.τ).loc Cert.EvenRefIdeal.main_arg13)) (m ((c.tc : Thread Cert.EvenRefIdeal.nD Cert.EvenRefIdeal.τ).loc Cert.EvenRefIdeal.main_arg14)) (m ((c.tc : Thread Cert.EvenRefIdeal.nD Cert.EvenRefIdeal.τ).loc Cert.EvenRefIdeal.main_arg15)) (m ((c.tc : Thread Cert.EvenRefIdeal.nD Cert.EvenRefIdeal.τ).loc Cert.EvenRefIdeal.main_arg16))).1 = (fun _ => 1#1)
    ∧ (Cert.Pre_finite.fn (F := Ideal) (m ((c.tc : Thread Cert.EvenRefIdeal.nD Cert.EvenRefIdeal.τ).loc Cert.EvenRefIdeal.main_arg0)) (m ((c.tc : Thread Cert.EvenRefIdeal.nD Cert.EvenRefIdeal.τ).loc Cert.EvenRefIdeal.main_arg1)) (m ((c.tc : Thread Cert.EvenRefIdeal.nD Cert.EvenRefIdeal.τ).loc Cert.EvenRefIdeal.main_arg2)) (m ((c.tc : Thread Cert.EvenRefIdeal.nD Cert.EvenRefIdeal.τ).loc Cert.EvenRefIdeal.main_arg3)) (m ((c.tc : Thread Cert.EvenRefIdeal.nD Cert.EvenRefIdeal.τ).loc Cert.EvenRefIdeal.main_arg4)) (m ((c.tc : Thread Cert.EvenRefIdeal.nD Cert.EvenRefIdeal.τ).loc Cert.EvenRefIdeal.main_arg5)) (m ((c.tc : Thread Cert.EvenRefIdeal.nD Cert.EvenRefIdeal.τ).loc Cert.EvenRefIdeal.main_arg6)) (m ((c.tc : Thread Cert.EvenRefIdeal.nD Cert.EvenRefIdeal.τ).loc Cert.EvenRefIdeal.main_arg7)) (m ((c.tc : Thread Cert.EvenRefIdeal.nD Cert.EvenRefIdeal.τ).loc Cert.EvenRefIdeal.main_arg8)) (m ((c.tc : Thread Cert.EvenRefIdeal.nD Cert.EvenRefIdeal.τ).loc Cert.EvenRefIdeal.main_arg9)) (m ((c.tc : Thread Cert.EvenRefIdeal.nD Cert.EvenRefIdeal.τ).loc Cert.EvenRefIdeal.main_arg10)) (m ((c.tc : Thread Cert.EvenRefIdeal.nD Cert.EvenRefIdeal.τ).loc Cert.EvenRefIdeal.main_arg11)) (m ((c.tc : Thread Cert.EvenRefIdeal.nD Cert.EvenRefIdeal.τ).loc Cert.EvenRefIdeal.main_arg12)) (m ((c.tc : Thread Cert.EvenRefIdeal.nD Cert.EvenRefIdeal.τ).loc Cert.EvenRefIdeal.main_arg13)) (m ((c.tc : Thread Cert.EvenRefIdeal.nD Cert.EvenRefIdeal.τ).loc Cert.EvenRefIdeal.main_arg14)) (m ((c.tc : Thread Cert.EvenRefIdeal.nD Cert.EvenRefIdeal.τ).loc Cert.EvenRefIdeal.main_arg15)) (m ((c.tc : Thread Cert.EvenRefIdeal.nD Cert.EvenRefIdeal.τ).loc Cert.EvenRefIdeal.main_arg16))).2.1 = (fun _ => 1#1)
    ∧ (Cert.Pre_finite.fn (F := Ideal) (m ((c.tc : Thread Cert.EvenRefIdeal.nD Cert.EvenRefIdeal.τ).loc Cert.EvenRefIdeal.main_arg0)) (m ((c.tc : Thread Cert.EvenRefIdeal.nD Cert.EvenRefIdeal.τ).loc Cert.EvenRefIdeal.main_arg1)) (m ((c.tc : Thread Cert.EvenRefIdeal.nD Cert.EvenRefIdeal.τ).loc Cert.EvenRefIdeal.main_arg2)) (m ((c.tc : Thread Cert.EvenRefIdeal.nD Cert.EvenRefIdeal.τ).loc Cert.EvenRefIdeal.main_arg3)) (m ((c.tc : Thread Cert.EvenRefIdeal.nD Cert.EvenRefIdeal.τ).loc Cert.EvenRefIdeal.main_arg4)) (m ((c.tc : Thread Cert.EvenRefIdeal.nD Cert.EvenRefIdeal.τ).loc Cert.EvenRefIdeal.main_arg5)) (m ((c.tc : Thread Cert.EvenRefIdeal.nD Cert.EvenRefIdeal.τ).loc Cert.EvenRefIdeal.main_arg6)) (m ((c.tc : Thread Cert.EvenRefIdeal.nD Cert.EvenRefIdeal.τ).loc Cert.EvenRefIdeal.main_arg7)) (m ((c.tc : Thread Cert.EvenRefIdeal.nD Cert.EvenRefIdeal.τ).loc Cert.EvenRefIdeal.main_arg8)) (m ((c.tc : Thread Cert.EvenRefIdeal.nD Cert.EvenRefIdeal.τ).loc Cert.EvenRefIdeal.main_arg9)) (m ((c.tc : Thread Cert.EvenRefIdeal.nD Cert.EvenRefIdeal.τ).loc Cert.EvenRefIdeal.main_arg10)) (m ((c.tc : Thread Cert.EvenRefIdeal.nD Cert.EvenRefIdeal.τ).loc Cert.EvenRefIdeal.main_arg11)) (m ((c.tc : Thread Cert.EvenRefIdeal.nD Cert.EvenRefIdeal.τ).loc Cert.EvenRefIdeal.main_arg12)) (m ((c.tc : Thread Cert.EvenRefIdeal.nD Cert.EvenRefIdeal.τ).loc Cert.EvenRefIdeal.main_arg13)) (m ((c.tc : Thread Cert.EvenRefIdeal.nD Cert.EvenRefIdeal.τ).loc Cert.EvenRefIdeal.main_arg14)) (m ((c.tc : Thread Cert.EvenRefIdeal.nD Cert.EvenRefIdeal.τ).loc Cert.EvenRefIdeal.main_arg15)) (m ((c.tc : Thread Cert.EvenRefIdeal.nD Cert.EvenRefIdeal.τ).loc Cert.EvenRefIdeal.main_arg16))).2.2.1 = (fun _ => 1#1)
    ∧ (Cert.Pre_finite.fn (F := Ideal) (m ((c.tc : Thread Cert.EvenRefIdeal.nD Cert.EvenRefIdeal.τ).loc Cert.EvenRefIdeal.main_arg0)) (m ((c.tc : Thread Cert.EvenRefIdeal.nD Cert.EvenRefIdeal.τ).loc Cert.EvenRefIdeal.main_arg1)) (m ((c.tc : Thread Cert.EvenRefIdeal.nD Cert.EvenRefIdeal.τ).loc Cert.EvenRefIdeal.main_arg2)) (m ((c.tc : Thread Cert.EvenRefIdeal.nD Cert.EvenRefIdeal.τ).loc Cert.EvenRefIdeal.main_arg3)) (m ((c.tc : Thread Cert.EvenRefIdeal.nD Cert.EvenRefIdeal.τ).loc Cert.EvenRefIdeal.main_arg4)) (m ((c.tc : Thread Cert.EvenRefIdeal.nD Cert.EvenRefIdeal.τ).loc Cert.EvenRefIdeal.main_arg5)) (m ((c.tc : Thread Cert.EvenRefIdeal.nD Cert.EvenRefIdeal.τ).loc Cert.EvenRefIdeal.main_arg6)) (m ((c.tc : Thread Cert.EvenRefIdeal.nD Cert.EvenRefIdeal.τ).loc Cert.EvenRefIdeal.main_arg7)) (m ((c.tc : Thread Cert.EvenRefIdeal.nD Cert.EvenRefIdeal.τ).loc Cert.EvenRefIdeal.main_arg8)) (m ((c.tc : Thread Cert.EvenRefIdeal.nD Cert.EvenRefIdeal.τ).loc Cert.EvenRefIdeal.main_arg9)) (m ((c.tc : Thread Cert.EvenRefIdeal.nD Cert.EvenRefIdeal.τ).loc Cert.EvenRefIdeal.main_arg10)) (m ((c.tc : Thread Cert.EvenRefIdeal.nD Cert.EvenRefIdeal.τ).loc Cert.EvenRefIdeal.main_arg11)) (m ((c.tc : Thread Cert.EvenRefIdeal.nD Cert.EvenRefIdeal.τ).loc Cert.EvenRefIdeal.main_arg12)) (m ((c.tc : Thread Cert.EvenRefIdeal.nD Cert.EvenRefIdeal.τ).loc Cert.EvenRefIdeal.main_arg13)) (m ((c.tc : Thread Cert.EvenRefIdeal.nD Cert.EvenRefIdeal.τ).loc Cert.EvenRefIdeal.main_arg14)) (m ((c.tc : Thread Cert.EvenRefIdeal.nD Cert.EvenRefIdeal.τ).loc Cert.EvenRefIdeal.main_arg15)) (m ((c.tc : Thread Cert.EvenRefIdeal.nD Cert.EvenRefIdeal.τ).loc Cert.EvenRefIdeal.main_arg16))).2.2.2.1 = (fun _ => 1#1)
    ∧ (Cert.Pre_finite.fn (F := Ideal) (m ((c.tc : Thread Cert.EvenRefIdeal.nD Cert.EvenRefIdeal.τ).loc Cert.EvenRefIdeal.main_arg0)) (m ((c.tc : Thread Cert.EvenRefIdeal.nD Cert.EvenRefIdeal.τ).loc Cert.EvenRefIdeal.main_arg1)) (m ((c.tc : Thread Cert.EvenRefIdeal.nD Cert.EvenRefIdeal.τ).loc Cert.EvenRefIdeal.main_arg2)) (m ((c.tc : Thread Cert.EvenRefIdeal.nD Cert.EvenRefIdeal.τ).loc Cert.EvenRefIdeal.main_arg3)) (m ((c.tc : Thread Cert.EvenRefIdeal.nD Cert.EvenRefIdeal.τ).loc Cert.EvenRefIdeal.main_arg4)) (m ((c.tc : Thread Cert.EvenRefIdeal.nD Cert.EvenRefIdeal.τ).loc Cert.EvenRefIdeal.main_arg5)) (m ((c.tc : Thread Cert.EvenRefIdeal.nD Cert.EvenRefIdeal.τ).loc Cert.EvenRefIdeal.main_arg6)) (m ((c.tc : Thread Cert.EvenRefIdeal.nD Cert.EvenRefIdeal.τ).loc Cert.EvenRefIdeal.main_arg7)) (m ((c.tc : Thread Cert.EvenRefIdeal.nD Cert.EvenRefIdeal.τ).loc Cert.EvenRefIdeal.main_arg8)) (m ((c.tc : Thread Cert.EvenRefIdeal.nD Cert.EvenRefIdeal.τ).loc Cert.EvenRefIdeal.main_arg9)) (m ((c.tc : Thread Cert.EvenRefIdeal.nD Cert.EvenRefIdeal.τ).loc Cert.EvenRefIdeal.main_arg10)) (m ((c.tc : Thread Cert.EvenRefIdeal.nD Cert.EvenRefIdeal.τ).loc Cert.EvenRefIdeal.main_arg11)) (m ((c.tc : Thread Cert.EvenRefIdeal.nD Cert.EvenRefIdeal.τ).loc Cert.EvenRefIdeal.main_arg12)) (m ((c.tc : Thread Cert.EvenRefIdeal.nD Cert.EvenRefIdeal.τ).loc Cert.EvenRefIdeal.main_arg13)) (m ((c.tc : Thread Cert.EvenRefIdeal.nD Cert.EvenRefIdeal.τ).loc Cert.EvenRefIdeal.main_arg14)) (m ((c.tc : Thread Cert.EvenRefIdeal.nD Cert.EvenRefIdeal.τ).loc Cert.EvenRefIdeal.main_arg15)) (m ((c.tc : Thread Cert.EvenRefIdeal.nD Cert.EvenRefIdeal.τ).loc Cert.EvenRefIdeal.main_arg16))).2.2.2.2.1 = (fun _ => 1#1)
    ∧ (Cert.Pre_finite.fn (F := Ideal) (m ((c.tc : Thread Cert.EvenRefIdeal.nD Cert.EvenRefIdeal.τ).loc Cert.EvenRefIdeal.main_arg0)) (m ((c.tc : Thread Cert.EvenRefIdeal.nD Cert.EvenRefIdeal.τ).loc Cert.EvenRefIdeal.main_arg1)) (m ((c.tc : Thread Cert.EvenRefIdeal.nD Cert.EvenRefIdeal.τ).loc Cert.EvenRefIdeal.main_arg2)) (m ((c.tc : Thread Cert.EvenRefIdeal.nD Cert.EvenRefIdeal.τ).loc Cert.EvenRefIdeal.main_arg3)) (m ((c.tc : Thread Cert.EvenRefIdeal.nD Cert.EvenRefIdeal.τ).loc Cert.EvenRefIdeal.main_arg4)) (m ((c.tc : Thread Cert.EvenRefIdeal.nD Cert.EvenRefIdeal.τ).loc Cert.EvenRefIdeal.main_arg5)) (m ((c.tc : Thread Cert.EvenRefIdeal.nD Cert.EvenRefIdeal.τ).loc Cert.EvenRefIdeal.main_arg6)) (m ((c.tc : Thread Cert.EvenRefIdeal.nD Cert.EvenRefIdeal.τ).loc Cert.EvenRefIdeal.main_arg7)) (m ((c.tc : Thread Cert.EvenRefIdeal.nD Cert.EvenRefIdeal.τ).loc Cert.EvenRefIdeal.main_arg8)) (m ((c.tc : Thread Cert.EvenRefIdeal.nD Cert.EvenRefIdeal.τ).loc Cert.EvenRefIdeal.main_arg9)) (m ((c.tc : Thread Cert.EvenRefIdeal.nD Cert.EvenRefIdeal.τ).loc Cert.EvenRefIdeal.main_arg10)) (m ((c.tc : Thread Cert.EvenRefIdeal.nD Cert.EvenRefIdeal.τ).loc Cert.EvenRefIdeal.main_arg11)) (m ((c.tc : Thread Cert.EvenRefIdeal.nD Cert.EvenRefIdeal.τ).loc Cert.EvenRefIdeal.main_arg12)) (m ((c.tc : Thread Cert.EvenRefIdeal.nD Cert.EvenRefIdeal.τ).loc Cert.EvenRefIdeal.main_arg13)) (m ((c.tc : Thread Cert.EvenRefIdeal.nD Cert.EvenRefIdeal.τ).loc Cert.EvenRefIdeal.main_arg14)) (m ((c.tc : Thread Cert.EvenRefIdeal.nD Cert.EvenRefIdeal.τ).loc Cert.EvenRefIdeal.main_arg15)) (m ((c.tc : Thread Cert.EvenRefIdeal.nD Cert.EvenRefIdeal.τ).loc Cert.EvenRefIdeal.main_arg16))).2.2.2.2.2.1 = (fun _ => 1#1)
    ∧ (Cert.Pre_finite.fn (F := Ideal) (m ((c.tc : Thread Cert.EvenRefIdeal.nD Cert.EvenRefIdeal.τ).loc Cert.EvenRefIdeal.main_arg0)) (m ((c.tc : Thread Cert.EvenRefIdeal.nD Cert.EvenRefIdeal.τ).loc Cert.EvenRefIdeal.main_arg1)) (m ((c.tc : Thread Cert.EvenRefIdeal.nD Cert.EvenRefIdeal.τ).loc Cert.EvenRefIdeal.main_arg2)) (m ((c.tc : Thread Cert.EvenRefIdeal.nD Cert.EvenRefIdeal.τ).loc Cert.EvenRefIdeal.main_arg3)) (m ((c.tc : Thread Cert.EvenRefIdeal.nD Cert.EvenRefIdeal.τ).loc Cert.EvenRefIdeal.main_arg4)) (m ((c.tc : Thread Cert.EvenRefIdeal.nD Cert.EvenRefIdeal.τ).loc Cert.EvenRefIdeal.main_arg5)) (m ((c.tc : Thread Cert.EvenRefIdeal.nD Cert.EvenRefIdeal.τ).loc Cert.EvenRefIdeal.main_arg6)) (m ((c.tc : Thread Cert.EvenRefIdeal.nD Cert.EvenRefIdeal.τ).loc Cert.EvenRefIdeal.main_arg7)) (m ((c.tc : Thread Cert.EvenRefIdeal.nD Cert.EvenRefIdeal.τ).loc Cert.EvenRefIdeal.main_arg8)) (m ((c.tc : Thread Cert.EvenRefIdeal.nD Cert.EvenRefIdeal.τ).loc Cert.EvenRefIdeal.main_arg9)) (m ((c.tc : Thread Cert.EvenRefIdeal.nD Cert.EvenRefIdeal.τ).loc Cert.EvenRefIdeal.main_arg10)) (m ((c.tc : Thread Cert.EvenRefIdeal.nD Cert.EvenRefIdeal.τ).loc Cert.EvenRefIdeal.main_arg11)) (m ((c.tc : Thread Cert.EvenRefIdeal.nD Cert.EvenRefIdeal.τ).loc Cert.EvenRefIdeal.main_arg12)) (m ((c.tc : Thread Cert.EvenRefIdeal.nD Cert.EvenRefIdeal.τ).loc Cert.EvenRefIdeal.main_arg13)) (m ((c.tc : Thread Cert.EvenRefIdeal.nD Cert.EvenRefIdeal.τ).loc Cert.EvenRefIdeal.main_arg14)) (m ((c.tc : Thread Cert.EvenRefIdeal.nD Cert.EvenRefIdeal.τ).loc Cert.EvenRefIdeal.main_arg15)) (m ((c.tc : Thread Cert.EvenRefIdeal.nD Cert.EvenRefIdeal.τ).loc Cert.EvenRefIdeal.main_arg16))).2.2.2.2.2.2.1 = (fun _ => 1#1)
    ∧ (Cert.Pre_finite.fn (F := Ideal) (m ((c.tc : Thread Cert.EvenRefIdeal.nD Cert.EvenRefIdeal.τ).loc Cert.EvenRefIdeal.main_arg0)) (m ((c.tc : Thread Cert.EvenRefIdeal.nD Cert.EvenRefIdeal.τ).loc Cert.EvenRefIdeal.main_arg1)) (m ((c.tc : Thread Cert.EvenRefIdeal.nD Cert.EvenRefIdeal.τ).loc Cert.EvenRefIdeal.main_arg2)) (m ((c.tc : Thread Cert.EvenRefIdeal.nD Cert.EvenRefIdeal.τ).loc Cert.EvenRefIdeal.main_arg3)) (m ((c.tc : Thread Cert.EvenRefIdeal.nD Cert.EvenRefIdeal.τ).loc Cert.EvenRefIdeal.main_arg4)) (m ((c.tc : Thread Cert.EvenRefIdeal.nD Cert.EvenRefIdeal.τ).loc Cert.EvenRefIdeal.main_arg5)) (m ((c.tc : Thread Cert.EvenRefIdeal.nD Cert.EvenRefIdeal.τ).loc Cert.EvenRefIdeal.main_arg6)) (m ((c.tc : Thread Cert.EvenRefIdeal.nD Cert.EvenRefIdeal.τ).loc Cert.EvenRefIdeal.main_arg7)) (m ((c.tc : Thread Cert.EvenRefIdeal.nD Cert.EvenRefIdeal.τ).loc Cert.EvenRefIdeal.main_arg8)) (m ((c.tc : Thread Cert.EvenRefIdeal.nD Cert.EvenRefIdeal.τ).loc Cert.EvenRefIdeal.main_arg9)) (m ((c.tc : Thread Cert.EvenRefIdeal.nD Cert.EvenRefIdeal.τ).loc Cert.EvenRefIdeal.main_arg10)) (m ((c.tc : Thread Cert.EvenRefIdeal.nD Cert.EvenRefIdeal.τ).loc Cert.EvenRefIdeal.main_arg11)) (m ((c.tc : Thread Cert.EvenRefIdeal.nD Cert.EvenRefIdeal.τ).loc Cert.EvenRefIdeal.main_arg12)) (m ((c.tc : Thread Cert.EvenRefIdeal.nD Cert.EvenRefIdeal.τ).loc Cert.EvenRefIdeal.main_arg13)) (m ((c.tc : Thread Cert.EvenRefIdeal.nD Cert.EvenRefIdeal.τ).loc Cert.EvenRefIdeal.main_arg14)) (m ((c.tc : Thread Cert.EvenRefIdeal.nD Cert.EvenRefIdeal.τ).loc Cert.EvenRefIdeal.main_arg15)) (m ((c.tc : Thread Cert.EvenRefIdeal.nD Cert.EvenRefIdeal.τ).loc Cert.EvenRefIdeal.main_arg16))).2.2.2.2.2.2.2.1 = (fun _ => 1#1)
    ∧ (Cert.Pre_finite.fn (F := Ideal) (m ((c.tc : Thread Cert.EvenRefIdeal.nD Cert.EvenRefIdeal.τ).loc Cert.EvenRefIdeal.main_arg0)) (m ((c.tc : Thread Cert.EvenRefIdeal.nD Cert.EvenRefIdeal.τ).loc Cert.EvenRefIdeal.main_arg1)) (m ((c.tc : Thread Cert.EvenRefIdeal.nD Cert.EvenRefIdeal.τ).loc Cert.EvenRefIdeal.main_arg2)) (m ((c.tc : Thread Cert.EvenRefIdeal.nD Cert.EvenRefIdeal.τ).loc Cert.EvenRefIdeal.main_arg3)) (m ((c.tc : Thread Cert.EvenRefIdeal.nD Cert.EvenRefIdeal.τ).loc Cert.EvenRefIdeal.main_arg4)) (m ((c.tc : Thread Cert.EvenRefIdeal.nD Cert.EvenRefIdeal.τ).loc Cert.EvenRefIdeal.main_arg5)) (m ((c.tc : Thread Cert.EvenRefIdeal.nD Cert.EvenRefIdeal.τ).loc Cert.EvenRefIdeal.main_arg6)) (m ((c.tc : Thread Cert.EvenRefIdeal.nD Cert.EvenRefIdeal.τ).loc Cert.EvenRefIdeal.main_arg7)) (m ((c.tc : Thread Cert.EvenRefIdeal.nD Cert.EvenRefIdeal.τ).loc Cert.EvenRefIdeal.main_arg8)) (m ((c.tc : Thread Cert.EvenRefIdeal.nD Cert.EvenRefIdeal.τ).loc Cert.EvenRefIdeal.main_arg9)) (m ((c.tc : Thread Cert.EvenRefIdeal.nD Cert.EvenRefIdeal.τ).loc Cert.EvenRefIdeal.main_arg10)) (m ((c.tc : Thread Cert.EvenRefIdeal.nD Cert.EvenRefIdeal.τ).loc Cert.EvenRefIdeal.main_arg11)) (m ((c.tc : Thread Cert.EvenRefIdeal.nD Cert.EvenRefIdeal.τ).loc Cert.EvenRefIdeal.main_arg12)) (m ((c.tc : Thread Cert.EvenRefIdeal.nD Cert.EvenRefIdeal.τ).loc Cert.EvenRefIdeal.main_arg13)) (m ((c.tc : Thread Cert.EvenRefIdeal.nD Cert.EvenRefIdeal.τ).loc Cert.EvenRefIdeal.main_arg14)) (m ((c.tc : Thread Cert.EvenRefIdeal.nD Cert.EvenRefIdeal.τ).loc Cert.EvenRefIdeal.main_arg15)) (m ((c.tc : Thread Cert.EvenRefIdeal.nD Cert.EvenRefIdeal.τ).loc Cert.EvenRefIdeal.main_arg16))).2.2.2.2.2.2.2.2.1 = (fun _ => 1#1)
    ∧ (Cert.Pre_finite.fn (F := Ideal) (m ((c.tc : Thread Cert.EvenRefIdeal.nD Cert.EvenRefIdeal.τ).loc Cert.EvenRefIdeal.main_arg0)) (m ((c.tc : Thread Cert.EvenRefIdeal.nD Cert.EvenRefIdeal.τ).loc Cert.EvenRefIdeal.main_arg1)) (m ((c.tc : Thread Cert.EvenRefIdeal.nD Cert.EvenRefIdeal.τ).loc Cert.EvenRefIdeal.main_arg2)) (m ((c.tc : Thread Cert.EvenRefIdeal.nD Cert.EvenRefIdeal.τ).loc Cert.EvenRefIdeal.main_arg3)) (m ((c.tc : Thread Cert.EvenRefIdeal.nD Cert.EvenRefIdeal.τ).loc Cert.EvenRefIdeal.main_arg4)) (m ((c.tc : Thread Cert.EvenRefIdeal.nD Cert.EvenRefIdeal.τ).loc Cert.EvenRefIdeal.main_arg5)) (m ((c.tc : Thread Cert.EvenRefIdeal.nD Cert.EvenRefIdeal.τ).loc Cert.EvenRefIdeal.main_arg6)) (m ((c.tc : Thread Cert.EvenRefIdeal.nD Cert.EvenRefIdeal.τ).loc Cert.EvenRefIdeal.main_arg7)) (m ((c.tc : Thread Cert.EvenRefIdeal.nD Cert.EvenRefIdeal.τ).loc Cert.EvenRefIdeal.main_arg8)) (m ((c.tc : Thread Cert.EvenRefIdeal.nD Cert.EvenRefIdeal.τ).loc Cert.EvenRefIdeal.main_arg9)) (m ((c.tc : Thread Cert.EvenRefIdeal.nD Cert.EvenRefIdeal.τ).loc Cert.EvenRefIdeal.main_arg10)) (m ((c.tc : Thread Cert.EvenRefIdeal.nD Cert.EvenRefIdeal.τ).loc Cert.EvenRefIdeal.main_arg11)) (m ((c.tc : Thread Cert.EvenRefIdeal.nD Cert.EvenRefIdeal.τ).loc Cert.EvenRefIdeal.main_arg12)) (m ((c.tc : Thread Cert.EvenRefIdeal.nD Cert.EvenRefIdeal.τ).loc Cert.EvenRefIdeal.main_arg13)) (m ((c.tc : Thread Cert.EvenRefIdeal.nD Cert.EvenRefIdeal.τ).loc Cert.EvenRefIdeal.main_arg14)) (m ((c.tc : Thread Cert.EvenRefIdeal.nD Cert.EvenRefIdeal.τ).loc Cert.EvenRefIdeal.main_arg15)) (m ((c.tc : Thread Cert.EvenRefIdeal.nD Cert.EvenRefIdeal.τ).loc Cert.EvenRefIdeal.main_arg16))).2.2.2.2.2.2.2.2.2 = (fun _ => 1#1)

def Pre_FfnFinal (m : (ℓ : Loc Cert.FfnFinal.nD Cert.FfnFinal.τ Cert.FfnFinal.sig) → Buf (Elt Bits) ℓ) : Prop :=
  True

def Pre_FfnFinalIdeal (m : (ℓ : Loc Cert.FfnFinalIdeal.nD Cert.FfnFinalIdeal.τ Cert.FfnFinalIdeal.sig) → Buf (Elt Ideal) ℓ) : Prop :=
  True

def Pre_FfnFinalRefIdeal (m : (ℓ : Loc Cert.FfnFinalRefIdeal.nD Cert.FfnFinalRefIdeal.τ Cert.FfnFinalRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Odd (m : (ℓ : Loc Cert.Odd.nD Cert.Odd.τ Cert.Odd.sig) → Buf (Elt Bits) ℓ) : Prop :=
  True

def Pre_OddIdeal (m : (ℓ : Loc Cert.OddIdeal.nD Cert.OddIdeal.τ Cert.OddIdeal.sig) → Buf (Elt Ideal) ℓ) : Prop :=
  True

def Pre_OddRefIdeal (m : (ℓ : Loc Cert.OddRefIdeal.nD Cert.OddRefIdeal.τ Cert.OddRefIdeal.sig) → Buf (Elt Ideal) ℓ) : Prop :=
  True

def quiescent_Even [hEven : Cert.Even.Facts] : Prop :=
  ∀ (m : (ℓ : Loc Cert.Even.nD Cert.Even.τ Cert.Even.sig) → Buf (Elt Bits) ℓ) (g : Dev Cert.Even.nD → PrngReg), Pre_Even m →
    θ_run (Cert.Even.defs (F := Bits)) (onTc (τ := Cert.Even.τ) (Cert.Even.main (F := Bits))) ⟨m, fun _ => 0, g⟩ (fun r => (∀ c : Dev Cert.Even.nD,
      r.2.mem ((c.tc : Thread Cert.Even.nD Cert.Even.τ).loc Cert.Even.main_arg0) = m ((c.tc : Thread Cert.Even.nD Cert.Even.τ).loc Cert.Even.main_arg0)
      ∧ r.2.mem ((c.tc : Thread Cert.Even.nD Cert.Even.τ).loc Cert.Even.main_arg1) = m ((c.tc : Thread Cert.Even.nD Cert.Even.τ).loc Cert.Even.main_arg1)
      ∧ r.2.mem ((c.tc : Thread Cert.Even.nD Cert.Even.τ).loc Cert.Even.main_arg2) = m ((c.tc : Thread Cert.Even.nD Cert.Even.τ).loc Cert.Even.main_arg2)
      ∧ r.2.mem ((c.tc : Thread Cert.Even.nD Cert.Even.τ).loc Cert.Even.main_arg3) = m ((c.tc : Thread Cert.Even.nD Cert.Even.τ).loc Cert.Even.main_arg3)
      ∧ r.2.mem ((c.tc : Thread Cert.Even.nD Cert.Even.τ).loc Cert.Even.main_arg4) = m ((c.tc : Thread Cert.Even.nD Cert.Even.τ).loc Cert.Even.main_arg4)
      ∧ r.2.mem ((c.tc : Thread Cert.Even.nD Cert.Even.τ).loc Cert.Even.main_arg5) = m ((c.tc : Thread Cert.Even.nD Cert.Even.τ).loc Cert.Even.main_arg5)
      ∧ r.2.mem ((c.tc : Thread Cert.Even.nD Cert.Even.τ).loc Cert.Even.main_arg6) = m ((c.tc : Thread Cert.Even.nD Cert.Even.τ).loc Cert.Even.main_arg6)
      ∧ r.2.mem ((c.tc : Thread Cert.Even.nD Cert.Even.τ).loc Cert.Even.main_arg7) = m ((c.tc : Thread Cert.Even.nD Cert.Even.τ).loc Cert.Even.main_arg7)
      ∧ r.2.mem ((c.tc : Thread Cert.Even.nD Cert.Even.τ).loc Cert.Even.main_arg8) = m ((c.tc : Thread Cert.Even.nD Cert.Even.τ).loc Cert.Even.main_arg8)
      ∧ r.2.mem ((c.tc : Thread Cert.Even.nD Cert.Even.τ).loc Cert.Even.main_arg9) = m ((c.tc : Thread Cert.Even.nD Cert.Even.τ).loc Cert.Even.main_arg9)
      ∧ r.2.mem ((c.tc : Thread Cert.Even.nD Cert.Even.τ).loc Cert.Even.main_arg10) = m ((c.tc : Thread Cert.Even.nD Cert.Even.τ).loc Cert.Even.main_arg10)
      ∧ r.2.mem ((c.tc : Thread Cert.Even.nD Cert.Even.τ).loc Cert.Even.main_arg11) = m ((c.tc : Thread Cert.Even.nD Cert.Even.τ).loc Cert.Even.main_arg11)
      ∧ r.2.mem ((c.tc : Thread Cert.Even.nD Cert.Even.τ).loc Cert.Even.main_arg12) = m ((c.tc : Thread Cert.Even.nD Cert.Even.τ).loc Cert.Even.main_arg12)
      ∧ r.2.mem ((c.tc : Thread Cert.Even.nD Cert.Even.τ).loc Cert.Even.main_arg13) = m ((c.tc : Thread Cert.Even.nD Cert.Even.τ).loc Cert.Even.main_arg13)
      ∧ r.2.mem ((c.tc : Thread Cert.Even.nD Cert.Even.τ).loc Cert.Even.main_arg14) = m ((c.tc : Thread Cert.Even.nD Cert.Even.τ).loc Cert.Even.main_arg14)
      ∧ r.2.mem ((c.tc : Thread Cert.Even.nD Cert.Even.τ).loc Cert.Even.main_arg15) = m ((c.tc : Thread Cert.Even.nD Cert.Even.τ).loc Cert.Even.main_arg15)
      ∧ r.2.mem ((c.tc : Thread Cert.Even.nD Cert.Even.τ).loc Cert.Even.main_arg16) = m ((c.tc : Thread Cert.Even.nD Cert.Even.τ).loc Cert.Even.main_arg16))
      ∧ r.2.sem = fun _ => 0)

def quiescent_EvenIdeal [hEvenIdeal : Cert.EvenIdeal.Facts] : Prop :=
  ∀ (m : (ℓ : Loc Cert.EvenIdeal.nD Cert.EvenIdeal.τ Cert.EvenIdeal.sig) → Buf (Elt Ideal) ℓ) (g : Dev Cert.EvenIdeal.nD → PrngReg), Pre_EvenIdeal m →
    θ_run (Cert.EvenIdeal.defs (F := Ideal)) (onTc (τ := Cert.EvenIdeal.τ) (Cert.EvenIdeal.main (F := Ideal))) ⟨m, fun _ => 0, g⟩ (fun r => (∀ c : Dev Cert.EvenIdeal.nD,
      r.2.mem ((c.tc : Thread Cert.EvenIdeal.nD Cert.EvenIdeal.τ).loc Cert.EvenIdeal.main_arg0) = m ((c.tc : Thread Cert.EvenIdeal.nD Cert.EvenIdeal.τ).loc Cert.EvenIdeal.main_arg0)
      ∧ r.2.mem ((c.tc : Thread Cert.EvenIdeal.nD Cert.EvenIdeal.τ).loc Cert.EvenIdeal.main_arg1) = m ((c.tc : Thread Cert.EvenIdeal.nD Cert.EvenIdeal.τ).loc Cert.EvenIdeal.main_arg1)
      ∧ r.2.mem ((c.tc : Thread Cert.EvenIdeal.nD Cert.EvenIdeal.τ).loc Cert.EvenIdeal.main_arg2) = m ((c.tc : Thread Cert.EvenIdeal.nD Cert.EvenIdeal.τ).loc Cert.EvenIdeal.main_arg2)
      ∧ r.2.mem ((c.tc : Thread Cert.EvenIdeal.nD Cert.EvenIdeal.τ).loc Cert.EvenIdeal.main_arg3) = m ((c.tc : Thread Cert.EvenIdeal.nD Cert.EvenIdeal.τ).loc Cert.EvenIdeal.main_arg3)
      ∧ r.2.mem ((c.tc : Thread Cert.EvenIdeal.nD Cert.EvenIdeal.τ).loc Cert.EvenIdeal.main_arg4) = m ((c.tc : Thread Cert.EvenIdeal.nD Cert.EvenIdeal.τ).loc Cert.EvenIdeal.main_arg4)
      ∧ r.2.mem ((c.tc : Thread Cert.EvenIdeal.nD Cert.EvenIdeal.τ).loc Cert.EvenIdeal.main_arg5) = m ((c.tc : Thread Cert.EvenIdeal.nD Cert.EvenIdeal.τ).loc Cert.EvenIdeal.main_arg5)
      ∧ r.2.mem ((c.tc : Thread Cert.EvenIdeal.nD Cert.EvenIdeal.τ).loc Cert.EvenIdeal.main_arg6) = m ((c.tc : Thread Cert.EvenIdeal.nD Cert.EvenIdeal.τ).loc Cert.EvenIdeal.main_arg6)
      ∧ r.2.mem ((c.tc : Thread Cert.EvenIdeal.nD Cert.EvenIdeal.τ).loc Cert.EvenIdeal.main_arg7) = m ((c.tc : Thread Cert.EvenIdeal.nD Cert.EvenIdeal.τ).loc Cert.EvenIdeal.main_arg7)
      ∧ r.2.mem ((c.tc : Thread Cert.EvenIdeal.nD Cert.EvenIdeal.τ).loc Cert.EvenIdeal.main_arg8) = m ((c.tc : Thread Cert.EvenIdeal.nD Cert.EvenIdeal.τ).loc Cert.EvenIdeal.main_arg8)
      ∧ r.2.mem ((c.tc : Thread Cert.EvenIdeal.nD Cert.EvenIdeal.τ).loc Cert.EvenIdeal.main_arg9) = m ((c.tc : Thread Cert.EvenIdeal.nD Cert.EvenIdeal.τ).loc Cert.EvenIdeal.main_arg9)
      ∧ r.2.mem ((c.tc : Thread Cert.EvenIdeal.nD Cert.EvenIdeal.τ).loc Cert.EvenIdeal.main_arg10) = m ((c.tc : Thread Cert.EvenIdeal.nD Cert.EvenIdeal.τ).loc Cert.EvenIdeal.main_arg10)
      ∧ r.2.mem ((c.tc : Thread Cert.EvenIdeal.nD Cert.EvenIdeal.τ).loc Cert.EvenIdeal.main_arg11) = m ((c.tc : Thread Cert.EvenIdeal.nD Cert.EvenIdeal.τ).loc Cert.EvenIdeal.main_arg11)
      ∧ r.2.mem ((c.tc : Thread Cert.EvenIdeal.nD Cert.EvenIdeal.τ).loc Cert.EvenIdeal.main_arg12) = m ((c.tc : Thread Cert.EvenIdeal.nD Cert.EvenIdeal.τ).loc Cert.EvenIdeal.main_arg12)
      ∧ r.2.mem ((c.tc : Thread Cert.EvenIdeal.nD Cert.EvenIdeal.τ).loc Cert.EvenIdeal.main_arg13) = m ((c.tc : Thread Cert.EvenIdeal.nD Cert.EvenIdeal.τ).loc Cert.EvenIdeal.main_arg13)
      ∧ r.2.mem ((c.tc : Thread Cert.EvenIdeal.nD Cert.EvenIdeal.τ).loc Cert.EvenIdeal.main_arg14) = m ((c.tc : Thread Cert.EvenIdeal.nD Cert.EvenIdeal.τ).loc Cert.EvenIdeal.main_arg14)
      ∧ r.2.mem ((c.tc : Thread Cert.EvenIdeal.nD Cert.EvenIdeal.τ).loc Cert.EvenIdeal.main_arg15) = m ((c.tc : Thread Cert.EvenIdeal.nD Cert.EvenIdeal.τ).loc Cert.EvenIdeal.main_arg15)
      ∧ r.2.mem ((c.tc : Thread Cert.EvenIdeal.nD Cert.EvenIdeal.τ).loc Cert.EvenIdeal.main_arg16) = m ((c.tc : Thread Cert.EvenIdeal.nD Cert.EvenIdeal.τ).loc Cert.EvenIdeal.main_arg16))
      ∧ r.2.sem = fun _ => 0)

def quiescent_EvenIdeal_pre_finite [hEvenIdeal : Cert.EvenIdeal.Facts] [hPre_finite : Cert.Pre_finite.Facts] : Prop :=
  ∀ (m : (ℓ : Loc Cert.EvenIdeal.nD Cert.EvenIdeal.τ Cert.EvenIdeal.sig) → Buf (Elt Ideal) ℓ) (g : Dev Cert.EvenIdeal.nD → PrngReg), Pre_EvenIdeal_finite m →
    θ_run (Cert.EvenIdeal.defs (F := Ideal)) (onTc (τ := Cert.EvenIdeal.τ) (Cert.EvenIdeal.main (F := Ideal))) ⟨m, fun _ => 0, g⟩ (fun r => (∀ c : Dev Cert.EvenIdeal.nD,
      r.2.mem ((c.tc : Thread Cert.EvenIdeal.nD Cert.EvenIdeal.τ).loc Cert.EvenIdeal.main_arg0) = m ((c.tc : Thread Cert.EvenIdeal.nD Cert.EvenIdeal.τ).loc Cert.EvenIdeal.main_arg0)
      ∧ r.2.mem ((c.tc : Thread Cert.EvenIdeal.nD Cert.EvenIdeal.τ).loc Cert.EvenIdeal.main_arg1) = m ((c.tc : Thread Cert.EvenIdeal.nD Cert.EvenIdeal.τ).loc Cert.EvenIdeal.main_arg1)
      ∧ r.2.mem ((c.tc : Thread Cert.EvenIdeal.nD Cert.EvenIdeal.τ).loc Cert.EvenIdeal.main_arg2) = m ((c.tc : Thread Cert.EvenIdeal.nD Cert.EvenIdeal.τ).loc Cert.EvenIdeal.main_arg2)
      ∧ r.2.mem ((c.tc : Thread Cert.EvenIdeal.nD Cert.EvenIdeal.τ).loc Cert.EvenIdeal.main_arg3) = m ((c.tc : Thread Cert.EvenIdeal.nD Cert.EvenIdeal.τ).loc Cert.EvenIdeal.main_arg3)
      ∧ r.2.mem ((c.tc : Thread Cert.EvenIdeal.nD Cert.EvenIdeal.τ).loc Cert.EvenIdeal.main_arg4) = m ((c.tc : Thread Cert.EvenIdeal.nD Cert.EvenIdeal.τ).loc Cert.EvenIdeal.main_arg4)
      ∧ r.2.mem ((c.tc : Thread Cert.EvenIdeal.nD Cert.EvenIdeal.τ).loc Cert.EvenIdeal.main_arg5) = m ((c.tc : Thread Cert.EvenIdeal.nD Cert.EvenIdeal.τ).loc Cert.EvenIdeal.main_arg5)
      ∧ r.2.mem ((c.tc : Thread Cert.EvenIdeal.nD Cert.EvenIdeal.τ).loc Cert.EvenIdeal.main_arg6) = m ((c.tc : Thread Cert.EvenIdeal.nD Cert.EvenIdeal.τ).loc Cert.EvenIdeal.main_arg6)
      ∧ r.2.mem ((c.tc : Thread Cert.EvenIdeal.nD Cert.EvenIdeal.τ).loc Cert.EvenIdeal.main_arg7) = m ((c.tc : Thread Cert.EvenIdeal.nD Cert.EvenIdeal.τ).loc Cert.EvenIdeal.main_arg7)
      ∧ r.2.mem ((c.tc : Thread Cert.EvenIdeal.nD Cert.EvenIdeal.τ).loc Cert.EvenIdeal.main_arg8) = m ((c.tc : Thread Cert.EvenIdeal.nD Cert.EvenIdeal.τ).loc Cert.EvenIdeal.main_arg8)
      ∧ r.2.mem ((c.tc : Thread Cert.EvenIdeal.nD Cert.EvenIdeal.τ).loc Cert.EvenIdeal.main_arg9) = m ((c.tc : Thread Cert.EvenIdeal.nD Cert.EvenIdeal.τ).loc Cert.EvenIdeal.main_arg9)
      ∧ r.2.mem ((c.tc : Thread Cert.EvenIdeal.nD Cert.EvenIdeal.τ).loc Cert.EvenIdeal.main_arg10) = m ((c.tc : Thread Cert.EvenIdeal.nD Cert.EvenIdeal.τ).loc Cert.EvenIdeal.main_arg10)
      ∧ r.2.mem ((c.tc : Thread Cert.EvenIdeal.nD Cert.EvenIdeal.τ).loc Cert.EvenIdeal.main_arg11) = m ((c.tc : Thread Cert.EvenIdeal.nD Cert.EvenIdeal.τ).loc Cert.EvenIdeal.main_arg11)
      ∧ r.2.mem ((c.tc : Thread Cert.EvenIdeal.nD Cert.EvenIdeal.τ).loc Cert.EvenIdeal.main_arg12) = m ((c.tc : Thread Cert.EvenIdeal.nD Cert.EvenIdeal.τ).loc Cert.EvenIdeal.main_arg12)
      ∧ r.2.mem ((c.tc : Thread Cert.EvenIdeal.nD Cert.EvenIdeal.τ).loc Cert.EvenIdeal.main_arg13) = m ((c.tc : Thread Cert.EvenIdeal.nD Cert.EvenIdeal.τ).loc Cert.EvenIdeal.main_arg13)
      ∧ r.2.mem ((c.tc : Thread Cert.EvenIdeal.nD Cert.EvenIdeal.τ).loc Cert.EvenIdeal.main_arg14) = m ((c.tc : Thread Cert.EvenIdeal.nD Cert.EvenIdeal.τ).loc Cert.EvenIdeal.main_arg14)
      ∧ r.2.mem ((c.tc : Thread Cert.EvenIdeal.nD Cert.EvenIdeal.τ).loc Cert.EvenIdeal.main_arg15) = m ((c.tc : Thread Cert.EvenIdeal.nD Cert.EvenIdeal.τ).loc Cert.EvenIdeal.main_arg15)
      ∧ r.2.mem ((c.tc : Thread Cert.EvenIdeal.nD Cert.EvenIdeal.τ).loc Cert.EvenIdeal.main_arg16) = m ((c.tc : Thread Cert.EvenIdeal.nD Cert.EvenIdeal.τ).loc Cert.EvenIdeal.main_arg16))
      ∧ r.2.sem = fun _ => 0)

def quiescent_EvenRefIdeal [hEvenRefIdeal : Cert.EvenRefIdeal.Facts] : Prop :=
  ∀ (m : (ℓ : Loc Cert.EvenRefIdeal.nD Cert.EvenRefIdeal.τ Cert.EvenRefIdeal.sig) → Buf (Elt Ideal) ℓ) (g : Dev Cert.EvenRefIdeal.nD → PrngReg), Pre_EvenRefIdeal m →
    θ_run (Cert.EvenRefIdeal.defs (F := Ideal)) (onTc (τ := Cert.EvenRefIdeal.τ) (Cert.EvenRefIdeal.main (F := Ideal))) ⟨m, fun _ => 0, g⟩ (fun r => (∀ c : Dev Cert.EvenRefIdeal.nD,
      r.2.mem ((c.tc : Thread Cert.EvenRefIdeal.nD Cert.EvenRefIdeal.τ).loc Cert.EvenRefIdeal.main_arg0) = m ((c.tc : Thread Cert.EvenRefIdeal.nD Cert.EvenRefIdeal.τ).loc Cert.EvenRefIdeal.main_arg0)
      ∧ r.2.mem ((c.tc : Thread Cert.EvenRefIdeal.nD Cert.EvenRefIdeal.τ).loc Cert.EvenRefIdeal.main_arg1) = m ((c.tc : Thread Cert.EvenRefIdeal.nD Cert.EvenRefIdeal.τ).loc Cert.EvenRefIdeal.main_arg1)
      ∧ r.2.mem ((c.tc : Thread Cert.EvenRefIdeal.nD Cert.EvenRefIdeal.τ).loc Cert.EvenRefIdeal.main_arg2) = m ((c.tc : Thread Cert.EvenRefIdeal.nD Cert.EvenRefIdeal.τ).loc Cert.EvenRefIdeal.main_arg2)
      ∧ r.2.mem ((c.tc : Thread Cert.EvenRefIdeal.nD Cert.EvenRefIdeal.τ).loc Cert.EvenRefIdeal.main_arg3) = m ((c.tc : Thread Cert.EvenRefIdeal.nD Cert.EvenRefIdeal.τ).loc Cert.EvenRefIdeal.main_arg3)
      ∧ r.2.mem ((c.tc : Thread Cert.EvenRefIdeal.nD Cert.EvenRefIdeal.τ).loc Cert.EvenRefIdeal.main_arg4) = m ((c.tc : Thread Cert.EvenRefIdeal.nD Cert.EvenRefIdeal.τ).loc Cert.EvenRefIdeal.main_arg4)
      ∧ r.2.mem ((c.tc : Thread Cert.EvenRefIdeal.nD Cert.EvenRefIdeal.τ).loc Cert.EvenRefIdeal.main_arg5) = m ((c.tc : Thread Cert.EvenRefIdeal.nD Cert.EvenRefIdeal.τ).loc Cert.EvenRefIdeal.main_arg5)
      ∧ r.2.mem ((c.tc : Thread Cert.EvenRefIdeal.nD Cert.EvenRefIdeal.τ).loc Cert.EvenRefIdeal.main_arg6) = m ((c.tc : Thread Cert.EvenRefIdeal.nD Cert.EvenRefIdeal.τ).loc Cert.EvenRefIdeal.main_arg6)
      ∧ r.2.mem ((c.tc : Thread Cert.EvenRefIdeal.nD Cert.EvenRefIdeal.τ).loc Cert.EvenRefIdeal.main_arg7) = m ((c.tc : Thread Cert.EvenRefIdeal.nD Cert.EvenRefIdeal.τ).loc Cert.EvenRefIdeal.main_arg7)
      ∧ r.2.mem ((c.tc : Thread Cert.EvenRefIdeal.nD Cert.EvenRefIdeal.τ).loc Cert.EvenRefIdeal.main_arg8) = m ((c.tc : Thread Cert.EvenRefIdeal.nD Cert.EvenRefIdeal.τ).loc Cert.EvenRefIdeal.main_arg8)
      ∧ r.2.mem ((c.tc : Thread Cert.EvenRefIdeal.nD Cert.EvenRefIdeal.τ).loc Cert.EvenRefIdeal.main_arg9) = m ((c.tc : Thread Cert.EvenRefIdeal.nD Cert.EvenRefIdeal.τ).loc Cert.EvenRefIdeal.main_arg9)
      ∧ r.2.mem ((c.tc : Thread Cert.EvenRefIdeal.nD Cert.EvenRefIdeal.τ).loc Cert.EvenRefIdeal.main_arg10) = m ((c.tc : Thread Cert.EvenRefIdeal.nD Cert.EvenRefIdeal.τ).loc Cert.EvenRefIdeal.main_arg10)
      ∧ r.2.mem ((c.tc : Thread Cert.EvenRefIdeal.nD Cert.EvenRefIdeal.τ).loc Cert.EvenRefIdeal.main_arg11) = m ((c.tc : Thread Cert.EvenRefIdeal.nD Cert.EvenRefIdeal.τ).loc Cert.EvenRefIdeal.main_arg11)
      ∧ r.2.mem ((c.tc : Thread Cert.EvenRefIdeal.nD Cert.EvenRefIdeal.τ).loc Cert.EvenRefIdeal.main_arg12) = m ((c.tc : Thread Cert.EvenRefIdeal.nD Cert.EvenRefIdeal.τ).loc Cert.EvenRefIdeal.main_arg12)
      ∧ r.2.mem ((c.tc : Thread Cert.EvenRefIdeal.nD Cert.EvenRefIdeal.τ).loc Cert.EvenRefIdeal.main_arg13) = m ((c.tc : Thread Cert.EvenRefIdeal.nD Cert.EvenRefIdeal.τ).loc Cert.EvenRefIdeal.main_arg13)
      ∧ r.2.mem ((c.tc : Thread Cert.EvenRefIdeal.nD Cert.EvenRefIdeal.τ).loc Cert.EvenRefIdeal.main_arg14) = m ((c.tc : Thread Cert.EvenRefIdeal.nD Cert.EvenRefIdeal.τ).loc Cert.EvenRefIdeal.main_arg14)
      ∧ r.2.mem ((c.tc : Thread Cert.EvenRefIdeal.nD Cert.EvenRefIdeal.τ).loc Cert.EvenRefIdeal.main_arg15) = m ((c.tc : Thread Cert.EvenRefIdeal.nD Cert.EvenRefIdeal.τ).loc Cert.EvenRefIdeal.main_arg15)
      ∧ r.2.mem ((c.tc : Thread Cert.EvenRefIdeal.nD Cert.EvenRefIdeal.τ).loc Cert.EvenRefIdeal.main_arg16) = m ((c.tc : Thread Cert.EvenRefIdeal.nD Cert.EvenRefIdeal.τ).loc Cert.EvenRefIdeal.main_arg16))
      ∧ r.2.sem = fun _ => 0)

def quiescent_EvenRefIdeal_pre_finite [hEvenRefIdeal : Cert.EvenRefIdeal.Facts] [hPre_finite : Cert.Pre_finite.Facts] : Prop :=
  ∀ (m : (ℓ : Loc Cert.EvenRefIdeal.nD Cert.EvenRefIdeal.τ Cert.EvenRefIdeal.sig) → Buf (Elt Ideal) ℓ) (g : Dev Cert.EvenRefIdeal.nD → PrngReg), Pre_EvenRefIdeal_finite m →
    θ_run (Cert.EvenRefIdeal.defs (F := Ideal)) (onTc (τ := Cert.EvenRefIdeal.τ) (Cert.EvenRefIdeal.main (F := Ideal))) ⟨m, fun _ => 0, g⟩ (fun r => (∀ c : Dev Cert.EvenRefIdeal.nD,
      r.2.mem ((c.tc : Thread Cert.EvenRefIdeal.nD Cert.EvenRefIdeal.τ).loc Cert.EvenRefIdeal.main_arg0) = m ((c.tc : Thread Cert.EvenRefIdeal.nD Cert.EvenRefIdeal.τ).loc Cert.EvenRefIdeal.main_arg0)
      ∧ r.2.mem ((c.tc : Thread Cert.EvenRefIdeal.nD Cert.EvenRefIdeal.τ).loc Cert.EvenRefIdeal.main_arg1) = m ((c.tc : Thread Cert.EvenRefIdeal.nD Cert.EvenRefIdeal.τ).loc Cert.EvenRefIdeal.main_arg1)
      ∧ r.2.mem ((c.tc : Thread Cert.EvenRefIdeal.nD Cert.EvenRefIdeal.τ).loc Cert.EvenRefIdeal.main_arg2) = m ((c.tc : Thread Cert.EvenRefIdeal.nD Cert.EvenRefIdeal.τ).loc Cert.EvenRefIdeal.main_arg2)
      ∧ r.2.mem ((c.tc : Thread Cert.EvenRefIdeal.nD Cert.EvenRefIdeal.τ).loc Cert.EvenRefIdeal.main_arg3) = m ((c.tc : Thread Cert.EvenRefIdeal.nD Cert.EvenRefIdeal.τ).loc Cert.EvenRefIdeal.main_arg3)
      ∧ r.2.mem ((c.tc : Thread Cert.EvenRefIdeal.nD Cert.EvenRefIdeal.τ).loc Cert.EvenRefIdeal.main_arg4) = m ((c.tc : Thread Cert.EvenRefIdeal.nD Cert.EvenRefIdeal.τ).loc Cert.EvenRefIdeal.main_arg4)
      ∧ r.2.mem ((c.tc : Thread Cert.EvenRefIdeal.nD Cert.EvenRefIdeal.τ).loc Cert.EvenRefIdeal.main_arg5) = m ((c.tc : Thread Cert.EvenRefIdeal.nD Cert.EvenRefIdeal.τ).loc Cert.EvenRefIdeal.main_arg5)
      ∧ r.2.mem ((c.tc : Thread Cert.EvenRefIdeal.nD Cert.EvenRefIdeal.τ).loc Cert.EvenRefIdeal.main_arg6) = m ((c.tc : Thread Cert.EvenRefIdeal.nD Cert.EvenRefIdeal.τ).loc Cert.EvenRefIdeal.main_arg6)
      ∧ r.2.mem ((c.tc : Thread Cert.EvenRefIdeal.nD Cert.EvenRefIdeal.τ).loc Cert.EvenRefIdeal.main_arg7) = m ((c.tc : Thread Cert.EvenRefIdeal.nD Cert.EvenRefIdeal.τ).loc Cert.EvenRefIdeal.main_arg7)
      ∧ r.2.mem ((c.tc : Thread Cert.EvenRefIdeal.nD Cert.EvenRefIdeal.τ).loc Cert.EvenRefIdeal.main_arg8) = m ((c.tc : Thread Cert.EvenRefIdeal.nD Cert.EvenRefIdeal.τ).loc Cert.EvenRefIdeal.main_arg8)
      ∧ r.2.mem ((c.tc : Thread Cert.EvenRefIdeal.nD Cert.EvenRefIdeal.τ).loc Cert.EvenRefIdeal.main_arg9) = m ((c.tc : Thread Cert.EvenRefIdeal.nD Cert.EvenRefIdeal.τ).loc Cert.EvenRefIdeal.main_arg9)
      ∧ r.2.mem ((c.tc : Thread Cert.EvenRefIdeal.nD Cert.EvenRefIdeal.τ).loc Cert.EvenRefIdeal.main_arg10) = m ((c.tc : Thread Cert.EvenRefIdeal.nD Cert.EvenRefIdeal.τ).loc Cert.EvenRefIdeal.main_arg10)
      ∧ r.2.mem ((c.tc : Thread Cert.EvenRefIdeal.nD Cert.EvenRefIdeal.τ).loc Cert.EvenRefIdeal.main_arg11) = m ((c.tc : Thread Cert.EvenRefIdeal.nD Cert.EvenRefIdeal.τ).loc Cert.EvenRefIdeal.main_arg11)
      ∧ r.2.mem ((c.tc : Thread Cert.EvenRefIdeal.nD Cert.EvenRefIdeal.τ).loc Cert.EvenRefIdeal.main_arg12) = m ((c.tc : Thread Cert.EvenRefIdeal.nD Cert.EvenRefIdeal.τ).loc Cert.EvenRefIdeal.main_arg12)
      ∧ r.2.mem ((c.tc : Thread Cert.EvenRefIdeal.nD Cert.EvenRefIdeal.τ).loc Cert.EvenRefIdeal.main_arg13) = m ((c.tc : Thread Cert.EvenRefIdeal.nD Cert.EvenRefIdeal.τ).loc Cert.EvenRefIdeal.main_arg13)
      ∧ r.2.mem ((c.tc : Thread Cert.EvenRefIdeal.nD Cert.EvenRefIdeal.τ).loc Cert.EvenRefIdeal.main_arg14) = m ((c.tc : Thread Cert.EvenRefIdeal.nD Cert.EvenRefIdeal.τ).loc Cert.EvenRefIdeal.main_arg14)
      ∧ r.2.mem ((c.tc : Thread Cert.EvenRefIdeal.nD Cert.EvenRefIdeal.τ).loc Cert.EvenRefIdeal.main_arg15) = m ((c.tc : Thread Cert.EvenRefIdeal.nD Cert.EvenRefIdeal.τ).loc Cert.EvenRefIdeal.main_arg15)
      ∧ r.2.mem ((c.tc : Thread Cert.EvenRefIdeal.nD Cert.EvenRefIdeal.τ).loc Cert.EvenRefIdeal.main_arg16) = m ((c.tc : Thread Cert.EvenRefIdeal.nD Cert.EvenRefIdeal.τ).loc Cert.EvenRefIdeal.main_arg16))
      ∧ r.2.sem = fun _ => 0)

def quiescent_FfnFinal [hFfnFinal : Cert.FfnFinal.Facts] : Prop :=
  ∀ (m : (ℓ : Loc Cert.FfnFinal.nD Cert.FfnFinal.τ Cert.FfnFinal.sig) → Buf (Elt Bits) ℓ) (g : Dev Cert.FfnFinal.nD → PrngReg), Pre_FfnFinal m →
    θ_run (Cert.FfnFinal.defs (F := Bits)) (onTc (τ := Cert.FfnFinal.τ) (Cert.FfnFinal.main (F := Bits))) ⟨m, fun _ => 0, g⟩ (fun r => (∀ c : Dev Cert.FfnFinal.nD,
      r.2.mem ((c.tc : Thread Cert.FfnFinal.nD Cert.FfnFinal.τ).loc Cert.FfnFinal.main_arg0) = m ((c.tc : Thread Cert.FfnFinal.nD Cert.FfnFinal.τ).loc Cert.FfnFinal.main_arg0)
      ∧ r.2.mem ((c.tc : Thread Cert.FfnFinal.nD Cert.FfnFinal.τ).loc Cert.FfnFinal.main_arg1) = m ((c.tc : Thread Cert.FfnFinal.nD Cert.FfnFinal.τ).loc Cert.FfnFinal.main_arg1)
      ∧ r.2.mem ((c.tc : Thread Cert.FfnFinal.nD Cert.FfnFinal.τ).loc Cert.FfnFinal.main_arg2) = m ((c.tc : Thread Cert.FfnFinal.nD Cert.FfnFinal.τ).loc Cert.FfnFinal.main_arg2)
      ∧ r.2.mem ((c.tc : Thread Cert.FfnFinal.nD Cert.FfnFinal.τ).loc Cert.FfnFinal.main_arg3) = m ((c.tc : Thread Cert.FfnFinal.nD Cert.FfnFinal.τ).loc Cert.FfnFinal.main_arg3)
      ∧ r.2.mem ((c.tc : Thread Cert.FfnFinal.nD Cert.FfnFinal.τ).loc Cert.FfnFinal.main_arg4) = m ((c.tc : Thread Cert.FfnFinal.nD Cert.FfnFinal.τ).loc Cert.FfnFinal.main_arg4)
      ∧ r.2.mem ((c.tc : Thread Cert.FfnFinal.nD Cert.FfnFinal.τ).loc Cert.FfnFinal.main_arg5) = m ((c.tc : Thread Cert.FfnFinal.nD Cert.FfnFinal.τ).loc Cert.FfnFinal.main_arg5)
      ∧ r.2.mem ((c.tc : Thread Cert.FfnFinal.nD Cert.FfnFinal.τ).loc Cert.FfnFinal.main_arg6) = m ((c.tc : Thread Cert.FfnFinal.nD Cert.FfnFinal.τ).loc Cert.FfnFinal.main_arg6))
      ∧ r.2.sem = fun _ => 0)

def quiescent_FfnFinalIdeal [hFfnFinalIdeal : Cert.FfnFinalIdeal.Facts] : Prop :=
  ∀ (m : (ℓ : Loc Cert.FfnFinalIdeal.nD Cert.FfnFinalIdeal.τ Cert.FfnFinalIdeal.sig) → Buf (Elt Ideal) ℓ) (g : Dev Cert.FfnFinalIdeal.nD → PrngReg), Pre_FfnFinalIdeal m →
    θ_run (Cert.FfnFinalIdeal.defs (F := Ideal)) (onTc (τ := Cert.FfnFinalIdeal.τ) (Cert.FfnFinalIdeal.main (F := Ideal))) ⟨m, fun _ => 0, g⟩ (fun r => (∀ c : Dev Cert.FfnFinalIdeal.nD,
      r.2.mem ((c.tc : Thread Cert.FfnFinalIdeal.nD Cert.FfnFinalIdeal.τ).loc Cert.FfnFinalIdeal.main_arg0) = m ((c.tc : Thread Cert.FfnFinalIdeal.nD Cert.FfnFinalIdeal.τ).loc Cert.FfnFinalIdeal.main_arg0)
      ∧ r.2.mem ((c.tc : Thread Cert.FfnFinalIdeal.nD Cert.FfnFinalIdeal.τ).loc Cert.FfnFinalIdeal.main_arg1) = m ((c.tc : Thread Cert.FfnFinalIdeal.nD Cert.FfnFinalIdeal.τ).loc Cert.FfnFinalIdeal.main_arg1)
      ∧ r.2.mem ((c.tc : Thread Cert.FfnFinalIdeal.nD Cert.FfnFinalIdeal.τ).loc Cert.FfnFinalIdeal.main_arg2) = m ((c.tc : Thread Cert.FfnFinalIdeal.nD Cert.FfnFinalIdeal.τ).loc Cert.FfnFinalIdeal.main_arg2)
      ∧ r.2.mem ((c.tc : Thread Cert.FfnFinalIdeal.nD Cert.FfnFinalIdeal.τ).loc Cert.FfnFinalIdeal.main_arg3) = m ((c.tc : Thread Cert.FfnFinalIdeal.nD Cert.FfnFinalIdeal.τ).loc Cert.FfnFinalIdeal.main_arg3)
      ∧ r.2.mem ((c.tc : Thread Cert.FfnFinalIdeal.nD Cert.FfnFinalIdeal.τ).loc Cert.FfnFinalIdeal.main_arg4) = m ((c.tc : Thread Cert.FfnFinalIdeal.nD Cert.FfnFinalIdeal.τ).loc Cert.FfnFinalIdeal.main_arg4)
      ∧ r.2.mem ((c.tc : Thread Cert.FfnFinalIdeal.nD Cert.FfnFinalIdeal.τ).loc Cert.FfnFinalIdeal.main_arg5) = m ((c.tc : Thread Cert.FfnFinalIdeal.nD Cert.FfnFinalIdeal.τ).loc Cert.FfnFinalIdeal.main_arg5)
      ∧ r.2.mem ((c.tc : Thread Cert.FfnFinalIdeal.nD Cert.FfnFinalIdeal.τ).loc Cert.FfnFinalIdeal.main_arg6) = m ((c.tc : Thread Cert.FfnFinalIdeal.nD Cert.FfnFinalIdeal.τ).loc Cert.FfnFinalIdeal.main_arg6))
      ∧ r.2.sem = fun _ => 0)

def quiescent_FfnFinalRefIdeal [hFfnFinalRefIdeal : Cert.FfnFinalRefIdeal.Facts] : Prop :=
  ∀ (m : (ℓ : Loc Cert.FfnFinalRefIdeal.nD Cert.FfnFinalRefIdeal.τ Cert.FfnFinalRefIdeal.sig) → Buf (Elt Ideal) ℓ) (g : Dev Cert.FfnFinalRefIdeal.nD → PrngReg), Pre_FfnFinalRefIdeal m →
    θ_run (Cert.FfnFinalRefIdeal.defs (F := Ideal)) (onTc (τ := Cert.FfnFinalRefIdeal.τ) (Cert.FfnFinalRefIdeal.main (F := Ideal))) ⟨m, fun _ => 0, g⟩ (fun r => (∀ c : Dev Cert.FfnFinalRefIdeal.nD,
      r.2.mem ((c.tc : Thread Cert.FfnFinalRefIdeal.nD Cert.FfnFinalRefIdeal.τ).loc Cert.FfnFinalRefIdeal.main_arg0) = m ((c.tc : Thread Cert.FfnFinalRefIdeal.nD Cert.FfnFinalRefIdeal.τ).loc Cert.FfnFinalRefIdeal.main_arg0)
      ∧ r.2.mem ((c.tc : Thread Cert.FfnFinalRefIdeal.nD Cert.FfnFinalRefIdeal.τ).loc Cert.FfnFinalRefIdeal.main_arg1) = m ((c.tc : Thread Cert.FfnFinalRefIdeal.nD Cert.FfnFinalRefIdeal.τ).loc Cert.FfnFinalRefIdeal.main_arg1)
      ∧ r.2.mem ((c.tc : Thread Cert.FfnFinalRefIdeal.nD Cert.FfnFinalRefIdeal.τ).loc Cert.FfnFinalRefIdeal.main_arg2) = m ((c.tc : Thread Cert.FfnFinalRefIdeal.nD Cert.FfnFinalRefIdeal.τ).loc Cert.FfnFinalRefIdeal.main_arg2)
      ∧ r.2.mem ((c.tc : Thread Cert.FfnFinalRefIdeal.nD Cert.FfnFinalRefIdeal.τ).loc Cert.FfnFinalRefIdeal.main_arg3) = m ((c.tc : Thread Cert.FfnFinalRefIdeal.nD Cert.FfnFinalRefIdeal.τ).loc Cert.FfnFinalRefIdeal.main_arg3)
      ∧ r.2.mem ((c.tc : Thread Cert.FfnFinalRefIdeal.nD Cert.FfnFinalRefIdeal.τ).loc Cert.FfnFinalRefIdeal.main_arg4) = m ((c.tc : Thread Cert.FfnFinalRefIdeal.nD Cert.FfnFinalRefIdeal.τ).loc Cert.FfnFinalRefIdeal.main_arg4)
      ∧ r.2.mem ((c.tc : Thread Cert.FfnFinalRefIdeal.nD Cert.FfnFinalRefIdeal.τ).loc Cert.FfnFinalRefIdeal.main_arg5) = m ((c.tc : Thread Cert.FfnFinalRefIdeal.nD Cert.FfnFinalRefIdeal.τ).loc Cert.FfnFinalRefIdeal.main_arg5)
      ∧ r.2.mem ((c.tc : Thread Cert.FfnFinalRefIdeal.nD Cert.FfnFinalRefIdeal.τ).loc Cert.FfnFinalRefIdeal.main_arg6) = m ((c.tc : Thread Cert.FfnFinalRefIdeal.nD Cert.FfnFinalRefIdeal.τ).loc Cert.FfnFinalRefIdeal.main_arg6))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_Odd [hOdd : Cert.Odd.Facts] : Prop :=
  ∀ (m : (ℓ : Loc Cert.Odd.nD Cert.Odd.τ Cert.Odd.sig) → Buf (Elt Bits) ℓ) (g : Dev Cert.Odd.nD → PrngReg), Pre_Odd m →
    θ_run (Cert.Odd.defs (F := Bits)) (onTc (τ := Cert.Odd.τ) (Cert.Odd.main (F := Bits))) ⟨m, fun _ => 0, g⟩ (fun r => (∀ c : Dev Cert.Odd.nD,
      r.2.mem ((c.tc : Thread Cert.Odd.nD Cert.Odd.τ).loc Cert.Odd.main_arg0) = m ((c.tc : Thread Cert.Odd.nD Cert.Odd.τ).loc Cert.Odd.main_arg0)
      ∧ r.2.mem ((c.tc : Thread Cert.Odd.nD Cert.Odd.τ).loc Cert.Odd.main_arg1) = m ((c.tc : Thread Cert.Odd.nD Cert.Odd.τ).loc Cert.Odd.main_arg1)
      ∧ r.2.mem ((c.tc : Thread Cert.Odd.nD Cert.Odd.τ).loc Cert.Odd.main_arg2) = m ((c.tc : Thread Cert.Odd.nD Cert.Odd.τ).loc Cert.Odd.main_arg2)
      ∧ r.2.mem ((c.tc : Thread Cert.Odd.nD Cert.Odd.τ).loc Cert.Odd.main_arg3) = m ((c.tc : Thread Cert.Odd.nD Cert.Odd.τ).loc Cert.Odd.main_arg3)
      ∧ r.2.mem ((c.tc : Thread Cert.Odd.nD Cert.Odd.τ).loc Cert.Odd.main_arg4) = m ((c.tc : Thread Cert.Odd.nD Cert.Odd.τ).loc Cert.Odd.main_arg4)
      ∧ r.2.mem ((c.tc : Thread Cert.Odd.nD Cert.Odd.τ).loc Cert.Odd.main_arg5) = m ((c.tc : Thread Cert.Odd.nD Cert.Odd.τ).loc Cert.Odd.main_arg5))
      ∧ r.2.sem = fun _ => 0)

def quiescent_OddIdeal [hOddIdeal : Cert.OddIdeal.Facts] : Prop :=
  ∀ (m : (ℓ : Loc Cert.OddIdeal.nD Cert.OddIdeal.τ Cert.OddIdeal.sig) → Buf (Elt Ideal) ℓ) (g : Dev Cert.OddIdeal.nD → PrngReg), Pre_OddIdeal m →
    θ_run (Cert.OddIdeal.defs (F := Ideal)) (onTc (τ := Cert.OddIdeal.τ) (Cert.OddIdeal.main (F := Ideal))) ⟨m, fun _ => 0, g⟩ (fun r => (∀ c : Dev Cert.OddIdeal.nD,
      r.2.mem ((c.tc : Thread Cert.OddIdeal.nD Cert.OddIdeal.τ).loc Cert.OddIdeal.main_arg0) = m ((c.tc : Thread Cert.OddIdeal.nD Cert.OddIdeal.τ).loc Cert.OddIdeal.main_arg0)
      ∧ r.2.mem ((c.tc : Thread Cert.OddIdeal.nD Cert.OddIdeal.τ).loc Cert.OddIdeal.main_arg1) = m ((c.tc : Thread Cert.OddIdeal.nD Cert.OddIdeal.τ).loc Cert.OddIdeal.main_arg1)
      ∧ r.2.mem ((c.tc : Thread Cert.OddIdeal.nD Cert.OddIdeal.τ).loc Cert.OddIdeal.main_arg2) = m ((c.tc : Thread Cert.OddIdeal.nD Cert.OddIdeal.τ).loc Cert.OddIdeal.main_arg2)
      ∧ r.2.mem ((c.tc : Thread Cert.OddIdeal.nD Cert.OddIdeal.τ).loc Cert.OddIdeal.main_arg3) = m ((c.tc : Thread Cert.OddIdeal.nD Cert.OddIdeal.τ).loc Cert.OddIdeal.main_arg3)
      ∧ r.2.mem ((c.tc : Thread Cert.OddIdeal.nD Cert.OddIdeal.τ).loc Cert.OddIdeal.main_arg4) = m ((c.tc : Thread Cert.OddIdeal.nD Cert.OddIdeal.τ).loc Cert.OddIdeal.main_arg4)
      ∧ r.2.mem ((c.tc : Thread Cert.OddIdeal.nD Cert.OddIdeal.τ).loc Cert.OddIdeal.main_arg5) = m ((c.tc : Thread Cert.OddIdeal.nD Cert.OddIdeal.τ).loc Cert.OddIdeal.main_arg5))
      ∧ r.2.sem = fun _ => 0)

def quiescent_OddRefIdeal [hOddRefIdeal : Cert.OddRefIdeal.Facts] : Prop :=
  ∀ (m : (ℓ : Loc Cert.OddRefIdeal.nD Cert.OddRefIdeal.τ Cert.OddRefIdeal.sig) → Buf (Elt Ideal) ℓ) (g : Dev Cert.OddRefIdeal.nD → PrngReg), Pre_OddRefIdeal m →
    θ_run (Cert.OddRefIdeal.defs (F := Ideal)) (onTc (τ := Cert.OddRefIdeal.τ) (Cert.OddRefIdeal.main (F := Ideal))) ⟨m, fun _ => 0, g⟩ (fun r => (∀ c : Dev Cert.OddRefIdeal.nD,
      r.2.mem ((c.tc : Thread Cert.OddRefIdeal.nD Cert.OddRefIdeal.τ).loc Cert.OddRefIdeal.main_arg0) = m ((c.tc : Thread Cert.OddRefIdeal.nD Cert.OddRefIdeal.τ).loc Cert.OddRefIdeal.main_arg0)
      ∧ r.2.mem ((c.tc : Thread Cert.OddRefIdeal.nD Cert.OddRefIdeal.τ).loc Cert.OddRefIdeal.main_arg1) = m ((c.tc : Thread Cert.OddRefIdeal.nD Cert.OddRefIdeal.τ).loc Cert.OddRefIdeal.main_arg1)
      ∧ r.2.mem ((c.tc : Thread Cert.OddRefIdeal.nD Cert.OddRefIdeal.τ).loc Cert.OddRefIdeal.main_arg2) = m ((c.tc : Thread Cert.OddRefIdeal.nD Cert.OddRefIdeal.τ).loc Cert.OddRefIdeal.main_arg2)
      ∧ r.2.mem ((c.tc : Thread Cert.OddRefIdeal.nD Cert.OddRefIdeal.τ).loc Cert.OddRefIdeal.main_arg3) = m ((c.tc : Thread Cert.OddRefIdeal.nD Cert.OddRefIdeal.τ).loc Cert.OddRefIdeal.main_arg3)
      ∧ r.2.mem ((c.tc : Thread Cert.OddRefIdeal.nD Cert.OddRefIdeal.τ).loc Cert.OddRefIdeal.main_arg4) = m ((c.tc : Thread Cert.OddRefIdeal.nD Cert.OddRefIdeal.τ).loc Cert.OddRefIdeal.main_arg4)
      ∧ r.2.mem ((c.tc : Thread Cert.OddRefIdeal.nD Cert.OddRefIdeal.τ).loc Cert.OddRefIdeal.main_arg5) = m ((c.tc : Thread Cert.OddRefIdeal.nD Cert.OddRefIdeal.τ).loc Cert.OddRefIdeal.main_arg5))
      ∧ r.2.sem = fun _ => 0)

def preserves_Even_EvenIdeal : Prop :=
  True

def algebraic_EvenIdeal_EvenRefIdeal_pre_finite [hEvenIdeal : Cert.EvenIdeal.Facts] [hEvenRefIdeal : Cert.EvenRefIdeal.Facts] [hPre_finite : Cert.Pre_finite.Facts] : Prop :=
  ∀ (m : (ℓ : Loc Cert.EvenIdeal.nD Cert.EvenIdeal.τ Cert.EvenIdeal.sig) → Buf (Elt Ideal) ℓ) (g : Dev Cert.EvenIdeal.nD → PrngReg)
    (m' : (ℓ : Loc Cert.EvenRefIdeal.nD Cert.EvenRefIdeal.τ Cert.EvenRefIdeal.sig) → Buf (Elt Ideal) ℓ) (g' : Dev Cert.EvenRefIdeal.nD → PrngReg), Pre_EvenIdeal_finite m →
    (∀ c : Dev Cert.EvenIdeal.nD,
      m' ((c.tc : Thread Cert.EvenRefIdeal.nD Cert.EvenRefIdeal.τ).loc Cert.EvenRefIdeal.main_arg0) = m ((c.tc : Thread Cert.EvenIdeal.nD Cert.EvenIdeal.τ).loc Cert.EvenIdeal.main_arg0)
      ∧ m' ((c.tc : Thread Cert.EvenRefIdeal.nD Cert.EvenRefIdeal.τ).loc Cert.EvenRefIdeal.main_arg1) = m ((c.tc : Thread Cert.EvenIdeal.nD Cert.EvenIdeal.τ).loc Cert.EvenIdeal.main_arg1)
      ∧ m' ((c.tc : Thread Cert.EvenRefIdeal.nD Cert.EvenRefIdeal.τ).loc Cert.EvenRefIdeal.main_arg2) = m ((c.tc : Thread Cert.EvenIdeal.nD Cert.EvenIdeal.τ).loc Cert.EvenIdeal.main_arg2)
      ∧ m' ((c.tc : Thread Cert.EvenRefIdeal.nD Cert.EvenRefIdeal.τ).loc Cert.EvenRefIdeal.main_arg3) = m ((c.tc : Thread Cert.EvenIdeal.nD Cert.EvenIdeal.τ).loc Cert.EvenIdeal.main_arg3)
      ∧ m' ((c.tc : Thread Cert.EvenRefIdeal.nD Cert.EvenRefIdeal.τ).loc Cert.EvenRefIdeal.main_arg4) = m ((c.tc : Thread Cert.EvenIdeal.nD Cert.EvenIdeal.τ).loc Cert.EvenIdeal.main_arg4)
      ∧ m' ((c.tc : Thread Cert.EvenRefIdeal.nD Cert.EvenRefIdeal.τ).loc Cert.EvenRefIdeal.main_arg5) = m ((c.tc : Thread Cert.EvenIdeal.nD Cert.EvenIdeal.τ).loc Cert.EvenIdeal.main_arg5)
      ∧ m' ((c.tc : Thread Cert.EvenRefIdeal.nD Cert.EvenRefIdeal.τ).loc Cert.EvenRefIdeal.main_arg6) = m ((c.tc : Thread Cert.EvenIdeal.nD Cert.EvenIdeal.τ).loc Cert.EvenIdeal.main_arg6)
      ∧ m' ((c.tc : Thread Cert.EvenRefIdeal.nD Cert.EvenRefIdeal.τ).loc Cert.EvenRefIdeal.main_arg7) = m ((c.tc : Thread Cert.EvenIdeal.nD Cert.EvenIdeal.τ).loc Cert.EvenIdeal.main_arg7)
      ∧ m' ((c.tc : Thread Cert.EvenRefIdeal.nD Cert.EvenRefIdeal.τ).loc Cert.EvenRefIdeal.main_arg8) = m ((c.tc : Thread Cert.EvenIdeal.nD Cert.EvenIdeal.τ).loc Cert.EvenIdeal.main_arg8)
      ∧ m' ((c.tc : Thread Cert.EvenRefIdeal.nD Cert.EvenRefIdeal.τ).loc Cert.EvenRefIdeal.main_arg9) = m ((c.tc : Thread Cert.EvenIdeal.nD Cert.EvenIdeal.τ).loc Cert.EvenIdeal.main_arg9)
      ∧ m' ((c.tc : Thread Cert.EvenRefIdeal.nD Cert.EvenRefIdeal.τ).loc Cert.EvenRefIdeal.main_arg10) = m ((c.tc : Thread Cert.EvenIdeal.nD Cert.EvenIdeal.τ).loc Cert.EvenIdeal.main_arg10)
      ∧ m' ((c.tc : Thread Cert.EvenRefIdeal.nD Cert.EvenRefIdeal.τ).loc Cert.EvenRefIdeal.main_arg11) = m ((c.tc : Thread Cert.EvenIdeal.nD Cert.EvenIdeal.τ).loc Cert.EvenIdeal.main_arg11)
      ∧ m' ((c.tc : Thread Cert.EvenRefIdeal.nD Cert.EvenRefIdeal.τ).loc Cert.EvenRefIdeal.main_arg12) = m ((c.tc : Thread Cert.EvenIdeal.nD Cert.EvenIdeal.τ).loc Cert.EvenIdeal.main_arg12)
      ∧ m' ((c.tc : Thread Cert.EvenRefIdeal.nD Cert.EvenRefIdeal.τ).loc Cert.EvenRefIdeal.main_arg13) = m ((c.tc : Thread Cert.EvenIdeal.nD Cert.EvenIdeal.τ).loc Cert.EvenIdeal.main_arg13)
      ∧ m' ((c.tc : Thread Cert.EvenRefIdeal.nD Cert.EvenRefIdeal.τ).loc Cert.EvenRefIdeal.main_arg14) = m ((c.tc : Thread Cert.EvenIdeal.nD Cert.EvenIdeal.τ).loc Cert.EvenIdeal.main_arg14)
      ∧ m' ((c.tc : Thread Cert.EvenRefIdeal.nD Cert.EvenRefIdeal.τ).loc Cert.EvenRefIdeal.main_arg15) = m ((c.tc : Thread Cert.EvenIdeal.nD Cert.EvenIdeal.τ).loc Cert.EvenIdeal.main_arg15)
      ∧ m' ((c.tc : Thread Cert.EvenRefIdeal.nD Cert.EvenRefIdeal.τ).loc Cert.EvenRefIdeal.main_arg16) = m ((c.tc : Thread Cert.EvenIdeal.nD Cert.EvenIdeal.τ).loc Cert.EvenIdeal.main_arg16)) →
    ∃ (v0 : (c : Dev Cert.EvenIdeal.nD) → Buf (Elt Ideal) ((c.tc : Thread Cert.EvenIdeal.nD Cert.EvenIdeal.τ).loc Cert.EvenIdeal.main_v111)),
      θ_run (Cert.EvenIdeal.defs (F := Ideal)) (onTc (τ := Cert.EvenIdeal.τ) (Cert.EvenIdeal.main (F := Ideal))) ⟨m, fun _ => 0, g⟩ (fun r => ∀ c : Dev Cert.EvenIdeal.nD,
          r.2.mem ((c.tc : Thread Cert.EvenIdeal.nD Cert.EvenIdeal.τ).loc Cert.EvenIdeal.main_v111) = v0 c
          ∧ r.2.mem ((c.tc : Thread Cert.EvenIdeal.nD Cert.EvenIdeal.τ).loc Cert.EvenIdeal.main_arg0) = m ((c.tc : Thread Cert.EvenIdeal.nD Cert.EvenIdeal.τ).loc Cert.EvenIdeal.main_arg0)
          ∧ r.2.mem ((c.tc : Thread Cert.EvenIdeal.nD Cert.EvenIdeal.τ).loc Cert.EvenIdeal.main_arg1) = m ((c.tc : Thread Cert.EvenIdeal.nD Cert.EvenIdeal.τ).loc Cert.EvenIdeal.main_arg1)
          ∧ r.2.mem ((c.tc : Thread Cert.EvenIdeal.nD Cert.EvenIdeal.τ).loc Cert.EvenIdeal.main_arg2) = m ((c.tc : Thread Cert.EvenIdeal.nD Cert.EvenIdeal.τ).loc Cert.EvenIdeal.main_arg2)
          ∧ r.2.mem ((c.tc : Thread Cert.EvenIdeal.nD Cert.EvenIdeal.τ).loc Cert.EvenIdeal.main_arg3) = m ((c.tc : Thread Cert.EvenIdeal.nD Cert.EvenIdeal.τ).loc Cert.EvenIdeal.main_arg3)
          ∧ r.2.mem ((c.tc : Thread Cert.EvenIdeal.nD Cert.EvenIdeal.τ).loc Cert.EvenIdeal.main_arg4) = m ((c.tc : Thread Cert.EvenIdeal.nD Cert.EvenIdeal.τ).loc Cert.EvenIdeal.main_arg4)
          ∧ r.2.mem ((c.tc : Thread Cert.EvenIdeal.nD Cert.EvenIdeal.τ).loc Cert.EvenIdeal.main_arg5) = m ((c.tc : Thread Cert.EvenIdeal.nD Cert.EvenIdeal.τ).loc Cert.EvenIdeal.main_arg5)
          ∧ r.2.mem ((c.tc : Thread Cert.EvenIdeal.nD Cert.EvenIdeal.τ).loc Cert.EvenIdeal.main_arg6) = m ((c.tc : Thread Cert.EvenIdeal.nD Cert.EvenIdeal.τ).loc Cert.EvenIdeal.main_arg6)
          ∧ r.2.mem ((c.tc : Thread Cert.EvenIdeal.nD Cert.EvenIdeal.τ).loc Cert.EvenIdeal.main_arg7) = m ((c.tc : Thread Cert.EvenIdeal.nD Cert.EvenIdeal.τ).loc Cert.EvenIdeal.main_arg7)
          ∧ r.2.mem ((c.tc : Thread Cert.EvenIdeal.nD Cert.EvenIdeal.τ).loc Cert.EvenIdeal.main_arg8) = m ((c.tc : Thread Cert.EvenIdeal.nD Cert.EvenIdeal.τ).loc Cert.EvenIdeal.main_arg8)
          ∧ r.2.mem ((c.tc : Thread Cert.EvenIdeal.nD Cert.EvenIdeal.τ).loc Cert.EvenIdeal.main_arg9) = m ((c.tc : Thread Cert.EvenIdeal.nD Cert.EvenIdeal.τ).loc Cert.EvenIdeal.main_arg9)
          ∧ r.2.mem ((c.tc : Thread Cert.EvenIdeal.nD Cert.EvenIdeal.τ).loc Cert.EvenIdeal.main_arg10) = m ((c.tc : Thread Cert.EvenIdeal.nD Cert.EvenIdeal.τ).loc Cert.EvenIdeal.main_arg10)
          ∧ r.2.mem ((c.tc : Thread Cert.EvenIdeal.nD Cert.EvenIdeal.τ).loc Cert.EvenIdeal.main_arg11) = m ((c.tc : Thread Cert.EvenIdeal.nD Cert.EvenIdeal.τ).loc Cert.EvenIdeal.main_arg11)
          ∧ r.2.mem ((c.tc : Thread Cert.EvenIdeal.nD Cert.EvenIdeal.τ).loc Cert.EvenIdeal.main_arg12) = m ((c.tc : Thread Cert.EvenIdeal.nD Cert.EvenIdeal.τ).loc Cert.EvenIdeal.main_arg12)
          ∧ r.2.mem ((c.tc : Thread Cert.EvenIdeal.nD Cert.EvenIdeal.τ).loc Cert.EvenIdeal.main_arg13) = m ((c.tc : Thread Cert.EvenIdeal.nD Cert.EvenIdeal.τ).loc Cert.EvenIdeal.main_arg13)
          ∧ r.2.mem ((c.tc : Thread Cert.EvenIdeal.nD Cert.EvenIdeal.τ).loc Cert.EvenIdeal.main_arg14) = m ((c.tc : Thread Cert.EvenIdeal.nD Cert.EvenIdeal.τ).loc Cert.EvenIdeal.main_arg14)
          ∧ r.2.mem ((c.tc : Thread Cert.EvenIdeal.nD Cert.EvenIdeal.τ).loc Cert.EvenIdeal.main_arg15) = m ((c.tc : Thread Cert.EvenIdeal.nD Cert.EvenIdeal.τ).loc Cert.EvenIdeal.main_arg15)
          ∧ r.2.mem ((c.tc : Thread Cert.EvenIdeal.nD Cert.EvenIdeal.τ).loc Cert.EvenIdeal.main_arg16) = m ((c.tc : Thread Cert.EvenIdeal.nD Cert.EvenIdeal.τ).loc Cert.EvenIdeal.main_arg16))
      ∧ θ_run (Cert.EvenRefIdeal.defs (F := Ideal)) (onTc (τ := Cert.EvenRefIdeal.τ) (Cert.EvenRefIdeal.main (F := Ideal))) ⟨m', fun _ => 0, g'⟩ (fun r => ∀ c : Dev Cert.EvenRefIdeal.nD,
          r.2.mem ((c.tc : Thread Cert.EvenRefIdeal.nD Cert.EvenRefIdeal.τ).loc Cert.EvenRefIdeal.main_v146) = v0 c
          ∧ r.2.mem ((c.tc : Thread Cert.EvenRefIdeal.nD Cert.EvenRefIdeal.τ).loc Cert.EvenRefIdeal.main_arg0) = m' ((c.tc : Thread Cert.EvenRefIdeal.nD Cert.EvenRefIdeal.τ).loc Cert.EvenRefIdeal.main_arg0)
          ∧ r.2.mem ((c.tc : Thread Cert.EvenRefIdeal.nD Cert.EvenRefIdeal.τ).loc Cert.EvenRefIdeal.main_arg1) = m' ((c.tc : Thread Cert.EvenRefIdeal.nD Cert.EvenRefIdeal.τ).loc Cert.EvenRefIdeal.main_arg1)
          ∧ r.2.mem ((c.tc : Thread Cert.EvenRefIdeal.nD Cert.EvenRefIdeal.τ).loc Cert.EvenRefIdeal.main_arg2) = m' ((c.tc : Thread Cert.EvenRefIdeal.nD Cert.EvenRefIdeal.τ).loc Cert.EvenRefIdeal.main_arg2)
          ∧ r.2.mem ((c.tc : Thread Cert.EvenRefIdeal.nD Cert.EvenRefIdeal.τ).loc Cert.EvenRefIdeal.main_arg3) = m' ((c.tc : Thread Cert.EvenRefIdeal.nD Cert.EvenRefIdeal.τ).loc Cert.EvenRefIdeal.main_arg3)
          ∧ r.2.mem ((c.tc : Thread Cert.EvenRefIdeal.nD Cert.EvenRefIdeal.τ).loc Cert.EvenRefIdeal.main_arg4) = m' ((c.tc : Thread Cert.EvenRefIdeal.nD Cert.EvenRefIdeal.τ).loc Cert.EvenRefIdeal.main_arg4)
          ∧ r.2.mem ((c.tc : Thread Cert.EvenRefIdeal.nD Cert.EvenRefIdeal.τ).loc Cert.EvenRefIdeal.main_arg5) = m' ((c.tc : Thread Cert.EvenRefIdeal.nD Cert.EvenRefIdeal.τ).loc Cert.EvenRefIdeal.main_arg5)
          ∧ r.2.mem ((c.tc : Thread Cert.EvenRefIdeal.nD Cert.EvenRefIdeal.τ).loc Cert.EvenRefIdeal.main_arg6) = m' ((c.tc : Thread Cert.EvenRefIdeal.nD Cert.EvenRefIdeal.τ).loc Cert.EvenRefIdeal.main_arg6)
          ∧ r.2.mem ((c.tc : Thread Cert.EvenRefIdeal.nD Cert.EvenRefIdeal.τ).loc Cert.EvenRefIdeal.main_arg7) = m' ((c.tc : Thread Cert.EvenRefIdeal.nD Cert.EvenRefIdeal.τ).loc Cert.EvenRefIdeal.main_arg7)
          ∧ r.2.mem ((c.tc : Thread Cert.EvenRefIdeal.nD Cert.EvenRefIdeal.τ).loc Cert.EvenRefIdeal.main_arg8) = m' ((c.tc : Thread Cert.EvenRefIdeal.nD Cert.EvenRefIdeal.τ).loc Cert.EvenRefIdeal.main_arg8)
          ∧ r.2.mem ((c.tc : Thread Cert.EvenRefIdeal.nD Cert.EvenRefIdeal.τ).loc Cert.EvenRefIdeal.main_arg9) = m' ((c.tc : Thread Cert.EvenRefIdeal.nD Cert.EvenRefIdeal.τ).loc Cert.EvenRefIdeal.main_arg9)
          ∧ r.2.mem ((c.tc : Thread Cert.EvenRefIdeal.nD Cert.EvenRefIdeal.τ).loc Cert.EvenRefIdeal.main_arg10) = m' ((c.tc : Thread Cert.EvenRefIdeal.nD Cert.EvenRefIdeal.τ).loc Cert.EvenRefIdeal.main_arg10)
          ∧ r.2.mem ((c.tc : Thread Cert.EvenRefIdeal.nD Cert.EvenRefIdeal.τ).loc Cert.EvenRefIdeal.main_arg11) = m' ((c.tc : Thread Cert.EvenRefIdeal.nD Cert.EvenRefIdeal.τ).loc Cert.EvenRefIdeal.main_arg11)
          ∧ r.2.mem ((c.tc : Thread Cert.EvenRefIdeal.nD Cert.EvenRefIdeal.τ).loc Cert.EvenRefIdeal.main_arg12) = m' ((c.tc : Thread Cert.EvenRefIdeal.nD Cert.EvenRefIdeal.τ).loc Cert.EvenRefIdeal.main_arg12)
          ∧ r.2.mem ((c.tc : Thread Cert.EvenRefIdeal.nD Cert.EvenRefIdeal.τ).loc Cert.EvenRefIdeal.main_arg13) = m' ((c.tc : Thread Cert.EvenRefIdeal.nD Cert.EvenRefIdeal.τ).loc Cert.EvenRefIdeal.main_arg13)
          ∧ r.2.mem ((c.tc : Thread Cert.EvenRefIdeal.nD Cert.EvenRefIdeal.τ).loc Cert.EvenRefIdeal.main_arg14) = m' ((c.tc : Thread Cert.EvenRefIdeal.nD Cert.EvenRefIdeal.τ).loc Cert.EvenRefIdeal.main_arg14)
          ∧ r.2.mem ((c.tc : Thread Cert.EvenRefIdeal.nD Cert.EvenRefIdeal.τ).loc Cert.EvenRefIdeal.main_arg15) = m' ((c.tc : Thread Cert.EvenRefIdeal.nD Cert.EvenRefIdeal.τ).loc Cert.EvenRefIdeal.main_arg15)
          ∧ r.2.mem ((c.tc : Thread Cert.EvenRefIdeal.nD Cert.EvenRefIdeal.τ).loc Cert.EvenRefIdeal.main_arg16) = m' ((c.tc : Thread Cert.EvenRefIdeal.nD Cert.EvenRefIdeal.τ).loc Cert.EvenRefIdeal.main_arg16))

def preserves_FfnFinal_FfnFinalIdeal : Prop :=
  True

def algebraic_FfnFinalIdeal_FfnFinalRefIdeal [hFfnFinalIdeal : Cert.FfnFinalIdeal.Facts] [hFfnFinalRefIdeal : Cert.FfnFinalRefIdeal.Facts] : Prop :=
  ∀ (m : (ℓ : Loc Cert.FfnFinalIdeal.nD Cert.FfnFinalIdeal.τ Cert.FfnFinalIdeal.sig) → Buf (Elt Ideal) ℓ) (g : Dev Cert.FfnFinalIdeal.nD → PrngReg)
    (m' : (ℓ : Loc Cert.FfnFinalRefIdeal.nD Cert.FfnFinalRefIdeal.τ Cert.FfnFinalRefIdeal.sig) → Buf (Elt Ideal) ℓ) (g' : Dev Cert.FfnFinalRefIdeal.nD → PrngReg), Pre_FfnFinalIdeal m →
    (∀ c : Dev Cert.FfnFinalIdeal.nD,
      m' ((c.tc : Thread Cert.FfnFinalRefIdeal.nD Cert.FfnFinalRefIdeal.τ).loc Cert.FfnFinalRefIdeal.main_arg0) = m ((c.tc : Thread Cert.FfnFinalIdeal.nD Cert.FfnFinalIdeal.τ).loc Cert.FfnFinalIdeal.main_arg0)
      ∧ m' ((c.tc : Thread Cert.FfnFinalRefIdeal.nD Cert.FfnFinalRefIdeal.τ).loc Cert.FfnFinalRefIdeal.main_arg1) = m ((c.tc : Thread Cert.FfnFinalIdeal.nD Cert.FfnFinalIdeal.τ).loc Cert.FfnFinalIdeal.main_arg1)
      ∧ m' ((c.tc : Thread Cert.FfnFinalRefIdeal.nD Cert.FfnFinalRefIdeal.τ).loc Cert.FfnFinalRefIdeal.main_arg2) = m ((c.tc : Thread Cert.FfnFinalIdeal.nD Cert.FfnFinalIdeal.τ).loc Cert.FfnFinalIdeal.main_arg2)
      ∧ m' ((c.tc : Thread Cert.FfnFinalRefIdeal.nD Cert.FfnFinalRefIdeal.τ).loc Cert.FfnFinalRefIdeal.main_arg3) = m ((c.tc : Thread Cert.FfnFinalIdeal.nD Cert.FfnFinalIdeal.τ).loc Cert.FfnFinalIdeal.main_arg3)
      ∧ m' ((c.tc : Thread Cert.FfnFinalRefIdeal.nD Cert.FfnFinalRefIdeal.τ).loc Cert.FfnFinalRefIdeal.main_arg4) = m ((c.tc : Thread Cert.FfnFinalIdeal.nD Cert.FfnFinalIdeal.τ).loc Cert.FfnFinalIdeal.main_arg4)
      ∧ m' ((c.tc : Thread Cert.FfnFinalRefIdeal.nD Cert.FfnFinalRefIdeal.τ).loc Cert.FfnFinalRefIdeal.main_arg5) = m ((c.tc : Thread Cert.FfnFinalIdeal.nD Cert.FfnFinalIdeal.τ).loc Cert.FfnFinalIdeal.main_arg5)
      ∧ m' ((c.tc : Thread Cert.FfnFinalRefIdeal.nD Cert.FfnFinalRefIdeal.τ).loc Cert.FfnFinalRefIdeal.main_arg6) = m ((c.tc : Thread Cert.FfnFinalIdeal.nD Cert.FfnFinalIdeal.τ).loc Cert.FfnFinalIdeal.main_arg6)) →
    ∃ (v0 : (c : Dev Cert.FfnFinalIdeal.nD) → Buf (Elt Ideal) ((c.tc : Thread Cert.FfnFinalIdeal.nD Cert.FfnFinalIdeal.τ).loc Cert.FfnFinalIdeal.main_v5)),
      θ_run (Cert.FfnFinalIdeal.defs (F := Ideal)) (onTc (τ := Cert.FfnFinalIdeal.τ) (Cert.FfnFinalIdeal.main (F := Ideal))) ⟨m, fun _ => 0, g⟩ (fun r => ∀ c : Dev Cert.FfnFinalIdeal.nD,
          r.2.mem ((c.tc : Thread Cert.FfnFinalIdeal.nD Cert.FfnFinalIdeal.τ).loc Cert.FfnFinalIdeal.main_v5) = v0 c
          ∧ r.2.mem ((c.tc : Thread Cert.FfnFinalIdeal.nD Cert.FfnFinalIdeal.τ).loc Cert.FfnFinalIdeal.main_arg0) = m ((c.tc : Thread Cert.FfnFinalIdeal.nD Cert.FfnFinalIdeal.τ).loc Cert.FfnFinalIdeal.main_arg0)
          ∧ r.2.mem ((c.tc : Thread Cert.FfnFinalIdeal.nD Cert.FfnFinalIdeal.τ).loc Cert.FfnFinalIdeal.main_arg1) = m ((c.tc : Thread Cert.FfnFinalIdeal.nD Cert.FfnFinalIdeal.τ).loc Cert.FfnFinalIdeal.main_arg1)
          ∧ r.2.mem ((c.tc : Thread Cert.FfnFinalIdeal.nD Cert.FfnFinalIdeal.τ).loc Cert.FfnFinalIdeal.main_arg2) = m ((c.tc : Thread Cert.FfnFinalIdeal.nD Cert.FfnFinalIdeal.τ).loc Cert.FfnFinalIdeal.main_arg2)
          ∧ r.2.mem ((c.tc : Thread Cert.FfnFinalIdeal.nD Cert.FfnFinalIdeal.τ).loc Cert.FfnFinalIdeal.main_arg3) = m ((c.tc : Thread Cert.FfnFinalIdeal.nD Cert.FfnFinalIdeal.τ).loc Cert.FfnFinalIdeal.main_arg3)
          ∧ r.2.mem ((c.tc : Thread Cert.FfnFinalIdeal.nD Cert.FfnFinalIdeal.τ).loc Cert.FfnFinalIdeal.main_arg4) = m ((c.tc : Thread Cert.FfnFinalIdeal.nD Cert.FfnFinalIdeal.τ).loc Cert.FfnFinalIdeal.main_arg4)
          ∧ r.2.mem ((c.tc : Thread Cert.FfnFinalIdeal.nD Cert.FfnFinalIdeal.τ).loc Cert.FfnFinalIdeal.main_arg5) = m ((c.tc : Thread Cert.FfnFinalIdeal.nD Cert.FfnFinalIdeal.τ).loc Cert.FfnFinalIdeal.main_arg5)
          ∧ r.2.mem ((c.tc : Thread Cert.FfnFinalIdeal.nD Cert.FfnFinalIdeal.τ).loc Cert.FfnFinalIdeal.main_arg6) = m ((c.tc : Thread Cert.FfnFinalIdeal.nD Cert.FfnFinalIdeal.τ).loc Cert.FfnFinalIdeal.main_arg6))
      ∧ θ_run (Cert.FfnFinalRefIdeal.defs (F := Ideal)) (onTc (τ := Cert.FfnFinalRefIdeal.τ) (Cert.FfnFinalRefIdeal.main (F := Ideal))) ⟨m', fun _ => 0, g'⟩ (fun r => ∀ c : Dev Cert.FfnFinalRefIdeal.nD,
          r.2.mem ((c.tc : Thread Cert.FfnFinalRefIdeal.nD Cert.FfnFinalRefIdeal.τ).loc Cert.FfnFinalRefIdeal.main_v58) = v0 c
          ∧ r.2.mem ((c.tc : Thread Cert.FfnFinalRefIdeal.nD Cert.FfnFinalRefIdeal.τ).loc Cert.FfnFinalRefIdeal.main_arg0) = m' ((c.tc : Thread Cert.FfnFinalRefIdeal.nD Cert.FfnFinalRefIdeal.τ).loc Cert.FfnFinalRefIdeal.main_arg0)
          ∧ r.2.mem ((c.tc : Thread Cert.FfnFinalRefIdeal.nD Cert.FfnFinalRefIdeal.τ).loc Cert.FfnFinalRefIdeal.main_arg1) = m' ((c.tc : Thread Cert.FfnFinalRefIdeal.nD Cert.FfnFinalRefIdeal.τ).loc Cert.FfnFinalRefIdeal.main_arg1)
          ∧ r.2.mem ((c.tc : Thread Cert.FfnFinalRefIdeal.nD Cert.FfnFinalRefIdeal.τ).loc Cert.FfnFinalRefIdeal.main_arg2) = m' ((c.tc : Thread Cert.FfnFinalRefIdeal.nD Cert.FfnFinalRefIdeal.τ).loc Cert.FfnFinalRefIdeal.main_arg2)
          ∧ r.2.mem ((c.tc : Thread Cert.FfnFinalRefIdeal.nD Cert.FfnFinalRefIdeal.τ).loc Cert.FfnFinalRefIdeal.main_arg3) = m' ((c.tc : Thread Cert.FfnFinalRefIdeal.nD Cert.FfnFinalRefIdeal.τ).loc Cert.FfnFinalRefIdeal.main_arg3)
          ∧ r.2.mem ((c.tc : Thread Cert.FfnFinalRefIdeal.nD Cert.FfnFinalRefIdeal.τ).loc Cert.FfnFinalRefIdeal.main_arg4) = m' ((c.tc : Thread Cert.FfnFinalRefIdeal.nD Cert.FfnFinalRefIdeal.τ).loc Cert.FfnFinalRefIdeal.main_arg4)
          ∧ r.2.mem ((c.tc : Thread Cert.FfnFinalRefIdeal.nD Cert.FfnFinalRefIdeal.τ).loc Cert.FfnFinalRefIdeal.main_arg5) = m' ((c.tc : Thread Cert.FfnFinalRefIdeal.nD Cert.FfnFinalRefIdeal.τ).loc Cert.FfnFinalRefIdeal.main_arg5)
          ∧ r.2.mem ((c.tc : Thread Cert.FfnFinalRefIdeal.nD Cert.FfnFinalRefIdeal.τ).loc Cert.FfnFinalRefIdeal.main_arg6) = m' ((c.tc : Thread Cert.FfnFinalRefIdeal.nD Cert.FfnFinalRefIdeal.τ).loc Cert.FfnFinalRefIdeal.main_arg6))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v45) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6))

def preserves_Odd_OddIdeal : Prop :=
  True

def algebraic_OddIdeal_OddRefIdeal [hOddIdeal : Cert.OddIdeal.Facts] [hOddRefIdeal : Cert.OddRefIdeal.Facts] : Prop :=
  ∀ (m : (ℓ : Loc Cert.OddIdeal.nD Cert.OddIdeal.τ Cert.OddIdeal.sig) → Buf (Elt Ideal) ℓ) (g : Dev Cert.OddIdeal.nD → PrngReg)
    (m' : (ℓ : Loc Cert.OddRefIdeal.nD Cert.OddRefIdeal.τ Cert.OddRefIdeal.sig) → Buf (Elt Ideal) ℓ) (g' : Dev Cert.OddRefIdeal.nD → PrngReg), Pre_OddIdeal m →
    (∀ c : Dev Cert.OddIdeal.nD,
      m' ((c.tc : Thread Cert.OddRefIdeal.nD Cert.OddRefIdeal.τ).loc Cert.OddRefIdeal.main_arg0) = m ((c.tc : Thread Cert.OddIdeal.nD Cert.OddIdeal.τ).loc Cert.OddIdeal.main_arg0)
      ∧ m' ((c.tc : Thread Cert.OddRefIdeal.nD Cert.OddRefIdeal.τ).loc Cert.OddRefIdeal.main_arg1) = m ((c.tc : Thread Cert.OddIdeal.nD Cert.OddIdeal.τ).loc Cert.OddIdeal.main_arg1)
      ∧ m' ((c.tc : Thread Cert.OddRefIdeal.nD Cert.OddRefIdeal.τ).loc Cert.OddRefIdeal.main_arg2) = m ((c.tc : Thread Cert.OddIdeal.nD Cert.OddIdeal.τ).loc Cert.OddIdeal.main_arg2)
      ∧ m' ((c.tc : Thread Cert.OddRefIdeal.nD Cert.OddRefIdeal.τ).loc Cert.OddRefIdeal.main_arg3) = m ((c.tc : Thread Cert.OddIdeal.nD Cert.OddIdeal.τ).loc Cert.OddIdeal.main_arg3)
      ∧ m' ((c.tc : Thread Cert.OddRefIdeal.nD Cert.OddRefIdeal.τ).loc Cert.OddRefIdeal.main_arg4) = m ((c.tc : Thread Cert.OddIdeal.nD Cert.OddIdeal.τ).loc Cert.OddIdeal.main_arg4)
      ∧ m' ((c.tc : Thread Cert.OddRefIdeal.nD Cert.OddRefIdeal.τ).loc Cert.OddRefIdeal.main_arg5) = m ((c.tc : Thread Cert.OddIdeal.nD Cert.OddIdeal.τ).loc Cert.OddIdeal.main_arg5)) →
    ∃ (v0 : (c : Dev Cert.OddIdeal.nD) → Buf (Elt Ideal) ((c.tc : Thread Cert.OddIdeal.nD Cert.OddIdeal.τ).loc Cert.OddIdeal.main_v4)),
      θ_run (Cert.OddIdeal.defs (F := Ideal)) (onTc (τ := Cert.OddIdeal.τ) (Cert.OddIdeal.main (F := Ideal))) ⟨m, fun _ => 0, g⟩ (fun r => ∀ c : Dev Cert.OddIdeal.nD,
          r.2.mem ((c.tc : Thread Cert.OddIdeal.nD Cert.OddIdeal.τ).loc Cert.OddIdeal.main_v4) = v0 c
          ∧ r.2.mem ((c.tc : Thread Cert.OddIdeal.nD Cert.OddIdeal.τ).loc Cert.OddIdeal.main_arg0) = m ((c.tc : Thread Cert.OddIdeal.nD Cert.OddIdeal.τ).loc Cert.OddIdeal.main_arg0)
          ∧ r.2.mem ((c.tc : Thread Cert.OddIdeal.nD Cert.OddIdeal.τ).loc Cert.OddIdeal.main_arg1) = m ((c.tc : Thread Cert.OddIdeal.nD Cert.OddIdeal.τ).loc Cert.OddIdeal.main_arg1)
          ∧ r.2.mem ((c.tc : Thread Cert.OddIdeal.nD Cert.OddIdeal.τ).loc Cert.OddIdeal.main_arg2) = m ((c.tc : Thread Cert.OddIdeal.nD Cert.OddIdeal.τ).loc Cert.OddIdeal.main_arg2)
          ∧ r.2.mem ((c.tc : Thread Cert.OddIdeal.nD Cert.OddIdeal.τ).loc Cert.OddIdeal.main_arg3) = m ((c.tc : Thread Cert.OddIdeal.nD Cert.OddIdeal.τ).loc Cert.OddIdeal.main_arg3)
          ∧ r.2.mem ((c.tc : Thread Cert.OddIdeal.nD Cert.OddIdeal.τ).loc Cert.OddIdeal.main_arg4) = m ((c.tc : Thread Cert.OddIdeal.nD Cert.OddIdeal.τ).loc Cert.OddIdeal.main_arg4)
          ∧ r.2.mem ((c.tc : Thread Cert.OddIdeal.nD Cert.OddIdeal.τ).loc Cert.OddIdeal.main_arg5) = m ((c.tc : Thread Cert.OddIdeal.nD Cert.OddIdeal.τ).loc Cert.OddIdeal.main_arg5))
      ∧ θ_run (Cert.OddRefIdeal.defs (F := Ideal)) (onTc (τ := Cert.OddRefIdeal.τ) (Cert.OddRefIdeal.main (F := Ideal))) ⟨m', fun _ => 0, g'⟩ (fun r => ∀ c : Dev Cert.OddRefIdeal.nD,
          r.2.mem ((c.tc : Thread Cert.OddRefIdeal.nD Cert.OddRefIdeal.τ).loc Cert.OddRefIdeal.main_v46) = v0 c
          ∧ r.2.mem ((c.tc : Thread Cert.OddRefIdeal.nD Cert.OddRefIdeal.τ).loc Cert.OddRefIdeal.main_arg0) = m' ((c.tc : Thread Cert.OddRefIdeal.nD Cert.OddRefIdeal.τ).loc Cert.OddRefIdeal.main_arg0)
          ∧ r.2.mem ((c.tc : Thread Cert.OddRefIdeal.nD Cert.OddRefIdeal.τ).loc Cert.OddRefIdeal.main_arg1) = m' ((c.tc : Thread Cert.OddRefIdeal.nD Cert.OddRefIdeal.τ).loc Cert.OddRefIdeal.main_arg1)
          ∧ r.2.mem ((c.tc : Thread Cert.OddRefIdeal.nD Cert.OddRefIdeal.τ).loc Cert.OddRefIdeal.main_arg2) = m' ((c.tc : Thread Cert.OddRefIdeal.nD Cert.OddRefIdeal.τ).loc Cert.OddRefIdeal.main_arg2)
          ∧ r.2.mem ((c.tc : Thread Cert.OddRefIdeal.nD Cert.OddRefIdeal.τ).loc Cert.OddRefIdeal.main_arg3) = m' ((c.tc : Thread Cert.OddRefIdeal.nD Cert.OddRefIdeal.τ).loc Cert.OddRefIdeal.main_arg3)
          ∧ r.2.mem ((c.tc : Thread Cert.OddRefIdeal.nD Cert.OddRefIdeal.τ).loc Cert.OddRefIdeal.main_arg4) = m' ((c.tc : Thread Cert.OddRefIdeal.nD Cert.OddRefIdeal.τ).loc Cert.OddRefIdeal.main_arg4)
          ∧ r.2.mem ((c.tc : Thread Cert.OddRefIdeal.nD Cert.OddRefIdeal.τ).loc Cert.OddRefIdeal.main_arg5) = m' ((c.tc : Thread Cert.OddRefIdeal.nD Cert.OddRefIdeal.τ).loc Cert.OddRefIdeal.main_arg5))

def Claim : Prop :=
  ∃ (hEven : Cert.Even.Facts) (hEvenIdeal : Cert.EvenIdeal.Facts) (hEvenRefIdeal : Cert.EvenRefIdeal.Facts) (hFfnFinal : Cert.FfnFinal.Facts) (hFfnFinalIdeal : Cert.FfnFinalIdeal.Facts) (hFfnFinalRefIdeal : Cert.FfnFinalRefIdeal.Facts) (hFfn : Cert.Ffn.Facts) (hFfnIdeal : Cert.FfnIdeal.Facts) (hFfnRefIdeal : Cert.FfnRefIdeal.Facts) (hOdd : Cert.Odd.Facts) (hOddIdeal : Cert.OddIdeal.Facts) (hOddRefIdeal : Cert.OddRefIdeal.Facts) (hPre_finite : Cert.Pre_finite.Facts),
    quiescent_Even (hEven := hEven)
    ∧ quiescent_EvenIdeal (hEvenIdeal := hEvenIdeal)
    ∧ quiescent_EvenIdeal_pre_finite (hEvenIdeal := hEvenIdeal) (hPre_finite := hPre_finite)
    ∧ quiescent_EvenRefIdeal (hEvenRefIdeal := hEvenRefIdeal)
    ∧ quiescent_EvenRefIdeal_pre_finite (hEvenRefIdeal := hEvenRefIdeal) (hPre_finite := hPre_finite)
    ∧ quiescent_FfnFinal (hFfnFinal := hFfnFinal)
    ∧ quiescent_FfnFinalIdeal (hFfnFinalIdeal := hFfnFinalIdeal)
    ∧ quiescent_FfnFinalRefIdeal (hFfnFinalRefIdeal := hFfnFinalRefIdeal)
    ∧ quiescent_Ffn (hFfn := hFfn)
    ∧ quiescent_FfnIdeal (hFfnIdeal := hFfnIdeal)
    ∧ quiescent_FfnRefIdeal (hFfnRefIdeal := hFfnRefIdeal)
    ∧ quiescent_Odd (hOdd := hOdd)
    ∧ quiescent_OddIdeal (hOddIdeal := hOddIdeal)
    ∧ quiescent_OddRefIdeal (hOddRefIdeal := hOddRefIdeal)
    ∧ preserves_Even_EvenIdeal
    ∧ algebraic_EvenIdeal_EvenRefIdeal_pre_finite (hEvenIdeal := hEvenIdeal) (hEvenRefIdeal := hEvenRefIdeal) (hPre_finite := hPre_finite)
    ∧ preserves_FfnFinal_FfnFinalIdeal
    ∧ algebraic_FfnFinalIdeal_FfnFinalRefIdeal (hFfnFinalIdeal := hFfnFinalIdeal) (hFfnFinalRefIdeal := hFfnFinalRefIdeal)
    ∧ preserves_Ffn_FfnIdeal
    ∧ algebraic_FfnIdeal_FfnRefIdeal (hFfnIdeal := hFfnIdeal) (hFfnRefIdeal := hFfnRefIdeal)
    ∧ preserves_Odd_OddIdeal
    ∧ algebraic_OddIdeal_OddRefIdeal (hOddIdeal := hOddIdeal) (hOddRefIdeal := hOddRefIdeal)
-- ==== Pre_finite.lean ====
abbrev S16x4096x1024 : Shape := ⟨3, ![16, 4096, 1024]⟩
abbrev S1024 : Shape := ⟨1, ![1024]⟩
abbrev S1024x1792 : Shape := ⟨2, ![1024, 1792]⟩
abbrev S1024x1024 : Shape := ⟨2, ![1024, 1024]⟩
abbrev S16x64 : Shape := ⟨2, ![16, 64]⟩
abbrev S16 : Shape := ⟨1, ![16]⟩
abbrev S16x64x16 : Shape := ⟨3, ![16, 64, 16]⟩
abbrev S16x16x64 : Shape := ⟨3, ![16, 16, 64]⟩
abbrev S256 : Shape := ⟨1, ![256]⟩
abbrev S256x256 : Shape := ⟨2, ![256, 256]⟩
abbrev S6x128x128 : Shape := ⟨3, ![6, 128, 128]⟩
abbrev S6x128 : Shape := ⟨2, ![6, 128]⟩
abbrev S768 : Shape := ⟨1, ![768]⟩
abbrev S_ : Shape := ⟨0, ![]⟩

class Facts : Prop where
  bcast_S_S16x4096x1024 : S_.BroadcastsInDim S16x4096x1024 (![] : Fin 0 → Fin S16x4096x1024.rank)
  bcast_S_S1024 : S_.BroadcastsInDim S1024 (![] : Fin 0 → Fin S1024.rank)
  bcast_S_S1024x1792 : S_.BroadcastsInDim S1024x1792 (![] : Fin 0 → Fin S1024x1792.rank)
  bcast_S_S16x64 : S_.BroadcastsInDim S16x64 (![] : Fin 0 → Fin S16x64.rank)
  bcast_S_S16 : S_.BroadcastsInDim S16 (![] : Fin 0 → Fin S16.rank)
  bcast_S_S16x64x16 : S_.BroadcastsInDim S16x64x16 (![] : Fin 0 → Fin S16x64x16.rank)
  bcast_S_S16x16x64 : S_.BroadcastsInDim S16x16x64 (![] : Fin 0 → Fin S16x16x64.rank)

variable [Facts]

def fn_part1 {F : FTy → Type} [FloatOps F] (main_arg7 : FVec F S16x64x16 .f32) (main_arg8 : FVec F S16x64x16 .f32) (main_arg9 : FVec F S16x16x64 .f32) (main_arg10 : FVec F S16x16x64 .f32) (main_v2 : IVec S16x4096x1024 1) (main_v5 : IVec S1024 1) (main_v8 : IVec S1024x1792 1) (main_v11 : IVec S16x64 1) (main_v14 : IVec S16x64 1) (main_v17 : IVec S16 1) : IVec S16x4096x1024 1 × IVec S1024 1 × IVec S1024x1792 1 × IVec S16x64 1 × IVec S16x64 1 × IVec S16 1 × IVec S16x64x16 1 × IVec S16x64x16 1 × IVec S16x16x64 1 × IVec S16x16x64 1 :=
  let main_v18 : FVec F S16x64x16 .f32 := Host.absf main_arg7
  let main_cst_5 : FVec F S_ .f32 := constant S_ .f32 0x7F800000#32
  let main_v19 : FVec F S16x64x16 .f32 := broadcastInDim S16x64x16 ![] bcast_S_S16x64x16 main_cst_5
  let main_v20 : IVec S16x64x16 1 := cmpf .olt main_v18 main_v19
  let main_v21 : FVec F S16x64x16 .f32 := Host.absf main_arg8
  let main_cst_6 : FVec F S_ .f32 := constant S_ .f32 0x7F800000#32
  let main_v22 : FVec F S16x64x16 .f32 := broadcastInDim S16x64x16 ![] bcast_S_S16x64x16 main_cst_6
  let main_v23 : IVec S16x64x16 1 := cmpf .olt main_v21 main_v22
  let main_v24 : FVec F S16x16x64 .f32 := Host.absf main_arg9
  let main_cst_7 : FVec F S_ .f32 := constant S_ .f32 0x7F800000#32
  let main_v25 : FVec F S16x16x64 .f32 := broadcastInDim S16x16x64 ![] bcast_S_S16x16x64 main_cst_7
  let main_v26 : IVec S16x16x64 1 := cmpf .olt main_v24 main_v25
  let main_v27 : FVec F S16x16x64 .f32 := Host.absf main_arg10
  let main_cst_8 : FVec F S_ .f32 := constant S_ .f32 0x7F800000#32
  let main_v28 : FVec F S16x16x64 .f32 := broadcastInDim S16x16x64 ![] bcast_S_S16x16x64 main_cst_8
  let main_v29 : IVec S16x16x64 1 := cmpf .olt main_v27 main_v28
  (main_v2, main_v5, main_v8, main_v11, main_v14, main_v17, main_v20, main_v23, main_v26, main_v29)

def fn {F : FTy → Type} [FloatOps F] (main_arg0 : FVec F S16x4096x1024 .f32) (main_arg1 : FVec F S1024 .f32) (main_arg2 : FVec F S1024x1792 .f32) (main_arg3 : FVec F S1024x1024 .f32) (main_arg4 : FVec F S16x64 .f32) (main_arg5 : FVec F S16x64 .f32) (main_arg6 : FVec F S16 .f32) (main_arg7 : FVec F S16x64x16 .f32) (main_arg8 : FVec F S16x64x16 .f32) (main_arg9 : FVec F S16x16x64 .f32) (main_arg10 : FVec F S16x16x64 .f32) (main_arg11 : FVec F S256 .f32) (main_arg12 : FVec F S256x256 .f32) (main_arg13 : FVec F S256 .f32) (main_arg14 : FVec F S6x128x128 .f32) (main_arg15 : FVec F S6x128 .f32) (main_arg16 : FVec F S768 .f32) : IVec S16x4096x1024 1 × IVec S1024 1 × IVec S1024x1792 1 × IVec S16x64 1 × IVec S16x64 1 × IVec S16 1 × IVec S16x64x16 1 × IVec S16x64x16 1 × IVec S16x16x64 1 × IVec S16x16x64 1 :=
  let main_v0 : FVec F S16x4096x1024 .f32 := Host.absf main_arg0
  let main_cst : FVec F S_ .f32 := constant S_ .f32 0x7F800000#32
  let main_v1 : FVec F S16x4096x1024 .f32 := broadcastInDim S16x4096x1024 ![] bcast_S_S16x4096x1024 main_cst
  let main_v2 : IVec S16x4096x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x1792 .f32 := Host.absf main_arg2
  let main_cst_1 : FVec F S_ .f32 := constant S_ .f32 0x7F800000#32
  let main_v7 : FVec F S1024x1792 .f32 := broadcastInDim S1024x1792 ![] bcast_S_S1024x1792 main_cst_1
  let main_v8 : IVec S1024x1792 1 := cmpf .olt main_v6 main_v7
  let main_v9 : FVec F S16x64 .f32 := Host.absf main_arg4
  let main_cst_2 : FVec F S_ .f32 := constant S_ .f32 0x7F800000#32
  let main_v10 : FVec F S16x64 .f32 := broadcastInDim S16x64 ![] bcast_S_S16x64 main_cst_2
  let main_v11 : IVec S16x64 1 := cmpf .olt main_v9 main_v10
  let main_v12 : FVec F S16x64 .f32 := Host.absf main_arg5
  let main_cst_3 : FVec F S_ .f32 := constant S_ .f32 0x7F800000#32
  let main_v13 : FVec F S16x64 .f32 := broadcastInDim S16x64 ![] bcast_S_S16x64 main_cst_3
  let main_v14 : IVec S16x64 1 := cmpf .olt main_v12 main_v13
  let main_v15 : FVec F S16 .f32 := Host.absf main_arg6
  let main_cst_4 : FVec F S_ .f32 := constant S_ .f32 0x7F800000#32
  let main_v16 : FVec F S16 .f32 := broadcastInDim S16 ![] bcast_S_S16 main_cst_4
  let main_v17 : IVec S16 1 := cmpf .olt main_v15 main_v16
  fn_part1 (F := F) main_arg7 main_arg8 main_arg9 main_arg10 main_v2 main_v5 main_v8 main_v11 main_v14 main_v17
-- ==== Even.lean ====
abbrev S16x4096x1024 : Shape := ⟨3, ![16, 4096, 1024]⟩
abbrev S1024 : Shape := ⟨1, ![1024]⟩
abbrev S1024x1792 : Shape := ⟨2, ![1024, 1792]⟩
abbrev S1024x1024 : Shape := ⟨2, ![1024, 1024]⟩
abbrev S16x64 : Shape := ⟨2, ![16, 64]⟩
abbrev S16 : Shape := ⟨1, ![16]⟩
abbrev S16x64x16 : Shape := ⟨3, ![16, 64, 16]⟩
abbrev S16x16x64 : Shape := ⟨3, ![16, 16, 64]⟩
abbrev S256 : Shape := ⟨1, ![256]⟩
abbrev S256x256 : Shape := ⟨2, ![256, 256]⟩
abbrev S6x128x128 : Shape := ⟨3, ![6, 128, 128]⟩
abbrev S6x128 : Shape := ⟨2, ![6, 128]⟩
abbrev S768 : Shape := ⟨1, ![768]⟩
abbrev S_ : Shape := ⟨0, ![]⟩
abbrev S1024x1 : Shape := ⟨2, ![1024, 1]⟩
abbrev S1x1024 : Shape := ⟨2, ![1, 1024]⟩
abbrev S128x128 : Shape := ⟨2, ![128, 128]⟩
abbrev S16x1 : Shape := ⟨2, ![16, 1]⟩
abbrev S16x64x1 : Shape := ⟨3, ![16, 64, 1]⟩
abbrev S16x16 : Shape := ⟨2, ![16, 16]⟩
abbrev S16x16x1x64 : Shape := ⟨4, ![16, 16, 1, 64]⟩
abbrev S16x1x16x1 : Shape := ⟨4, ![16, 1, 16, 1]⟩
abbrev S16x16x16x64 : Shape := ⟨4, ![16, 16, 16, 64]⟩
abbrev S256x1024 : Shape := ⟨2, ![256, 1024]⟩
abbrev S256x2048 : Shape := ⟨2, ![256, 2048]⟩
abbrev S16x64x1x16 : Shape := ⟨4, ![16, 64, 1, 16]⟩
abbrev S16x64x16x16 : Shape := ⟨4, ![16, 64, 16, 16]⟩
abbrev S1024x256 : Shape := ⟨2, ![1024, 256]⟩
abbrev S2048x256 : Shape := ⟨2, ![2048, 256]⟩
abbrev S2x1024 : Shape := ⟨2, ![2, 1024]⟩
abbrev S6x128x1 : Shape := ⟨3, ![6, 128, 1]⟩
abbrev S1x256 : Shape := ⟨2, ![1, 256]⟩
abbrev S1x768 : Shape := ⟨2, ![1, 768]⟩
abbrev S8x128x1024 : Shape := ⟨3, ![8, 128, 1024]⟩
abbrev S1024x768 : Shape := ⟨2, ![1024, 768]⟩
abbrev S1024x2048 : Shape := ⟨2, ![1024, 2048]⟩
abbrev S8x2048 : Shape := ⟨2, ![8, 2048]⟩
abbrev S2x128x1024 : Shape := ⟨3, ![2, 128, 1024]⟩
abbrev S256x1 : Shape := ⟨2, ![256, 1]⟩
abbrev S256x1792 : Shape := ⟨2, ![256, 1792]⟩
abbrev S256x1536 : Shape := ⟨2, ![256, 1536]⟩
abbrev S256x768 : Shape := ⟨2, ![256, 768]⟩
abbrev S8x1024 : Shape := ⟨2, ![8, 1024]⟩
abbrev S1024x512 : Shape := ⟨2, ![1024, 512]⟩
abbrev S1x128x128 : Shape := ⟨3, ![1, 128, 128]⟩
abbrev S1x128x1024 : Shape := ⟨3, ![1, 128, 1024]⟩
abbrev S128x1024 : Shape := ⟨2, ![128, 1024]⟩

abbrev nBuf : Space → Nat
  | .hbm => 184
  | .vmem => 24
  | .smem => 0
  | _ => 0

abbrev hbmTy0_0 (i : Nat) : BufTy := match i % 128 with
  | 0 => ⟨S16x4096x1024, .f32⟩
  | 1 => ⟨S1024, .f32⟩
  | 2 => ⟨S1024x1792, .f32⟩
  | 3 => ⟨S1024x1024, .f32⟩
  | 4 => ⟨S16x64, .f32⟩
  | 5 => ⟨S16x64, .f32⟩
  | 6 => ⟨S16, .f32⟩
  | 7 => ⟨S16x64x16, .f32⟩
  | 8 => ⟨S16x64x16, .f32⟩
  | 9 => ⟨S16x16x64, .f32⟩
  | 10 => ⟨S16x16x64, .f32⟩
  | 11 => ⟨S256, .f32⟩
  | 12 => ⟨S256x256, .f32⟩
  | 13 => ⟨S256, .f32⟩
  | 14 => ⟨S6x128x128, .f32⟩
  | 15 => ⟨S6x128, .f32⟩
  | 16 => ⟨S768, .f32⟩
  | 17 => ⟨S1024, .i32⟩
  | 18 => ⟨S_, .i32⟩
  | 19 => ⟨S_, .i32⟩
  | 20 => ⟨S_, .i32⟩
  | 21 => ⟨S_, .i1⟩
  | 22 => ⟨S_, .i32⟩
  | 23 => ⟨S_, .i32⟩
  | 24 => ⟨S1024, .i32⟩
  | 25 => ⟨S1024, .i32⟩
  | 26 => ⟨S_, .i32⟩
  | 27 => ⟨S1024, .i32⟩
  | 28 => ⟨S1024, .i1⟩
  | 29 => ⟨S_, .i32⟩
  | 30 => ⟨S1024, .i32⟩
  | 31 => ⟨S1024, .i1⟩
  | 32 => ⟨S_, .i32⟩
  | 33 => ⟨S_, .i1⟩
  | 34 => ⟨S1024, .i1⟩
  | 35 => ⟨S1024, .i1⟩
  | 36 => ⟨S1024, .i1⟩
  | 37 => ⟨S1024, .i32⟩
  | 38 => ⟨S1024, .i32⟩
  | 39 => ⟨S1024, .i32⟩
  | 40 => ⟨S_, .i32⟩
  | 41 => ⟨S1024, .i32⟩
  | 42 => ⟨S1024, .i32⟩
  | 43 => ⟨S_, .i32⟩
  | 44 => ⟨S_, .i32⟩
  | 45 => ⟨S1024, .i32⟩
  | 46 => ⟨S1024, .i32⟩
  | 47 => ⟨S1024, .i32⟩
  | 48 => ⟨S_, .i32⟩
  | 49 => ⟨S1024, .i32⟩
  | 50 => ⟨S1024, .i1⟩
  | 51 => ⟨S1024, .i32⟩
  | 52 => ⟨S1024, .i32⟩
  | 53 => ⟨S_, .i32⟩
  | 54 => ⟨S1024, .i32⟩
  | 55 => ⟨S1024, .i1⟩
  | 56 => ⟨S1024, .i1⟩
  | 57 => ⟨S_, .i32⟩
  | 58 => ⟨S1024, .i32⟩
  | 59 => ⟨S1024, .i32⟩
  | 60 => ⟨S1024, .i32⟩
  | 61 => ⟨S1024, .i32⟩
  | 62 => ⟨S1024x1, .i32⟩
  | 63 => ⟨S1024, .i32⟩
  | 64 => ⟨S1x1024, .i32⟩
  | 65 => ⟨S1024x1024, .i32⟩
  | 66 => ⟨S1024x1024, .i32⟩
  | 67 => ⟨S1024x1024, .i1⟩
  | 68 => ⟨S1024x1024, .bf16⟩
  | 69 => ⟨S1024x1024, .bf16⟩
  | 70 => ⟨S_, .i1⟩
  | 71 => ⟨S128x128, .i1⟩
  | 72 => ⟨S128x128, .i32⟩
  | 73 => ⟨S_, .i32⟩
  | 74 => ⟨S128x128, .i32⟩
  | 75 => ⟨S128x128, .i32⟩
  | 76 => ⟨S128x128, .i32⟩
  | 77 => ⟨S128x128, .i1⟩
  | 78 => ⟨S_, .i1⟩
  | 79 => ⟨S128x128, .i1⟩
  | 80 => ⟨S128x128, .i1⟩
  | 81 => ⟨S_, .f32⟩
  | 82 => ⟨S16x64, .f32⟩
  | 83 => ⟨S16x64, .f32⟩
  | 84 => ⟨S16, .f32⟩
  | 85 => ⟨S16x1, .f32⟩
  | 86 => ⟨S16x64, .f32⟩
  | 87 => ⟨S16x64, .f32⟩
  | 88 => ⟨S16x64, .f32⟩
  | 89 => ⟨S16x64, .f32⟩
  | 90 => ⟨S16x64, .f32⟩
  | 91 => ⟨S16x64, .f32⟩
  | 92 => ⟨S16x64, .f32⟩
  | 93 => ⟨S16x64, .f32⟩
  | 94 => ⟨S16x64, .f32⟩
  | 95 => ⟨S16x64, .f32⟩
  | 96 => ⟨S16x64, .f32⟩
  | 97 => ⟨S16x64, .f32⟩
  | 98 => ⟨S16x64, .f32⟩
  | 99 => ⟨S16x64, .f32⟩
  | 100 => ⟨S_, .f32⟩
  | 101 => ⟨S16x64, .f32⟩
  | 102 => ⟨S16x64, .f32⟩
  | 103 => ⟨S16x64, .f32⟩
  | 104 => ⟨S16x64, .f32⟩
  | 105 => ⟨S16x64, .f32⟩
  | 106 => ⟨S16x64, .f32⟩
  | 107 => ⟨S16x64x1, .f32⟩
  | 108 => ⟨S16x64, .f32⟩
  | 109 => ⟨S16x64, .f32⟩
  | 110 => ⟨S16x64, .f32⟩
  | 111 => ⟨S16x64, .f32⟩
  | 112 => ⟨S16x64x1, .f32⟩
  | 113 => ⟨S16x64x16, .f32⟩
  | 114 => ⟨S16x64x16, .f32⟩
  | 115 => ⟨S16x64x16, .f32⟩
  | 116 => ⟨S16x64x16, .f32⟩
  | 117 => ⟨S16x64x16, .f32⟩
  | 118 => ⟨S16x64x16, .f32⟩
  | 119 => ⟨S16x64x16, .f32⟩
  | 120 => ⟨S16x64x16, .f32⟩
  | 121 => ⟨S16x64x16, .f32⟩
  | 122 => ⟨S16x64x16, .f32⟩
  | 123 => ⟨S16x16, .i32⟩
  | 124 => ⟨S16x16, .i32⟩
  | 125 => ⟨S_, .i32⟩
  | 126 => ⟨S16x16, .i32⟩
  | 127 => ⟨S16x16, .i32⟩
  | _ => ⟨S16x4096x1024, .f32⟩

abbrev hbmTy0_1 (i : Nat) : BufTy := match i % 128 with
  | 0 => ⟨S16x16, .i1⟩
  | 1 => ⟨S16x16, .f32⟩
  | 2 => ⟨S16x16x64, .f32⟩
  | 3 => ⟨S16x16x1x64, .f32⟩
  | 4 => ⟨S16x1x16x1, .f32⟩
  | 5 => ⟨S16x16x16x64, .f32⟩
  | 6 => ⟨S16x16x16x64, .f32⟩
  | 7 => ⟨S16x16x16x64, .f32⟩
  | 8 => ⟨S256x1024, .f32⟩
  | 9 => ⟨S16x16x64, .f32⟩
  | 10 => ⟨S16x16x1x64, .f32⟩
  | 11 => ⟨S16x1x16x1, .f32⟩
  | 12 => ⟨S16x16x16x64, .f32⟩
  | 13 => ⟨S16x16x16x64, .f32⟩
  | 14 => ⟨S16x16x16x64, .f32⟩
  | 15 => ⟨S256x1024, .f32⟩
  | 16 => ⟨S256x2048, .f32⟩
  | 17 => ⟨S256x2048, .bf16⟩
  | 18 => ⟨S16x64x16, .f32⟩
  | 19 => ⟨S16x64x1x16, .f32⟩
  | 20 => ⟨S16x1x16x1, .f32⟩
  | 21 => ⟨S16x64x16x16, .f32⟩
  | 22 => ⟨S16x64x16x16, .f32⟩
  | 23 => ⟨S16x64x16x16, .f32⟩
  | 24 => ⟨S1024x256, .f32⟩
  | 25 => ⟨S16x64x16, .f32⟩
  | 26 => ⟨S16x64x1x16, .f32⟩
  | 27 => ⟨S16x1x16x1, .f32⟩
  | 28 => ⟨S16x64x16x16, .f32⟩
  | 29 => ⟨S16x64x16x16, .f32⟩
  | 30 => ⟨S16x64x16x16, .f32⟩
  | 31 => ⟨S1024x256, .f32⟩
  | 32 => ⟨S1024x256, .f32⟩
  | 33 => ⟨S2048x256, .f32⟩
  | 34 => ⟨S2048x256, .bf16⟩
  | 35 => ⟨S1024, .f32⟩
  | 36 => ⟨S1024, .f32⟩
  | 37 => ⟨S1x1024, .f32⟩
  | 38 => ⟨S1x1024, .f32⟩
  | 39 => ⟨S2x1024, .f32⟩
  | 40 => ⟨S_, .i32⟩
  | 41 => ⟨S_, .f32⟩
  | 42 => ⟨S6x128x128, .i1⟩
  | 43 => ⟨S6x128x128, .f32⟩
  | 44 => ⟨S6x128x128, .f32⟩
  | 45 => ⟨S6x128x128, .bf16⟩
  | 46 => ⟨S6x128x1, .f32⟩
  | 47 => ⟨S6x128x128, .f32⟩
  | 48 => ⟨S1x1024, .f32⟩
  | 49 => ⟨S1024x1792, .bf16⟩
  | 50 => ⟨S1x256, .f32⟩
  | 51 => ⟨S256x256, .bf16⟩
  | 52 => ⟨S1x256, .f32⟩
  | 53 => ⟨S1x768, .f32⟩
  | 54 => ⟨S1024x1024, .bf16⟩
  | 55 => ⟨S16x4096x1024, .f32⟩
  | _ => ⟨S16x4096x1024, .f32⟩

abbrev hbmTy (i : Nat) : BufTy := match i / 128 with
  | 0 => hbmTy0_0 i
  | 1 => hbmTy0_1 i
  | _ => ⟨S16x4096x1024, .f32⟩

abbrev bufTy : (tb : Table) → Fin (tcTables nBuf tb) → BufTy
  | .hbm, ⟨i, _⟩ => hbmTy i
  | .local _ .vmem, ⟨0, _⟩ => ⟨S8x128x1024, .f32⟩
  | .local _ .vmem, ⟨1, _⟩ => ⟨S8x128x1024, .f32⟩
  | .local _ .vmem, ⟨2, _⟩ => ⟨S1x1024, .f32⟩
  | .local _ .vmem, ⟨3, _⟩ => ⟨S1024x1792, .bf16⟩
  | .local _ .vmem, ⟨4, _⟩ => ⟨S1024x1024, .bf16⟩
  | .local _ .vmem, ⟨5, _⟩ => ⟨S1024x1024, .bf16⟩
  | .local _ .vmem, ⟨6, _⟩ => ⟨S256x2048, .bf16⟩
  | .local _ .vmem, ⟨7, _⟩ => ⟨S2x1024, .f32⟩
  | .local _ .vmem, ⟨8, _⟩ => ⟨S2048x256, .bf16⟩
  | .local _ .vmem, ⟨9, _⟩ => ⟨S1x256, .f32⟩
  | .local _ .vmem, ⟨10, _⟩ => ⟨S256x256, .bf16⟩
  | .local _ .vmem, ⟨11, _⟩ => ⟨S1x256, .f32⟩
  | .local _ .vmem, ⟨12, _⟩ => ⟨S6x128x128, .bf16⟩
  | .local _ .vmem, ⟨13, _⟩ => ⟨S6x128x128, .f32⟩
  | .local _ .vmem, ⟨14, _⟩ => ⟨S1x768, .f32⟩
  | .local _ .vmem, ⟨15, _⟩ => ⟨S1024x1024, .bf16⟩
  | .local _ .vmem, ⟨16, _⟩ => ⟨S8x128x1024, .f32⟩
  | .local _ .vmem, ⟨17, _⟩ => ⟨S8x128x1024, .f32⟩
  | .local _ .vmem, ⟨18, _⟩ => ⟨S1024x256, .f32⟩
  | .local _ .vmem, ⟨19, _⟩ => ⟨S1024x768, .f32⟩
  | .local _ .vmem, ⟨20, _⟩ => ⟨S1024x768, .bf16⟩
  | .local _ .vmem, ⟨21, _⟩ => ⟨S1024x2048, .f32⟩
  | .local _ .vmem, ⟨22, _⟩ => ⟨S8x2048, .f32⟩
  | .local _ .vmem, ⟨23, _⟩ => ⟨S1024x1024, .bf16⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_c : Ref sig .tc := ⟨.hbm, 18, rfl⟩
abbrev main_call0_v0 : Ref sig .tc := ⟨.hbm, 19, rfl⟩
abbrev main_call0_c : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_c_1 : Ref sig .tc := ⟨.hbm, 26, rfl⟩
abbrev main_call0_v5 : Ref sig .tc := ⟨.hbm, 27, rfl⟩
abbrev main_call0_v6 : Ref sig .tc := ⟨.hbm, 28, rfl⟩
abbrev main_call0_c_2 : Ref sig .tc := ⟨.hbm, 29, rfl⟩
abbrev main_call0_v7 : Ref sig .tc := ⟨.hbm, 30, rfl⟩
abbrev main_call0_v8 : Ref sig .tc := ⟨.hbm, 31, rfl⟩
abbrev main_call0_c_3 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_v12 : Ref sig .tc := ⟨.hbm, 36, rfl⟩
abbrev main_call0_v13 : Ref sig .tc := ⟨.hbm, 37, rfl⟩
abbrev main_call0_v14 : Ref sig .tc := ⟨.hbm, 38, rfl⟩
abbrev main_v1 : Ref sig .tc := ⟨.hbm, 39, rfl⟩
abbrev main_c_0 : Ref sig .tc := ⟨.hbm, 40, rfl⟩
abbrev main_v2 : Ref sig .tc := ⟨.hbm, 41, rfl⟩
abbrev main_v3 : Ref sig .tc := ⟨.hbm, 42, rfl⟩
abbrev main_c_1 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_v5 : Ref sig .tc := ⟨.hbm, 49, rfl⟩
abbrev main_call1_v6 : Ref sig .tc := ⟨.hbm, 50, rfl⟩
abbrev main_call1_v7 : Ref sig .tc := ⟨.hbm, 51, rfl⟩
abbrev main_call1_v8 : Ref sig .tc := ⟨.hbm, 52, rfl⟩
abbrev main_call1_c : Ref sig .tc := ⟨.hbm, 53, rfl⟩
abbrev main_call1_v9 : Ref sig .tc := ⟨.hbm, 54, rfl⟩
abbrev main_call1_v10 : Ref sig .tc := ⟨.hbm, 55, rfl⟩
abbrev main_call1_v11 : Ref sig .tc := ⟨.hbm, 56, rfl⟩
abbrev main_call1_c_0 : Ref sig .tc := ⟨.hbm, 57, rfl⟩
abbrev main_call1_v12 : Ref sig .tc := ⟨.hbm, 58, rfl⟩
abbrev main_call1_v13 : Ref sig .tc := ⟨.hbm, 59, rfl⟩
abbrev main_v4 : Ref sig .tc := ⟨.hbm, 60, rfl⟩
abbrev main_v5 : Ref sig .tc := ⟨.hbm, 61, rfl⟩
abbrev main_v6 : Ref sig .tc := ⟨.hbm, 62, rfl⟩
abbrev main_v7 : Ref sig .tc := ⟨.hbm, 63, rfl⟩
abbrev main_v8 : Ref sig .tc := ⟨.hbm, 64, rfl⟩
abbrev main_v9 : Ref sig .tc := ⟨.hbm, 65, rfl⟩
abbrev main_v10 : Ref sig .tc := ⟨.hbm, 66, rfl⟩
abbrev main_v11 : Ref sig .tc := ⟨.hbm, 67, rfl⟩
abbrev main_v12 : Ref sig .tc := ⟨.hbm, 68, rfl⟩
abbrev main_v13 : Ref sig .tc := ⟨.hbm, 69, rfl⟩
abbrev main_c_2 : Ref sig .tc := ⟨.hbm, 70, rfl⟩
abbrev main_v14 : Ref sig .tc := ⟨.hbm, 71, rfl⟩
abbrev main_call2_v0 : Ref sig .tc := ⟨.hbm, 72, rfl⟩
abbrev main_call2_c : Ref sig .tc := ⟨.hbm, 73, rfl⟩
abbrev main_call2_v1 : Ref sig .tc := ⟨.hbm, 74, rfl⟩
abbrev main_call2_v2 : Ref sig .tc := ⟨.hbm, 75, rfl⟩
abbrev main_call2_v3 : Ref sig .tc := ⟨.hbm, 76, rfl⟩
abbrev main_call2_v4 : Ref sig .tc := ⟨.hbm, 77, rfl⟩
abbrev main_call2_c_0 : Ref sig .tc := ⟨.hbm, 78, rfl⟩
abbrev main_call2_v5 : Ref sig .tc := ⟨.hbm, 79, rfl⟩
abbrev main_v15 : Ref sig .tc := ⟨.hbm, 80, rfl⟩
abbrev main_cst : Ref sig .tc := ⟨.hbm, 81, rfl⟩
abbrev main_v16 : Ref sig .tc := ⟨.hbm, 82, rfl⟩
abbrev main_v17 : Ref sig .tc := ⟨.hbm, 83, rfl⟩
abbrev main_v18 : Ref sig .tc := ⟨.hbm, 84, rfl⟩
abbrev main_v19 : Ref sig .tc := ⟨.hbm, 85, rfl⟩
abbrev main_v20 : Ref sig .tc := ⟨.hbm, 86, rfl⟩
abbrev main_v21 : Ref sig .tc := ⟨.hbm, 87, rfl⟩
abbrev main_v22 : Ref sig .tc := ⟨.hbm, 88, rfl⟩
abbrev main_v23 : Ref sig .tc := ⟨.hbm, 89, rfl⟩
abbrev main_v24 : Ref sig .tc := ⟨.hbm, 90, rfl⟩
abbrev main_v25 : Ref sig .tc := ⟨.hbm, 91, rfl⟩
abbrev main_v26 : Ref sig .tc := ⟨.hbm, 92, rfl⟩
abbrev main_v27 : Ref sig .tc := ⟨.hbm, 93, rfl⟩
abbrev main_v28 : Ref sig .tc := ⟨.hbm, 94, rfl⟩
abbrev main_v29 : Ref sig .tc := ⟨.hbm, 95, rfl⟩
abbrev main_v30 : Ref sig .tc := ⟨.hbm, 96, rfl⟩
abbrev main_v31 : Ref sig .tc := ⟨.hbm, 97, rfl⟩
abbrev main_v32 : Ref sig .tc := ⟨.hbm, 98, rfl⟩
abbrev main_v33 : Ref sig .tc := ⟨.hbm, 99, rfl⟩
abbrev main_cst_3 : Ref sig .tc := ⟨.hbm, 100, rfl⟩
abbrev main_v34 : Ref sig .tc := ⟨.hbm, 101, rfl⟩
abbrev main_v35 : Ref sig .tc := ⟨.hbm, 102, rfl⟩
abbrev main_v36 : Ref sig .tc := ⟨.hbm, 103, rfl⟩
abbrev main_v37 : Ref sig .tc := ⟨.hbm, 104, rfl⟩
abbrev main_v38 : Ref sig .tc := ⟨.hbm, 105, rfl⟩
abbrev main_v39 : Ref sig .tc := ⟨.hbm, 106, rfl⟩
abbrev main_v40 : Ref sig .tc := ⟨.hbm, 107, rfl⟩
abbrev main_v41 : Ref sig .tc := ⟨.hbm, 108, rfl⟩
abbrev main_v42 : Ref sig .tc := ⟨.hbm, 109, rfl⟩
abbrev main_v43 : Ref sig .tc := ⟨.hbm, 110, rfl⟩
abbrev main_v44 : Ref sig .tc := ⟨.hbm, 111, rfl⟩
abbrev main_v45 : Ref sig .tc := ⟨.hbm, 112, rfl⟩
abbrev main_v46 : Ref sig .tc := ⟨.hbm, 113, rfl⟩
abbrev main_v47 : Ref sig .tc := ⟨.hbm, 114, rfl⟩
abbrev main_v48 : Ref sig .tc := ⟨.hbm, 115, rfl⟩
abbrev main_v49 : Ref sig .tc := ⟨.hbm, 116, rfl⟩
abbrev main_v50 : Ref sig .tc := ⟨.hbm, 117, rfl⟩
abbrev main_v51 : Ref sig .tc := ⟨.hbm, 118, rfl⟩
abbrev main_v52 : Ref sig .tc := ⟨.hbm, 119, rfl⟩
abbrev main_v53 : Ref sig .tc := ⟨.hbm, 120, rfl⟩
abbrev main_v54 : Ref sig .tc := ⟨.hbm, 121, rfl⟩
abbrev main_v55 : Ref sig .tc := ⟨.hbm, 122, rfl⟩
abbrev main_v56 : Ref sig .tc := ⟨.hbm, 123, rfl⟩
abbrev main_v57 : Ref sig .tc := ⟨.hbm, 124, rfl⟩
abbrev main_c_4 : Ref sig .tc := ⟨.hbm, 125, rfl⟩
abbrev main_v58 : Ref sig .tc := ⟨.hbm, 126, rfl⟩
abbrev main_v59 : Ref sig .tc := ⟨.hbm, 127, rfl⟩
abbrev main_v60 : Ref sig .tc := ⟨.hbm, 128, rfl⟩
abbrev main_v61 : Ref sig .tc := ⟨.hbm, 129, rfl⟩
abbrev main_v62 : Ref sig .tc := ⟨.hbm, 130, rfl⟩
abbrev main_v63 : Ref sig .tc := ⟨.hbm, 131, rfl⟩
abbrev main_v64 : Ref sig .tc := ⟨.hbm, 132, rfl⟩
abbrev main_v65 : Ref sig .tc := ⟨.hbm, 133, rfl⟩
abbrev main_v66 : Ref sig .tc := ⟨.hbm, 134, rfl⟩
abbrev main_v67 : Ref sig .tc := ⟨.hbm, 135, rfl⟩
abbrev main_v68 : Ref sig .tc := ⟨.hbm, 136, rfl⟩
abbrev main_v69 : Ref sig .tc := ⟨.hbm, 137, rfl⟩
abbrev main_v70 : Ref sig .tc := ⟨.hbm, 138, rfl⟩
abbrev main_v71 : Ref sig .tc := ⟨.hbm, 139, rfl⟩
abbrev main_v72 : Ref sig .tc := ⟨.hbm, 140, rfl⟩
abbrev main_v73 : Ref sig .tc := ⟨.hbm, 141, rfl⟩
abbrev main_v74 : Ref sig .tc := ⟨.hbm, 142, rfl⟩
abbrev main_v75 : Ref sig .tc := ⟨.hbm, 143, rfl⟩
abbrev main_v76 : Ref sig .tc := ⟨.hbm, 144, rfl⟩
abbrev main_v77 : Ref sig .tc := ⟨.hbm, 145, rfl⟩
abbrev main_v78 : Ref sig .tc := ⟨.hbm, 146, rfl⟩
abbrev main_v79 : Ref sig .tc := ⟨.hbm, 147, rfl⟩
abbrev main_v80 : Ref sig .tc := ⟨.hbm, 148, rfl⟩
abbrev main_v81 : Ref sig .tc := ⟨.hbm, 149, rfl⟩
abbrev main_v82 : Ref sig .tc := ⟨.hbm, 150, rfl⟩
abbrev main_v83 : Ref sig .tc := ⟨.hbm, 151, rfl⟩
abbrev main_v84 : Ref sig .tc := ⟨.hbm, 152, rfl⟩
abbrev main_v85 : Ref sig .tc := ⟨.hbm, 153, rfl⟩
abbrev main_v86 : Ref sig .tc := ⟨.hbm, 154, rfl⟩
abbrev main_v87 : Ref sig .tc := ⟨.hbm, 155, rfl⟩
abbrev main_v88 : Ref sig .tc := ⟨.hbm, 156, rfl⟩
abbrev main_v89 : Ref sig .tc := ⟨.hbm, 157, rfl⟩
abbrev main_v90 : Ref sig .tc := ⟨.hbm, 158, rfl⟩
abbrev main_v91 : Ref sig .tc := ⟨.hbm, 159, rfl⟩
abbrev main_v92 : Ref sig .tc := ⟨.hbm, 160, rfl⟩
abbrev main_v93 : Ref sig .tc := ⟨.hbm, 161, rfl⟩
abbrev main_v94 : Ref sig .tc := ⟨.hbm, 162, rfl⟩
abbrev main_v95 : Ref sig .tc := ⟨.hbm, 163, rfl⟩
abbrev main_v96 : Ref sig .tc := ⟨.hbm, 164, rfl⟩
abbrev main_v97 : Ref sig .tc := ⟨.hbm, 165, rfl⟩
abbrev main_v98 : Ref sig .tc := ⟨.hbm, 166, rfl⟩
abbrev main_v99 : Ref sig .tc := ⟨.hbm, 167, rfl⟩
abbrev main_c_5 : Ref sig .tc := ⟨.hbm, 168, rfl⟩
abbrev main_call3_v0 : Ref sig .tc := ⟨.hbm, 169, rfl⟩
abbrev main_call3_v1 : Ref sig .tc := ⟨.hbm, 170, rfl⟩
abbrev main_call3_v2 : Ref sig .tc := ⟨.hbm, 171, rfl⟩
abbrev main_v100 : Ref sig .tc := ⟨.hbm, 172, rfl⟩
abbrev main_v101 : Ref sig .tc := ⟨.hbm, 173, rfl⟩
abbrev main_v102 : Ref sig .tc := ⟨.hbm, 174, rfl⟩
abbrev main_v103 : Ref sig .tc := ⟨.hbm, 175, rfl⟩
abbrev main_v104 : Ref sig .tc := ⟨.hbm, 176, rfl⟩
abbrev main_v105 : Ref sig .tc := ⟨.hbm, 177, rfl⟩
abbrev main_v106 : Ref sig .tc := ⟨.hbm, 178, rfl⟩
abbrev main_v107 : Ref sig .tc := ⟨.hbm, 179, rfl⟩
abbrev main_v108 : Ref sig .tc := ⟨.hbm, 180, rfl⟩
abbrev main_v109 : Ref sig .tc := ⟨.hbm, 181, rfl⟩
abbrev main_v110 : Ref sig .tc := ⟨.hbm, 182, rfl⟩
abbrev main_v111 : Ref sig .tc := ⟨.hbm, 183, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg15_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_scratch5 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem15_1 : DmaSem sig := 17

abbrev nD : Nat := 1
abbrev τ : Topo := Topo.v7x

variable {F : FTy → Type} [FloatOps F]

abbrev grid0 : Pipeline.Grid := ⟨2, ![2, 32], ![false, false]⟩

@[reducible] def k0_t1_loop : Scf.Loop 32 :=
  let c0_i32_1 : BitVec 32 := 0#32
  let c4_i32 : BitVec 32 := 4#32
  let v3 : BitVec 32 := Scalar.addi c0_i32_1 c4_i32
  let c1_i32 : BitVec 32 := 1#32
  ⟨c0_i32_1, v3, c1_i32⟩
def k0_mult1 (k0_t1 : Fin k0_t1_loop.trips) : BitVec 32 :=
  let c0_i32_1 : BitVec 32 := 0#32
  let c1_i32 : BitVec 32 := 1#32
  let arg24 : BitVec 32 := Scf.iv c0_i32_1 c1_i32 k0_t1
  let c256_i32 : BitVec 32 := 256#32
  let v766 : BitVec 32 := Scalar.muli arg24 c256_i32
  v766
def k0_off1 (k0_t1 : Fin k0_t1_loop.trips) : Fin 3 → Nat :=
  let c0_i32_1 : BitVec 32 := 0#32
  let c1_i32 : BitVec 32 := 1#32
  let arg24 : BitVec 32 := Scf.iv c0_i32_1 c1_i32 k0_t1
  let c2_i32 : BitVec 32 := 2#32
  let v768 : BitVec 32 := Scalar.muli arg24 c2_i32
  let v769 : Index := Scalar.indexCast v768
  let c0_709 : Index := 0#32
  let c0_710 : Index := 0#32
  ![v769.toNat, 0, 0]
def k0_off2 (k0_t1 : Fin k0_t1_loop.trips) : Fin 2 → Nat :=
  let c0_i32_1 : BitVec 32 := 0#32
  let c1_i32 : BitVec 32 := 1#32
  let arg24 : BitVec 32 := Scf.iv c0_i32_1 c1_i32 k0_t1
  let c256_i32 : BitVec 32 := 256#32
  let v766 : BitVec 32 := Scalar.muli arg24 c256_i32
  let v767 : BitVec 32 := v766
  let v791 : Index := Scalar.indexCast v767
  let c0_719 : Index := 0#32
  ![v791.toNat, 0]
def k0_off3 (k0_t1 : Fin k0_t1_loop.trips) : Fin 2 → Nat :=
  let c0_i32_1 : BitVec 32 := 0#32
  let c1_i32 : BitVec 32 := 1#32
  let arg24 : BitVec 32 := Scf.iv c0_i32_1 c1_i32 k0_t1
  let c256_i32 : BitVec 32 := 256#32
  let v766 : BitVec 32 := Scalar.muli arg24 c256_i32
  let v767 : BitVec 32 := v766
  let v810 : Index := Scalar.indexCast v767
  let c0_724 : Index := 0#32
  ![v810.toNat, 0]
@[reducible] def k0_t2_loop : Scf.Loop 32 :=
  let c0_i32_17 : BitVec 32 := 0#32
  let c128_i32 : BitVec 32 := 128#32
  let v26 : BitVec 32 := Scalar.addi c0_i32_17 c128_i32
  let c1_i32_18 : BitVec 32 := 1#32
  ⟨c0_i32_17, v26, c1_i32_18⟩
def k0_mult2 (k0_t2 : Fin k0_t2_loop.trips) : BitVec 32 :=
  let c0_i32_17 : BitVec 32 := 0#32
  let c1_i32_18 : BitVec 32 := 1#32
  let arg24 : BitVec 32 := Scf.iv c0_i32_17 c1_i32_18 k0_t2
  let c8_i32 : BitVec 32 := 8#32
  let v766 : BitVec 32 := Scalar.muli arg24 c8_i32
  v766
def k0_off4 (k0_t2 : Fin k0_t2_loop.trips) : Fin 2 → Nat :=
  let c0_i32_17 : BitVec 32 := 0#32
  let c1_i32_18 : BitVec 32 := 1#32
  let arg24 : BitVec 32 := Scf.iv c0_i32_17 c1_i32_18 k0_t2
  let c8_i32 : BitVec 32 := 8#32
  let v766 : BitVec 32 := Scalar.muli arg24 c8_i32
  let v767 : BitVec 32 := v766
  let v771 : Index := Scalar.indexCast v767
  let c0_709 : Index := 0#32
  ![v771.toNat, 0]
def k0_off5 (k0_t2 : Fin k0_t2_loop.trips) : Fin 2 → Nat :=
  let c0_i32_17 : BitVec 32 := 0#32
  let c1_i32_18 : BitVec 32 := 1#32
  let arg24 : BitVec 32 := Scf.iv c0_i32_17 c1_i32_18 k0_t2
  let c8_i32 : BitVec 32 := 8#32
  let v766 : BitVec 32 := Scalar.muli arg24 c8_i32
  let v767 : BitVec 32 := v766
  let v777 : Index := Scalar.indexCast v767
  let c1024_710 : Index := 1024#32
  ![v777.toNat, 1024]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1792 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2048x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S6x128x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S6x128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x768 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S8x128x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== EvenRefIdeal.lean ====
abbrev S16x4096x1024 : Shape := ⟨3, ![16, 4096, 1024]⟩
abbrev S1024 : Shape := ⟨1, ![1024]⟩
abbrev S1024x1792 : Shape := ⟨2, ![1024, 1792]⟩
abbrev S1024x1024 : Shape := ⟨2, ![1024, 1024]⟩
abbrev S16x64 : Shape := ⟨2, ![16, 64]⟩
abbrev S16 : Shape := ⟨1, ![16]⟩
abbrev S16x64x16 : Shape := ⟨3, ![16, 64, 16]⟩
abbrev S16x16x64 : Shape := ⟨3, ![16, 16, 64]⟩
abbrev S256 : Shape := ⟨1, ![256]⟩
abbrev S256x256 : Shape := ⟨2, ![256, 256]⟩
abbrev S6x128x128 : Shape := ⟨3, ![6, 128, 128]⟩
abbrev S6x128 : Shape := ⟨2, ![6, 128]⟩
abbrev S768 : Shape := ⟨1, ![768]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S16x4096x1792 : Shape := ⟨3, ![16, 4096, 1792]⟩
abbrev S16x4096x256 : Shape := ⟨3, ![16, 4096, 256]⟩
abbrev S16x4096x16x16 : Shape := ⟨4, ![16, 4096, 16, 16]⟩
abbrev S16x1 : Shape := ⟨2, ![16, 1]⟩
abbrev S16x64x1 : Shape := ⟨3, ![16, 64, 1]⟩
abbrev S16x64x16x4096 : Shape := ⟨4, ![16, 64, 16, 4096]⟩
abbrev S16x4096x16x64 : Shape := ⟨4, ![16, 4096, 16, 64]⟩
abbrev S4096x16x16x64 : Shape := ⟨4, ![4096, 16, 16, 64]⟩
abbrev S1x16x16x64 : Shape := ⟨4, ![1, 16, 16, 64]⟩
abbrev S1x16x64 : Shape := ⟨3, ![1, 16, 64]⟩
abbrev S16x16x16x4096 : Shape := ⟨4, ![16, 16, 16, 4096]⟩
abbrev S16x16 : Shape := ⟨2, ![16, 16]⟩
abbrev S1x1x16x16 : Shape := ⟨4, ![1, 1, 16, 16]⟩
abbrev S1x1x256 : Shape := ⟨3, ![1, 1, 256]⟩
abbrev S16x4096x1536 : Shape := ⟨3, ![16, 4096, 1536]⟩
abbrev S16x4096x768 : Shape := ⟨3, ![16, 4096, 768]⟩
abbrev S1x1x768 : Shape := ⟨3, ![1, 1, 768]⟩
abbrev S16x32x128x6x128 : Shape := ⟨5, ![16, 32, 128, 6, 128]⟩
abbrev S128x128 : Shape := ⟨2, ![128, 128]⟩
abbrev S6x16x32x128x128 : Shape := ⟨5, ![6, 16, 32, 128, 128]⟩
abbrev S128x6 : Shape := ⟨2, ![128, 6]⟩
abbrev S1x1x128x6x1 : Shape := ⟨5, ![1, 1, 128, 6, 1]⟩

abbrev nBuf : Space → Nat
  | .hbm => 247
  | .vmem => 0
  | .smem => 0
  | _ => 0

abbrev hbmTy0_0 (i : Nat) : BufTy := match i % 128 with
  | 0 => ⟨S16x4096x1024, .f32⟩
  | 1 => ⟨S1024, .f32⟩
  | 2 => ⟨S1024x1792, .f32⟩
  | 3 => ⟨S1024x1024, .f32⟩
  | 4 => ⟨S16x64, .f32⟩
  | 5 => ⟨S16x64, .f32⟩
  | 6 => ⟨S16, .f32⟩
  | 7 => ⟨S16x64x16, .f32⟩
  | 8 => ⟨S16x64x16, .f32⟩
  | 9 => ⟨S16x16x64, .f32⟩
  | 10 => ⟨S16x16x64, .f32⟩
  | 11 => ⟨S256, .f32⟩
  | 12 => ⟨S256x256, .f32⟩
  | 13 => ⟨S256, .f32⟩
  | 14 => ⟨S6x128x128, .f32⟩
  | 15 => ⟨S6x128, .f32⟩
  | 16 => ⟨S768, .f32⟩
  | 17 => ⟨S16x4096x1024, .f32⟩
  | 18 => ⟨S_, .f32⟩
  | 19 => ⟨S16x4096, .f32⟩
  | 20 => ⟨S16x4096x1, .f32⟩
  | 21 => ⟨S_, .f32⟩
  | 22 => ⟨S16x4096x1, .f32⟩
  | 23 => ⟨S16x4096x1, .f32⟩
  | 24 => ⟨S_, .f32⟩
  | 25 => ⟨S16x4096x1, .f32⟩
  | 26 => ⟨S16x4096x1, .f32⟩
  | 27 => ⟨S16x4096x1, .f32⟩
  | 28 => ⟨S16x4096x1024, .f32⟩
  | 29 => ⟨S16x4096x1024, .f32⟩
  | 30 => ⟨S1x1x1024, .f32⟩
  | 31 => ⟨S16x4096x1024, .f32⟩
  | 32 => ⟨S16x4096x1024, .f32⟩
  | 33 => ⟨S16x4096x1792, .f32⟩
  | 34 => ⟨S16x4096x256, .f32⟩
  | 35 => ⟨S16x4096x16x16, .f32⟩
  | 36 => ⟨S_, .f32⟩
  | 37 => ⟨S16x64, .f32⟩
  | 38 => ⟨S16x64, .f32⟩
  | 39 => ⟨S16, .f32⟩
  | 40 => ⟨S16x1, .f32⟩
  | 41 => ⟨S16x64, .f32⟩
  | 42 => ⟨S16x64, .f32⟩
  | 43 => ⟨S16x64, .f32⟩
  | 44 => ⟨S16x64, .f32⟩
  | 45 => ⟨S16x64, .f32⟩
  | 46 => ⟨S16x64, .f32⟩
  | 47 => ⟨S16x64, .f32⟩
  | 48 => ⟨S16x64, .f32⟩
  | 49 => ⟨S16x64, .f32⟩
  | 50 => ⟨S16x64, .f32⟩
  | 51 => ⟨S16x64, .f32⟩
  | 52 => ⟨S16x64, .f32⟩
  | 53 => ⟨S16x64, .f32⟩
  | 54 => ⟨S16x64, .f32⟩
  | 55 => ⟨S_, .f32⟩
  | 56 => ⟨S16x64, .f32⟩
  | 57 => ⟨S16x64, .f32⟩
  | 58 => ⟨S16x64, .f32⟩
  | 59 => ⟨S16x64, .f32⟩
  | 60 => ⟨S16x64, .f32⟩
  | 61 => ⟨S16x64, .f32⟩
  | 62 => ⟨S16x64x1, .f32⟩
  | 63 => ⟨S16x64, .f32⟩
  | 64 => ⟨S16x64, .f32⟩
  | 65 => ⟨S16x64, .f32⟩
  | 66 => ⟨S16x64, .f32⟩
  | 67 => ⟨S16x64x1, .f32⟩
  | 68 => ⟨S16x64x16, .f32⟩
  | 69 => ⟨S16x64x16, .f32⟩
  | 70 => ⟨S16x64x16, .f32⟩
  | 71 => ⟨S16x64x16, .f32⟩
  | 72 => ⟨S16x64x16, .f32⟩
  | 73 => ⟨S16x64x16, .f32⟩
  | 74 => ⟨S16x64x16, .f32⟩
  | 75 => ⟨S16x64x16, .f32⟩
  | 76 => ⟨S16x64x16, .f32⟩
  | 77 => ⟨S16x64x16, .f32⟩
  | 78 => ⟨S16x64x16x4096, .f32⟩
  | 79 => ⟨S16x4096x16x64, .f32⟩
  | 80 => ⟨S16x64x16x4096, .f32⟩
  | 81 => ⟨S16x4096x16x64, .f32⟩
  | 82 => ⟨S_, .f32⟩
  | 83 => ⟨S16x16x64, .f32⟩
  | 84 => ⟨S4096x16x16x64, .f32⟩
  | 85 => ⟨S4096x16x16x64, .f32⟩
  | 86 => ⟨S_, .f32⟩
  | 87 => ⟨S4096x16x16x64, .f32⟩
  | 88 => ⟨S_, .f32⟩
  | 89 => ⟨S4096x16x16x64, .f32⟩
  | 90 => ⟨S_, .i32⟩
  | 91 => ⟨S4096x16x16x64, .f32⟩
  | 92 => ⟨S4096x16x16x64, .f32⟩
  | 93 => ⟨S16x64, .f32⟩
  | 94 => ⟨S16x64, .f32⟩
  | 95 => ⟨S_, .i32⟩
  | 96 => ⟨S16x16x64, .f32⟩
  | 97 => ⟨S16x16x64, .f32⟩
  | 98 => ⟨S4096x16x16x64, .f32⟩
  | 99 => ⟨S4096x16x16x64, .f32⟩
  | 100 => ⟨S_, .i32⟩
  | 101 => ⟨S_, .i1⟩
  | 102 => ⟨S_, .i32⟩
  | 103 => ⟨S_, .i32⟩
  | 104 => ⟨S_, .i32⟩
  | 105 => ⟨S1x16x16x64, .f32⟩
  | 106 => ⟨S16x16x64, .f32⟩
  | 107 => ⟨S_, .i32⟩
  | 108 => ⟨S_, .i32⟩
  | 109 => ⟨S_, .i32⟩
  | 110 => ⟨S1x16x16x64, .f32⟩
  | 111 => ⟨S16x16x64, .f32⟩
  | 112 => ⟨S1x16x64, .f32⟩
  | 113 => ⟨S16x16x64, .f32⟩
  | 114 => ⟨S16x16x64, .f32⟩
  | 115 => ⟨S1x16x64, .f32⟩
  | 116 => ⟨S16x16x64, .f32⟩
  | 117 => ⟨S16x16x64, .f32⟩
  | 118 => ⟨S16x16x64, .f32⟩
  | 119 => ⟨S16x16x64, .f32⟩
  | 120 => ⟨S1x16x64, .f32⟩
  | 121 => ⟨S16x16x64, .f32⟩
  | 122 => ⟨S16x16x64, .f32⟩
  | 123 => ⟨S1x16x64, .f32⟩
  | 124 => ⟨S16x16x64, .f32⟩
  | 125 => ⟨S16x16x64, .f32⟩
  | 126 => ⟨S16x16x64, .f32⟩
  | 127 => ⟨S16x16x64, .f32⟩
  | _ => ⟨S16x4096x1024, .f32⟩

abbrev hbmTy0_1 (i : Nat) : BufTy := match i % 128 with
  | 0 => ⟨S1x16x16x64, .f32⟩
  | 1 => ⟨S_, .i32⟩
  | 2 => ⟨S_, .i32⟩
  | 3 => ⟨S_, .i32⟩
  | 4 => ⟨S4096x16x16x64, .f32⟩
  | 5 => ⟨S1x16x16x64, .f32⟩
  | 6 => ⟨S_, .i32⟩
  | 7 => ⟨S_, .i32⟩
  | 8 => ⟨S_, .i32⟩
  | 9 => ⟨S4096x16x16x64, .f32⟩
  | 10 => ⟨S_, .i32⟩
  | 11 => ⟨S_, .i32⟩
  | 12 => ⟨S16x4096x16x64, .f32⟩
  | 13 => ⟨S16x4096x16x64, .f32⟩
  | 14 => ⟨S16x16x16x4096, .f32⟩
  | 15 => ⟨S16x4096x16x16, .f32⟩
  | 16 => ⟨S16x16x16x4096, .f32⟩
  | 17 => ⟨S16x4096x16x16, .f32⟩
  | 18 => ⟨S16x4096x16x16, .f32⟩
  | 19 => ⟨S16x16, .f32⟩
  | 20 => ⟨S1x1x16x16, .f32⟩
  | 21 => ⟨S16x4096x16x16, .f32⟩
  | 22 => ⟨S16x4096x16x16, .f32⟩
  | 23 => ⟨S16x4096x16x16, .f32⟩
  | 24 => ⟨S16x4096x256, .f32⟩
  | 25 => ⟨S16x4096x256, .f32⟩
  | 26 => ⟨S16x4096x256, .f32⟩
  | 27 => ⟨S_, .f32⟩
  | 28 => ⟨S16x4096x256, .f32⟩
  | 29 => ⟨S16x4096x256, .f32⟩
  | 30 => ⟨S16x4096x256, .f32⟩
  | 31 => ⟨S_, .f32⟩
  | 32 => ⟨S16x4096x256, .f32⟩
  | 33 => ⟨S16x4096x256, .f32⟩
  | 34 => ⟨S16x4096x256, .f32⟩
  | 35 => ⟨S_, .f32⟩
  | 36 => ⟨S16x4096x256, .f32⟩
  | 37 => ⟨S16x4096x256, .f32⟩
  | 38 => ⟨S_, .f32⟩
  | 39 => ⟨S16x4096x256, .f32⟩
  | 40 => ⟨S16x4096x256, .f32⟩
  | 41 => ⟨S16x4096x256, .f32⟩
  | 42 => ⟨S16x4096x256, .f32⟩
  | 43 => ⟨S1x1x256, .f32⟩
  | 44 => ⟨S16x4096x256, .f32⟩
  | 45 => ⟨S16x4096x256, .f32⟩
  | 46 => ⟨S16x4096x256, .f32⟩
  | 47 => ⟨S16x4096x256, .f32⟩
  | 48 => ⟨S_, .f32⟩
  | 49 => ⟨S16x4096x256, .f32⟩
  | 50 => ⟨S16x4096x256, .f32⟩
  | 51 => ⟨S_, .f32⟩
  | 52 => ⟨S16x4096x256, .f32⟩
  | 53 => ⟨S16x4096x256, .f32⟩
  | 54 => ⟨S16x4096x256, .f32⟩
  | 55 => ⟨S16x4096x1536, .f32⟩
  | 56 => ⟨S16x4096x1536, .f32⟩
  | 57 => ⟨S16x4096x1536, .f32⟩
  | 58 => ⟨S_, .f32⟩
  | 59 => ⟨S16x4096x1536, .f32⟩
  | 60 => ⟨S16x4096x1536, .f32⟩
  | 61 => ⟨S16x4096x1536, .f32⟩
  | 62 => ⟨S_, .f32⟩
  | 63 => ⟨S16x4096x1536, .f32⟩
  | 64 => ⟨S16x4096x1536, .f32⟩
  | 65 => ⟨S16x4096x1536, .f32⟩
  | 66 => ⟨S_, .f32⟩
  | 67 => ⟨S16x4096x1536, .f32⟩
  | 68 => ⟨S16x4096x1536, .f32⟩
  | 69 => ⟨S_, .f32⟩
  | 70 => ⟨S16x4096x1536, .f32⟩
  | 71 => ⟨S16x4096x1536, .f32⟩
  | 72 => ⟨S16x4096x1536, .f32⟩
  | 73 => ⟨S16x4096x768, .f32⟩
  | 74 => ⟨S16x4096x768, .f32⟩
  | 75 => ⟨S16x4096x768, .f32⟩
  | 76 => ⟨S_, .f32⟩
  | 77 => ⟨S16x4096, .f32⟩
  | 78 => ⟨S16x4096x1, .f32⟩
  | 79 => ⟨S_, .f32⟩
  | 80 => ⟨S16x4096x1, .f32⟩
  | 81 => ⟨S16x4096x1, .f32⟩
  | 82 => ⟨S_, .f32⟩
  | 83 => ⟨S16x4096x1, .f32⟩
  | 84 => ⟨S16x4096x1, .f32⟩
  | 85 => ⟨S16x4096x1, .f32⟩
  | 86 => ⟨S16x4096x768, .f32⟩
  | 87 => ⟨S16x4096x768, .f32⟩
  | 88 => ⟨S1x1x768, .f32⟩
  | 89 => ⟨S16x4096x768, .f32⟩
  | 90 => ⟨S16x4096x768, .f32⟩
  | 91 => ⟨S16x32x128x6x128, .f32⟩
  | 92 => ⟨S_, .i1⟩
  | 93 => ⟨S128x128, .i1⟩
  | 94 => ⟨S128x128, .i32⟩
  | 95 => ⟨S_, .i32⟩
  | 96 => ⟨S128x128, .i32⟩
  | 97 => ⟨S128x128, .i32⟩
  | 98 => ⟨S128x128, .i32⟩
  | 99 => ⟨S128x128, .i1⟩
  | 100 => ⟨S_, .i1⟩
  | 101 => ⟨S128x128, .i1⟩
  | 102 => ⟨S128x128, .i1⟩
  | 103 => ⟨S_, .i32⟩
  | 104 => ⟨S_, .f32⟩
  | 105 => ⟨S6x128x128, .i1⟩
  | 106 => ⟨S6x128x128, .f32⟩
  | 107 => ⟨S6x128x128, .f32⟩
  | 108 => ⟨S6x16x32x128x128, .f32⟩
  | 109 => ⟨S16x32x128x6x128, .f32⟩
  | 110 => ⟨S128x6, .f32⟩
  | 111 => ⟨S1x1x128x6x1, .f32⟩
  | 112 => ⟨S16x32x128x6x128, .f32⟩
  | 113 => ⟨S16x32x128x6x128, .f32⟩
  | 114 => ⟨S16x4096x768, .f32⟩
  | 115 => ⟨S16x4096x768, .f32⟩
  | 116 => ⟨S16x4096x1024, .f32⟩
  | 117 => ⟨S16x4096x1024, .f32⟩
  | 118 => ⟨S16x4096x1024, .f32⟩
  | _ => ⟨S16x4096x1024, .f32⟩

abbrev hbmTy (i : Nat) : BufTy := match i / 128 with
  | 0 => hbmTy0_0 i
  | 1 => hbmTy0_1 i
  | _ => ⟨S16x4096x1024, .f32⟩

abbrev bufTy : (tb : Table) → Fin (tcTables nBuf tb) → BufTy
  | .hbm, ⟨i, _⟩ => hbmTy i
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_cst : Ref sig .tc := ⟨.hbm, 18, rfl⟩
abbrev main_v1 : Ref sig .tc := ⟨.hbm, 19, rfl⟩
abbrev main_v2 : Ref sig .tc := ⟨.hbm, 20, rfl⟩
abbrev main_cst_0 : Ref sig .tc := ⟨.hbm, 21, rfl⟩
abbrev main_v3 : Ref sig .tc := ⟨.hbm, 22, rfl⟩
abbrev main_v4 : Ref sig .tc := ⟨.hbm, 23, rfl⟩
abbrev main_cst_1 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst_2 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_3 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_4 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_5 : Ref sig .tc := ⟨.hbm, 86, rfl⟩
abbrev main_v63 : Ref sig .tc := ⟨.hbm, 87, rfl⟩
abbrev main_cst_6 : Ref sig .tc := ⟨.hbm, 88, rfl⟩
abbrev main_v64 : Ref sig .tc := ⟨.hbm, 89, rfl⟩
abbrev main_c : Ref sig .tc := ⟨.hbm, 90, rfl⟩
abbrev main_v65_0 : Ref sig .tc := ⟨.hbm, 91, rfl⟩
abbrev main_v65_1 : Ref sig .tc := ⟨.hbm, 92, rfl⟩
abbrev main_v65_2 : Ref sig .tc := ⟨.hbm, 93, rfl⟩
abbrev main_v65_3 : Ref sig .tc := ⟨.hbm, 94, rfl⟩
abbrev main_v65_4 : Ref sig .tc := ⟨.hbm, 95, rfl⟩
abbrev main_v65_5 : Ref sig .tc := ⟨.hbm, 96, rfl⟩
abbrev main_v65_6 : Ref sig .tc := ⟨.hbm, 97, rfl⟩
abbrev main_v65_7 : Ref sig .tc := ⟨.hbm, 98, rfl⟩
abbrev main_v65_8 : Ref sig .tc := ⟨.hbm, 99, rfl⟩
abbrev main_while0c_c_30 : Ref sig .tc := ⟨.hbm, 100, rfl⟩
abbrev main_while0c_v147 : Ref sig .tc := ⟨.hbm, 101, rfl⟩
abbrev main_while0b_call0_c : Ref sig .tc := ⟨.hbm, 102, rfl⟩
abbrev main_while0b_call0_c_0 : Ref sig .tc := ⟨.hbm, 103, rfl⟩
abbrev main_while0b_call0_c_1 : Ref sig .tc := ⟨.hbm, 104, rfl⟩
abbrev main_while0b_call0_v0 : Ref sig .tc := ⟨.hbm, 105, rfl⟩
abbrev main_while0b_v147 : Ref sig .tc := ⟨.hbm, 106, rfl⟩
abbrev main_while0b_call1_c : Ref sig .tc := ⟨.hbm, 107, rfl⟩
abbrev main_while0b_call1_c_0 : Ref sig .tc := ⟨.hbm, 108, rfl⟩
abbrev main_while0b_call1_c_1 : Ref sig .tc := ⟨.hbm, 109, rfl⟩
abbrev main_while0b_call1_v0 : Ref sig .tc := ⟨.hbm, 110, rfl⟩
abbrev main_while0b_v148 : Ref sig .tc := ⟨.hbm, 111, rfl⟩
abbrev main_while0b_v149 : Ref sig .tc := ⟨.hbm, 112, rfl⟩
abbrev main_while0b_v150 : Ref sig .tc := ⟨.hbm, 113, rfl⟩
abbrev main_while0b_v151 : Ref sig .tc := ⟨.hbm, 114, rfl⟩
abbrev main_while0b_v152 : Ref sig .tc := ⟨.hbm, 115, rfl⟩
abbrev main_while0b_v153 : Ref sig .tc := ⟨.hbm, 116, rfl⟩
abbrev main_while0b_v154 : Ref sig .tc := ⟨.hbm, 117, rfl⟩
abbrev main_while0b_v155 : Ref sig .tc := ⟨.hbm, 118, rfl⟩
abbrev main_while0b_v156 : Ref sig .tc := ⟨.hbm, 119, rfl⟩
abbrev main_while0b_v157 : Ref sig .tc := ⟨.hbm, 120, rfl⟩
abbrev main_while0b_v158 : Ref sig .tc := ⟨.hbm, 121, rfl⟩
abbrev main_while0b_v159 : Ref sig .tc := ⟨.hbm, 122, rfl⟩
abbrev main_while0b_v160 : Ref sig .tc := ⟨.hbm, 123, rfl⟩
abbrev main_while0b_v161 : Ref sig .tc := ⟨.hbm, 124, rfl⟩
abbrev main_while0b_v162 : Ref sig .tc := ⟨.hbm, 125, rfl⟩
abbrev main_while0b_v163 : Ref sig .tc := ⟨.hbm, 126, rfl⟩
abbrev main_while0b_v164 : Ref sig .tc := ⟨.hbm, 127, rfl⟩
abbrev main_while0b_call2_v0 : Ref sig .tc := ⟨.hbm, 128, rfl⟩
abbrev main_while0b_call2_c : Ref sig .tc := ⟨.hbm, 129, rfl⟩
abbrev main_while0b_call2_c_0 : Ref sig .tc := ⟨.hbm, 130, rfl⟩
abbrev main_while0b_call2_c_1 : Ref sig .tc := ⟨.hbm, 131, rfl⟩
abbrev main_while0b_v165 : Ref sig .tc := ⟨.hbm, 132, rfl⟩
abbrev main_while0b_call3_v0 : Ref sig .tc := ⟨.hbm, 133, rfl⟩
abbrev main_while0b_call3_c : Ref sig .tc := ⟨.hbm, 134, rfl⟩
abbrev main_while0b_call3_c_0 : Ref sig .tc := ⟨.hbm, 135, rfl⟩
abbrev main_while0b_call3_c_1 : Ref sig .tc := ⟨.hbm, 136, rfl⟩
abbrev main_while0b_v166 : Ref sig .tc := ⟨.hbm, 137, rfl⟩
abbrev main_while0b_c_30 : Ref sig .tc := ⟨.hbm, 138, rfl⟩
abbrev main_while0b_v167 : Ref sig .tc := ⟨.hbm, 139, rfl⟩
abbrev main_v66 : Ref sig .tc := ⟨.hbm, 140, rfl⟩
abbrev main_v67 : Ref sig .tc := ⟨.hbm, 141, rfl⟩
abbrev main_v68 : Ref sig .tc := ⟨.hbm, 142, rfl⟩
abbrev main_v69 : Ref sig .tc := ⟨.hbm, 143, rfl⟩
abbrev main_v70 : Ref sig .tc := ⟨.hbm, 144, rfl⟩
abbrev main_v71 : Ref sig .tc := ⟨.hbm, 145, rfl⟩
abbrev main_v72 : Ref sig .tc := ⟨.hbm, 146, rfl⟩
abbrev main_v73 : Ref sig .tc := ⟨.hbm, 147, rfl⟩
abbrev main_v74 : Ref sig .tc := ⟨.hbm, 148, rfl⟩
abbrev main_v75 : Ref sig .tc := ⟨.hbm, 149, rfl⟩
abbrev main_v76 : Ref sig .tc := ⟨.hbm, 150, rfl⟩
abbrev main_v77 : Ref sig .tc := ⟨.hbm, 151, rfl⟩
abbrev main_v78 : Ref sig .tc := ⟨.hbm, 152, rfl⟩
abbrev main_v79 : Ref sig .tc := ⟨.hbm, 153, rfl⟩
abbrev main_v80 : Ref sig .tc := ⟨.hbm, 154, rfl⟩
abbrev main_cst_7 : Ref sig .tc := ⟨.hbm, 155, rfl⟩
abbrev main_v81 : Ref sig .tc := ⟨.hbm, 156, rfl⟩
abbrev main_v82 : Ref sig .tc := ⟨.hbm, 157, rfl⟩
abbrev main_v83 : Ref sig .tc := ⟨.hbm, 158, rfl⟩
abbrev main_cst_8 : Ref sig .tc := ⟨.hbm, 159, rfl⟩
abbrev main_v84 : Ref sig .tc := ⟨.hbm, 160, rfl⟩
abbrev main_v85 : Ref sig .tc := ⟨.hbm, 161, rfl⟩
abbrev main_v86 : Ref sig .tc := ⟨.hbm, 162, rfl⟩
abbrev main_cst_9 : Ref sig .tc := ⟨.hbm, 163, rfl⟩
abbrev main_v87 : Ref sig .tc := ⟨.hbm, 164, rfl⟩
abbrev main_v88 : Ref sig .tc := ⟨.hbm, 165, rfl⟩
abbrev main_cst_10 : Ref sig .tc := ⟨.hbm, 166, rfl⟩
abbrev main_v89 : Ref sig .tc := ⟨.hbm, 167, rfl⟩
abbrev main_v90 : Ref sig .tc := ⟨.hbm, 168, rfl⟩
abbrev main_v91 : Ref sig .tc := ⟨.hbm, 169, rfl⟩
abbrev main_v92 : Ref sig .tc := ⟨.hbm, 170, rfl⟩
abbrev main_v93 : Ref sig .tc := ⟨.hbm, 171, rfl⟩
abbrev main_v94 : Ref sig .tc := ⟨.hbm, 172, rfl⟩
abbrev main_v95 : Ref sig .tc := ⟨.hbm, 173, rfl⟩
abbrev main_v96 : Ref sig .tc := ⟨.hbm, 174, rfl⟩
abbrev main_v97 : Ref sig .tc := ⟨.hbm, 175, rfl⟩
abbrev main_cst_11 : Ref sig .tc := ⟨.hbm, 176, rfl⟩
abbrev main_v98 : Ref sig .tc := ⟨.hbm, 177, rfl⟩
abbrev main_v99 : Ref sig .tc := ⟨.hbm, 178, rfl⟩
abbrev main_cst_12 : Ref sig .tc := ⟨.hbm, 179, rfl⟩
abbrev main_v100 : Ref sig .tc := ⟨.hbm, 180, rfl⟩
abbrev main_v101 : Ref sig .tc := ⟨.hbm, 181, rfl⟩
abbrev main_v102 : Ref sig .tc := ⟨.hbm, 182, rfl⟩
abbrev main_v103 : Ref sig .tc := ⟨.hbm, 183, rfl⟩
abbrev main_v104 : Ref sig .tc := ⟨.hbm, 184, rfl⟩
abbrev main_v105 : Ref sig .tc := ⟨.hbm, 185, rfl⟩
abbrev main_cst_13 : Ref sig .tc := ⟨.hbm, 186, rfl⟩
abbrev main_v106 : Ref sig .tc := ⟨.hbm, 187, rfl⟩
abbrev main_v107 : Ref sig .tc := ⟨.hbm, 188, rfl⟩
abbrev main_v108 : Ref sig .tc := ⟨.hbm, 189, rfl⟩
abbrev main_cst_14 : Ref sig .tc := ⟨.hbm, 190, rfl⟩
abbrev main_v109 : Ref sig .tc := ⟨.hbm, 191, rfl⟩
abbrev main_v110 : Ref sig .tc := ⟨.hbm, 192, rfl⟩
abbrev main_v111 : Ref sig .tc := ⟨.hbm, 193, rfl⟩
abbrev main_cst_15 : Ref sig .tc := ⟨.hbm, 194, rfl⟩
abbrev main_v112 : Ref sig .tc := ⟨.hbm, 195, rfl⟩
abbrev main_v113 : Ref sig .tc := ⟨.hbm, 196, rfl⟩
abbrev main_cst_16 : Ref sig .tc := ⟨.hbm, 197, rfl⟩
abbrev main_v114 : Ref sig .tc := ⟨.hbm, 198, rfl⟩
abbrev main_v115 : Ref sig .tc := ⟨.hbm, 199, rfl⟩
abbrev main_v116 : Ref sig .tc := ⟨.hbm, 200, rfl⟩
abbrev main_v117 : Ref sig .tc := ⟨.hbm, 201, rfl⟩
abbrev main_v118 : Ref sig .tc := ⟨.hbm, 202, rfl⟩
abbrev main_v119 : Ref sig .tc := ⟨.hbm, 203, rfl⟩
abbrev main_cst_17 : Ref sig .tc := ⟨.hbm, 204, rfl⟩
abbrev main_v120 : Ref sig .tc := ⟨.hbm, 205, rfl⟩
abbrev main_v121 : Ref sig .tc := ⟨.hbm, 206, rfl⟩
abbrev main_cst_18 : Ref sig .tc := ⟨.hbm, 207, rfl⟩
abbrev main_v122 : Ref sig .tc := ⟨.hbm, 208, rfl⟩
abbrev main_v123 : Ref sig .tc := ⟨.hbm, 209, rfl⟩
abbrev main_cst_19 : Ref sig .tc := ⟨.hbm, 210, rfl⟩
abbrev main_v124 : Ref sig .tc := ⟨.hbm, 211, rfl⟩
abbrev main_v125 : Ref sig .tc := ⟨.hbm, 212, rfl⟩
abbrev main_v126 : Ref sig .tc := ⟨.hbm, 213, rfl⟩
abbrev main_v127 : Ref sig .tc := ⟨.hbm, 214, rfl⟩
abbrev main_v128 : Ref sig .tc := ⟨.hbm, 215, rfl⟩
abbrev main_v129 : Ref sig .tc := ⟨.hbm, 216, rfl⟩
abbrev main_v130 : Ref sig .tc := ⟨.hbm, 217, rfl⟩
abbrev main_v131 : Ref sig .tc := ⟨.hbm, 218, rfl⟩
abbrev main_v132 : Ref sig .tc := ⟨.hbm, 219, rfl⟩
abbrev main_c_20 : Ref sig .tc := ⟨.hbm, 220, rfl⟩
abbrev main_v133 : Ref sig .tc := ⟨.hbm, 221, rfl⟩
abbrev main_call4_v0 : Ref sig .tc := ⟨.hbm, 222, rfl⟩
abbrev main_call4_c : Ref sig .tc := ⟨.hbm, 223, rfl⟩
abbrev main_call4_v1 : Ref sig .tc := ⟨.hbm, 224, rfl⟩
abbrev main_call4_v2 : Ref sig .tc := ⟨.hbm, 225, rfl⟩
abbrev main_call4_v3 : Ref sig .tc := ⟨.hbm, 226, rfl⟩
abbrev main_call4_v4 : Ref sig .tc := ⟨.hbm, 227, rfl⟩
abbrev main_call4_c_0 : Ref sig .tc := ⟨.hbm, 228, rfl⟩
abbrev main_call4_v5 : Ref sig .tc := ⟨.hbm, 229, rfl⟩
abbrev main_v134 : Ref sig .tc := ⟨.hbm, 230, rfl⟩
abbrev main_c_21 : Ref sig .tc := ⟨.hbm, 231, rfl⟩
abbrev main_call5_v0 : Ref sig .tc := ⟨.hbm, 232, rfl⟩
abbrev main_call5_v1 : Ref sig .tc := ⟨.hbm, 233, rfl⟩
abbrev main_call5_v2 : Ref sig .tc := ⟨.hbm, 234, rfl⟩
abbrev main_v135 : Ref sig .tc := ⟨.hbm, 235, rfl⟩
abbrev main_v136 : Ref sig .tc := ⟨.hbm, 236, rfl⟩
abbrev main_v137 : Ref sig .tc := ⟨.hbm, 237, rfl⟩
abbrev main_v138 : Ref sig .tc := ⟨.hbm, 238, rfl⟩
abbrev main_v139 : Ref sig .tc := ⟨.hbm, 239, rfl⟩
abbrev main_v140 : Ref sig .tc := ⟨.hbm, 240, rfl⟩
abbrev main_v141 : Ref sig .tc := ⟨.hbm, 241, rfl⟩
abbrev main_v142 : Ref sig .tc := ⟨.hbm, 242, rfl⟩
abbrev main_v143 : Ref sig .tc := ⟨.hbm, 243, rfl⟩
abbrev main_v144 : Ref sig .tc := ⟨.hbm, 244, rfl⟩
abbrev main_v145 : Ref sig .tc := ⟨.hbm, 245, rfl⟩
abbrev main_v146 : Ref sig .tc := ⟨.hbm, 246, rfl⟩

abbrev nD : Nat := 1
abbrev τ : Topo := Topo.v7x

variable {F : FTy → Type} [FloatOps F]

abbrev main_while0_count : Scf.Loop 32 := ⟨0#32, 4096#32, 1#32⟩
-- ==== FfnFinal.lean ====
abbrev S16x4096x1024 : Shape := ⟨3, ![16, 4096, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1x1024 : Shape := ⟨2, ![1, 1024]⟩
abbrev S1x5632 : Shape := ⟨2, ![1, 5632]⟩
abbrev S1x512x1024 : Shape := ⟨3, ![1, 512, 1024]⟩
abbrev S520x5632 : Shape := ⟨2, ![520, 5632]⟩
abbrev S8x5632 : Shape := ⟨2, ![8, 5632]⟩
abbrev S512x1024 : Shape := ⟨2, ![512, 1024]⟩
abbrev S512 : Shape := ⟨1, ![512]⟩
abbrev S512x1 : Shape := ⟨2, ![512, 1]⟩
abbrev S512x5632 : Shape := ⟨2, ![512, 5632]⟩
abbrev S512x2816 : Shape := ⟨2, ![512, 2816]⟩

abbrev nBuf : Space → Nat
  | .hbm => 13
  | .vmem => 11
  | .smem => 0
  | _ => 0

abbrev bufTy : (tb : Table) → Fin (tcTables nBuf tb) → BufTy
  | .hbm, ⟨0, _⟩ => ⟨S16x4096x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S1024, .f32⟩
  | .hbm, ⟨7, _⟩ => ⟨S1x1024, .f32⟩
  | .hbm, ⟨8, _⟩ => ⟨S1024x5632, .bf16⟩
  | .hbm, ⟨9, _⟩ => ⟨S1x5632, .f32⟩
  | .hbm, ⟨10, _⟩ => ⟨S2816x1024, .bf16⟩
  | .hbm, ⟨11, _⟩ => ⟨S1x1024, .f32⟩
  | .hbm, ⟨12, _⟩ => ⟨S16x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x5632, .bf16⟩
  | .local _ .vmem, ⟨4, _⟩ => ⟨S3x5632, .f32⟩
  | .local _ .vmem, ⟨5, _⟩ => ⟨S1x5632, .f32⟩
  | .local _ .vmem, ⟨6, _⟩ => ⟨S2816x1024, .bf16⟩
  | .local _ .vmem, ⟨7, _⟩ => ⟨S1x1024, .f32⟩
  | .local _ .vmem, ⟨8, _⟩ => ⟨S1x512x1024, .f32⟩
  | .local _ .vmem, ⟨9, _⟩ => ⟨S1x512x1024, .f32⟩
  | .local _ .vmem, ⟨10, _⟩ => ⟨S520x5632, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S3x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== FfnFinalRefIdeal.lean ====
abbrev S16x4096x1024 : Shape := ⟨3, ![16, 4096, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S16x4096x5632 : Shape := ⟨3, ![16, 4096, 5632]⟩
abbrev S16x4098x5632 : Shape := ⟨3, ![16, 4098, 5632]⟩
abbrev S1x5632 : Shape := ⟨2, ![1, 5632]⟩
abbrev S1x1x5632 : Shape := ⟨3, ![1, 1, 5632]⟩
abbrev S16x4096x2816 : Shape := ⟨3, ![16, 4096, 2816]⟩

abbrev nBuf : Space → Nat
  | .hbm => 83
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S1024, .f32⟩
  | .hbm, ⟨7, _⟩ => ⟨S16x4096x1024, .f32⟩
  | .hbm, ⟨8, _⟩ => ⟨S_, .f32⟩
  | .hbm, ⟨9, _⟩ => ⟨S16x4096, .f32⟩
  | .hbm, ⟨10, _⟩ => ⟨S16x4096x1, .f32⟩
  | .hbm, ⟨11, _⟩ => ⟨S_, .f32⟩
  | .hbm, ⟨12, _⟩ => ⟨S16x4096x1, .f32⟩
  | .hbm, ⟨13, _⟩ => ⟨S16x4096x1, .f32⟩
  | .hbm, ⟨14, _⟩ => ⟨S_, .f32⟩
  | .hbm, ⟨15, _⟩ => ⟨S16x4096x1, .f32⟩
  | .hbm, ⟨16, _⟩ => ⟨S16x4096x1, .f32⟩
  | .hbm, ⟨17, _⟩ => ⟨S16x4096x1, .f32⟩
  | .hbm, ⟨18, _⟩ => ⟨S16x4096x1024, .f32⟩
  | .hbm, ⟨19, _⟩ => ⟨S16x4096x1024, .f32⟩
  | .hbm, ⟨20, _⟩ => ⟨S1x1x1024, .f32⟩
  | .hbm, ⟨21, _⟩ => ⟨S16x4096x1024, .f32⟩
  | .hbm, ⟨22, _⟩ => ⟨S16x4096x1024, .f32⟩
  | .hbm, ⟨23, _⟩ => ⟨S16x4096x5632, .f32⟩
  | .hbm, ⟨24, _⟩ => ⟨S_, .i32⟩
  | .hbm, ⟨25, _⟩ => ⟨S_, .f32⟩
  | .hbm, ⟨26, _⟩ => ⟨S16x4098x5632, .f32⟩
  | .hbm, ⟨27, _⟩ => ⟨S1x5632, .f32⟩
  | .hbm, ⟨28, _⟩ => ⟨S5632, .f32⟩
  | .hbm, ⟨29, _⟩ => ⟨S16x4096x5632, .f32⟩
  | .hbm, ⟨30, _⟩ => ⟨S1x1x5632, .f32⟩
  | .hbm, ⟨31, _⟩ => ⟨S16x4096x5632, .f32⟩
  | .hbm, ⟨32, _⟩ => ⟨S16x4096x5632, .f32⟩
  | .hbm, ⟨33, _⟩ => ⟨S_, .f32⟩
  | .hbm, ⟨34, _⟩ => ⟨S16x4096x5632, .f32⟩
  | .hbm, ⟨35, _⟩ => ⟨S16x4096x5632, .f32⟩
  | .hbm, ⟨36, _⟩ => ⟨S1x5632, .f32⟩
  | .hbm, ⟨37, _⟩ => ⟨S5632, .f32⟩
  | .hbm, ⟨38, _⟩ => ⟨S16x4096x5632, .f32⟩
  | .hbm, ⟨39, _⟩ => ⟨S1x1x5632, .f32⟩
  | .hbm, ⟨40, _⟩ => ⟨S16x4096x5632, .f32⟩
  | .hbm, ⟨41, _⟩ => ⟨S16x4096x5632, .f32⟩
  | .hbm, ⟨42, _⟩ => ⟨S16x4096x5632, .f32⟩
  | .hbm, ⟨43, _⟩ => ⟨S1x5632, .f32⟩
  | .hbm, ⟨44, _⟩ => ⟨S5632, .f32⟩
  | .hbm, ⟨45, _⟩ => ⟨S16x4096x5632, .f32⟩
  | .hbm, ⟨46, _⟩ => ⟨S1x1x5632, .f32⟩
  | .hbm, ⟨47, _⟩ => ⟨S16x4096x5632, .f32⟩
  | .hbm, ⟨48, _⟩ => ⟨S16x4096x5632, .f32⟩
  | .hbm, ⟨49, _⟩ => ⟨S16x4096x5632, .f32⟩
  | .hbm, ⟨50, _⟩ => ⟨S1x1x5632, .f32⟩
  | .hbm, ⟨51, _⟩ => ⟨S16x4096x5632, .f32⟩
  | .hbm, ⟨52, _⟩ => ⟨S16x4096x5632, .f32⟩
  | .hbm, ⟨53, _⟩ => ⟨S16x4096x2816, .f32⟩
  | .hbm, ⟨54, _⟩ => ⟨S16x4096x2816, .f32⟩
  | .hbm, ⟨55, _⟩ => ⟨S16x4096x2816, .f32⟩
  | .hbm, ⟨56, _⟩ => ⟨S16x4096x2816, .f32⟩
  | .hbm, ⟨57, _⟩ => ⟨S_, .f32⟩
  | .hbm, ⟨58, _⟩ => ⟨S16x4096x2816, .f32⟩
  | .hbm, ⟨59, _⟩ => ⟨S16x4096x2816, .f32⟩
  | .hbm, ⟨60, _⟩ => ⟨S_, .f32⟩
  | .hbm, ⟨61, _⟩ => ⟨S16x4096x2816, .f32⟩
  | .hbm, ⟨62, _⟩ => ⟨S16x4096x2816, .f32⟩
  | .hbm, ⟨63, _⟩ => ⟨S16x4096x2816, .f32⟩
  | .hbm, ⟨64, _⟩ => ⟨S16x4096x2816, .f32⟩
  | .hbm, ⟨65, _⟩ => ⟨S16x4096x1024, .f32⟩
  | .hbm, ⟨66, _⟩ => ⟨S16x4096x1024, .f32⟩
  | .hbm, ⟨67, _⟩ => ⟨S16x4096x1024, .f32⟩
  | .hbm, ⟨68, _⟩ => ⟨S_, .f32⟩
  | .hbm, ⟨69, _⟩ => ⟨S16x4096, .f32⟩
  | .hbm, ⟨70, _⟩ => ⟨S16x4096x1, .f32⟩
  | .hbm, ⟨71, _⟩ => ⟨S_, .f32⟩
  | .hbm, ⟨72, _⟩ => ⟨S16x4096x1, .f32⟩
  | .hbm, ⟨73, _⟩ => ⟨S16x4096x1, .f32⟩
  | .hbm, ⟨74, _⟩ => ⟨S_, .f32⟩
  | .hbm, ⟨75, _⟩ => ⟨S16x4096x1, .f32⟩
  | .hbm, ⟨76, _⟩ => ⟨S16x4096x1, .f32⟩
  | .hbm, ⟨77, _⟩ => ⟨S16x4096x1, .f32⟩
  | .hbm, ⟨78, _⟩ => ⟨S16x4096x1024, .f32⟩
  | .hbm, ⟨79, _⟩ => ⟨S16x4096x1024, .f32⟩
  | .hbm, ⟨80, _⟩ => ⟨S1x1x1024, .f32⟩
  | .hbm, ⟨81, _⟩ => ⟨S16x4096x1024, .f32⟩
  | .hbm, ⟨82, _⟩ => ⟨S16x4096x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c : Ref sig .tc := ⟨.hbm, 24, rfl⟩
abbrev main_call0_v0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_call1_v0 : Ref sig .tc := ⟨.hbm, 55, rfl⟩
abbrev main_call1_v1 : Ref sig .tc := ⟨.hbm, 56, rfl⟩
abbrev main_call1_cst : Ref sig .tc := ⟨.hbm, 57, rfl⟩
abbrev main_call1_v2 : Ref sig .tc := ⟨.hbm, 58, rfl⟩
abbrev main_call1_v3 : Ref sig .tc := ⟨.hbm, 59, rfl⟩
abbrev main_call1_cst_0 : Ref sig .tc := ⟨.hbm, 60, rfl⟩
abbrev main_call1_v4 : Ref sig .tc := ⟨.hbm, 61, rfl⟩
abbrev main_call1_v5 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_3 : Ref sig .tc := ⟨.hbm, 68, rfl⟩
abbrev main_v47 : Ref sig .tc := ⟨.hbm, 69, rfl⟩
abbrev main_v48 : Ref sig .tc := ⟨.hbm, 70, rfl⟩
abbrev main_cst_4 : Ref sig .tc := ⟨.hbm, 71, rfl⟩
abbrev main_v49 : Ref sig .tc := ⟨.hbm, 72, rfl⟩
abbrev main_v50 : Ref sig .tc := ⟨.hbm, 73, rfl⟩
abbrev main_cst_5 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩

abbrev nD : Nat := 1
abbrev τ : Topo := Topo.v7x

variable {F : FTy → Type} [FloatOps F]
-- ==== Ffn.lean ====
abbrev S16x4096x1024 : Shape := ⟨3, ![16, 4096, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1x1024 : Shape := ⟨2, ![1, 1024]⟩
abbrev S1x5632 : Shape := ⟨2, ![1, 5632]⟩
abbrev S1x512x1024 : Shape := ⟨3, ![1, 512, 1024]⟩
abbrev S520x5632 : Shape := ⟨2, ![520, 5632]⟩
abbrev S8x5632 : Shape := ⟨2, ![8, 5632]⟩
abbrev S512x1024 : Shape := ⟨2, ![512, 1024]⟩
abbrev S512 : Shape := ⟨1, ![512]⟩
abbrev S512x1 : Shape := ⟨2, ![512, 1]⟩
abbrev S512x5632 : Shape := ⟨2, ![512, 5632]⟩
abbrev S512x2816 : Shape := ⟨2, ![512, 2816]⟩

abbrev nBuf : Space → Nat
  | .hbm => 13
  | .vmem => 11
  | .smem => 0
  | _ => 0

abbrev bufTy : (tb : Table) → Fin (tcTables nBuf tb) → BufTy
  | .hbm, ⟨0, _⟩ => ⟨S16x4096x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S1024, .f32⟩
  | .hbm, ⟨7, _⟩ => ⟨S1x1024, .f32⟩
  | .hbm, ⟨8, _⟩ => ⟨S1024x5632, .bf16⟩
  | .hbm, ⟨9, _⟩ => ⟨S1x5632, .f32⟩
  | .hbm, ⟨10, _⟩ => ⟨S2816x1024, .bf16⟩
  | .hbm, ⟨11, _⟩ => ⟨S1x1024, .f32⟩
  | .hbm, ⟨12, _⟩ => ⟨S16x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x5632, .bf16⟩
  | .local _ .vmem, ⟨4, _⟩ => ⟨S3x5632, .f32⟩
  | .local _ .vmem, ⟨5, _⟩ => ⟨S1x5632, .f32⟩
  | .local _ .vmem, ⟨6, _⟩ => ⟨S2816x1024, .bf16⟩
  | .local _ .vmem, ⟨7, _⟩ => ⟨S1x1024, .f32⟩
  | .local _ .vmem, ⟨8, _⟩ => ⟨S1x512x1024, .f32⟩
  | .local _ .vmem, ⟨9, _⟩ => ⟨S1x512x1024, .f32⟩
  | .local _ .vmem, ⟨10, _⟩ => ⟨S520x5632, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S3x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== FfnRefIdeal.lean ====
abbrev S16x4096x1024 : Shape := ⟨3, ![16, 4096, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S16x4096x5632 : Shape := ⟨3, ![16, 4096, 5632]⟩
abbrev S16x4098x5632 : Shape := ⟨3, ![16, 4098, 5632]⟩
abbrev S1x5632 : Shape := ⟨2, ![1, 5632]⟩
abbrev S1x1x5632 : Shape := ⟨3, ![1, 1, 5632]⟩
abbrev S16x4096x2816 : Shape := ⟨3, ![16, 4096, 2816]⟩

abbrev nBuf : Space → Nat
  | .hbm => 67
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S1024, .f32⟩
  | .hbm, ⟨7, _⟩ => ⟨S16x4096x1024, .f32⟩
  | .hbm, ⟨8, _⟩ => ⟨S_, .f32⟩
  | .hbm, ⟨9, _⟩ => ⟨S16x4096, .f32⟩
  | .hbm, ⟨10, _⟩ => ⟨S16x4096x1, .f32⟩
  | .hbm, ⟨11, _⟩ => ⟨S_, .f32⟩
  | .hbm, ⟨12, _⟩ => ⟨S16x4096x1, .f32⟩
  | .hbm, ⟨13, _⟩ => ⟨S16x4096x1, .f32⟩
  | .hbm, ⟨14, _⟩ => ⟨S_, .f32⟩
  | .hbm, ⟨15, _⟩ => ⟨S16x4096x1, .f32⟩
  | .hbm, ⟨16, _⟩ => ⟨S16x4096x1, .f32⟩
  | .hbm, ⟨17, _⟩ => ⟨S16x4096x1, .f32⟩
  | .hbm, ⟨18, _⟩ => ⟨S16x4096x1024, .f32⟩
  | .hbm, ⟨19, _⟩ => ⟨S16x4096x1024, .f32⟩
  | .hbm, ⟨20, _⟩ => ⟨S1x1x1024, .f32⟩
  | .hbm, ⟨21, _⟩ => ⟨S16x4096x1024, .f32⟩
  | .hbm, ⟨22, _⟩ => ⟨S16x4096x1024, .f32⟩
  | .hbm, ⟨23, _⟩ => ⟨S16x4096x5632, .f32⟩
  | .hbm, ⟨24, _⟩ => ⟨S_, .i32⟩
  | .hbm, ⟨25, _⟩ => ⟨S_, .f32⟩
  | .hbm, ⟨26, _⟩ => ⟨S16x4098x5632, .f32⟩
  | .hbm, ⟨27, _⟩ => ⟨S1x5632, .f32⟩
  | .hbm, ⟨28, _⟩ => ⟨S5632, .f32⟩
  | .hbm, ⟨29, _⟩ => ⟨S16x4096x5632, .f32⟩
  | .hbm, ⟨30, _⟩ => ⟨S1x1x5632, .f32⟩
  | .hbm, ⟨31, _⟩ => ⟨S16x4096x5632, .f32⟩
  | .hbm, ⟨32, _⟩ => ⟨S16x4096x5632, .f32⟩
  | .hbm, ⟨33, _⟩ => ⟨S_, .f32⟩
  | .hbm, ⟨34, _⟩ => ⟨S16x4096x5632, .f32⟩
  | .hbm, ⟨35, _⟩ => ⟨S16x4096x5632, .f32⟩
  | .hbm, ⟨36, _⟩ => ⟨S1x5632, .f32⟩
  | .hbm, ⟨37, _⟩ => ⟨S5632, .f32⟩
  | .hbm, ⟨38, _⟩ => ⟨S16x4096x5632, .f32⟩
  | .hbm, ⟨39, _⟩ => ⟨S1x1x5632, .f32⟩
  | .hbm, ⟨40, _⟩ => ⟨S16x4096x5632, .f32⟩
  | .hbm, ⟨41, _⟩ => ⟨S16x4096x5632, .f32⟩
  | .hbm, ⟨42, _⟩ => ⟨S16x4096x5632, .f32⟩
  | .hbm, ⟨43, _⟩ => ⟨S1x5632, .f32⟩
  | .hbm, ⟨44, _⟩ => ⟨S5632, .f32⟩
  | .hbm, ⟨45, _⟩ => ⟨S16x4096x5632, .f32⟩
  | .hbm, ⟨46, _⟩ => ⟨S1x1x5632, .f32⟩
  | .hbm, ⟨47, _⟩ => ⟨S16x4096x5632, .f32⟩
  | .hbm, ⟨48, _⟩ => ⟨S16x4096x5632, .f32⟩
  | .hbm, ⟨49, _⟩ => ⟨S16x4096x5632, .f32⟩
  | .hbm, ⟨50, _⟩ => ⟨S1x1x5632, .f32⟩
  | .hbm, ⟨51, _⟩ => ⟨S16x4096x5632, .f32⟩
  | .hbm, ⟨52, _⟩ => ⟨S16x4096x5632, .f32⟩
  | .hbm, ⟨53, _⟩ => ⟨S16x4096x2816, .f32⟩
  | .hbm, ⟨54, _⟩ => ⟨S16x4096x2816, .f32⟩
  | .hbm, ⟨55, _⟩ => ⟨S16x4096x2816, .f32⟩
  | .hbm, ⟨56, _⟩ => ⟨S16x4096x2816, .f32⟩
  | .hbm, ⟨57, _⟩ => ⟨S_, .f32⟩
  | .hbm, ⟨58, _⟩ => ⟨S16x4096x2816, .f32⟩
  | .hbm, ⟨59, _⟩ => ⟨S16x4096x2816, .f32⟩
  | .hbm, ⟨60, _⟩ => ⟨S_, .f32⟩
  | .hbm, ⟨61, _⟩ => ⟨S16x4096x2816, .f32⟩
  | .hbm, ⟨62, _⟩ => ⟨S16x4096x2816, .f32⟩
  | .hbm, ⟨63, _⟩ => ⟨S16x4096x2816, .f32⟩
  | .hbm, ⟨64, _⟩ => ⟨S16x4096x2816, .f32⟩
  | .hbm, ⟨65, _⟩ => ⟨S16x4096x1024, .f32⟩
  | .hbm, ⟨66, _⟩ => ⟨S16x4096x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c : Ref sig .tc := ⟨.hbm, 24, rfl⟩
abbrev main_call0_v0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_call1_v0 : Ref sig .tc := ⟨.hbm, 55, rfl⟩
abbrev main_call1_v1 : Ref sig .tc := ⟨.hbm, 56, rfl⟩
abbrev main_call1_cst : Ref sig .tc := ⟨.hbm, 57, rfl⟩
abbrev main_call1_v2 : Ref sig .tc := ⟨.hbm, 58, rfl⟩
abbrev main_call1_v3 : Ref sig .tc := ⟨.hbm, 59, rfl⟩
abbrev main_call1_cst_0 : Ref sig .tc := ⟨.hbm, 60, rfl⟩
abbrev main_call1_v4 : Ref sig .tc := ⟨.hbm, 61, rfl⟩
abbrev main_call1_v5 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩

abbrev nD : Nat := 1
abbrev τ : Topo := Topo.v7x

variable {F : FTy → Type} [FloatOps F]
-- ==== Odd.lean ====
abbrev S16x4096x1024 : Shape := ⟨3, ![16, 4096, 1024]⟩
abbrev S1024 : Shape := ⟨1, ![1024]⟩
abbrev S1024x3072 : Shape := ⟨2, ![1024, 3072]⟩
abbrev S3x1024 : Shape := ⟨2, ![3, 1024]⟩
abbrev S1024x1024 : Shape := ⟨2, ![1024, 1024]⟩
abbrev S1x1024 : Shape := ⟨2, ![1, 1024]⟩
abbrev S1x512x1024 : Shape := ⟨3, ![1, 512, 1024]⟩
abbrev S520x1024 : Shape := ⟨2, ![520, 1024]⟩
abbrev S8x1024 : Shape := ⟨2, ![8, 1024]⟩
abbrev S512x1024 : Shape := ⟨2, ![512, 1024]⟩
abbrev S512 : Shape := ⟨1, ![512]⟩
abbrev S512x1 : Shape := ⟨2, ![512, 1]⟩
abbrev S512x3072 : Shape := ⟨2, ![512, 3072]⟩

abbrev nBuf : Space → Nat
  | .hbm => 11
  | .vmem => 10
  | .smem => 0
  | _ => 0

abbrev bufTy : (tb : Table) → Fin (tcTables nBuf tb) → BufTy
  | .hbm, ⟨0, _⟩ => ⟨S16x4096x1024, .f32⟩
  | .hbm, ⟨1, _⟩ => ⟨S1024, .f32⟩
  | .hbm, ⟨2, _⟩ => ⟨S1024x3072, .f32⟩
  | .hbm, ⟨3, _⟩ => ⟨S3x1024, .f32⟩
  | .hbm, ⟨4, _⟩ => ⟨S1024, .f32⟩
  | .hbm, ⟨5, _⟩ => ⟨S1024x1024, .f32⟩
  | .hbm, ⟨6, _⟩ => ⟨S1x1024, .f32⟩
  | .hbm, ⟨7, _⟩ => ⟨S1024x3072, .bf16⟩
  | .hbm, ⟨8, _⟩ => ⟨S1x1024, .f32⟩
  | .hbm, ⟨9, _⟩ => ⟨S1024x1024, .bf16⟩
  | .hbm, ⟨10, _⟩ => ⟨S16x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x3072, .bf16⟩
  | .local _ .vmem, ⟨4, _⟩ => ⟨S3x1024, .f32⟩
  | .local _ .vmem, ⟨5, _⟩ => ⟨S1x1024, .f32⟩
  | .local _ .vmem, ⟨6, _⟩ => ⟨S1024x1024, .bf16⟩
  | .local _ .vmem, ⟨7, _⟩ => ⟨S1x512x1024, .f32⟩
  | .local _ .vmem, ⟨8, _⟩ => ⟨S1x512x1024, .f32⟩
  | .local _ .vmem, ⟨9, _⟩ => ⟨S520x1024, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S3x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== OddRefIdeal.lean ====
abbrev S16x4096x1024 : Shape := ⟨3, ![16, 4096, 1024]⟩
abbrev S1024 : Shape := ⟨1, ![1024]⟩
abbrev S1024x3072 : Shape := ⟨2, ![1024, 3072]⟩
abbrev S3x1024 : Shape := ⟨2, ![3, 1024]⟩
abbrev S1024x1024 : Shape := ⟨2, ![1024, 1024]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S16x4096x3072 : Shape := ⟨3, ![16, 4096, 3072]⟩
abbrev S16x4098x1024 : Shape := ⟨3, ![16, 4098, 1024]⟩
abbrev S1x1024 : Shape := ⟨2, ![1, 1024]⟩

abbrev nBuf : Space → Nat
  | .hbm => 59
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S1024, .f32⟩
  | .hbm, ⟨2, _⟩ => ⟨S1024x3072, .f32⟩
  | .hbm, ⟨3, _⟩ => ⟨S3x1024, .f32⟩
  | .hbm, ⟨4, _⟩ => ⟨S1024, .f32⟩
  | .hbm, ⟨5, _⟩ => ⟨S1024x1024, .f32⟩
  | .hbm, ⟨6, _⟩ => ⟨S16x4096x1024, .f32⟩
  | .hbm, ⟨7, _⟩ => ⟨S_, .f32⟩
  | .hbm, ⟨8, _⟩ => ⟨S16x4096, .f32⟩
  | .hbm, ⟨9, _⟩ => ⟨S16x4096x1, .f32⟩
  | .hbm, ⟨10, _⟩ => ⟨S_, .f32⟩
  | .hbm, ⟨11, _⟩ => ⟨S16x4096x1, .f32⟩
  | .hbm, ⟨12, _⟩ => ⟨S16x4096x1, .f32⟩
  | .hbm, ⟨13, _⟩ => ⟨S_, .f32⟩
  | .hbm, ⟨14, _⟩ => ⟨S16x4096x1, .f32⟩
  | .hbm, ⟨15, _⟩ => ⟨S16x4096x1, .f32⟩
  | .hbm, ⟨16, _⟩ => ⟨S16x4096x1, .f32⟩
  | .hbm, ⟨17, _⟩ => ⟨S16x4096x1024, .f32⟩
  | .hbm, ⟨18, _⟩ => ⟨S16x4096x1024, .f32⟩
  | .hbm, ⟨19, _⟩ => ⟨S1x1x1024, .f32⟩
  | .hbm, ⟨20, _⟩ => ⟨S16x4096x1024, .f32⟩
  | .hbm, ⟨21, _⟩ => ⟨S16x4096x1024, .f32⟩
  | .hbm, ⟨22, _⟩ => ⟨S16x4096x3072, .f32⟩
  | .hbm, ⟨23, _⟩ => ⟨S16x4096x1024, .f32⟩
  | .hbm, ⟨24, _⟩ => ⟨S16x4096x1024, .f32⟩
  | .hbm, ⟨25, _⟩ => ⟨S16x4096x1024, .f32⟩
  | .hbm, ⟨26, _⟩ => ⟨S16x4096x1024, .f32⟩
  | .hbm, ⟨27, _⟩ => ⟨S_, .i32⟩
  | .hbm, ⟨28, _⟩ => ⟨S_, .f32⟩
  | .hbm, ⟨29, _⟩ => ⟨S16x4098x1024, .f32⟩
  | .hbm, ⟨30, _⟩ => ⟨S1x1024, .f32⟩
  | .hbm, ⟨31, _⟩ => ⟨S1024, .f32⟩
  | .hbm, ⟨32, _⟩ => ⟨S16x4096x1024, .f32⟩
  | .hbm, ⟨33, _⟩ => ⟨S1x1x1024, .f32⟩
  | .hbm, ⟨34, _⟩ => ⟨S16x4096x1024, .f32⟩
  | .hbm, ⟨35, _⟩ => ⟨S16x4096x1024, .f32⟩
  | .hbm, ⟨36, _⟩ => ⟨S_, .f32⟩
  | .hbm, ⟨37, _⟩ => ⟨S16x4096x1024, .f32⟩
  | .hbm, ⟨38, _⟩ => ⟨S16x4096x1024, .f32⟩
  | .hbm, ⟨39, _⟩ => ⟨S1x1024, .f32⟩
  | .hbm, ⟨40, _⟩ => ⟨S1024, .f32⟩
  | .hbm, ⟨41, _⟩ => ⟨S16x4096x1024, .f32⟩
  | .hbm, ⟨42, _⟩ => ⟨S1x1x1024, .f32⟩
  | .hbm, ⟨43, _⟩ => ⟨S16x4096x1024, .f32⟩
  | .hbm, ⟨44, _⟩ => ⟨S16x4096x1024, .f32⟩
  | .hbm, ⟨45, _⟩ => ⟨S16x4096x1024, .f32⟩
  | .hbm, ⟨46, _⟩ => ⟨S1x1024, .f32⟩
  | .hbm, ⟨47, _⟩ => ⟨S1024, .f32⟩
  | .hbm, ⟨48, _⟩ => ⟨S16x4096x1024, .f32⟩
  | .hbm, ⟨49, _⟩ => ⟨S1x1x1024, .f32⟩
  | .hbm, ⟨50, _⟩ => ⟨S16x4096x1024, .f32⟩
  | .hbm, ⟨51, _⟩ => ⟨S16x4096x1024, .f32⟩
  | .hbm, ⟨52, _⟩ => ⟨S16x4096x1024, .f32⟩
  | .hbm, ⟨53, _⟩ => ⟨S1x1x1024, .f32⟩
  | .hbm, ⟨54, _⟩ => ⟨S16x4096x1024, .f32⟩
  | .hbm, ⟨55, _⟩ => ⟨S16x4096x1024, .f32⟩
  | .hbm, ⟨56, _⟩ => ⟨S16x4096x1024, .f32⟩
  | .hbm, ⟨57, _⟩ => ⟨S16x4096x1024, .f32⟩
  | .hbm, ⟨58, _⟩ => ⟨S16x4096x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c : Ref sig .tc := ⟨.hbm, 27, rfl⟩
abbrev main_call0_v0 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩

abbrev nD : Nat := 1
abbrev τ : Topo := Topo.v7x

variable {F : FTy → Type} [FloatOps F]
-- ==== Proof.EvenIdealPartsA.lean ====
/- The body of the even mixer, straight-line parts 3 to 10 of the printed function: what each stores and returns. -/
module

public import proofs.«01_k».proof.Proof.Gen.EvenIdeal.Skeleton
public import proofs.«01_k».proof.Proof.Gen.EvenIdeal.Loops
public import proofs.«01_k».proof.Proof.Gen.EvenIdeal.Launch
public import proofs.«01_k».proof.Proof.Gen.EvenIdeal.Points
public import proofs.«01_k».proof.Proof.Gen.EvenIdeal.Frame
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.EvenIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.EvenIdeal Cert.EvenIdeal.Gen

variable {F : FTy → Type} [FloatOps F]

local notation "𝕄" => MT nD τ sig Unit (Elt F) ℕ (UR sig nD τ) ℕ

/-- Every buffer the body touches, at the given contents. -/
abbrev Held (c : Dev nD) {arg2 : Memref sig .tc .vmem S8x128x1024 .f32} {arg3 : Memref sig .tc .vmem S1x1024 .f32} {arg4 : Memref sig .tc .vmem S1024x1792 .bf16} {arg5 : Memref sig .tc .vmem S1024x1024 .bf16} {arg6 : Memref sig .tc .vmem S1024x1024 .bf16} {arg7 : Memref sig .tc .vmem S256x2048 .bf16} {arg8 : Memref sig .tc .vmem S2x1024 .f32} {arg9 : Memref sig .tc .vmem S2048x256 .bf16} {arg10 : Memref sig .tc .vmem S1x256 .f32} {arg11 : Memref sig .tc .vmem S256x256 .bf16} {arg12 : Memref sig .tc .vmem S1x256 .f32} {arg13 : Memref sig .tc .vmem S6x128x128 .bf16} {arg14 : Memref sig .tc .vmem S6x128x128 .f32} {arg15 : Memref sig .tc .vmem S1x768 .f32} {arg16 : Memref sig .tc .vmem S1024x1024 .bf16} {arg17 : Memref sig .tc .vmem S8x128x1024 .f32} {arg18 : Memref sig .tc .vmem S1024x256 .f32} {arg19 : Memref sig .tc .vmem S1024x768 .f32} {arg20 : Memref sig .tc .vmem S1024x768 .bf16} {arg21 : Memref sig .tc .vmem S1024x2048 .f32} {arg22 : Memref sig .tc .vmem S8x2048 .f32} {arg23 : Memref sig .tc .vmem S1024x1024 .bf16}
    (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (f19 : BufTy.Contents (Elt F) arg19.view.ty) (f20 : BufTy.Contents (Elt F) arg20.view.ty) (f21 : BufTy.Contents (Elt F) arg21.view.ty) (f22 : BufTy.Contents (Elt F) arg22.view.ty) (f23 : BufTy.Contents (Elt F) arg23.view.ty) : sProp 𝕄 :=
  iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20) ∗ (arg21.view.loc (c : Thread nD τ) ↦[arg21.view.set]{fullShare} f21) ∗ (arg22.view.loc (c : Thread nD τ) ↦[arg22.view.set]{fullShare} f22) ∗ (arg23.view.loc (c : Thread nD τ) ↦[arg23.view.set]{fullShare} f23))

variable {c : Dev nD} {i : grid0.Coords} {arg2 : Memref sig .tc .vmem S8x128x1024 .f32} {harg2 : arg2.IsWhole} {arg3 : Memref sig .tc .vmem S1x1024 .f32} {harg3 : arg3.IsWhole} {arg4 : Memref sig .tc .vmem S1024x1792 .bf16} {harg4 : arg4.IsWhole} {arg5 : Memref sig .tc .vmem S1024x1024 .bf16} {harg5 : arg5.IsWhole} {arg6 : Memref sig .tc .vmem S1024x1024 .bf16} {harg6 : arg6.IsWhole} {arg7 : Memref sig .tc .vmem S256x2048 .bf16} {harg7 : arg7.IsWhole} {arg8 : Memref sig .tc .vmem S2x1024 .f32} {harg8 : arg8.IsWhole} {arg9 : Memref sig .tc .vmem S2048x256 .bf16} {harg9 : arg9.IsWhole} {arg10 : Memref sig .tc .vmem S1x256 .f32} {harg10 : arg10.IsWhole} {arg11 : Memref sig .tc .vmem S256x256 .bf16} {harg11 : arg11.IsWhole} {arg12 : Memref sig .tc .vmem S1x256 .f32} {harg12 : arg12.IsWhole} {arg13 : Memref sig .tc .vmem S6x128x128 .bf16} {harg13 : arg13.IsWhole} {arg14 : Memref sig .tc .vmem S6x128x128 .f32} {harg14 : arg14.IsWhole} {arg15 : Memref sig .tc .vmem S1x768 .f32} {harg15 : arg15.IsWhole} {arg16 : Memref sig .tc .vmem S1024x1024 .bf16} {harg16 : arg16.IsWhole} {arg17 : Memref sig .tc .vmem S8x128x1024 .f32} {harg17 : arg17.IsWhole} {arg18 : Memref sig .tc .vmem S1024x256 .f32} {harg18 : arg18.IsWhole} {arg19 : Memref sig .tc .vmem S1024x768 .f32} {harg19 : arg19.IsWhole} {arg20 : Memref sig .tc .vmem S1024x768 .bf16} {harg20 : arg20.IsWhole} {arg21 : Memref sig .tc .vmem S1024x2048 .f32} {harg21 : arg21.IsWhole} {arg22 : Memref sig .tc .vmem S8x2048 .f32} {harg22 : arg22.IsWhole} {arg23 : Memref sig .tc .vmem S1024x1024 .bf16} {harg23 : arg23.IsWhole}
  {f2 : BufTy.Contents (Elt F) arg2.view.ty} {f3 : BufTy.Contents (Elt F) arg3.view.ty} {f4 : BufTy.Contents (Elt F) arg4.view.ty} {f5 : BufTy.Contents (Elt F) arg5.view.ty} {f6 : BufTy.Contents (Elt F) arg6.view.ty} {f7 : BufTy.Contents (Elt F) arg7.view.ty} {f8 : BufTy.Contents (Elt F) arg8.view.ty} {f9 : BufTy.Contents (Elt F) arg9.view.ty} {f10 : BufTy.Contents (Elt F) arg10.view.ty} {f11 : BufTy.Contents (Elt F) arg11.view.ty} {f12 : BufTy.Contents (Elt F) arg12.view.ty} {f13 : BufTy.Contents (Elt F) arg13.view.ty} {f14 : BufTy.Contents (Elt F) arg14.view.ty} {f15 : BufTy.Contents (Elt F) arg15.view.ty} {f16 : BufTy.Contents (Elt F) arg16.view.ty} {f17 : BufTy.Contents (Elt F) arg17.view.ty} {f18 : BufTy.Contents (Elt F) arg18.view.ty} {f19 : BufTy.Contents (Elt F) arg19.view.ty} {f20 : BufTy.Contents (Elt F) arg20.view.ty} {f21 : BufTy.Contents (Elt F) arg21.view.ty} {f22 : BufTy.Contents (Elt F) arg22.view.ty} {f23 : BufTy.Contents (Elt F) arg23.view.ty}

set_option maxHeartbeats 1000000 in
/-- Part 3: 2 stores into buffer 22. -/
theorem part3_run (v4 : Vec F S1024x256 .f32) (v27_0 : Vec F S8x1024 .f32) (v27_1 : Vec F S8x1024 .f32) {E : Set ℕ} {K : (Σ' (v54 : FVec F S1024x256 .f32), FVec F S1024x256 .f32) → sProp 𝕄} :
    iprop(Held c f2 f3 f4 f5 f6 f7 f8 f9 f10 f11 f12 f13 f14 f15 f16 f17 f18 f19 f20 f21 f22 f23
      ∗ (Held c f2 f3 f4 f5 f6 f7 f8 f9 f10 f11 f12 f13 f14 f15 f16 f17 f18 f19 f20 f21 (arg22.view.writes (Elt F) f22 [⟨Rect.unit (s := S8x2048) ![0, 1024] S8x1024.size inb_S8x2048_S8x1024_0_1024, k0_pay18 v27_1⟩, ⟨Rect.unit (s := S8x2048) ![0, 0] S8x1024.size inb_S8x2048_S8x1024_0_0, k0_pay17 v27_0⟩]) f23 -∗ K ⟨k0_pay19 v4 (View.readAt (Elt F) arg21.view (Rect.unit (s := S1024x2048) ![0, 0] S1024x2048.size inb_S1024x2048_S1024x2048_0_0).toLoadRect f21) (View.readAt (Elt F) arg9.view (Rect.unit (s := S2048x256) ![0, 0] S2048x256.size inb_S2048x256_S2048x256_0_0).toLoadRect f9) (View.readAt (Elt F) arg6.view (Rect.unit (s := S1024x1024) ![0, 0] S1024x1024.size inb_S1024x1024_S1024x1024_0_0).toLoadRect f6) (View.readAt (Elt F) arg10.view (Rect.unit (s := S1x256) ![0, 0] S1x256.size inb_S1x256_S1x256_0_0).toLoadRect f10), k0_pay20 v4 (View.readAt (Elt F) arg21.view (Rect.unit (s := S1024x2048) ![0, 0] S1024x2048.size inb_S1024x2048_S1024x2048_0_0).toLoadRect f21) (View.readAt (Elt F) arg9.view (Rect.unit (s := S2048x256) ![0, 0] S2048x256.size inb_S2048x256_S2048x256_0_0).toLoadRect f9) (View.readAt (Elt F) arg6.view (Rect.unit (s := S1024x1024) ![0, 0] S1024x1024.size inb_S1024x1024_S1024x1024_0_0).toLoadRect f6) (View.readAt (Elt F) arg10.view (Rect.unit (s := S1x256) ![0, 0] S1x256.size inb_S1x256_S1x256_0_0).toLoadRect f10)⟩))
      ⊢ wp frame (wpE (defs₀ (F := F)) Variants.none c none) E (k0_part3 i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 v4 v27_0 v27_1) K := by
  simp only [k0_part3_eq_skeleton]; unfold k0_part3_skel
  iintro ⟨⟨H2, H3, H4, H5, H6, H7, H8, H9, H10, H11, H12, H13, H14, H15, H16, H17, H18, H19, H20, H21, H22, H23⟩, Hk⟩
  sl_exec
  sl_step
  iapply Hk
  unfold Held; iframe ∗

set_option maxHeartbeats 1000000 in
/-- Part 4: 2 stores into buffer 23. -/
theorem part4_run (v54 : FVec F S1024x256 .f32) (v66 : FVec F S1024x256 .f32) {E : Set ℕ} {K : (FVec F S128x128 .f32) → sProp 𝕄} :
    iprop(Held c f2 f3 f4 f5 f6 f7 f8 f9 f10 f11 f12 f13 f14 f15 f16 f17 f18 f19 f20 f21 f22 f23
      ∗ (Held c f2 f3 f4 f5 f6 f7 f8 f9 f10 f11 f12 f13 f14 f15 f16 f17 f18 f19 f20 f21 f22 (arg23.view.writes (Elt F) f23 [⟨Rect.unit (s := S1024x1024) ![0, 256] S128x128.size inb_S1024x1024_S128x128_0_256, k0_pay22 (View.readAt (Elt F) arg13.view (Rect.unit (s := S6x128x128) ![0, 0, 0] S1x128x128.size inb_S6x128x128_S1x128x128_0_0_0).toLoadRect f13) (View.readAt (Elt F) arg20.view (Rect.unit (s := S1024x768) ![0, 0] S128x128.size inb_S1024x768_S128x128_0_0).toLoadRect f20) (View.readAt (Elt F) arg14.view (Rect.unit (s := S6x128x128) ![0, 0, 0] S1x128x128.size inb_S6x128x128_S1x128x128_0_0_0).toLoadRect f14) (View.readAt (Elt F) arg19.view (Rect.unit (s := S1024x768) ![0, 0] S128x128.size inb_S1024x768_S128x128_0_0).toLoadRect f19)⟩, ⟨Rect.unit (s := S1024x1024) ![0, 0] S1024x256.size inb_S1024x1024_S1024x256_0_0, k0_pay21 v54 v66 (View.readAt (Elt F) arg11.view (Rect.unit (s := S256x256) ![0, 0] S256x256.size inb_S256x256_S256x256_0_0).toLoadRect f11) (View.readAt (Elt F) arg12.view (Rect.unit (s := S1x256) ![0, 0] S1x256.size inb_S1x256_S1x256_0_0).toLoadRect f12)⟩]) -∗ K (k0_pay23 (View.readAt (Elt F) arg13.view (Rect.unit (s := S6x128x128) ![1, 0, 0] S1x128x128.size inb_S6x128x128_S1x128x128_1_0_0).toLoadRect f13) (View.readAt (Elt F) arg20.view (Rect.unit (s := S1024x768) ![0, 128] S128x128.size inb_S1024x768_S128x128_0_128).toLoadRect f20))))
      ⊢ wp frame (wpE (defs₀ (F := F)) Variants.none c none) E (k0_part4 i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 v54 v66) K := by
  simp only [k0_part4_eq_skeleton]; unfold k0_part4_skel
  iintro ⟨⟨H2, H3, H4, H5, H6, H7, H8, H9, H10, H11, H12, H13, H14, H15, H16, H17, H18, H19, H20, H21, H22, H23⟩, Hk⟩
  sl_exec
  sl_step
  iapply Hk
  unfold Held; iframe ∗

set_option maxHeartbeats 1000000 in
/-- Part 5: 2 stores into buffer 23. -/
theorem part5_run (v98 : FVec F S128x128 .f32) {E : Set ℕ} {K : (FVec F S128x128 .f32) → sProp 𝕄} :
    iprop(Held c f2 f3 f4 f5 f6 f7 f8 f9 f10 f11 f12 f13 f14 f15 f16 f17 f18 f19 f20 f21 f22 f23
      ∗ (Held c f2 f3 f4 f5 f6 f7 f8 f9 f10 f11 f12 f13 f14 f15 f16 f17 f18 f19 f20 f21 f22 (arg23.view.writes (Elt F) f23 [⟨Rect.unit (s := S1024x1024) ![0, 512] S128x128.size inb_S1024x1024_S128x128_0_512, k0_pay25 (View.readAt (Elt F) arg13.view (Rect.unit (s := S6x128x128) ![2, 0, 0] S1x128x128.size inb_S6x128x128_S1x128x128_2_0_0).toLoadRect f13) (View.readAt (Elt F) arg20.view (Rect.unit (s := S1024x768) ![0, 256] S128x128.size inb_S1024x768_S128x128_0_256).toLoadRect f20) (View.readAt (Elt F) arg14.view (Rect.unit (s := S6x128x128) ![2, 0, 0] S1x128x128.size inb_S6x128x128_S1x128x128_2_0_0).toLoadRect f14) (View.readAt (Elt F) arg19.view (Rect.unit (s := S1024x768) ![0, 256] S128x128.size inb_S1024x768_S128x128_0_256).toLoadRect f19)⟩, ⟨Rect.unit (s := S1024x1024) ![0, 384] S128x128.size inb_S1024x1024_S128x128_0_384, k0_pay24 v98 (View.readAt (Elt F) arg14.view (Rect.unit (s := S6x128x128) ![1, 0, 0] S1x128x128.size inb_S6x128x128_S1x128x128_1_0_0).toLoadRect f14) (View.readAt (Elt F) arg19.view (Rect.unit (s := S1024x768) ![0, 128] S128x128.size inb_S1024x768_S128x128_0_128).toLoadRect f19)⟩]) -∗ K (k0_pay26 (View.readAt (Elt F) arg13.view (Rect.unit (s := S6x128x128) ![3, 0, 0] S1x128x128.size inb_S6x128x128_S1x128x128_3_0_0).toLoadRect f13) (View.readAt (Elt F) arg20.view (Rect.unit (s := S1024x768) ![0, 384] S128x128.size inb_S1024x768_S128x128_0_384).toLoadRect f20) (View.readAt (Elt F) arg14.view (Rect.unit (s := S6x128x128) ![3, 0, 0] S1x128x128.size inb_S6x128x128_S1x128x128_3_0_0).toLoadRect f14))))
      ⊢ wp frame (wpE (defs₀ (F := F)) Variants.none c none) E (k0_part5 i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 v98) K := by
  simp only [k0_part5_eq_skeleton]; unfold k0_part5_skel
  iintro ⟨⟨H2, H3, H4, H5, H6, H7, H8, H9, H10, H11, H12, H13, H14, H15, H16, H17, H18, H19, H20, H21, H22, H23⟩, Hk⟩
  sl_exec
  sl_step
  iapply Hk
  unfold Held; iframe ∗

set_option maxHeartbeats 1000000 in
/-- Part 6: 2 stores into buffer 23. -/
theorem part6_run (v127 : FVec F S128x128 .f32) {E : Set ℕ} {K : (FVec F S128x128 .bf16) → sProp 𝕄} :
    iprop(Held c f2 f3 f4 f5 f6 f7 f8 f9 f10 f11 f12 f13 f14 f15 f16 f17 f18 f19 f20 f21 f22 f23
      ∗ (Held c f2 f3 f4 f5 f6 f7 f8 f9 f10 f11 f12 f13 f14 f15 f16 f17 f18 f19 f20 f21 f22 (arg23.view.writes (Elt F) f23 [⟨Rect.unit (s := S1024x1024) ![0, 768] S128x128.size inb_S1024x1024_S128x128_0_768, k0_pay28 (View.readAt (Elt F) arg13.view (Rect.unit (s := S6x128x128) ![4, 0, 0] S1x128x128.size inb_S6x128x128_S1x128x128_4_0_0).toLoadRect f13) (View.readAt (Elt F) arg20.view (Rect.unit (s := S1024x768) ![0, 512] S128x128.size inb_S1024x768_S128x128_0_512).toLoadRect f20) (View.readAt (Elt F) arg14.view (Rect.unit (s := S6x128x128) ![4, 0, 0] S1x128x128.size inb_S6x128x128_S1x128x128_4_0_0).toLoadRect f14) (View.readAt (Elt F) arg19.view (Rect.unit (s := S1024x768) ![0, 512] S128x128.size inb_S1024x768_S128x128_0_512).toLoadRect f19)⟩, ⟨Rect.unit (s := S1024x1024) ![0, 640] S128x128.size inb_S1024x1024_S128x128_0_640, k0_pay27 v127 (View.readAt (Elt F) arg19.view (Rect.unit (s := S1024x768) ![0, 384] S128x128.size inb_S1024x768_S128x128_0_384).toLoadRect f19)⟩]) -∗ K (k0_pay29 (View.readAt (Elt F) arg13.view (Rect.unit (s := S6x128x128) ![5, 0, 0] S1x128x128.size inb_S6x128x128_S1x128x128_5_0_0).toLoadRect f13) (View.readAt (Elt F) arg20.view (Rect.unit (s := S1024x768) ![0, 640] S128x128.size inb_S1024x768_S128x128_0_640).toLoadRect f20) (View.readAt (Elt F) arg14.view (Rect.unit (s := S6x128x128) ![5, 0, 0] S1x128x128.size inb_S6x128x128_S1x128x128_5_0_0).toLoadRect f14) (View.readAt (Elt F) arg19.view (Rect.unit (s := S1024x768) ![0, 640] S128x128.size inb_S1024x768_S128x128_0_640).toLoadRect f19))))
      ⊢ wp frame (wpE (defs₀ (F := F)) Variants.none c none) E (k0_part6 i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 v127) K := by
  simp only [k0_part6_eq_skeleton]; unfold k0_part6_skel
  iintro ⟨⟨H2, H3, H4, H5, H6, H7, H8, H9, H10, H11, H12, H13, H14, H15, H16, H17, H18, H19, H20, H21, H22, H23⟩, Hk⟩
  sl_exec
  sl_step
  iapply Hk
  unfold Held; iframe ∗

set_option maxHeartbeats 1000000 in
/-- Part 7: 3 stores into buffer 23. -/
theorem part7_run (v156 : FVec F S128x128 .bf16) {E : Set ℕ} {K : (PUnit) → sProp 𝕄} :
    iprop(Held c f2 f3 f4 f5 f6 f7 f8 f9 f10 f11 f12 f13 f14 f15 f16 f17 f18 f19 f20 f21 f22 f23
      ∗ (Held c f2 f3 f4 f5 f6 f7 f8 f9 f10 f11 f12 f13 f14 f15 f16 f17 f18 f19 f20 f21 f22 (arg23.view.writes (Elt F) f23 [⟨Rect.unit (s := S1024x1024) ![128, 384] S128x128.size inb_S1024x1024_S128x128_128_384, k0_pay32 (View.readAt (Elt F) arg13.view (Rect.unit (s := S6x128x128) ![1, 0, 0] S1x128x128.size inb_S6x128x128_S1x128x128_1_0_0).toLoadRect f13) (View.readAt (Elt F) arg20.view (Rect.unit (s := S1024x768) ![128, 128] S128x128.size inb_S1024x768_S128x128_128_128).toLoadRect f20) (View.readAt (Elt F) arg14.view (Rect.unit (s := S6x128x128) ![1, 0, 0] S1x128x128.size inb_S6x128x128_S1x128x128_1_0_0).toLoadRect f14) (View.readAt (Elt F) arg19.view (Rect.unit (s := S1024x768) ![128, 128] S128x128.size inb_S1024x768_S128x128_128_128).toLoadRect f19)⟩, ⟨Rect.unit (s := S1024x1024) ![128, 256] S128x128.size inb_S1024x1024_S128x128_128_256, k0_pay31 (View.readAt (Elt F) arg13.view (Rect.unit (s := S6x128x128) ![0, 0, 0] S1x128x128.size inb_S6x128x128_S1x128x128_0_0_0).toLoadRect f13) (View.readAt (Elt F) arg20.view (Rect.unit (s := S1024x768) ![128, 0] S128x128.size inb_S1024x768_S128x128_128_0).toLoadRect f20) (View.readAt (Elt F) arg14.view (Rect.unit (s := S6x128x128) ![0, 0, 0] S1x128x128.size inb_S6x128x128_S1x128x128_0_0_0).toLoadRect f14) (View.readAt (Elt F) arg19.view (Rect.unit (s := S1024x768) ![128, 0] S128x128.size inb_S1024x768_S128x128_128_0).toLoadRect f19)⟩, ⟨Rect.unit (s := S1024x1024) ![0, 896] S128x128.size inb_S1024x1024_S128x128_0_896, k0_pay30 v156⟩]) -∗ K ⟨⟩))
      ⊢ wp frame (wpE (defs₀ (F := F)) Variants.none c none) E (k0_part7 i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 v156) K := by
  simp only [k0_part7_eq_skeleton]; unfold k0_part7_skel
  iintro ⟨⟨H2, H3, H4, H5, H6, H7, H8, H9, H10, H11, H12, H13, H14, H15, H16, H17, H18, H19, H20, H21, H22, H23⟩, Hk⟩
  sl_exec
  sl_step
  iapply Hk
  unfold Held; iframe ∗

set_option maxHeartbeats 1000000 in
/-- Part 8: 2 stores into buffer 23. -/
theorem part8_run  {E : Set ℕ} {K : (FVec F S128x128 .bf16) → sProp 𝕄} :
    iprop(Held c f2 f3 f4 f5 f6 f7 f8 f9 f10 f11 f12 f13 f14 f15 f16 f17 f18 f19 f20 f21 f22 f23
      ∗ (Held c f2 f3 f4 f5 f6 f7 f8 f9 f10 f11 f12 f13 f14 f15 f16 f17 f18 f19 f20 f21 f22 (arg23.view.writes (Elt F) f23 [⟨Rect.unit (s := S1024x1024) ![128, 640] S128x128.size inb_S1024x1024_S128x128_128_640, k0_pay34 (View.readAt (Elt F) arg13.view (Rect.unit (s := S6x128x128) ![3, 0, 0] S1x128x128.size inb_S6x128x128_S1x128x128_3_0_0).toLoadRect f13) (View.readAt (Elt F) arg20.view (Rect.unit (s := S1024x768) ![128, 384] S128x128.size inb_S1024x768_S128x128_128_384).toLoadRect f20) (View.readAt (Elt F) arg14.view (Rect.unit (s := S6x128x128) ![3, 0, 0] S1x128x128.size inb_S6x128x128_S1x128x128_3_0_0).toLoadRect f14) (View.readAt (Elt F) arg19.view (Rect.unit (s := S1024x768) ![128, 384] S128x128.size inb_S1024x768_S128x128_128_384).toLoadRect f19)⟩, ⟨Rect.unit (s := S1024x1024) ![128, 512] S128x128.size inb_S1024x1024_S128x128_128_512, k0_pay33 (View.readAt (Elt F) arg13.view (Rect.unit (s := S6x128x128) ![2, 0, 0] S1x128x128.size inb_S6x128x128_S1x128x128_2_0_0).toLoadRect f13) (View.readAt (Elt F) arg20.view (Rect.unit (s := S1024x768) ![128, 256] S128x128.size inb_S1024x768_S128x128_128_256).toLoadRect f20) (View.readAt (Elt F) arg14.view (Rect.unit (s := S6x128x128) ![2, 0, 0] S1x128x128.size inb_S6x128x128_S1x128x128_2_0_0).toLoadRect f14) (View.readAt (Elt F) arg19.view (Rect.unit (s := S1024x768) ![128, 256] S128x128.size inb_S1024x768_S128x128_128_256).toLoadRect f19)⟩]) -∗ K (k0_pay35 (View.readAt (Elt F) arg13.view (Rect.unit (s := S6x128x128) ![4, 0, 0] S1x128x128.size inb_S6x128x128_S1x128x128_4_0_0).toLoadRect f13))))
      ⊢ wp frame (wpE (defs₀ (F := F)) Variants.none c none) E (k0_part8 i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 ) K := by
  simp only [k0_part8_eq_skeleton]; unfold k0_part8_skel
  iintro ⟨⟨H2, H3, H4, H5, H6, H7, H8, H9, H10, H11, H12, H13, H14, H15, H16, H17, H18, H19, H20, H21, H22, H23⟩, Hk⟩
  sl_exec
  sl_step
  iapply Hk
  unfold Held; iframe ∗

set_option maxHeartbeats 1000000 in
/-- Part 9: 2 stores into buffer 23. -/
theorem part9_run (v213 : FVec F S128x128 .bf16) {E : Set ℕ} {K : (FVec F S128x128 .f32) → sProp 𝕄} :
    iprop(Held c f2 f3 f4 f5 f6 f7 f8 f9 f10 f11 f12 f13 f14 f15 f16 f17 f18 f19 f20 f21 f22 f23
      ∗ (Held c f2 f3 f4 f5 f6 f7 f8 f9 f10 f11 f12 f13 f14 f15 f16 f17 f18 f19 f20 f21 f22 (arg23.view.writes (Elt F) f23 [⟨Rect.unit (s := S1024x1024) ![128, 896] S128x128.size inb_S1024x1024_S128x128_128_896, k0_pay37 (View.readAt (Elt F) arg13.view (Rect.unit (s := S6x128x128) ![5, 0, 0] S1x128x128.size inb_S6x128x128_S1x128x128_5_0_0).toLoadRect f13) (View.readAt (Elt F) arg20.view (Rect.unit (s := S1024x768) ![128, 640] S128x128.size inb_S1024x768_S128x128_128_640).toLoadRect f20) (View.readAt (Elt F) arg14.view (Rect.unit (s := S6x128x128) ![5, 0, 0] S1x128x128.size inb_S6x128x128_S1x128x128_5_0_0).toLoadRect f14) (View.readAt (Elt F) arg19.view (Rect.unit (s := S1024x768) ![128, 640] S128x128.size inb_S1024x768_S128x128_128_640).toLoadRect f19)⟩, ⟨Rect.unit (s := S1024x1024) ![128, 768] S128x128.size inb_S1024x1024_S128x128_128_768, k0_pay36 v213 (View.readAt (Elt F) arg20.view (Rect.unit (s := S1024x768) ![128, 512] S128x128.size inb_S1024x768_S128x128_128_512).toLoadRect f20) (View.readAt (Elt F) arg14.view (Rect.unit (s := S6x128x128) ![4, 0, 0] S1x128x128.size inb_S6x128x128_S1x128x128_4_0_0).toLoadRect f14) (View.readAt (Elt F) arg19.view (Rect.unit (s := S1024x768) ![128, 512] S128x128.size inb_S1024x768_S128x128_128_512).toLoadRect f19)⟩]) -∗ K (k0_pay38 (View.readAt (Elt F) arg13.view (Rect.unit (s := S6x128x128) ![0, 0, 0] S1x128x128.size inb_S6x128x128_S1x128x128_0_0_0).toLoadRect f13) (View.readAt (Elt F) arg20.view (Rect.unit (s := S1024x768) ![256, 0] S128x128.size inb_S1024x768_S128x128_256_0).toLoadRect f20))))
      ⊢ wp frame (wpE (defs₀ (F := F)) Variants.none c none) E (k0_part9 i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 v213) K := by
  simp only [k0_part9_eq_skeleton]; unfold k0_part9_skel
  iintro ⟨⟨H2, H3, H4, H5, H6, H7, H8, H9, H10, H11, H12, H13, H14, H15, H16, H17, H18, H19, H20, H21, H22, H23⟩, Hk⟩
  sl_exec
  sl_step
  iapply Hk
  unfold Held; iframe ∗

set_option maxHeartbeats 1000000 in
/-- Part 10: 2 stores into buffer 23. -/
theorem part10_run (v241 : FVec F S128x128 .f32) {E : Set ℕ} {K : (Σ' (v270 : FVec F S128x128 .f32), Vec F S128x128 .f32) → sProp 𝕄} :
    iprop(Held c f2 f3 f4 f5 f6 f7 f8 f9 f10 f11 f12 f13 f14 f15 f16 f17 f18 f19 f20 f21 f22 f23
      ∗ (Held c f2 f3 f4 f5 f6 f7 f8 f9 f10 f11 f12 f13 f14 f15 f16 f17 f18 f19 f20 f21 f22 (arg23.view.writes (Elt F) f23 [⟨Rect.unit (s := S1024x1024) ![256, 384] S128x128.size inb_S1024x1024_S128x128_256_384, k0_pay40 (View.readAt (Elt F) arg13.view (Rect.unit (s := S6x128x128) ![1, 0, 0] S1x128x128.size inb_S6x128x128_S1x128x128_1_0_0).toLoadRect f13) (View.readAt (Elt F) arg20.view (Rect.unit (s := S1024x768) ![256, 128] S128x128.size inb_S1024x768_S128x128_256_128).toLoadRect f20) (View.readAt (Elt F) arg14.view (Rect.unit (s := S6x128x128) ![1, 0, 0] S1x128x128.size inb_S6x128x128_S1x128x128_1_0_0).toLoadRect f14) (View.readAt (Elt F) arg19.view (Rect.unit (s := S1024x768) ![256, 128] S128x128.size inb_S1024x768_S128x128_256_128).toLoadRect f19)⟩, ⟨Rect.unit (s := S1024x1024) ![256, 256] S128x128.size inb_S1024x1024_S128x128_256_256, k0_pay39 v241 (View.readAt (Elt F) arg14.view (Rect.unit (s := S6x128x128) ![0, 0, 0] S1x128x128.size inb_S6x128x128_S1x128x128_0_0_0).toLoadRect f14) (View.readAt (Elt F) arg19.view (Rect.unit (s := S1024x768) ![256, 0] S128x128.size inb_S1024x768_S128x128_256_0).toLoadRect f19)⟩]) -∗ K ⟨k0_pay41 (View.readAt (Elt F) arg13.view (Rect.unit (s := S6x128x128) ![2, 0, 0] S1x128x128.size inb_S6x128x128_S1x128x128_2_0_0).toLoadRect f13) (View.readAt (Elt F) arg20.view (Rect.unit (s := S1024x768) ![256, 256] S128x128.size inb_S1024x768_S128x128_256_256).toLoadRect f20) (View.readAt (Elt F) arg14.view (Rect.unit (s := S6x128x128) ![2, 0, 0] S1x128x128.size inb_S6x128x128_S1x128x128_2_0_0).toLoadRect f14), (View.readAt (Elt F) arg19.view (Rect.unit (s := S1024x768) ![256, 256] S128x128.size inb_S1024x768_S128x128_256_256).toLoadRect f19)⟩))
      ⊢ wp frame (wpE (defs₀ (F := F)) Variants.none c none) E (k0_part10 i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 v241) K := by
  simp only [k0_part10_eq_skeleton]; unfold k0_part10_skel
  iintro ⟨⟨H2, H3, H4, H5, H6, H7, H8, H9, H10, H11, H12, H13, H14, H15, H16, H17, H18, H19, H20, H21, H22, H23⟩, Hk⟩
  sl_exec
  sl_step
  iapply Hk
  unfold Held; iframe ∗

end Cert.EvenIdeal.Hand

end
-- ==== Proof.EvenIdealFun.lean ====
/- The even mixer's values as functions of the blocks it reads: the three projections, the scan, the carry, the mixed rows, the result. -/
module

public import proofs.«01_k».proof.Proof.EvenIdealPartsA
public import Idealize.ShloMosaic.Lib.Pipeline.FrameBody
public import Idealize.ShloMosaic.Lib.Ring
public import Idealize.ShloMosaic.Lib.Tactic
public import Idealize.ShloMosaic.Lib.WordCmp
public import Idealize.ShloMosaic.Lib.Pipeline.Value

@[expose] public section

set_option maxRecDepth 16384

noncomputable section

namespace Cert.EvenIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.EvenIdeal Cert.EvenIdeal.Gen

variable {F : FTy → Type} [FloatOps F]

local notation "𝕄" => MT nD τ sig Unit (Elt F) ℕ (UR sig nD τ) ℕ

/-- What one trip of the projection loop stores into the state-space columns. -/
def usPiece (x2 : Vec F S8x128x1024 .f32) (x3 : Vec F S1x1024 .f32) (x4 : Vec F S1024x1792 .bf16) (k : Fin k0_t1_loop.trips) : View.Piece (Elt F) S1024x256 .f32 :=
  ⟨Rect.unit (s := S1024x256) (k0_off2 k) S256x256.size (k0_off2_inb k), k0_pay2 (View.ld x2 (Rect.unit (s := S8x128x1024) (k0_off1 k) S2x128x1024.size (k0_off1_inb k))) (View.ld x3 (Rect.unit (s := S1x1024) ![0, 0] S1x1024.size inb_S1x1024_S1x1024_0_0)) (View.ld x4 (Rect.unit (s := S1024x1792) ![0, 0] S1024x1792.size inb_S1024x1792_S1024x1792_0_0))⟩

/-- What one trip stores into the gate columns. -/
def ugPiece (x2 : Vec F S8x128x1024 .f32) (x3 : Vec F S1x1024 .f32) (x4 : Vec F S1024x1792 .bf16) (k : Fin k0_t1_loop.trips) : View.Piece (Elt F) S1024x768 .f32 :=
  ⟨Rect.unit (s := S1024x768) (k0_off3 k) S256x768.size (k0_off3_inb k),
    k0_pay8 (k0_pay3 (View.ld x2 (Rect.unit (s := S8x128x1024) (k0_off1 k) S2x128x1024.size (k0_off1_inb k))) (View.ld x3 (Rect.unit (s := S1x1024) ![0, 0] S1x1024.size inb_S1x1024_S1x1024_0_0)) (View.ld x4 (Rect.unit (s := S1024x1792) ![0, 0] S1024x1792.size inb_S1024x1792_S1024x1792_0_0))) (k0_pay4 (View.ld x2 (Rect.unit (s := S8x128x1024) (k0_off1 k) S2x128x1024.size (k0_off1_inb k))) (View.ld x3 (Rect.unit (s := S1x1024) ![0, 0] S1x1024.size inb_S1x1024_S1x1024_0_0)) (View.ld x4 (Rect.unit (s := S1024x1792) ![0, 0] S1024x1792.size inb_S1024x1792_S1024x1792_0_0))) (k0_pay5 (F := F))⟩

/-- What one trip stores into the gated columns. -/
def vPiece (x2 : Vec F S8x128x1024 .f32) (x3 : Vec F S1x1024 .f32) (x4 : Vec F S1024x1792 .bf16) (x15 : Vec F S1x768 .f32) (k : Fin k0_t1_loop.trips) : View.Piece (Elt F) S1024x768 .bf16 :=
  ⟨Rect.unit (s := S1024x768) (k0_off3 k) S256x768.size (k0_off3_inb k),
    k0_pay9 (k0_pay3 (View.ld x2 (Rect.unit (s := S8x128x1024) (k0_off1 k) S2x128x1024.size (k0_off1_inb k))) (View.ld x3 (Rect.unit (s := S1x1024) ![0, 0] S1x1024.size inb_S1x1024_S1x1024_0_0)) (View.ld x4 (Rect.unit (s := S1024x1792) ![0, 0] S1024x1792.size inb_S1024x1792_S1024x1792_0_0))) (k0_pay4 (View.ld x2 (Rect.unit (s := S8x128x1024) (k0_off1 k) S2x128x1024.size (k0_off1_inb k))) (View.ld x3 (Rect.unit (s := S1x1024) ![0, 0] S1x1024.size inb_S1x1024_S1x1024_0_0)) (View.ld x4 (Rect.unit (s := S1024x1792) ![0, 0] S1024x1792.size inb_S1024x1792_S1024x1792_0_0))) (k0_pay5 (F := F)) (View.ld x15 (Rect.unit (s := S1x768) ![0, 0] S1x768.size inb_S1x768_S1x768_0_0))⟩

/-- The stores of the trips before `k`, last first, to the three buffers. -/
def projP (x2 : Vec F S8x128x1024 .f32) (x3 : Vec F S1x1024 .f32) (x4 : Vec F S1024x1792 .bf16) (x15 : Vec F S1x768 .f32) :
    ℕ → List (View.Piece (Elt F) S1024x256 .f32) × List (View.Piece (Elt F) S1024x768 .f32) × List (View.Piece (Elt F) S1024x768 .bf16)
  | 0 => ([], [], [])
  | k + 1 => if h : k < k0_t1_loop.trips then
      (usPiece x2 x3 x4 ⟨k, h⟩ :: (projP x2 x3 x4 x15 k).1, ugPiece x2 x3 x4 ⟨k, h⟩ :: (projP x2 x3 x4 x15 k).2.1,
        vPiece x2 x3 x4 x15 ⟨k, h⟩ :: (projP x2 x3 x4 x15 k).2.2)
    else projP x2 x3 x4 x15 k

/-- The four stores to the state-space columns. -/
def usL (x2 : Vec F S8x128x1024 .f32) (x3 : Vec F S1x1024 .f32) (x4 : Vec F S1024x1792 .bf16) : List (View.Piece (Elt F) S1024x256 .f32) :=
  [usPiece x2 x3 x4 ⟨3, by decide⟩, usPiece x2 x3 x4 ⟨2, by decide⟩, usPiece x2 x3 x4 ⟨1, by decide⟩, usPiece x2 x3 x4 ⟨0, by decide⟩]

/-- The four stores to the gate columns. -/
def ugL (x2 : Vec F S8x128x1024 .f32) (x3 : Vec F S1x1024 .f32) (x4 : Vec F S1024x1792 .bf16) : List (View.Piece (Elt F) S1024x768 .f32) :=
  [ugPiece x2 x3 x4 ⟨3, by decide⟩, ugPiece x2 x3 x4 ⟨2, by decide⟩, ugPiece x2 x3 x4 ⟨1, by decide⟩, ugPiece x2 x3 x4 ⟨0, by decide⟩]

/-- The four stores to the gated columns. -/
def vL (x2 : Vec F S8x128x1024 .f32) (x3 : Vec F S1x1024 .f32) (x4 : Vec F S1024x1792 .bf16) (x15 : Vec F S1x768 .f32) : List (View.Piece (Elt F) S1024x768 .bf16) :=
  [vPiece x2 x3 x4 x15 ⟨3, by decide⟩, vPiece x2 x3 x4 x15 ⟨2, by decide⟩, vPiece x2 x3 x4 x15 ⟨1, by decide⟩, vPiece x2 x3 x4 x15 ⟨0, by decide⟩]

/-- The loop's four trips, spelled out. -/
theorem projP_all (x2 : Vec F S8x128x1024 .f32) (x3 : Vec F S1x1024 .f32) (x4 : Vec F S1024x1792 .bf16) (x15 : Vec F S1x768 .f32) :
    projP x2 x3 x4 x15 4 = (usL x2 x3 x4, ugL x2 x3 x4, vL x2 x3 x4 x15) := rfl

/-- The four stores reach every row of the state-space columns. -/
theorem us_cover (x2 : Vec F S8x128x1024 .f32) (x3 : Vec F S1x1024 .f32) (x4 : Vec F S1024x1792 .bf16) (y : S1024x256.Idx) : ∃ p ∈ usL x2 x3 x4, y ∈ p.1.set :=
  View.cover_of_tiledL (usL x2 x3 x4) S256x256.size (by sl_kernel_rfl) y

/-- The four stores reach every row of the gate columns. -/
theorem ug_cover (x2 : Vec F S8x128x1024 .f32) (x3 : Vec F S1x1024 .f32) (x4 : Vec F S1024x1792 .bf16) (y : S1024x768.Idx) : ∃ p ∈ ugL x2 x3 x4, y ∈ p.1.set :=
  View.cover_of_tiledL (ugL x2 x3 x4) S256x768.size (by sl_kernel_rfl) y

/-- The four stores reach every row of the gated columns. -/
theorem v_cover (x2 : Vec F S8x128x1024 .f32) (x3 : Vec F S1x1024 .f32) (x4 : Vec F S1024x1792 .bf16) (x15 : Vec F S1x768 .f32) (y : S1024x768.Idx) : ∃ p ∈ vL x2 x3 x4 x15, y ∈ p.1.set :=
  View.cover_of_tiledL (vL x2 x3 x4 x15) S256x768.size (by sl_kernel_rfl) y

/-- The state-space columns after the projection loop. -/
def usV (x2 : Vec F S8x128x1024 .f32) (x3 : Vec F S1x1024 .f32) (x4 : Vec F S1024x1792 .bf16) : Vec F S1024x256 .f32 := View.canon (usL x2 x3 x4)
/-- The gate columns after the projection loop. -/
def ugV (x2 : Vec F S8x128x1024 .f32) (x3 : Vec F S1x1024 .f32) (x4 : Vec F S1024x1792 .bf16) : Vec F S1024x768 .f32 := View.canon (ugL x2 x3 x4)
/-- The gated columns after the projection loop. -/
def vV (x2 : Vec F S8x128x1024 .f32) (x3 : Vec F S1x1024 .f32) (x4 : Vec F S1024x1792 .bf16) (x15 : Vec F S1x768 .f32) : Vec F S1024x768 .bf16 := View.canon (vL x2 x3 x4 x15)
/-- The state-space columns as read back. -/
def usR (x2 : Vec F S8x128x1024 .f32) (x3 : Vec F S1x1024 .f32) (x4 : Vec F S1024x1792 .bf16) : Vec F S1024x256 .f32 := View.ld (usV x2 x3 x4) (Rect.unit (s := S1024x256) ![0, 0] S1024x256.size inb_S1024x256_S1024x256_0_0)

/-- The drive of the recurrence, rows in time order. -/
def xsV (x2 : Vec F S8x128x1024 .f32) (x3 : Vec F S1x1024 .f32) (x4 : Vec F S1024x1792 .bf16) (x5 : Vec F S1024x1024 .bf16) (x7 : Vec F S256x2048 .bf16) : Vec F S1024x2048 .f32 :=
  k0_pay10 (usR x2 x3 x4) (View.ld x5 (Rect.unit (s := S1024x1024) ![0, 0] S1024x1024.size inb_S1024x1024_S1024x1024_0_0)) (View.ld x7 (Rect.unit (s := S256x2048) ![0, 0] S256x2048.size inb_S256x2048_S256x2048_0_0))

/-- The store of a whole buffer of drives. -/
def wholeP (xs : Vec F S1024x2048 .f32) : View.Piece (Elt F) S1024x2048 .f32 := ⟨(Rect.unit (s := S1024x2048) ![0, 0] S1024x2048.size inb_S1024x2048_S1024x2048_0_0), xs⟩

/-- Whatever is stored after it, a store of the whole buffer leaves no row unwritten. -/
theorem whole_cover (L : List (View.Piece (Elt F) S1024x2048 .f32)) (xs : Vec F S1024x2048 .f32) (y : S1024x2048.Idx) :
    ∃ p ∈ L ++ [wholeP xs], y ∈ p.1.set := by
  obtain ⟨p, hp, hy⟩ := View.cover_of_tiledL [wholeP xs] S1024x2048.size (by sl_kernel_rfl) y
  exact ⟨p, List.mem_append_right _ hp, hy⟩

/-- The recurrence before step `k`: the two halves of the state, and the stores of the steps before, last first. -/
def scanS (a b : Vec F S1x1024 .f32) (xs : Vec F S1024x2048 .f32) (h : Vec F S8x1024 .f32 × Vec F S8x1024 .f32) :
    ℕ → (Vec F S8x1024 .f32 × Vec F S8x1024 .f32) × List (View.Piece (Elt F) S1024x2048 .f32)
  | 0 => (h, [])
  | k + 1 => if hk : k < k0_t2_loop.trips then
      ((k0_pay13 a b (scanS a b xs h k).1.1 (scanS a b xs h k).1.2
          (View.ld (View.canon ((scanS a b xs h k).2 ++ [wholeP xs])) (Rect.unit (s := S1024x2048) (k0_off4 ⟨k, hk⟩) S8x1024.size (k0_off4_inb ⟨k, hk⟩))),
        k0_pay14 a b (scanS a b xs h k).1.1 (scanS a b xs h k).1.2
          (View.ld (View.canon ((scanS a b xs h k).2 ++ [wholeP xs])) (Rect.unit (s := S1024x2048) (k0_off5 ⟨k, hk⟩) S8x1024.size (k0_off5_inb ⟨k, hk⟩)))),
       ⟨Rect.unit (s := S1024x2048) (k0_off5 ⟨k, hk⟩) S8x1024.size (k0_off5_inb ⟨k, hk⟩),
          k0_pay16 a b (scanS a b xs h k).1.1 (scanS a b xs h k).1.2
          (View.ld (View.canon ((scanS a b xs h k).2 ++ [wholeP xs])) (Rect.unit (s := S1024x2048) (k0_off5 ⟨k, hk⟩) S8x1024.size (k0_off5_inb ⟨k, hk⟩)))⟩ ::
       ⟨Rect.unit (s := S1024x2048) (k0_off4 ⟨k, hk⟩) S8x1024.size (k0_off4_inb ⟨k, hk⟩),
          k0_pay15 a b (scanS a b xs h k).1.1 (scanS a b xs h k).1.2
          (View.ld (View.canon ((scanS a b xs h k).2 ++ [wholeP xs])) (Rect.unit (s := S1024x2048) (k0_off4 ⟨k, hk⟩) S8x1024.size (k0_off4_inb ⟨k, hk⟩)))⟩ ::
       (scanS a b xs h k).2)
    else scanS a b xs h k

/-- The two halves of a stored state. -/
def halves (x22 : Vec F S8x2048 .f32) : Vec F S8x1024 .f32 × Vec F S8x1024 .f32 :=
  (View.ld x22 (Rect.unit (s := S8x2048) ![0, 0] S8x1024.size inb_S8x2048_S8x1024_0_0),
   View.ld x22 (Rect.unit (s := S8x2048) ![0, 1024] S8x1024.size inb_S8x2048_S8x1024_0_1024))

/-- The recurrence over the block's 128 steps from the state `x22`. -/
def scanV (x2 : Vec F S8x128x1024 .f32) (x3 : Vec F S1x1024 .f32) (x4 : Vec F S1024x1792 .bf16) (x5 : Vec F S1024x1024 .bf16) (x7 : Vec F S256x2048 .bf16) (x8 : Vec F S2x1024 .f32) (x22 : Vec F S8x2048 .f32) :
    (Vec F S8x1024 .f32 × Vec F S8x1024 .f32) × List (View.Piece (Elt F) S1024x2048 .f32) :=
  scanS (View.ld x8 (Rect.unit (s := S2x1024) ![0, 0] S1x1024.size inb_S2x1024_S1x1024_0_0))
    (View.ld x8 (Rect.unit (s := S2x1024) ![1, 0] S1x1024.size inb_S2x1024_S1x1024_1_0))
    (xsV x2 x3 x4 x5 x7) (halves x22) k0_t2_loop.trips

/-- The states of the block's 128 steps. -/
def statesV (x2 : Vec F S8x128x1024 .f32) (x3 : Vec F S1x1024 .f32) (x4 : Vec F S1024x1792 .bf16) (x5 : Vec F S1024x1024 .bf16) (x7 : Vec F S256x2048 .bf16) (x8 : Vec F S2x1024 .f32) (x22 : Vec F S8x2048 .f32) : Vec F S1024x2048 .f32 :=
  View.canon ((scanV x2 x3 x4 x5 x7 x8 x22).2 ++ [wholeP (xsV x2 x3 x4 x5 x7)])

/-- The two stores of the state to carry to the next block. -/
def carL (h : Vec F S8x1024 .f32 × Vec F S8x1024 .f32) : List (View.Piece (Elt F) S8x2048 .f32) :=
  [⟨Rect.unit (s := S8x2048) ![0, 1024] S8x1024.size inb_S8x2048_S8x1024_0_1024, k0_pay18 h.2⟩,
   ⟨Rect.unit (s := S8x2048) ![0, 0] S8x1024.size inb_S8x2048_S8x1024_0_0, k0_pay17 h.1⟩]

/-- The two stores fill the carried state. -/
theorem car_cover (h : Vec F S8x1024 .f32 × Vec F S8x1024 .f32) (y : S8x2048.Idx) : ∃ p ∈ carL h, y ∈ p.1.set :=
  View.cover_of_tiledL (carL h) S8x1024.size (by sl_kernel_rfl) y

/-- The state carried to the next block. -/
def carV (x2 : Vec F S8x128x1024 .f32) (x3 : Vec F S1x1024 .f32) (x4 : Vec F S1024x1792 .bf16) (x5 : Vec F S1024x1024 .bf16) (x7 : Vec F S256x2048 .bf16) (x8 : Vec F S2x1024 .f32) (x22 : Vec F S8x2048 .f32) : Vec F S8x2048 .f32 :=
  View.canon (carL (scanV x2 x3 x4 x5 x7 x8 x22).1)

/-- The state-space half's 256 columns: the recurrence read out, gated. -/
def gluV (x6 : Vec F S1024x1024 .bf16) (x9 : Vec F S2048x256 .bf16) (x10 : Vec F S1x256 .f32) (x11 : Vec F S256x256 .bf16) (x12 : Vec F S1x256 .f32) (us : Vec F S1024x256 .f32) (x21 : Vec F S1024x2048 .f32) : Vec F S1024x256 .bf16 :=
  k0_pay21 (k0_pay19 us (View.ld x21 (Rect.unit (s := S1024x2048) ![0, 0] S1024x2048.size inb_S1024x2048_S1024x2048_0_0)) (View.ld x9 (Rect.unit (s := S2048x256) ![0, 0] S2048x256.size inb_S2048x256_S2048x256_0_0)) (View.ld x6 (Rect.unit (s := S1024x1024) ![0, 0] S1024x1024.size inb_S1024x1024_S1024x1024_0_0)) (View.ld x10 (Rect.unit (s := S1x256) ![0, 0] S1x256.size inb_S1x256_S1x256_0_0))) (k0_pay20 us (View.ld x21 (Rect.unit (s := S1024x2048) ![0, 0] S1024x2048.size inb_S1024x2048_S1024x2048_0_0)) (View.ld x9 (Rect.unit (s := S2048x256) ![0, 0] S2048x256.size inb_S2048x256_S2048x256_0_0)) (View.ld x6 (Rect.unit (s := S1024x1024) ![0, 0] S1024x1024.size inb_S1024x1024_S1024x1024_0_0)) (View.ld x10 (Rect.unit (s := S1x256) ![0, 0] S1x256.size inb_S1x256_S1x256_0_0)))
    (View.ld x11 (Rect.unit (s := S256x256) ![0, 0] S256x256.size inb_S256x256_S256x256_0_0)) (View.ld x12 (Rect.unit (s := S1x256) ![0, 0] S1x256.size inb_S1x256_S1x256_0_0))

/-- The store of one tile: the head `h`, the rows from `r`, the columns from `q` of the gated buffers, to the columns from `C`. -/
abbrev tileP (x13 : Vec F S6x128x128 .bf16) (x14 : Vec F S6x128x128 .f32) (x19 : Vec F S1024x768 .f32) (x20 : Vec F S1024x768 .bf16) (h r q C : ℕ)
    (hC : ∀ a, (![r, C] : Fin 2 → ℕ) a + S128x128.size a ≤ S1024x1024.size a) (hh : ∀ a, (![h, 0, 0] : Fin 3 → ℕ) a + S1x128x128.size a ≤ S6x128x128.size a)
    (hq : ∀ a, (![r, q] : Fin 2 → ℕ) a + S128x128.size a ≤ S1024x768.size a) : View.Piece (Elt F) S1024x1024 .bf16 :=
  ⟨Rect.unit (s := S1024x1024) ![r, C] S128x128.size hC, k0_pay22 (View.ld x13 (Rect.unit (s := S6x128x128) ![h, 0, 0] S1x128x128.size hh)) (View.ld x20 (Rect.unit (s := S1024x768) ![r, q] S128x128.size hq)) (View.ld x14 (Rect.unit (s := S6x128x128) ![h, 0, 0] S1x128x128.size hh)) (View.ld x19 (Rect.unit (s := S1024x768) ![r, q] S128x128.size hq))⟩

/-- The 48 stores of the tiles, one per batch and head, last first. -/
def tileL (x13 : Vec F S6x128x128 .bf16) (x14 : Vec F S6x128x128 .f32) (x19 : Vec F S1024x768 .f32) (x20 : Vec F S1024x768 .bf16) : List (View.Piece (Elt F) S1024x1024 .bf16) :=
  [tileP x13 x14 x19 x20 5 896 640 896 inb_S1024x1024_S128x128_896_896 inb_S6x128x128_S1x128x128_5_0_0 inb_S1024x768_S128x128_896_640,
   tileP x13 x14 x19 x20 4 896 512 768 inb_S1024x1024_S128x128_896_768 inb_S6x128x128_S1x128x128_4_0_0 inb_S1024x768_S128x128_896_512,
   tileP x13 x14 x19 x20 3 896 384 640 inb_S1024x1024_S128x128_896_640 inb_S6x128x128_S1x128x128_3_0_0 inb_S1024x768_S128x128_896_384,
   tileP x13 x14 x19 x20 2 896 256 512 inb_S1024x1024_S128x128_896_512 inb_S6x128x128_S1x128x128_2_0_0 inb_S1024x768_S128x128_896_256,
   tileP x13 x14 x19 x20 1 896 128 384 inb_S1024x1024_S128x128_896_384 inb_S6x128x128_S1x128x128_1_0_0 inb_S1024x768_S128x128_896_128,
   tileP x13 x14 x19 x20 0 896 0 256 inb_S1024x1024_S128x128_896_256 inb_S6x128x128_S1x128x128_0_0_0 inb_S1024x768_S128x128_896_0,
   tileP x13 x14 x19 x20 5 768 640 896 inb_S1024x1024_S128x128_768_896 inb_S6x128x128_S1x128x128_5_0_0 inb_S1024x768_S128x128_768_640,
   tileP x13 x14 x19 x20 4 768 512 768 inb_S1024x1024_S128x128_768_768 inb_S6x128x128_S1x128x128_4_0_0 inb_S1024x768_S128x128_768_512,
   tileP x13 x14 x19 x20 3 768 384 640 inb_S1024x1024_S128x128_768_640 inb_S6x128x128_S1x128x128_3_0_0 inb_S1024x768_S128x128_768_384,
   tileP x13 x14 x19 x20 2 768 256 512 inb_S1024x1024_S128x128_768_512 inb_S6x128x128_S1x128x128_2_0_0 inb_S1024x768_S128x128_768_256,
   tileP x13 x14 x19 x20 1 768 128 384 inb_S1024x1024_S128x128_768_384 inb_S6x128x128_S1x128x128_1_0_0 inb_S1024x768_S128x128_768_128,
   tileP x13 x14 x19 x20 0 768 0 256 inb_S1024x1024_S128x128_768_256 inb_S6x128x128_S1x128x128_0_0_0 inb_S1024x768_S128x128_768_0,
   tileP x13 x14 x19 x20 5 640 640 896 inb_S1024x1024_S128x128_640_896 inb_S6x128x128_S1x128x128_5_0_0 inb_S1024x768_S128x128_640_640,
   tileP x13 x14 x19 x20 4 640 512 768 inb_S1024x1024_S128x128_640_768 inb_S6x128x128_S1x128x128_4_0_0 inb_S1024x768_S128x128_640_512,
   tileP x13 x14 x19 x20 3 640 384 640 inb_S1024x1024_S128x128_640_640 inb_S6x128x128_S1x128x128_3_0_0 inb_S1024x768_S128x128_640_384,
   tileP x13 x14 x19 x20 2 640 256 512 inb_S1024x1024_S128x128_640_512 inb_S6x128x128_S1x128x128_2_0_0 inb_S1024x768_S128x128_640_256,
   tileP x13 x14 x19 x20 1 640 128 384 inb_S1024x1024_S128x128_640_384 inb_S6x128x128_S1x128x128_1_0_0 inb_S1024x768_S128x128_640_128,
   tileP x13 x14 x19 x20 0 640 0 256 inb_S1024x1024_S128x128_640_256 inb_S6x128x128_S1x128x128_0_0_0 inb_S1024x768_S128x128_640_0,
   tileP x13 x14 x19 x20 5 512 640 896 inb_S1024x1024_S128x128_512_896 inb_S6x128x128_S1x128x128_5_0_0 inb_S1024x768_S128x128_512_640,
   tileP x13 x14 x19 x20 4 512 512 768 inb_S1024x1024_S128x128_512_768 inb_S6x128x128_S1x128x128_4_0_0 inb_S1024x768_S128x128_512_512,
   tileP x13 x14 x19 x20 3 512 384 640 inb_S1024x1024_S128x128_512_640 inb_S6x128x128_S1x128x128_3_0_0 inb_S1024x768_S128x128_512_384,
   tileP x13 x14 x19 x20 2 512 256 512 inb_S1024x1024_S128x128_512_512 inb_S6x128x128_S1x128x128_2_0_0 inb_S1024x768_S128x128_512_256,
   tileP x13 x14 x19 x20 1 512 128 384 inb_S1024x1024_S128x128_512_384 inb_S6x128x128_S1x128x128_1_0_0 inb_S1024x768_S128x128_512_128,
   tileP x13 x14 x19 x20 0 512 0 256 inb_S1024x1024_S128x128_512_256 inb_S6x128x128_S1x128x128_0_0_0 inb_S1024x768_S128x128_512_0,
   tileP x13 x14 x19 x20 5 384 640 896 inb_S1024x1024_S128x128_384_896 inb_S6x128x128_S1x128x128_5_0_0 inb_S1024x768_S128x128_384_640,
   tileP x13 x14 x19 x20 4 384 512 768 inb_S1024x1024_S128x128_384_768 inb_S6x128x128_S1x128x128_4_0_0 inb_S1024x768_S128x128_384_512,
   tileP x13 x14 x19 x20 3 384 384 640 inb_S1024x1024_S128x128_384_640 inb_S6x128x128_S1x128x128_3_0_0 inb_S1024x768_S128x128_384_384,
   tileP x13 x14 x19 x20 2 384 256 512 inb_S1024x1024_S128x128_384_512 inb_S6x128x128_S1x128x128_2_0_0 inb_S1024x768_S128x128_384_256,
   tileP x13 x14 x19 x20 1 384 128 384 inb_S1024x1024_S128x128_384_384 inb_S6x128x128_S1x128x128_1_0_0 inb_S1024x768_S128x128_384_128,
   tileP x13 x14 x19 x20 0 384 0 256 inb_S1024x1024_S128x128_384_256 inb_S6x128x128_S1x128x128_0_0_0 inb_S1024x768_S128x128_384_0,
   tileP x13 x14 x19 x20 5 256 640 896 inb_S1024x1024_S128x128_256_896 inb_S6x128x128_S1x128x128_5_0_0 inb_S1024x768_S128x128_256_640,
   tileP x13 x14 x19 x20 4 256 512 768 inb_S1024x1024_S128x128_256_768 inb_S6x128x128_S1x128x128_4_0_0 inb_S1024x768_S128x128_256_512,
   tileP x13 x14 x19 x20 3 256 384 640 inb_S1024x1024_S128x128_256_640 inb_S6x128x128_S1x128x128_3_0_0 inb_S1024x768_S128x128_256_384,
   tileP x13 x14 x19 x20 2 256 256 512 inb_S1024x1024_S128x128_256_512 inb_S6x128x128_S1x128x128_2_0_0 inb_S1024x768_S128x128_256_256,
   tileP x13 x14 x19 x20 1 256 128 384 inb_S1024x1024_S128x128_256_384 inb_S6x128x128_S1x128x128_1_0_0 inb_S1024x768_S128x128_256_128,
   tileP x13 x14 x19 x20 0 256 0 256 inb_S1024x1024_S128x128_256_256 inb_S6x128x128_S1x128x128_0_0_0 inb_S1024x768_S128x128_256_0,
   tileP x13 x14 x19 x20 5 128 640 896 inb_S1024x1024_S128x128_128_896 inb_S6x128x128_S1x128x128_5_0_0 inb_S1024x768_S128x128_128_640,
   tileP x13 x14 x19 x20 4 128 512 768 inb_S1024x1024_S128x128_128_768 inb_S6x128x128_S1x128x128_4_0_0 inb_S1024x768_S128x128_128_512,
   tileP x13 x14 x19 x20 3 128 384 640 inb_S1024x1024_S128x128_128_640 inb_S6x128x128_S1x128x128_3_0_0 inb_S1024x768_S128x128_128_384,
   tileP x13 x14 x19 x20 2 128 256 512 inb_S1024x1024_S128x128_128_512 inb_S6x128x128_S1x128x128_2_0_0 inb_S1024x768_S128x128_128_256,
   tileP x13 x14 x19 x20 1 128 128 384 inb_S1024x1024_S128x128_128_384 inb_S6x128x128_S1x128x128_1_0_0 inb_S1024x768_S128x128_128_128,
   tileP x13 x14 x19 x20 0 128 0 256 inb_S1024x1024_S128x128_128_256 inb_S6x128x128_S1x128x128_0_0_0 inb_S1024x768_S128x128_128_0,
   tileP x13 x14 x19 x20 5 0 640 896 inb_S1024x1024_S128x128_0_896 inb_S6x128x128_S1x128x128_5_0_0 inb_S1024x768_S128x128_0_640,
   tileP x13 x14 x19 x20 4 0 512 768 inb_S1024x1024_S128x128_0_768 inb_S6x128x128_S1x128x128_4_0_0 inb_S1024x768_S128x128_0_512,
   tileP x13 x14 x19 x20 3 0 384 640 inb_S1024x1024_S128x128_0_640 inb_S6x128x128_S1x128x128_3_0_0 inb_S1024x768_S128x128_0_384,
   tileP x13 x14 x19 x20 2 0 256 512 inb_S1024x1024_S128x128_0_512 inb_S6x128x128_S1x128x128_2_0_0 inb_S1024x768_S128x128_0_256,
   tileP x13 x14 x19 x20 1 0 128 384 inb_S1024x1024_S128x128_0_384 inb_S6x128x128_S1x128x128_1_0_0 inb_S1024x768_S128x128_0_128,
   tileP x13 x14 x19 x20 0 0 0 256 inb_S1024x1024_S128x128_0_256 inb_S6x128x128_S1x128x128_0_0_0 inb_S1024x768_S128x128_0_0]

/-- The store of the state-space columns. -/
def gluP (g : Vec F S1024x256 .bf16) : View.Piece (Elt F) S1024x1024 .bf16 :=
  ⟨Rect.unit (s := S1024x1024) ![0, 0] S1024x256.size inb_S1024x1024_S1024x256_0_0, g⟩

/-- The 49 stores of the mixed rows: the state-space columns, and per batch and head one tile. -/
def mixL (g : Vec F S1024x256 .bf16) (x13 : Vec F S6x128x128 .bf16) (x14 : Vec F S6x128x128 .f32) (x19 : Vec F S1024x768 .f32) (x20 : Vec F S1024x768 .bf16) : List (View.Piece (Elt F) S1024x1024 .bf16) :=
  tileL x13 x14 x19 x20 ++ [gluP g]

/-- Sixteen tiles over the state-space columns. -/
def padL (w : Vec F S128x128 .bf16) : List (View.Piece (Elt F) S1024x1024 .bf16) :=
  [⟨Rect.unit (s := S1024x1024) ![0, 0] S128x128.size (by decide), w⟩,
   ⟨Rect.unit (s := S1024x1024) ![0, 128] S128x128.size (by decide), w⟩,
   ⟨Rect.unit (s := S1024x1024) ![128, 0] S128x128.size (by decide), w⟩,
   ⟨Rect.unit (s := S1024x1024) ![128, 128] S128x128.size (by decide), w⟩,
   ⟨Rect.unit (s := S1024x1024) ![256, 0] S128x128.size (by decide), w⟩,
   ⟨Rect.unit (s := S1024x1024) ![256, 128] S128x128.size (by decide), w⟩,
   ⟨Rect.unit (s := S1024x1024) ![384, 0] S128x128.size (by decide), w⟩,
   ⟨Rect.unit (s := S1024x1024) ![384, 128] S128x128.size (by decide), w⟩,
   ⟨Rect.unit (s := S1024x1024) ![512, 0] S128x128.size (by decide), w⟩,
   ⟨Rect.unit (s := S1024x1024) ![512, 128] S128x128.size (by decide), w⟩,
   ⟨Rect.unit (s := S1024x1024) ![640, 0] S128x128.size (by decide), w⟩,
   ⟨Rect.unit (s := S1024x1024) ![640, 128] S128x128.size (by decide), w⟩,
   ⟨Rect.unit (s := S1024x1024) ![768, 0] S128x128.size (by decide), w⟩,
   ⟨Rect.unit (s := S1024x1024) ![768, 128] S128x128.size (by decide), w⟩,
   ⟨Rect.unit (s := S1024x1024) ![896, 0] S128x128.size (by decide), w⟩,
   ⟨Rect.unit (s := S1024x1024) ![896, 128] S128x128.size (by decide), w⟩]

/-- The sixteen tiles lie left of column 256. -/
theorem pad_col (w : Vec F S128x128 .bf16) (y : S1024x1024.Idx) (p : View.Piece (Elt F) S1024x1024 .bf16) (hp : p ∈ padL w)
    (hy : y ∈ p.1.set) : (y 1).val < 256 := by
  simp only [padL, List.mem_cons, List.not_mem_nil, or_false] at hp
  rcases hp with rfl | rfl | rfl | rfl | rfl | rfl | rfl | rfl | rfl | rfl | rfl | rfl | rfl | rfl | rfl | rfl
  all_goals
    dsimp only at hy; rw [Rect.mem_set_unit] at hy
    have h2 := (hy 1).2
    first | exact h2 | exact Nat.lt_of_lt_of_le h2 (by decide)

/-- The eight stores of the result, one per batch. -/
def outL (x2 : Vec F S8x128x1024 .f32) (m : Vec F S1024x1024 .bf16) (w : Vec F S1024x1024 .bf16) : List (View.Piece (Elt F) S8x128x1024 .f32) :=
  [⟨Rect.unit (s := S8x128x1024) ![7, 0, 0] S1x128x1024.size inb_S8x128x1024_S1x128x1024_7_0_0, k0_pay96 (k0_pay87 m w) (View.ld x2 (Rect.unit (s := S8x128x1024) ![7, 0, 0] S1x128x1024.size inb_S8x128x1024_S1x128x1024_7_0_0))⟩,
   ⟨Rect.unit (s := S8x128x1024) ![6, 0, 0] S1x128x1024.size inb_S8x128x1024_S1x128x1024_6_0_0, k0_pay95 (k0_pay87 m w) (View.ld x2 (Rect.unit (s := S8x128x1024) ![6, 0, 0] S1x128x1024.size inb_S8x128x1024_S1x128x1024_6_0_0))⟩,
   ⟨Rect.unit (s := S8x128x1024) ![5, 0, 0] S1x128x1024.size inb_S8x128x1024_S1x128x1024_5_0_0, k0_pay94 (k0_pay87 m w) (View.ld x2 (Rect.unit (s := S8x128x1024) ![5, 0, 0] S1x128x1024.size inb_S8x128x1024_S1x128x1024_5_0_0))⟩,
   ⟨Rect.unit (s := S8x128x1024) ![4, 0, 0] S1x128x1024.size inb_S8x128x1024_S1x128x1024_4_0_0, k0_pay93 (k0_pay87 m w) (View.ld x2 (Rect.unit (s := S8x128x1024) ![4, 0, 0] S1x128x1024.size inb_S8x128x1024_S1x128x1024_4_0_0))⟩,
   ⟨Rect.unit (s := S8x128x1024) ![3, 0, 0] S1x128x1024.size inb_S8x128x1024_S1x128x1024_3_0_0, k0_pay92 (k0_pay91 m w (View.ld x2 (Rect.unit (s := S8x128x1024) ![3, 0, 0] S1x128x1024.size inb_S8x128x1024_S1x128x1024_3_0_0)))⟩,
   ⟨Rect.unit (s := S8x128x1024) ![2, 0, 0] S1x128x1024.size inb_S8x128x1024_S1x128x1024_2_0_0, k0_pay90 m w (View.ld x2 (Rect.unit (s := S8x128x1024) ![2, 0, 0] S1x128x1024.size inb_S8x128x1024_S1x128x1024_2_0_0))⟩,
   ⟨Rect.unit (s := S8x128x1024) ![1, 0, 0] S1x128x1024.size inb_S8x128x1024_S1x128x1024_1_0_0, k0_pay89 m w (View.ld x2 (Rect.unit (s := S8x128x1024) ![1, 0, 0] S1x128x1024.size inb_S8x128x1024_S1x128x1024_1_0_0))⟩,
   ⟨Rect.unit (s := S8x128x1024) ![0, 0, 0] S1x128x1024.size inb_S8x128x1024_S1x128x1024_0_0_0, k0_pay88 m w (View.ld x2 (Rect.unit (s := S8x128x1024) ![0, 0, 0] S1x128x1024.size inb_S8x128x1024_S1x128x1024_0_0_0))⟩]

/-- The mixed rows. -/
def mixV (x2 : Vec F S8x128x1024 .f32) (x3 : Vec F S1x1024 .f32) (x4 : Vec F S1024x1792 .bf16) (x5 : Vec F S1024x1024 .bf16) (x6 : Vec F S1024x1024 .bf16) (x7 : Vec F S256x2048 .bf16) (x8 : Vec F S2x1024 .f32) (x9 : Vec F S2048x256 .bf16) (x10 : Vec F S1x256 .f32) (x11 : Vec F S256x256 .bf16) (x12 : Vec F S1x256 .f32) (x13 : Vec F S6x128x128 .bf16) (x14 : Vec F S6x128x128 .f32) (x15 : Vec F S1x768 .f32) (x22 : Vec F S8x2048 .f32) : Vec F S1024x1024 .bf16 :=
  View.canon (mixL (gluV x6 x9 x10 x11 x12 (usR x2 x3 x4) (statesV x2 x3 x4 x5 x7 x8 x22)) x13 x14 (ugV x2 x3 x4) (vV x2 x3 x4 x15))

/-- The block's result. -/
def outV (x2 : Vec F S8x128x1024 .f32) (x3 : Vec F S1x1024 .f32) (x4 : Vec F S1024x1792 .bf16) (x5 : Vec F S1024x1024 .bf16) (x6 : Vec F S1024x1024 .bf16) (x7 : Vec F S256x2048 .bf16) (x8 : Vec F S2x1024 .f32) (x9 : Vec F S2048x256 .bf16) (x10 : Vec F S1x256 .f32) (x11 : Vec F S256x256 .bf16) (x12 : Vec F S1x256 .f32) (x13 : Vec F S6x128x128 .bf16) (x14 : Vec F S6x128x128 .f32) (x15 : Vec F S1x768 .f32) (x16 : Vec F S1024x1024 .bf16) (x22 : Vec F S8x2048 .f32) : Vec F S8x128x1024 .f32 :=
  View.canon (outL x2 (View.ld (mixV x2 x3 x4 x5 x6 x7 x8 x9 x10 x11 x12 x13 x14 x15 x22) (Rect.unit (s := S1024x1024) ![0, 0] S1024x1024.size inb_S1024x1024_S1024x1024_0_0)) (View.ld x16 (Rect.unit (s := S1024x1024) ![0, 0] S1024x1024.size inb_S1024x1024_S1024x1024_0_0)))

/-- The stores of the mixed rows reach every cell. -/
theorem mix_cover (g : Vec F S1024x256 .bf16) (x13 : Vec F S6x128x128 .bf16) (x14 : Vec F S6x128x128 .f32) (x19 : Vec F S1024x768 .f32) (x20 : Vec F S1024x768 .bf16) (y : S1024x1024.Idx) :
    ∃ p ∈ mixL g x13 x14 x19 x20, y ∈ p.1.set := by
  by_cases h : (y 1).val < 256
  · refine ⟨gluP g, List.mem_append_right _ (List.mem_singleton.mpr rfl), ?_⟩
    show y ∈ (Rect.unit (s := S1024x1024) ![0, 0] S1024x256.size inb_S1024x1024_S1024x256_0_0).set
    rw [Rect.mem_set_unit]; intro a
    fin_cases a
    · exact ⟨Nat.zero_le _, by simpa using (y 0).isLt⟩
    · exact ⟨Nat.zero_le _, by simpa using h⟩
  · obtain ⟨p, hp, hy⟩ := View.cover_of_tiledL (s := S1024x1024) (tileL x13 x14 x19 x20 ++ padL (View.ld x20 (Rect.unit (s := S1024x768) ![0, 0] S128x128.size inb_S1024x768_S128x128_0_0))) S128x128.size
      (by sl_kernel_rfl) y
    rcases List.mem_append.mp hp with hp | hp
    · exact ⟨p, List.mem_append_left _ hp, hy⟩
    · exact absurd (pad_col _ y p hp hy) h

/-- The stores of the result reach every cell. -/
theorem out_cover (x2 : Vec F S8x128x1024 .f32) (m : Vec F S1024x1024 .bf16) (w : Vec F S1024x1024 .bf16) (y : S8x128x1024.Idx) :
    ∃ p ∈ outL x2 m w, y ∈ p.1.set :=
  View.cover_of_tiledL (outL x2 m w) S1x128x1024.size (by sl_kernel_rfl) y

end Cert.EvenIdeal.Hand

end
-- ==== Proof.EvenIdealLoop.lean ====
/- The opening part of the even mixer: the projection loop and the recurrence, at any contents. -/
module

public import proofs.«01_k».proof.Proof.EvenIdealFun
public import Idealize.ShloMosaic.Lib.Pipeline.FrameBody
public import Idealize.ShloMosaic.Lib.Ring
public import Idealize.ShloMosaic.Lib.Tactic
public import Idealize.ShloMosaic.Lib.WordCmp
public import Idealize.ShloMosaic.Lib.Pipeline.Value

@[expose] public section

set_option maxRecDepth 16384

noncomputable section

namespace Cert.EvenIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.EvenIdeal Cert.EvenIdeal.Gen

variable {F : FTy → Type} [FloatOps F]

local notation "𝕄" => MT nD τ sig Unit (Elt F) ℕ (UR sig nD τ) ℕ

variable {c : Dev nD} {i : grid0.Coords} {arg2 : Memref sig .tc .vmem S8x128x1024 .f32} {harg2 : arg2.IsWhole} {arg3 : Memref sig .tc .vmem S1x1024 .f32} {harg3 : arg3.IsWhole} {arg4 : Memref sig .tc .vmem S1024x1792 .bf16} {harg4 : arg4.IsWhole} {arg5 : Memref sig .tc .vmem S1024x1024 .bf16} {harg5 : arg5.IsWhole} {arg6 : Memref sig .tc .vmem S1024x1024 .bf16} {harg6 : arg6.IsWhole} {arg7 : Memref sig .tc .vmem S256x2048 .bf16} {harg7 : arg7.IsWhole} {arg8 : Memref sig .tc .vmem S2x1024 .f32} {harg8 : arg8.IsWhole} {arg9 : Memref sig .tc .vmem S2048x256 .bf16} {harg9 : arg9.IsWhole} {arg10 : Memref sig .tc .vmem S1x256 .f32} {harg10 : arg10.IsWhole} {arg11 : Memref sig .tc .vmem S256x256 .bf16} {harg11 : arg11.IsWhole} {arg12 : Memref sig .tc .vmem S1x256 .f32} {harg12 : arg12.IsWhole} {arg13 : Memref sig .tc .vmem S6x128x128 .bf16} {harg13 : arg13.IsWhole} {arg14 : Memref sig .tc .vmem S6x128x128 .f32} {harg14 : arg14.IsWhole} {arg15 : Memref sig .tc .vmem S1x768 .f32} {harg15 : arg15.IsWhole} {arg16 : Memref sig .tc .vmem S1024x1024 .bf16} {harg16 : arg16.IsWhole} {arg17 : Memref sig .tc .vmem S8x128x1024 .f32} {harg17 : arg17.IsWhole} {arg18 : Memref sig .tc .vmem S1024x256 .f32} {harg18 : arg18.IsWhole} {arg19 : Memref sig .tc .vmem S1024x768 .f32} {harg19 : arg19.IsWhole} {arg20 : Memref sig .tc .vmem S1024x768 .bf16} {harg20 : arg20.IsWhole} {arg21 : Memref sig .tc .vmem S1024x2048 .f32} {harg21 : arg21.IsWhole} {arg22 : Memref sig .tc .vmem S8x2048 .f32} {harg22 : arg22.IsWhole} {arg23 : Memref sig .tc .vmem S1024x1024 .bf16} {harg23 : arg23.IsWhole}
  {f2 : BufTy.Contents (Elt F) arg2.view.ty} {f3 : BufTy.Contents (Elt F) arg3.view.ty} {f4 : BufTy.Contents (Elt F) arg4.view.ty} {f5 : BufTy.Contents (Elt F) arg5.view.ty} {f6 : BufTy.Contents (Elt F) arg6.view.ty} {f7 : BufTy.Contents (Elt F) arg7.view.ty} {f8 : BufTy.Contents (Elt F) arg8.view.ty} {f9 : BufTy.Contents (Elt F) arg9.view.ty} {f10 : BufTy.Contents (Elt F) arg10.view.ty} {f11 : BufTy.Contents (Elt F) arg11.view.ty} {f12 : BufTy.Contents (Elt F) arg12.view.ty} {f13 : BufTy.Contents (Elt F) arg13.view.ty} {f14 : BufTy.Contents (Elt F) arg14.view.ty} {f15 : BufTy.Contents (Elt F) arg15.view.ty} {f16 : BufTy.Contents (Elt F) arg16.view.ty} {f17 : BufTy.Contents (Elt F) arg17.view.ty} {f18 : BufTy.Contents (Elt F) arg18.view.ty} {f19 : BufTy.Contents (Elt F) arg19.view.ty} {f20 : BufTy.Contents (Elt F) arg20.view.ty} {f21 : BufTy.Contents (Elt F) arg21.view.ty} {f22 : BufTy.Contents (Elt F) arg22.view.ty} {f23 : BufTy.Contents (Elt F) arg23.view.ty}

/-- The start of a buffer is its origin. -/
theorem zero2 : (![0, 0] : Fin 2 → ℕ) = fun _ => 0 := by
  funext a; fin_cases a <;> rfl

set_option maxHeartbeats 1000000 in
/-- The stores of the projection loop's trips, as values. -/
theorem pb_eq (k : ℕ) (hk : k ≤ k0_t1_loop.trips) :
    pb_k0_t1 (F := F) Variants.none c none i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 f2 f3 f4 f15 k
      = projP (arg2.view.read (Elt F) f2) (arg3.view.read (Elt F) f3) (arg4.view.read (Elt F) f4) (arg15.view.read (Elt F) f15) k := by
  induction k with
  | zero => rfl
  | succ k ih =>
    have h : k < k0_t1_loop.trips := hk
    have e := pb_k0_t1_succ (F := F) Variants.none c none i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 f2 f3 f4 f15 ⟨k, h⟩
    refine e.trans ?_
    have e2 := ih (Nat.le_of_lt h)
    dsimp only at e2 ⊢
    rw [e2]
    unfold trip_k0_t1
    rw [projP, dif_pos h]
    rfl

set_option maxHeartbeats 1000000 in
/-- The recurrence's steps, as values: each step reads the drives with the earlier states stored over them. -/
theorem st_eq (a b : Vec F S1x1024 .f32) (xs : Vec F S1024x2048 .f32) (h : Vec F S8x1024 .f32 × Vec F S8x1024 .f32)
    (k : ℕ) (hk : k ≤ k0_t2_loop.trips) :
    st_k0_t2 (F := F) Variants.none c none i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 a b (arg21.view.writes (Elt F) f21 [wholeP xs]) h k
      = scanS a b xs h k := by
  induction k with
  | zero => rfl
  | succ k ih =>
    have hlt : k < k0_t2_loop.trips := hk
    have e := st_k0_t2_succ (F := F) Variants.none c none i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 a b (arg21.view.writes (Elt F) f21 [wholeP xs]) h ⟨k, hlt⟩
    refine e.trans ?_
    have e2 := ih (Nat.le_of_lt hlt)
    dsimp only at e2 ⊢
    rw [e2]
    unfold tripR_k0_t2 tripL_k0_t2 trip_k0_t2
    rw [scanS, dif_pos hlt]
    have e3 : arg21.view.read (Elt F) (arg21.view.writes (Elt F) (arg21.view.writes (Elt F) f21 [wholeP xs]) (scanS a b xs h k).2)
        = View.canon ((scanS a b xs h k).2 ++ [wholeP xs]) := by
      rw [← View.writes_append]
      exact View.read_writes_eq_canon _ _ _ (whole_cover _ _)
    dsimp only
    simp only [View.readAt_eq_ld, e3]
    rfl

/-- The block is the first of its sequence. -/
abbrev first (i : grid0.Coords) : Prop := (i 1).val = 0

/-- The body's test of that, at the first block. -/
theorem first_word (i : grid0.Coords) (h : first i) :
    Scalar.cmpi .ne (Scalar.extui (Scalar.cmpi .eq (BitVec.ofNat 32 (i 1).val) 0#32)) 0#32 = 1#1 := by
  rw [h]; decide

/-- The body's test of that, at a later block. -/
theorem later_word (i : grid0.Coords) (h : ¬ first i) :
    ¬ Scalar.cmpi .ne (Scalar.extui (Scalar.cmpi .eq (BitVec.ofNat 32 (i 1).val) 0#32)) 0#32 = 1#1 := by
  have hlt : (i 1).val < 32 := (i 1).isLt
  revert h; unfold first
  generalize (i 1).val = n at hlt
  revert n; decide +kernel

set_option maxHeartbeats 4000000 in
/-- The opening part at the first block: the carried state is zeroed. -/
theorem part2A_run (h : first i) {E : Set ℕ} {K : (Σ' (v4 : Vec F S1024x256 .f32) (v27_0 : Vec F S8x1024 .f32), Vec F S8x1024 .f32) → sProp 𝕄} :
    iprop(Held c f2 f3 f4 f5 f6 f7 f8 f9 f10 f11 f12 f13 f14 f15 f16 f17 f18 f19 f20 f21 f22 f23
      ∗ (∀ r g18 g19 g20 g21 g22, Held c (arg18 := arg18) (arg19 := arg19) (arg20 := arg20) (arg21 := arg21) (arg22 := arg22) f2 f3 f4 f5 f6 f7 f8 f9 f10 f11 f12 f13 f14 f15 f16 f17 g18 g19 g20 g21 g22 f23
        -∗ ⌜r = ⟨usR (arg2.view.read (Elt F) f2) (arg3.view.read (Elt F) f3) (arg4.view.read (Elt F) f4), (scanV (arg2.view.read (Elt F) f2) (arg3.view.read (Elt F) f3) (arg4.view.read (Elt F) f4) (arg5.view.read (Elt F) f5) (arg7.view.read (Elt F) f7) (arg8.view.read (Elt F) f8) (k0_pay6 (F := F))).1.1, (scanV (arg2.view.read (Elt F) f2) (arg3.view.read (Elt F) f3) (arg4.view.read (Elt F) f4) (arg5.view.read (Elt F) f5) (arg7.view.read (Elt F) f7) (arg8.view.read (Elt F) f8) (k0_pay6 (F := F))).1.2⟩
          ∧ arg19.view.read (Elt F) g19 = ugV (arg2.view.read (Elt F) f2) (arg3.view.read (Elt F) f3) (arg4.view.read (Elt F) f4)
          ∧ arg20.view.read (Elt F) g20 = vV (arg2.view.read (Elt F) f2) (arg3.view.read (Elt F) f3) (arg4.view.read (Elt F) f4) (arg15.view.read (Elt F) f15)
          ∧ arg21.view.read (Elt F) g21 = statesV (arg2.view.read (Elt F) f2) (arg3.view.read (Elt F) f3) (arg4.view.read (Elt F) f4) (arg5.view.read (Elt F) f5) (arg7.view.read (Elt F) f7) (arg8.view.read (Elt F) f8) (k0_pay6 (F := F))⌝
        -∗ K r))
      ⊢ wp frame (wpE (defs₀ (F := F)) Variants.none c none) E (k0_part2 i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23) K := by
  simp only [k0_part2_eq_skeleton]; unfold k0_part2_skel
  iintro ⟨⟨H2, H3, H4, H5, H6, H7, H8, H9, H10, H11, H12, H13, H14, H15, H16, H17, H18, H19, H20, H21, H22, H23⟩, Hk⟩
  sl_exec (disch := first | sl_exact (first_word i h))
  sl_step
  iapply Hk $$ [H2 H3 H4 H5 H6 H7 H8 H9 H10 H11 H12 H13 H14 H15 H16 H17 H18 H19 H20 H21 H22 H23]
  · unfold Held; iframe ∗
  ipureintro
  have eT : Scf.trips k0_t1_loop.lb k0_t1_loop.ub k0_t1_loop.st = 4 := by decide
  have e1 := pb_eq (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (f2 := f2) (f3 := f3) (f4 := f4) (f15 := f15) 4 (by decide)
  rw [projP_all] at e1
  have eu (f : BufTy.Contents (Elt F) arg18.view.ty) :
      arg18.view.readAt (Elt F) (Rect.unit (s := S1024x256) ![0, 0] S1024x256.size inb_S1024x256_S1024x256_0_0).toLoadRect
        (arg18.view.writes (Elt F) f (usL (arg2.view.read (Elt F) f2) (arg3.view.read (Elt F) f3) (arg4.view.read (Elt F) f4))) = usR (arg2.view.read (Elt F) f2) (arg3.view.read (Elt F) f3) (arg4.view.read (Elt F) f4) := by
    rw [View.readAt_eq_ld, View.read_writes_eq_canon _ _ _ (us_cover _ _ _)]; rfl
  have es := st_eq (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (f21 := arg21.view.junk)
    (View.ld (arg8.view.read (Elt F) f8) (Rect.unit (s := S2x1024) ![0, 0] S1x1024.size inb_S2x1024_S1x1024_0_0))
    (View.ld (arg8.view.read (Elt F) f8) (Rect.unit (s := S2x1024) ![1, 0] S1x1024.size inb_S2x1024_S1x1024_1_0))
    (xsV (arg2.view.read (Elt F) f2) (arg3.view.read (Elt F) f3) (arg4.view.read (Elt F) f4) (arg5.view.read (Elt F) f5) (arg7.view.read (Elt F) f7)) (halves (k0_pay6 (F := F))) k0_t2_loop.trips (Nat.le_refl _)
  unfold part2A_run.sl.H21_1 part2A_run.sl.v4
  rw [eT, e1]
  dsimp only
  rw [eu]
  have z1 : part2A_run.sl.v24 (F := F) (arg22 := arg22) = (halves (k0_pay6 (F := F))).1 := by
    unfold part2A_run.sl.v24 part2A_run.sl.H22_1
    rw [View.readCov_eq_canon', View.canon_unit_zero (S := S8x2048) zero2]; rfl
  have z2 : part2A_run.sl.v25 (F := F) (arg22 := arg22) = (halves (k0_pay6 (F := F))).2 := by
    unfold part2A_run.sl.v25 part2A_run.sl.H22_1
    rw [View.readCov_eq_canon', View.canon_unit_zero (S := S8x2048) zero2]; rfl
  rw [z1, z2]
  refine ⟨congrArg (fun s : (Vec F S8x1024 .f32 × Vec F S8x1024 .f32) × List (View.Piece (Elt F) S1024x2048 .f32) =>
      (⟨usR (arg2.view.read (Elt F) f2) (arg3.view.read (Elt F) f3) (arg4.view.read (Elt F) f4), s.1.1, s.1.2⟩ : (Σ' (_ : Vec F S1024x256 .f32) (_ : Vec F S8x1024 .f32), Vec F S8x1024 .f32))) es,
    View.read_writes_eq_canon _ _ _ (ug_cover _ _ _), View.read_writes_eq_canon _ _ _ (v_cover _ _ _ _), ?_⟩
  exact (congrArg (fun s : (Vec F S8x1024 .f32 × Vec F S8x1024 .f32) × List (View.Piece (Elt F) S1024x2048 .f32) =>
      arg21.view.read (Elt F) (arg21.view.writes (Elt F) arg21.view.junk (s.2 ++ [wholeP (xsV (arg2.view.read (Elt F) f2) (arg3.view.read (Elt F) f3) (arg4.view.read (Elt F) f4) (arg5.view.read (Elt F) f5) (arg7.view.read (Elt F) f7))]))) es).trans
    (View.read_writes_eq_canon _ _ _ (whole_cover _ _))

set_option maxHeartbeats 4000000 in
/-- The opening part at a later block: the carried state is read. -/
theorem part2B_run (h : ¬ first i) {E : Set ℕ} {K : (Σ' (v4 : Vec F S1024x256 .f32) (v27_0 : Vec F S8x1024 .f32), Vec F S8x1024 .f32) → sProp 𝕄} :
    iprop(Held c f2 f3 f4 f5 f6 f7 f8 f9 f10 f11 f12 f13 f14 f15 f16 f17 f18 f19 f20 f21 f22 f23
      ∗ (∀ r g18 g19 g20 g21, Held c (arg18 := arg18) (arg19 := arg19) (arg20 := arg20) (arg21 := arg21) f2 f3 f4 f5 f6 f7 f8 f9 f10 f11 f12 f13 f14 f15 f16 f17 g18 g19 g20 g21 f22 f23
        -∗ ⌜r = ⟨usR (arg2.view.read (Elt F) f2) (arg3.view.read (Elt F) f3) (arg4.view.read (Elt F) f4), (scanV (arg2.view.read (Elt F) f2) (arg3.view.read (Elt F) f3) (arg4.view.read (Elt F) f4) (arg5.view.read (Elt F) f5) (arg7.view.read (Elt F) f7) (arg8.view.read (Elt F) f8) (arg22.view.read (Elt F) f22)).1.1, (scanV (arg2.view.read (Elt F) f2) (arg3.view.read (Elt F) f3) (arg4.view.read (Elt F) f4) (arg5.view.read (Elt F) f5) (arg7.view.read (Elt F) f7) (arg8.view.read (Elt F) f8) (arg22.view.read (Elt F) f22)).1.2⟩
          ∧ arg19.view.read (Elt F) g19 = ugV (arg2.view.read (Elt F) f2) (arg3.view.read (Elt F) f3) (arg4.view.read (Elt F) f4)
          ∧ arg20.view.read (Elt F) g20 = vV (arg2.view.read (Elt F) f2) (arg3.view.read (Elt F) f3) (arg4.view.read (Elt F) f4) (arg15.view.read (Elt F) f15)
          ∧ arg21.view.read (Elt F) g21 = statesV (arg2.view.read (Elt F) f2) (arg3.view.read (Elt F) f3) (arg4.view.read (Elt F) f4) (arg5.view.read (Elt F) f5) (arg7.view.read (Elt F) f7) (arg8.view.read (Elt F) f8) (arg22.view.read (Elt F) f22)⌝
        -∗ K r))
      ⊢ wp frame (wpE (defs₀ (F := F)) Variants.none c none) E (k0_part2 i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23) K := by
  simp only [k0_part2_eq_skeleton]; unfold k0_part2_skel
  iintro ⟨⟨H2, H3, H4, H5, H6, H7, H8, H9, H10, H11, H12, H13, H14, H15, H16, H17, H18, H19, H20, H21, H22, H23⟩, Hk⟩
  sl_exec (disch := first | sl_exact (later_word i h))
  sl_step
  iapply Hk $$ [H2 H3 H4 H5 H6 H7 H8 H9 H10 H11 H12 H13 H14 H15 H16 H17 H18 H19 H20 H21 H22 H23]
  · unfold Held; iframe ∗
  ipureintro
  have eT : Scf.trips k0_t1_loop.lb k0_t1_loop.ub k0_t1_loop.st = 4 := by decide
  have e1 := pb_eq (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (f2 := f2) (f3 := f3) (f4 := f4) (f15 := f15) 4 (by decide)
  rw [projP_all] at e1
  have eu (f : BufTy.Contents (Elt F) arg18.view.ty) :
      arg18.view.readAt (Elt F) (Rect.unit (s := S1024x256) ![0, 0] S1024x256.size inb_S1024x256_S1024x256_0_0).toLoadRect
        (arg18.view.writes (Elt F) f (usL (arg2.view.read (Elt F) f2) (arg3.view.read (Elt F) f3) (arg4.view.read (Elt F) f4))) = usR (arg2.view.read (Elt F) f2) (arg3.view.read (Elt F) f3) (arg4.view.read (Elt F) f4) := by
    rw [View.readAt_eq_ld, View.read_writes_eq_canon _ _ _ (us_cover _ _ _)]; rfl
  have es := st_eq (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (f21 := arg21.view.junk)
    (View.ld (arg8.view.read (Elt F) f8) (Rect.unit (s := S2x1024) ![0, 0] S1x1024.size inb_S2x1024_S1x1024_0_0))
    (View.ld (arg8.view.read (Elt F) f8) (Rect.unit (s := S2x1024) ![1, 0] S1x1024.size inb_S2x1024_S1x1024_1_0))
    (xsV (arg2.view.read (Elt F) f2) (arg3.view.read (Elt F) f3) (arg4.view.read (Elt F) f4) (arg5.view.read (Elt F) f5) (arg7.view.read (Elt F) f7)) (halves (arg22.view.read (Elt F) f22)) k0_t2_loop.trips (Nat.le_refl _)
  unfold part2B_run.sl.H21_1 part2B_run.sl.v4
  rw [eT, e1]
  dsimp only
  rw [eu]
  refine ⟨congrArg (fun s : (Vec F S8x1024 .f32 × Vec F S8x1024 .f32) × List (View.Piece (Elt F) S1024x2048 .f32) =>
      (⟨usR (arg2.view.read (Elt F) f2) (arg3.view.read (Elt F) f3) (arg4.view.read (Elt F) f4), s.1.1, s.1.2⟩ : (Σ' (_ : Vec F S1024x256 .f32) (_ : Vec F S8x1024 .f32), Vec F S8x1024 .f32))) es,
    View.read_writes_eq_canon _ _ _ (ug_cover _ _ _), View.read_writes_eq_canon _ _ _ (v_cover _ _ _ _), ?_⟩
  exact (congrArg (fun s : (Vec F S8x1024 .f32 × Vec F S8x1024 .f32) × List (View.Piece (Elt F) S1024x2048 .f32) =>
      arg21.view.read (Elt F) (arg21.view.writes (Elt F) arg21.view.junk (s.2 ++ [wholeP (xsV (arg2.view.read (Elt F) f2) (arg3.view.read (Elt F) f3) (arg4.view.read (Elt F) f4) (arg5.view.read (Elt F) f5) (arg7.view.read (Elt F) f7))]))) es).trans
    (View.read_writes_eq_canon _ _ _ (whole_cover _ _))

/-- The state a block starts its recurrence from: zero at the first block, else what is stored. -/
def startV (i : grid0.Coords) (x22 : Vec F S8x2048 .f32) : Vec F S8x2048 .f32 := if first i then k0_pay6 (F := F) else x22

/-- The opening part at any block. -/
theorem part2_run {E : Set ℕ} {K : (Σ' (v4 : Vec F S1024x256 .f32) (v27_0 : Vec F S8x1024 .f32), Vec F S8x1024 .f32) → sProp 𝕄} :
    iprop(Held c f2 f3 f4 f5 f6 f7 f8 f9 f10 f11 f12 f13 f14 f15 f16 f17 f18 f19 f20 f21 f22 f23
      ∗ (∀ r g18 g19 g20 g21 g22, Held c (arg18 := arg18) (arg19 := arg19) (arg20 := arg20) (arg21 := arg21) (arg22 := arg22) f2 f3 f4 f5 f6 f7 f8 f9 f10 f11 f12 f13 f14 f15 f16 f17 g18 g19 g20 g21 g22 f23
        -∗ ⌜r = ⟨usR (arg2.view.read (Elt F) f2) (arg3.view.read (Elt F) f3) (arg4.view.read (Elt F) f4), (scanV (arg2.view.read (Elt F) f2) (arg3.view.read (Elt F) f3) (arg4.view.read (Elt F) f4) (arg5.view.read (Elt F) f5) (arg7.view.read (Elt F) f7) (arg8.view.read (Elt F) f8) (startV i (arg22.view.read (Elt F) f22))).1.1, (scanV (arg2.view.read (Elt F) f2) (arg3.view.read (Elt F) f3) (arg4.view.read (Elt F) f4) (arg5.view.read (Elt F) f5) (arg7.view.read (Elt F) f7) (arg8.view.read (Elt F) f8) (startV i (arg22.view.read (Elt F) f22))).1.2⟩
          ∧ arg19.view.read (Elt F) g19 = ugV (arg2.view.read (Elt F) f2) (arg3.view.read (Elt F) f3) (arg4.view.read (Elt F) f4)
          ∧ arg20.view.read (Elt F) g20 = vV (arg2.view.read (Elt F) f2) (arg3.view.read (Elt F) f3) (arg4.view.read (Elt F) f4) (arg15.view.read (Elt F) f15)
          ∧ arg21.view.read (Elt F) g21 = statesV (arg2.view.read (Elt F) f2) (arg3.view.read (Elt F) f3) (arg4.view.read (Elt F) f4) (arg5.view.read (Elt F) f5) (arg7.view.read (Elt F) f7) (arg8.view.read (Elt F) f8) (startV i (arg22.view.read (Elt F) f22))⌝
        -∗ K r))
      ⊢ wp frame (wpE (defs₀ (F := F)) Variants.none c none) E (k0_part2 i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23) K := by
  by_cases h : first i
  · rw [show startV i (arg22.view.read (Elt F) f22) = k0_pay6 (F := F) from if_pos h]
    exact part2A_run h
  · rw [show startV i (arg22.view.read (Elt F) f22) = arg22.view.read (Elt F) f22 from if_neg h]
    iintro ⟨HR, Hk⟩
    iapply (part2B_run h)
    isplitl [HR]; · iexact HR
    iintro %r %g18 %g19 %g20 %g21 HR %hr
    iapply Hk $$ [HR]
    · iexact HR
    ipureintro
    exact hr

end Cert.EvenIdeal.Hand

end
-- ==== Proof.EvenIdealPartsB.lean ====
/- The body of the even mixer, straight-line parts 11 to 18 of the printed function: what each stores and returns. -/
module

public import proofs.«01_k».proof.Proof.EvenIdealPartsA
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.EvenIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.EvenIdeal Cert.EvenIdeal.Gen

variable {F : FTy → Type} [FloatOps F]

local notation "𝕄" => MT nD τ sig Unit (Elt F) ℕ (UR sig nD τ) ℕ

variable {c : Dev nD} {i : grid0.Coords} {arg2 : Memref sig .tc .vmem S8x128x1024 .f32} {harg2 : arg2.IsWhole} {arg3 : Memref sig .tc .vmem S1x1024 .f32} {harg3 : arg3.IsWhole} {arg4 : Memref sig .tc .vmem S1024x1792 .bf16} {harg4 : arg4.IsWhole} {arg5 : Memref sig .tc .vmem S1024x1024 .bf16} {harg5 : arg5.IsWhole} {arg6 : Memref sig .tc .vmem S1024x1024 .bf16} {harg6 : arg6.IsWhole} {arg7 : Memref sig .tc .vmem S256x2048 .bf16} {harg7 : arg7.IsWhole} {arg8 : Memref sig .tc .vmem S2x1024 .f32} {harg8 : arg8.IsWhole} {arg9 : Memref sig .tc .vmem S2048x256 .bf16} {harg9 : arg9.IsWhole} {arg10 : Memref sig .tc .vmem S1x256 .f32} {harg10 : arg10.IsWhole} {arg11 : Memref sig .tc .vmem S256x256 .bf16} {harg11 : arg11.IsWhole} {arg12 : Memref sig .tc .vmem S1x256 .f32} {harg12 : arg12.IsWhole} {arg13 : Memref sig .tc .vmem S6x128x128 .bf16} {harg13 : arg13.IsWhole} {arg14 : Memref sig .tc .vmem S6x128x128 .f32} {harg14 : arg14.IsWhole} {arg15 : Memref sig .tc .vmem S1x768 .f32} {harg15 : arg15.IsWhole} {arg16 : Memref sig .tc .vmem S1024x1024 .bf16} {harg16 : arg16.IsWhole} {arg17 : Memref sig .tc .vmem S8x128x1024 .f32} {harg17 : arg17.IsWhole} {arg18 : Memref sig .tc .vmem S1024x256 .f32} {harg18 : arg18.IsWhole} {arg19 : Memref sig .tc .vmem S1024x768 .f32} {harg19 : arg19.IsWhole} {arg20 : Memref sig .tc .vmem S1024x768 .bf16} {harg20 : arg20.IsWhole} {arg21 : Memref sig .tc .vmem S1024x2048 .f32} {harg21 : arg21.IsWhole} {arg22 : Memref sig .tc .vmem S8x2048 .f32} {harg22 : arg22.IsWhole} {arg23 : Memref sig .tc .vmem S1024x1024 .bf16} {harg23 : arg23.IsWhole}
  {f2 : BufTy.Contents (Elt F) arg2.view.ty} {f3 : BufTy.Contents (Elt F) arg3.view.ty} {f4 : BufTy.Contents (Elt F) arg4.view.ty} {f5 : BufTy.Contents (Elt F) arg5.view.ty} {f6 : BufTy.Contents (Elt F) arg6.view.ty} {f7 : BufTy.Contents (Elt F) arg7.view.ty} {f8 : BufTy.Contents (Elt F) arg8.view.ty} {f9 : BufTy.Contents (Elt F) arg9.view.ty} {f10 : BufTy.Contents (Elt F) arg10.view.ty} {f11 : BufTy.Contents (Elt F) arg11.view.ty} {f12 : BufTy.Contents (Elt F) arg12.view.ty} {f13 : BufTy.Contents (Elt F) arg13.view.ty} {f14 : BufTy.Contents (Elt F) arg14.view.ty} {f15 : BufTy.Contents (Elt F) arg15.view.ty} {f16 : BufTy.Contents (Elt F) arg16.view.ty} {f17 : BufTy.Contents (Elt F) arg17.view.ty} {f18 : BufTy.Contents (Elt F) arg18.view.ty} {f19 : BufTy.Contents (Elt F) arg19.view.ty} {f20 : BufTy.Contents (Elt F) arg20.view.ty} {f21 : BufTy.Contents (Elt F) arg21.view.ty} {f22 : BufTy.Contents (Elt F) arg22.view.ty} {f23 : BufTy.Contents (Elt F) arg23.view.ty}

set_option maxHeartbeats 1000000 in
/-- Part 11: 2 stores into buffer 23. -/
theorem part11_run (v270 : FVec F S128x128 .f32) (v271 : Vec F S128x128 .f32) {E : Set ℕ} {K : (FVec F S128x128 .bf16) → sProp 𝕄} :
    iprop(Held c f2 f3 f4 f5 f6 f7 f8 f9 f10 f11 f12 f13 f14 f15 f16 f17 f18 f19 f20 f21 f22 f23
      ∗ (Held c f2 f3 f4 f5 f6 f7 f8 f9 f10 f11 f12 f13 f14 f15 f16 f17 f18 f19 f20 f21 f22 (arg23.view.writes (Elt F) f23 [⟨Rect.unit (s := S1024x1024) ![256, 640] S128x128.size inb_S1024x1024_S128x128_256_640, k0_pay43 (View.readAt (Elt F) arg13.view (Rect.unit (s := S6x128x128) ![3, 0, 0] S1x128x128.size inb_S6x128x128_S1x128x128_3_0_0).toLoadRect f13) (View.readAt (Elt F) arg20.view (Rect.unit (s := S1024x768) ![256, 384] S128x128.size inb_S1024x768_S128x128_256_384).toLoadRect f20) (View.readAt (Elt F) arg14.view (Rect.unit (s := S6x128x128) ![3, 0, 0] S1x128x128.size inb_S6x128x128_S1x128x128_3_0_0).toLoadRect f14) (View.readAt (Elt F) arg19.view (Rect.unit (s := S1024x768) ![256, 384] S128x128.size inb_S1024x768_S128x128_256_384).toLoadRect f19)⟩, ⟨Rect.unit (s := S1024x1024) ![256, 512] S128x128.size inb_S1024x1024_S128x128_256_512, k0_pay42 v270 v271⟩]) -∗ K (k0_pay44 (View.readAt (Elt F) arg13.view (Rect.unit (s := S6x128x128) ![4, 0, 0] S1x128x128.size inb_S6x128x128_S1x128x128_4_0_0).toLoadRect f13) (View.readAt (Elt F) arg20.view (Rect.unit (s := S1024x768) ![256, 512] S128x128.size inb_S1024x768_S128x128_256_512).toLoadRect f20) (View.readAt (Elt F) arg14.view (Rect.unit (s := S6x128x128) ![4, 0, 0] S1x128x128.size inb_S6x128x128_S1x128x128_4_0_0).toLoadRect f14) (View.readAt (Elt F) arg19.view (Rect.unit (s := S1024x768) ![256, 512] S128x128.size inb_S1024x768_S128x128_256_512).toLoadRect f19))))
      ⊢ wp frame (wpE (defs₀ (F := F)) Variants.none c none) E (k0_part11 i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 v270 v271) K := by
  simp only [k0_part11_eq_skeleton]; unfold k0_part11_skel
  iintro ⟨⟨H2, H3, H4, H5, H6, H7, H8, H9, H10, H11, H12, H13, H14, H15, H16, H17, H18, H19, H20, H21, H22, H23⟩, Hk⟩
  sl_exec
  sl_step
  iapply Hk
  unfold Held; iframe ∗

set_option maxHeartbeats 1000000 in
/-- Part 12: 3 stores into buffer 23. -/
theorem part12_run (v299 : FVec F S128x128 .bf16) {E : Set ℕ} {K : (Vec F S1x128x128 .bf16) → sProp 𝕄} :
    iprop(Held c f2 f3 f4 f5 f6 f7 f8 f9 f10 f11 f12 f13 f14 f15 f16 f17 f18 f19 f20 f21 f22 f23
      ∗ (Held c f2 f3 f4 f5 f6 f7 f8 f9 f10 f11 f12 f13 f14 f15 f16 f17 f18 f19 f20 f21 f22 (arg23.view.writes (Elt F) f23 [⟨Rect.unit (s := S1024x1024) ![384, 256] S128x128.size inb_S1024x1024_S128x128_384_256, k0_pay47 (View.readAt (Elt F) arg13.view (Rect.unit (s := S6x128x128) ![0, 0, 0] S1x128x128.size inb_S6x128x128_S1x128x128_0_0_0).toLoadRect f13) (View.readAt (Elt F) arg20.view (Rect.unit (s := S1024x768) ![384, 0] S128x128.size inb_S1024x768_S128x128_384_0).toLoadRect f20) (View.readAt (Elt F) arg14.view (Rect.unit (s := S6x128x128) ![0, 0, 0] S1x128x128.size inb_S6x128x128_S1x128x128_0_0_0).toLoadRect f14) (View.readAt (Elt F) arg19.view (Rect.unit (s := S1024x768) ![384, 0] S128x128.size inb_S1024x768_S128x128_384_0).toLoadRect f19)⟩, ⟨Rect.unit (s := S1024x1024) ![256, 896] S128x128.size inb_S1024x1024_S128x128_256_896, k0_pay46 (View.readAt (Elt F) arg13.view (Rect.unit (s := S6x128x128) ![5, 0, 0] S1x128x128.size inb_S6x128x128_S1x128x128_5_0_0).toLoadRect f13) (View.readAt (Elt F) arg20.view (Rect.unit (s := S1024x768) ![256, 640] S128x128.size inb_S1024x768_S128x128_256_640).toLoadRect f20) (View.readAt (Elt F) arg14.view (Rect.unit (s := S6x128x128) ![5, 0, 0] S1x128x128.size inb_S6x128x128_S1x128x128_5_0_0).toLoadRect f14) (View.readAt (Elt F) arg19.view (Rect.unit (s := S1024x768) ![256, 640] S128x128.size inb_S1024x768_S128x128_256_640).toLoadRect f19)⟩, ⟨Rect.unit (s := S1024x1024) ![256, 768] S128x128.size inb_S1024x1024_S128x128_256_768, k0_pay45 v299⟩]) -∗ K (View.readAt (Elt F) arg13.view (Rect.unit (s := S6x128x128) ![1, 0, 0] S1x128x128.size inb_S6x128x128_S1x128x128_1_0_0).toLoadRect f13)))
      ⊢ wp frame (wpE (defs₀ (F := F)) Variants.none c none) E (k0_part12 i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 v299) K := by
  simp only [k0_part12_eq_skeleton]; unfold k0_part12_skel
  iintro ⟨⟨H2, H3, H4, H5, H6, H7, H8, H9, H10, H11, H12, H13, H14, H15, H16, H17, H18, H19, H20, H21, H22, H23⟩, Hk⟩
  sl_exec
  sl_step
  iapply Hk
  unfold Held; iframe ∗

set_option maxHeartbeats 1000000 in
/-- Part 13: 2 stores into buffer 23. -/
theorem part13_run (v329 : Vec F S1x128x128 .bf16) {E : Set ℕ} {K : (FVec F S128x128 .f32) → sProp 𝕄} :
    iprop(Held c f2 f3 f4 f5 f6 f7 f8 f9 f10 f11 f12 f13 f14 f15 f16 f17 f18 f19 f20 f21 f22 f23
      ∗ (Held c f2 f3 f4 f5 f6 f7 f8 f9 f10 f11 f12 f13 f14 f15 f16 f17 f18 f19 f20 f21 f22 (arg23.view.writes (Elt F) f23 [⟨Rect.unit (s := S1024x1024) ![384, 512] S128x128.size inb_S1024x1024_S128x128_384_512, k0_pay49 (View.readAt (Elt F) arg13.view (Rect.unit (s := S6x128x128) ![2, 0, 0] S1x128x128.size inb_S6x128x128_S1x128x128_2_0_0).toLoadRect f13) (View.readAt (Elt F) arg20.view (Rect.unit (s := S1024x768) ![384, 256] S128x128.size inb_S1024x768_S128x128_384_256).toLoadRect f20) (View.readAt (Elt F) arg14.view (Rect.unit (s := S6x128x128) ![2, 0, 0] S1x128x128.size inb_S6x128x128_S1x128x128_2_0_0).toLoadRect f14) (View.readAt (Elt F) arg19.view (Rect.unit (s := S1024x768) ![384, 256] S128x128.size inb_S1024x768_S128x128_384_256).toLoadRect f19)⟩, ⟨Rect.unit (s := S1024x1024) ![384, 384] S128x128.size inb_S1024x1024_S128x128_384_384, k0_pay48 v329 (View.readAt (Elt F) arg20.view (Rect.unit (s := S1024x768) ![384, 128] S128x128.size inb_S1024x768_S128x128_384_128).toLoadRect f20) (View.readAt (Elt F) arg14.view (Rect.unit (s := S6x128x128) ![1, 0, 0] S1x128x128.size inb_S6x128x128_S1x128x128_1_0_0).toLoadRect f14) (View.readAt (Elt F) arg19.view (Rect.unit (s := S1024x768) ![384, 128] S128x128.size inb_S1024x768_S128x128_384_128).toLoadRect f19)⟩]) -∗ K (k0_pay50 (View.readAt (Elt F) arg13.view (Rect.unit (s := S6x128x128) ![3, 0, 0] S1x128x128.size inb_S6x128x128_S1x128x128_3_0_0).toLoadRect f13) (View.readAt (Elt F) arg20.view (Rect.unit (s := S1024x768) ![384, 384] S128x128.size inb_S1024x768_S128x128_384_384).toLoadRect f20))))
      ⊢ wp frame (wpE (defs₀ (F := F)) Variants.none c none) E (k0_part13 i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 v329) K := by
  simp only [k0_part13_eq_skeleton]; unfold k0_part13_skel
  iintro ⟨⟨H2, H3, H4, H5, H6, H7, H8, H9, H10, H11, H12, H13, H14, H15, H16, H17, H18, H19, H20, H21, H22, H23⟩, Hk⟩
  sl_exec
  sl_step
  iapply Hk
  unfold Held; iframe ∗

set_option maxHeartbeats 1000000 in
/-- Part 14: 2 stores into buffer 23. -/
theorem part14_run (v358 : FVec F S128x128 .f32) {E : Set ℕ} {K : (FVec F S128x128 .f32) → sProp 𝕄} :
    iprop(Held c f2 f3 f4 f5 f6 f7 f8 f9 f10 f11 f12 f13 f14 f15 f16 f17 f18 f19 f20 f21 f22 f23
      ∗ (Held c f2 f3 f4 f5 f6 f7 f8 f9 f10 f11 f12 f13 f14 f15 f16 f17 f18 f19 f20 f21 f22 (arg23.view.writes (Elt F) f23 [⟨Rect.unit (s := S1024x1024) ![384, 768] S128x128.size inb_S1024x1024_S128x128_384_768, k0_pay52 (View.readAt (Elt F) arg13.view (Rect.unit (s := S6x128x128) ![4, 0, 0] S1x128x128.size inb_S6x128x128_S1x128x128_4_0_0).toLoadRect f13) (View.readAt (Elt F) arg20.view (Rect.unit (s := S1024x768) ![384, 512] S128x128.size inb_S1024x768_S128x128_384_512).toLoadRect f20) (View.readAt (Elt F) arg14.view (Rect.unit (s := S6x128x128) ![4, 0, 0] S1x128x128.size inb_S6x128x128_S1x128x128_4_0_0).toLoadRect f14) (View.readAt (Elt F) arg19.view (Rect.unit (s := S1024x768) ![384, 512] S128x128.size inb_S1024x768_S128x128_384_512).toLoadRect f19)⟩, ⟨Rect.unit (s := S1024x1024) ![384, 640] S128x128.size inb_S1024x1024_S128x128_384_640, k0_pay51 v358 (View.readAt (Elt F) arg14.view (Rect.unit (s := S6x128x128) ![3, 0, 0] S1x128x128.size inb_S6x128x128_S1x128x128_3_0_0).toLoadRect f14) (View.readAt (Elt F) arg19.view (Rect.unit (s := S1024x768) ![384, 384] S128x128.size inb_S1024x768_S128x128_384_384).toLoadRect f19)⟩]) -∗ K (k0_pay53 (View.readAt (Elt F) arg13.view (Rect.unit (s := S6x128x128) ![5, 0, 0] S1x128x128.size inb_S6x128x128_S1x128x128_5_0_0).toLoadRect f13) (View.readAt (Elt F) arg20.view (Rect.unit (s := S1024x768) ![384, 640] S128x128.size inb_S1024x768_S128x128_384_640).toLoadRect f20) (View.readAt (Elt F) arg14.view (Rect.unit (s := S6x128x128) ![5, 0, 0] S1x128x128.size inb_S6x128x128_S1x128x128_5_0_0).toLoadRect f14))))
      ⊢ wp frame (wpE (defs₀ (F := F)) Variants.none c none) E (k0_part14 i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 v358) K := by
  simp only [k0_part14_eq_skeleton]; unfold k0_part14_skel
  iintro ⟨⟨H2, H3, H4, H5, H6, H7, H8, H9, H10, H11, H12, H13, H14, H15, H16, H17, H18, H19, H20, H21, H22, H23⟩, Hk⟩
  sl_exec
  sl_step
  iapply Hk
  unfold Held; iframe ∗

set_option maxHeartbeats 1000000 in
/-- Part 15: 2 stores into buffer 23. -/
theorem part15_run (v387 : FVec F S128x128 .f32) {E : Set ℕ} {K : (FVec F S128x128 .bf16) → sProp 𝕄} :
    iprop(Held c f2 f3 f4 f5 f6 f7 f8 f9 f10 f11 f12 f13 f14 f15 f16 f17 f18 f19 f20 f21 f22 f23
      ∗ (Held c f2 f3 f4 f5 f6 f7 f8 f9 f10 f11 f12 f13 f14 f15 f16 f17 f18 f19 f20 f21 f22 (arg23.view.writes (Elt F) f23 [⟨Rect.unit (s := S1024x1024) ![512, 256] S128x128.size inb_S1024x1024_S128x128_512_256, k0_pay55 (View.readAt (Elt F) arg13.view (Rect.unit (s := S6x128x128) ![0, 0, 0] S1x128x128.size inb_S6x128x128_S1x128x128_0_0_0).toLoadRect f13) (View.readAt (Elt F) arg20.view (Rect.unit (s := S1024x768) ![512, 0] S128x128.size inb_S1024x768_S128x128_512_0).toLoadRect f20) (View.readAt (Elt F) arg14.view (Rect.unit (s := S6x128x128) ![0, 0, 0] S1x128x128.size inb_S6x128x128_S1x128x128_0_0_0).toLoadRect f14) (View.readAt (Elt F) arg19.view (Rect.unit (s := S1024x768) ![512, 0] S128x128.size inb_S1024x768_S128x128_512_0).toLoadRect f19)⟩, ⟨Rect.unit (s := S1024x1024) ![384, 896] S128x128.size inb_S1024x1024_S128x128_384_896, k0_pay54 v387 (View.readAt (Elt F) arg19.view (Rect.unit (s := S1024x768) ![384, 640] S128x128.size inb_S1024x768_S128x128_384_640).toLoadRect f19)⟩]) -∗ K (k0_pay56 (View.readAt (Elt F) arg13.view (Rect.unit (s := S6x128x128) ![1, 0, 0] S1x128x128.size inb_S6x128x128_S1x128x128_1_0_0).toLoadRect f13) (View.readAt (Elt F) arg20.view (Rect.unit (s := S1024x768) ![512, 128] S128x128.size inb_S1024x768_S128x128_512_128).toLoadRect f20) (View.readAt (Elt F) arg14.view (Rect.unit (s := S6x128x128) ![1, 0, 0] S1x128x128.size inb_S6x128x128_S1x128x128_1_0_0).toLoadRect f14) (View.readAt (Elt F) arg19.view (Rect.unit (s := S1024x768) ![512, 128] S128x128.size inb_S1024x768_S128x128_512_128).toLoadRect f19))))
      ⊢ wp frame (wpE (defs₀ (F := F)) Variants.none c none) E (k0_part15 i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 v387) K := by
  simp only [k0_part15_eq_skeleton]; unfold k0_part15_skel
  iintro ⟨⟨H2, H3, H4, H5, H6, H7, H8, H9, H10, H11, H12, H13, H14, H15, H16, H17, H18, H19, H20, H21, H22, H23⟩, Hk⟩
  sl_exec
  sl_step
  iapply Hk
  unfold Held; iframe ∗

set_option maxHeartbeats 1000000 in
/-- Part 16: 3 stores into buffer 23. -/
theorem part16_run (v416 : FVec F S128x128 .bf16) {E : Set ℕ} {K : (PUnit) → sProp 𝕄} :
    iprop(Held c f2 f3 f4 f5 f6 f7 f8 f9 f10 f11 f12 f13 f14 f15 f16 f17 f18 f19 f20 f21 f22 f23
      ∗ (Held c f2 f3 f4 f5 f6 f7 f8 f9 f10 f11 f12 f13 f14 f15 f16 f17 f18 f19 f20 f21 f22 (arg23.view.writes (Elt F) f23 [⟨Rect.unit (s := S1024x1024) ![512, 640] S128x128.size inb_S1024x1024_S128x128_512_640, k0_pay59 (View.readAt (Elt F) arg13.view (Rect.unit (s := S6x128x128) ![3, 0, 0] S1x128x128.size inb_S6x128x128_S1x128x128_3_0_0).toLoadRect f13) (View.readAt (Elt F) arg20.view (Rect.unit (s := S1024x768) ![512, 384] S128x128.size inb_S1024x768_S128x128_512_384).toLoadRect f20) (View.readAt (Elt F) arg14.view (Rect.unit (s := S6x128x128) ![3, 0, 0] S1x128x128.size inb_S6x128x128_S1x128x128_3_0_0).toLoadRect f14) (View.readAt (Elt F) arg19.view (Rect.unit (s := S1024x768) ![512, 384] S128x128.size inb_S1024x768_S128x128_512_384).toLoadRect f19)⟩, ⟨Rect.unit (s := S1024x1024) ![512, 512] S128x128.size inb_S1024x1024_S128x128_512_512, k0_pay58 (View.readAt (Elt F) arg13.view (Rect.unit (s := S6x128x128) ![2, 0, 0] S1x128x128.size inb_S6x128x128_S1x128x128_2_0_0).toLoadRect f13) (View.readAt (Elt F) arg20.view (Rect.unit (s := S1024x768) ![512, 256] S128x128.size inb_S1024x768_S128x128_512_256).toLoadRect f20) (View.readAt (Elt F) arg14.view (Rect.unit (s := S6x128x128) ![2, 0, 0] S1x128x128.size inb_S6x128x128_S1x128x128_2_0_0).toLoadRect f14) (View.readAt (Elt F) arg19.view (Rect.unit (s := S1024x768) ![512, 256] S128x128.size inb_S1024x768_S128x128_512_256).toLoadRect f19)⟩, ⟨Rect.unit (s := S1024x1024) ![512, 384] S128x128.size inb_S1024x1024_S128x128_512_384, k0_pay57 v416⟩]) -∗ K ⟨⟩))
      ⊢ wp frame (wpE (defs₀ (F := F)) Variants.none c none) E (k0_part16 i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 v416) K := by
  simp only [k0_part16_eq_skeleton]; unfold k0_part16_skel
  iintro ⟨⟨H2, H3, H4, H5, H6, H7, H8, H9, H10, H11, H12, H13, H14, H15, H16, H17, H18, H19, H20, H21, H22, H23⟩, Hk⟩
  sl_exec
  sl_step
  iapply Hk
  unfold Held; iframe ∗

set_option maxHeartbeats 1000000 in
/-- Part 17: 2 stores into buffer 23. -/
theorem part17_run  {E : Set ℕ} {K : (FVec F S128x128 .bf16) → sProp 𝕄} :
    iprop(Held c f2 f3 f4 f5 f6 f7 f8 f9 f10 f11 f12 f13 f14 f15 f16 f17 f18 f19 f20 f21 f22 f23
      ∗ (Held c f2 f3 f4 f5 f6 f7 f8 f9 f10 f11 f12 f13 f14 f15 f16 f17 f18 f19 f20 f21 f22 (arg23.view.writes (Elt F) f23 [⟨Rect.unit (s := S1024x1024) ![512, 896] S128x128.size inb_S1024x1024_S128x128_512_896, k0_pay61 (View.readAt (Elt F) arg13.view (Rect.unit (s := S6x128x128) ![5, 0, 0] S1x128x128.size inb_S6x128x128_S1x128x128_5_0_0).toLoadRect f13) (View.readAt (Elt F) arg20.view (Rect.unit (s := S1024x768) ![512, 640] S128x128.size inb_S1024x768_S128x128_512_640).toLoadRect f20) (View.readAt (Elt F) arg14.view (Rect.unit (s := S6x128x128) ![5, 0, 0] S1x128x128.size inb_S6x128x128_S1x128x128_5_0_0).toLoadRect f14) (View.readAt (Elt F) arg19.view (Rect.unit (s := S1024x768) ![512, 640] S128x128.size inb_S1024x768_S128x128_512_640).toLoadRect f19)⟩, ⟨Rect.unit (s := S1024x1024) ![512, 768] S128x128.size inb_S1024x1024_S128x128_512_768, k0_pay60 (View.readAt (Elt F) arg13.view (Rect.unit (s := S6x128x128) ![4, 0, 0] S1x128x128.size inb_S6x128x128_S1x128x128_4_0_0).toLoadRect f13) (View.readAt (Elt F) arg20.view (Rect.unit (s := S1024x768) ![512, 512] S128x128.size inb_S1024x768_S128x128_512_512).toLoadRect f20) (View.readAt (Elt F) arg14.view (Rect.unit (s := S6x128x128) ![4, 0, 0] S1x128x128.size inb_S6x128x128_S1x128x128_4_0_0).toLoadRect f14) (View.readAt (Elt F) arg19.view (Rect.unit (s := S1024x768) ![512, 512] S128x128.size inb_S1024x768_S128x128_512_512).toLoadRect f19)⟩]) -∗ K (k0_pay62 (View.readAt (Elt F) arg13.view (Rect.unit (s := S6x128x128) ![0, 0, 0] S1x128x128.size inb_S6x128x128_S1x128x128_0_0_0).toLoadRect f13))))
      ⊢ wp frame (wpE (defs₀ (F := F)) Variants.none c none) E (k0_part17 i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 ) K := by
  simp only [k0_part17_eq_skeleton]; unfold k0_part17_skel
  iintro ⟨⟨H2, H3, H4, H5, H6, H7, H8, H9, H10, H11, H12, H13, H14, H15, H16, H17, H18, H19, H20, H21, H22, H23⟩, Hk⟩
  sl_exec
  sl_step
  iapply Hk
  unfold Held; iframe ∗

set_option maxHeartbeats 1000000 in
/-- Part 18: 2 stores into buffer 23. -/
theorem part18_run (v473 : FVec F S128x128 .bf16) {E : Set ℕ} {K : (FVec F S128x128 .f32) → sProp 𝕄} :
    iprop(Held c f2 f3 f4 f5 f6 f7 f8 f9 f10 f11 f12 f13 f14 f15 f16 f17 f18 f19 f20 f21 f22 f23
      ∗ (Held c f2 f3 f4 f5 f6 f7 f8 f9 f10 f11 f12 f13 f14 f15 f16 f17 f18 f19 f20 f21 f22 (arg23.view.writes (Elt F) f23 [⟨Rect.unit (s := S1024x1024) ![640, 384] S128x128.size inb_S1024x1024_S128x128_640_384, k0_pay64 (View.readAt (Elt F) arg13.view (Rect.unit (s := S6x128x128) ![1, 0, 0] S1x128x128.size inb_S6x128x128_S1x128x128_1_0_0).toLoadRect f13) (View.readAt (Elt F) arg20.view (Rect.unit (s := S1024x768) ![640, 128] S128x128.size inb_S1024x768_S128x128_640_128).toLoadRect f20) (View.readAt (Elt F) arg14.view (Rect.unit (s := S6x128x128) ![1, 0, 0] S1x128x128.size inb_S6x128x128_S1x128x128_1_0_0).toLoadRect f14) (View.readAt (Elt F) arg19.view (Rect.unit (s := S1024x768) ![640, 128] S128x128.size inb_S1024x768_S128x128_640_128).toLoadRect f19)⟩, ⟨Rect.unit (s := S1024x1024) ![640, 256] S128x128.size inb_S1024x1024_S128x128_640_256, k0_pay63 v473 (View.readAt (Elt F) arg20.view (Rect.unit (s := S1024x768) ![640, 0] S128x128.size inb_S1024x768_S128x128_640_0).toLoadRect f20) (View.readAt (Elt F) arg14.view (Rect.unit (s := S6x128x128) ![0, 0, 0] S1x128x128.size inb_S6x128x128_S1x128x128_0_0_0).toLoadRect f14) (View.readAt (Elt F) arg19.view (Rect.unit (s := S1024x768) ![640, 0] S128x128.size inb_S1024x768_S128x128_640_0).toLoadRect f19)⟩]) -∗ K (k0_pay65 (View.readAt (Elt F) arg13.view (Rect.unit (s := S6x128x128) ![2, 0, 0] S1x128x128.size inb_S6x128x128_S1x128x128_2_0_0).toLoadRect f13) (View.readAt (Elt F) arg20.view (Rect.unit (s := S1024x768) ![640, 256] S128x128.size inb_S1024x768_S128x128_640_256).toLoadRect f20))))
      ⊢ wp frame (wpE (defs₀ (F := F)) Variants.none c none) E (k0_part18 i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 v473) K := by
  simp only [k0_part18_eq_skeleton]; unfold k0_part18_skel
  iintro ⟨⟨H2, H3, H4, H5, H6, H7, H8, H9, H10, H11, H12, H13, H14, H15, H16, H17, H18, H19, H20, H21, H22, H23⟩, Hk⟩
  sl_exec
  sl_step
  iapply Hk
  unfold Held; iframe ∗

end Cert.EvenIdeal.Hand

end
-- ==== Proof.EvenIdealPartsC.lean ====
/- The body of the even mixer, straight-line parts 19 to 27 of the printed function: what each stores and returns. -/
module

public import proofs.«01_k».proof.Proof.EvenIdealPartsA
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.EvenIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.EvenIdeal Cert.EvenIdeal.Gen

variable {F : FTy → Type} [FloatOps F]

local notation "𝕄" => MT nD τ sig Unit (Elt F) ℕ (UR sig nD τ) ℕ

variable {c : Dev nD} {i : grid0.Coords} {arg2 : Memref sig .tc .vmem S8x128x1024 .f32} {harg2 : arg2.IsWhole} {arg3 : Memref sig .tc .vmem S1x1024 .f32} {harg3 : arg3.IsWhole} {arg4 : Memref sig .tc .vmem S1024x1792 .bf16} {harg4 : arg4.IsWhole} {arg5 : Memref sig .tc .vmem S1024x1024 .bf16} {harg5 : arg5.IsWhole} {arg6 : Memref sig .tc .vmem S1024x1024 .bf16} {harg6 : arg6.IsWhole} {arg7 : Memref sig .tc .vmem S256x2048 .bf16} {harg7 : arg7.IsWhole} {arg8 : Memref sig .tc .vmem S2x1024 .f32} {harg8 : arg8.IsWhole} {arg9 : Memref sig .tc .vmem S2048x256 .bf16} {harg9 : arg9.IsWhole} {arg10 : Memref sig .tc .vmem S1x256 .f32} {harg10 : arg10.IsWhole} {arg11 : Memref sig .tc .vmem S256x256 .bf16} {harg11 : arg11.IsWhole} {arg12 : Memref sig .tc .vmem S1x256 .f32} {harg12 : arg12.IsWhole} {arg13 : Memref sig .tc .vmem S6x128x128 .bf16} {harg13 : arg13.IsWhole} {arg14 : Memref sig .tc .vmem S6x128x128 .f32} {harg14 : arg14.IsWhole} {arg15 : Memref sig .tc .vmem S1x768 .f32} {harg15 : arg15.IsWhole} {arg16 : Memref sig .tc .vmem S1024x1024 .bf16} {harg16 : arg16.IsWhole} {arg17 : Memref sig .tc .vmem S8x128x1024 .f32} {harg17 : arg17.IsWhole} {arg18 : Memref sig .tc .vmem S1024x256 .f32} {harg18 : arg18.IsWhole} {arg19 : Memref sig .tc .vmem S1024x768 .f32} {harg19 : arg19.IsWhole} {arg20 : Memref sig .tc .vmem S1024x768 .bf16} {harg20 : arg20.IsWhole} {arg21 : Memref sig .tc .vmem S1024x2048 .f32} {harg21 : arg21.IsWhole} {arg22 : Memref sig .tc .vmem S8x2048 .f32} {harg22 : arg22.IsWhole} {arg23 : Memref sig .tc .vmem S1024x1024 .bf16} {harg23 : arg23.IsWhole}
  {f2 : BufTy.Contents (Elt F) arg2.view.ty} {f3 : BufTy.Contents (Elt F) arg3.view.ty} {f4 : BufTy.Contents (Elt F) arg4.view.ty} {f5 : BufTy.Contents (Elt F) arg5.view.ty} {f6 : BufTy.Contents (Elt F) arg6.view.ty} {f7 : BufTy.Contents (Elt F) arg7.view.ty} {f8 : BufTy.Contents (Elt F) arg8.view.ty} {f9 : BufTy.Contents (Elt F) arg9.view.ty} {f10 : BufTy.Contents (Elt F) arg10.view.ty} {f11 : BufTy.Contents (Elt F) arg11.view.ty} {f12 : BufTy.Contents (Elt F) arg12.view.ty} {f13 : BufTy.Contents (Elt F) arg13.view.ty} {f14 : BufTy.Contents (Elt F) arg14.view.ty} {f15 : BufTy.Contents (Elt F) arg15.view.ty} {f16 : BufTy.Contents (Elt F) arg16.view.ty} {f17 : BufTy.Contents (Elt F) arg17.view.ty} {f18 : BufTy.Contents (Elt F) arg18.view.ty} {f19 : BufTy.Contents (Elt F) arg19.view.ty} {f20 : BufTy.Contents (Elt F) arg20.view.ty} {f21 : BufTy.Contents (Elt F) arg21.view.ty} {f22 : BufTy.Contents (Elt F) arg22.view.ty} {f23 : BufTy.Contents (Elt F) arg23.view.ty}

set_option maxHeartbeats 1000000 in
/-- Part 19: 2 stores into buffer 23. -/
theorem part19_run (v501 : FVec F S128x128 .f32) {E : Set ℕ} {K : (Σ' (v530 : FVec F S128x128 .f32), Vec F S128x128 .f32) → sProp 𝕄} :
    iprop(Held c f2 f3 f4 f5 f6 f7 f8 f9 f10 f11 f12 f13 f14 f15 f16 f17 f18 f19 f20 f21 f22 f23
      ∗ (Held c f2 f3 f4 f5 f6 f7 f8 f9 f10 f11 f12 f13 f14 f15 f16 f17 f18 f19 f20 f21 f22 (arg23.view.writes (Elt F) f23 [⟨Rect.unit (s := S1024x1024) ![640, 640] S128x128.size inb_S1024x1024_S128x128_640_640, k0_pay67 (View.readAt (Elt F) arg13.view (Rect.unit (s := S6x128x128) ![3, 0, 0] S1x128x128.size inb_S6x128x128_S1x128x128_3_0_0).toLoadRect f13) (View.readAt (Elt F) arg20.view (Rect.unit (s := S1024x768) ![640, 384] S128x128.size inb_S1024x768_S128x128_640_384).toLoadRect f20) (View.readAt (Elt F) arg14.view (Rect.unit (s := S6x128x128) ![3, 0, 0] S1x128x128.size inb_S6x128x128_S1x128x128_3_0_0).toLoadRect f14) (View.readAt (Elt F) arg19.view (Rect.unit (s := S1024x768) ![640, 384] S128x128.size inb_S1024x768_S128x128_640_384).toLoadRect f19)⟩, ⟨Rect.unit (s := S1024x1024) ![640, 512] S128x128.size inb_S1024x1024_S128x128_640_512, k0_pay66 v501 (View.readAt (Elt F) arg14.view (Rect.unit (s := S6x128x128) ![2, 0, 0] S1x128x128.size inb_S6x128x128_S1x128x128_2_0_0).toLoadRect f14) (View.readAt (Elt F) arg19.view (Rect.unit (s := S1024x768) ![640, 256] S128x128.size inb_S1024x768_S128x128_640_256).toLoadRect f19)⟩]) -∗ K ⟨k0_pay68 (View.readAt (Elt F) arg13.view (Rect.unit (s := S6x128x128) ![4, 0, 0] S1x128x128.size inb_S6x128x128_S1x128x128_4_0_0).toLoadRect f13) (View.readAt (Elt F) arg20.view (Rect.unit (s := S1024x768) ![640, 512] S128x128.size inb_S1024x768_S128x128_640_512).toLoadRect f20) (View.readAt (Elt F) arg14.view (Rect.unit (s := S6x128x128) ![4, 0, 0] S1x128x128.size inb_S6x128x128_S1x128x128_4_0_0).toLoadRect f14), (View.readAt (Elt F) arg19.view (Rect.unit (s := S1024x768) ![640, 512] S128x128.size inb_S1024x768_S128x128_640_512).toLoadRect f19)⟩))
      ⊢ wp frame (wpE (defs₀ (F := F)) Variants.none c none) E (k0_part19 i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 v501) K := by
  simp only [k0_part19_eq_skeleton]; unfold k0_part19_skel
  iintro ⟨⟨H2, H3, H4, H5, H6, H7, H8, H9, H10, H11, H12, H13, H14, H15, H16, H17, H18, H19, H20, H21, H22, H23⟩, Hk⟩
  sl_exec
  sl_step
  iapply Hk
  unfold Held; iframe ∗

set_option maxHeartbeats 1000000 in
/-- Part 20: 2 stores into buffer 23. -/
theorem part20_run (v530 : FVec F S128x128 .f32) (v531 : Vec F S128x128 .f32) {E : Set ℕ} {K : (FVec F S128x128 .bf16) → sProp 𝕄} :
    iprop(Held c f2 f3 f4 f5 f6 f7 f8 f9 f10 f11 f12 f13 f14 f15 f16 f17 f18 f19 f20 f21 f22 f23
      ∗ (Held c f2 f3 f4 f5 f6 f7 f8 f9 f10 f11 f12 f13 f14 f15 f16 f17 f18 f19 f20 f21 f22 (arg23.view.writes (Elt F) f23 [⟨Rect.unit (s := S1024x1024) ![640, 896] S128x128.size inb_S1024x1024_S128x128_640_896, k0_pay70 (View.readAt (Elt F) arg13.view (Rect.unit (s := S6x128x128) ![5, 0, 0] S1x128x128.size inb_S6x128x128_S1x128x128_5_0_0).toLoadRect f13) (View.readAt (Elt F) arg20.view (Rect.unit (s := S1024x768) ![640, 640] S128x128.size inb_S1024x768_S128x128_640_640).toLoadRect f20) (View.readAt (Elt F) arg14.view (Rect.unit (s := S6x128x128) ![5, 0, 0] S1x128x128.size inb_S6x128x128_S1x128x128_5_0_0).toLoadRect f14) (View.readAt (Elt F) arg19.view (Rect.unit (s := S1024x768) ![640, 640] S128x128.size inb_S1024x768_S128x128_640_640).toLoadRect f19)⟩, ⟨Rect.unit (s := S1024x1024) ![640, 768] S128x128.size inb_S1024x1024_S128x128_640_768, k0_pay69 v530 v531⟩]) -∗ K (k0_pay71 (View.readAt (Elt F) arg13.view (Rect.unit (s := S6x128x128) ![0, 0, 0] S1x128x128.size inb_S6x128x128_S1x128x128_0_0_0).toLoadRect f13) (View.readAt (Elt F) arg20.view (Rect.unit (s := S1024x768) ![768, 0] S128x128.size inb_S1024x768_S128x128_768_0).toLoadRect f20) (View.readAt (Elt F) arg14.view (Rect.unit (s := S6x128x128) ![0, 0, 0] S1x128x128.size inb_S6x128x128_S1x128x128_0_0_0).toLoadRect f14) (View.readAt (Elt F) arg19.view (Rect.unit (s := S1024x768) ![768, 0] S128x128.size inb_S1024x768_S128x128_768_0).toLoadRect f19))))
      ⊢ wp frame (wpE (defs₀ (F := F)) Variants.none c none) E (k0_part20 i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 v530 v531) K := by
  simp only [k0_part20_eq_skeleton]; unfold k0_part20_skel
  iintro ⟨⟨H2, H3, H4, H5, H6, H7, H8, H9, H10, H11, H12, H13, H14, H15, H16, H17, H18, H19, H20, H21, H22, H23⟩, Hk⟩
  sl_exec
  sl_step
  iapply Hk
  unfold Held; iframe ∗

set_option maxHeartbeats 1000000 in
/-- Part 21: 3 stores into buffer 23. -/
theorem part21_run (v559 : FVec F S128x128 .bf16) {E : Set ℕ} {K : (Vec F S1x128x128 .bf16) → sProp 𝕄} :
    iprop(Held c f2 f3 f4 f5 f6 f7 f8 f9 f10 f11 f12 f13 f14 f15 f16 f17 f18 f19 f20 f21 f22 f23
      ∗ (Held c f2 f3 f4 f5 f6 f7 f8 f9 f10 f11 f12 f13 f14 f15 f16 f17 f18 f19 f20 f21 f22 (arg23.view.writes (Elt F) f23 [⟨Rect.unit (s := S1024x1024) ![768, 512] S128x128.size inb_S1024x1024_S128x128_768_512, k0_pay74 (View.readAt (Elt F) arg13.view (Rect.unit (s := S6x128x128) ![2, 0, 0] S1x128x128.size inb_S6x128x128_S1x128x128_2_0_0).toLoadRect f13) (View.readAt (Elt F) arg20.view (Rect.unit (s := S1024x768) ![768, 256] S128x128.size inb_S1024x768_S128x128_768_256).toLoadRect f20) (View.readAt (Elt F) arg14.view (Rect.unit (s := S6x128x128) ![2, 0, 0] S1x128x128.size inb_S6x128x128_S1x128x128_2_0_0).toLoadRect f14) (View.readAt (Elt F) arg19.view (Rect.unit (s := S1024x768) ![768, 256] S128x128.size inb_S1024x768_S128x128_768_256).toLoadRect f19)⟩, ⟨Rect.unit (s := S1024x1024) ![768, 384] S128x128.size inb_S1024x1024_S128x128_768_384, k0_pay73 (View.readAt (Elt F) arg13.view (Rect.unit (s := S6x128x128) ![1, 0, 0] S1x128x128.size inb_S6x128x128_S1x128x128_1_0_0).toLoadRect f13) (View.readAt (Elt F) arg20.view (Rect.unit (s := S1024x768) ![768, 128] S128x128.size inb_S1024x768_S128x128_768_128).toLoadRect f20) (View.readAt (Elt F) arg14.view (Rect.unit (s := S6x128x128) ![1, 0, 0] S1x128x128.size inb_S6x128x128_S1x128x128_1_0_0).toLoadRect f14) (View.readAt (Elt F) arg19.view (Rect.unit (s := S1024x768) ![768, 128] S128x128.size inb_S1024x768_S128x128_768_128).toLoadRect f19)⟩, ⟨Rect.unit (s := S1024x1024) ![768, 256] S128x128.size inb_S1024x1024_S128x128_768_256, k0_pay72 v559⟩]) -∗ K (View.readAt (Elt F) arg13.view (Rect.unit (s := S6x128x128) ![3, 0, 0] S1x128x128.size inb_S6x128x128_S1x128x128_3_0_0).toLoadRect f13)))
      ⊢ wp frame (wpE (defs₀ (F := F)) Variants.none c none) E (k0_part21 i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 v559) K := by
  simp only [k0_part21_eq_skeleton]; unfold k0_part21_skel
  iintro ⟨⟨H2, H3, H4, H5, H6, H7, H8, H9, H10, H11, H12, H13, H14, H15, H16, H17, H18, H19, H20, H21, H22, H23⟩, Hk⟩
  sl_exec
  sl_step
  iapply Hk
  unfold Held; iframe ∗

set_option maxHeartbeats 1000000 in
/-- Part 22: 2 stores into buffer 23. -/
theorem part22_run (v589 : Vec F S1x128x128 .bf16) {E : Set ℕ} {K : (FVec F S128x128 .f32) → sProp 𝕄} :
    iprop(Held c f2 f3 f4 f5 f6 f7 f8 f9 f10 f11 f12 f13 f14 f15 f16 f17 f18 f19 f20 f21 f22 f23
      ∗ (Held c f2 f3 f4 f5 f6 f7 f8 f9 f10 f11 f12 f13 f14 f15 f16 f17 f18 f19 f20 f21 f22 (arg23.view.writes (Elt F) f23 [⟨Rect.unit (s := S1024x1024) ![768, 768] S128x128.size inb_S1024x1024_S128x128_768_768, k0_pay76 (View.readAt (Elt F) arg13.view (Rect.unit (s := S6x128x128) ![4, 0, 0] S1x128x128.size inb_S6x128x128_S1x128x128_4_0_0).toLoadRect f13) (View.readAt (Elt F) arg20.view (Rect.unit (s := S1024x768) ![768, 512] S128x128.size inb_S1024x768_S128x128_768_512).toLoadRect f20) (View.readAt (Elt F) arg14.view (Rect.unit (s := S6x128x128) ![4, 0, 0] S1x128x128.size inb_S6x128x128_S1x128x128_4_0_0).toLoadRect f14) (View.readAt (Elt F) arg19.view (Rect.unit (s := S1024x768) ![768, 512] S128x128.size inb_S1024x768_S128x128_768_512).toLoadRect f19)⟩, ⟨Rect.unit (s := S1024x1024) ![768, 640] S128x128.size inb_S1024x1024_S128x128_768_640, k0_pay75 v589 (View.readAt (Elt F) arg20.view (Rect.unit (s := S1024x768) ![768, 384] S128x128.size inb_S1024x768_S128x128_768_384).toLoadRect f20) (View.readAt (Elt F) arg14.view (Rect.unit (s := S6x128x128) ![3, 0, 0] S1x128x128.size inb_S6x128x128_S1x128x128_3_0_0).toLoadRect f14) (View.readAt (Elt F) arg19.view (Rect.unit (s := S1024x768) ![768, 384] S128x128.size inb_S1024x768_S128x128_768_384).toLoadRect f19)⟩]) -∗ K (k0_pay77 (View.readAt (Elt F) arg13.view (Rect.unit (s := S6x128x128) ![5, 0, 0] S1x128x128.size inb_S6x128x128_S1x128x128_5_0_0).toLoadRect f13) (View.readAt (Elt F) arg20.view (Rect.unit (s := S1024x768) ![768, 640] S128x128.size inb_S1024x768_S128x128_768_640).toLoadRect f20))))
      ⊢ wp frame (wpE (defs₀ (F := F)) Variants.none c none) E (k0_part22 i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 v589) K := by
  simp only [k0_part22_eq_skeleton]; unfold k0_part22_skel
  iintro ⟨⟨H2, H3, H4, H5, H6, H7, H8, H9, H10, H11, H12, H13, H14, H15, H16, H17, H18, H19, H20, H21, H22, H23⟩, Hk⟩
  sl_exec
  sl_step
  iapply Hk
  unfold Held; iframe ∗

set_option maxHeartbeats 1000000 in
/-- Part 23: 2 stores into buffer 23. -/
theorem part23_run (v618 : FVec F S128x128 .f32) {E : Set ℕ} {K : (FVec F S128x128 .f32) → sProp 𝕄} :
    iprop(Held c f2 f3 f4 f5 f6 f7 f8 f9 f10 f11 f12 f13 f14 f15 f16 f17 f18 f19 f20 f21 f22 f23
      ∗ (Held c f2 f3 f4 f5 f6 f7 f8 f9 f10 f11 f12 f13 f14 f15 f16 f17 f18 f19 f20 f21 f22 (arg23.view.writes (Elt F) f23 [⟨Rect.unit (s := S1024x1024) ![896, 256] S128x128.size inb_S1024x1024_S128x128_896_256, k0_pay79 (View.readAt (Elt F) arg13.view (Rect.unit (s := S6x128x128) ![0, 0, 0] S1x128x128.size inb_S6x128x128_S1x128x128_0_0_0).toLoadRect f13) (View.readAt (Elt F) arg20.view (Rect.unit (s := S1024x768) ![896, 0] S128x128.size inb_S1024x768_S128x128_896_0).toLoadRect f20) (View.readAt (Elt F) arg14.view (Rect.unit (s := S6x128x128) ![0, 0, 0] S1x128x128.size inb_S6x128x128_S1x128x128_0_0_0).toLoadRect f14) (View.readAt (Elt F) arg19.view (Rect.unit (s := S1024x768) ![896, 0] S128x128.size inb_S1024x768_S128x128_896_0).toLoadRect f19)⟩, ⟨Rect.unit (s := S1024x1024) ![768, 896] S128x128.size inb_S1024x1024_S128x128_768_896, k0_pay78 v618 (View.readAt (Elt F) arg14.view (Rect.unit (s := S6x128x128) ![5, 0, 0] S1x128x128.size inb_S6x128x128_S1x128x128_5_0_0).toLoadRect f14) (View.readAt (Elt F) arg19.view (Rect.unit (s := S1024x768) ![768, 640] S128x128.size inb_S1024x768_S128x128_768_640).toLoadRect f19)⟩]) -∗ K (k0_pay80 (View.readAt (Elt F) arg13.view (Rect.unit (s := S6x128x128) ![1, 0, 0] S1x128x128.size inb_S6x128x128_S1x128x128_1_0_0).toLoadRect f13) (View.readAt (Elt F) arg20.view (Rect.unit (s := S1024x768) ![896, 128] S128x128.size inb_S1024x768_S128x128_896_128).toLoadRect f20) (View.readAt (Elt F) arg14.view (Rect.unit (s := S6x128x128) ![1, 0, 0] S1x128x128.size inb_S6x128x128_S1x128x128_1_0_0).toLoadRect f14))))
      ⊢ wp frame (wpE (defs₀ (F := F)) Variants.none c none) E (k0_part23 i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 v618) K := by
  simp only [k0_part23_eq_skeleton]; unfold k0_part23_skel
  iintro ⟨⟨H2, H3, H4, H5, H6, H7, H8, H9, H10, H11, H12, H13, H14, H15, H16, H17, H18, H19, H20, H21, H22, H23⟩, Hk⟩
  sl_exec
  sl_step
  iapply Hk
  unfold Held; iframe ∗

set_option maxHeartbeats 1000000 in
/-- Part 24: 2 stores into buffer 23. -/
theorem part24_run (v647 : FVec F S128x128 .f32) {E : Set ℕ} {K : (FVec F S128x128 .bf16) → sProp 𝕄} :
    iprop(Held c f2 f3 f4 f5 f6 f7 f8 f9 f10 f11 f12 f13 f14 f15 f16 f17 f18 f19 f20 f21 f22 f23
      ∗ (Held c f2 f3 f4 f5 f6 f7 f8 f9 f10 f11 f12 f13 f14 f15 f16 f17 f18 f19 f20 f21 f22 (arg23.view.writes (Elt F) f23 [⟨Rect.unit (s := S1024x1024) ![896, 512] S128x128.size inb_S1024x1024_S128x128_896_512, k0_pay82 (View.readAt (Elt F) arg13.view (Rect.unit (s := S6x128x128) ![2, 0, 0] S1x128x128.size inb_S6x128x128_S1x128x128_2_0_0).toLoadRect f13) (View.readAt (Elt F) arg20.view (Rect.unit (s := S1024x768) ![896, 256] S128x128.size inb_S1024x768_S128x128_896_256).toLoadRect f20) (View.readAt (Elt F) arg14.view (Rect.unit (s := S6x128x128) ![2, 0, 0] S1x128x128.size inb_S6x128x128_S1x128x128_2_0_0).toLoadRect f14) (View.readAt (Elt F) arg19.view (Rect.unit (s := S1024x768) ![896, 256] S128x128.size inb_S1024x768_S128x128_896_256).toLoadRect f19)⟩, ⟨Rect.unit (s := S1024x1024) ![896, 384] S128x128.size inb_S1024x1024_S128x128_896_384, k0_pay81 v647 (View.readAt (Elt F) arg19.view (Rect.unit (s := S1024x768) ![896, 128] S128x128.size inb_S1024x768_S128x128_896_128).toLoadRect f19)⟩]) -∗ K (k0_pay83 (View.readAt (Elt F) arg13.view (Rect.unit (s := S6x128x128) ![3, 0, 0] S1x128x128.size inb_S6x128x128_S1x128x128_3_0_0).toLoadRect f13) (View.readAt (Elt F) arg20.view (Rect.unit (s := S1024x768) ![896, 384] S128x128.size inb_S1024x768_S128x128_896_384).toLoadRect f20) (View.readAt (Elt F) arg14.view (Rect.unit (s := S6x128x128) ![3, 0, 0] S1x128x128.size inb_S6x128x128_S1x128x128_3_0_0).toLoadRect f14) (View.readAt (Elt F) arg19.view (Rect.unit (s := S1024x768) ![896, 384] S128x128.size inb_S1024x768_S128x128_896_384).toLoadRect f19))))
      ⊢ wp frame (wpE (defs₀ (F := F)) Variants.none c none) E (k0_part24 i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 v647) K := by
  simp only [k0_part24_eq_skeleton]; unfold k0_part24_skel
  iintro ⟨⟨H2, H3, H4, H5, H6, H7, H8, H9, H10, H11, H12, H13, H14, H15, H16, H17, H18, H19, H20, H21, H22, H23⟩, Hk⟩
  sl_exec
  sl_step
  iapply Hk
  unfold Held; iframe ∗

set_option maxHeartbeats 1000000 in
/-- Part 25: 3 stores into buffer 23. -/
theorem part25_run (v676 : FVec F S128x128 .bf16) {E : Set ℕ} {K : (PUnit) → sProp 𝕄} :
    iprop(Held c f2 f3 f4 f5 f6 f7 f8 f9 f10 f11 f12 f13 f14 f15 f16 f17 f18 f19 f20 f21 f22 f23
      ∗ (Held c f2 f3 f4 f5 f6 f7 f8 f9 f10 f11 f12 f13 f14 f15 f16 f17 f18 f19 f20 f21 f22 (arg23.view.writes (Elt F) f23 [⟨Rect.unit (s := S1024x1024) ![896, 896] S128x128.size inb_S1024x1024_S128x128_896_896, k0_pay86 (View.readAt (Elt F) arg13.view (Rect.unit (s := S6x128x128) ![5, 0, 0] S1x128x128.size inb_S6x128x128_S1x128x128_5_0_0).toLoadRect f13) (View.readAt (Elt F) arg20.view (Rect.unit (s := S1024x768) ![896, 640] S128x128.size inb_S1024x768_S128x128_896_640).toLoadRect f20) (View.readAt (Elt F) arg14.view (Rect.unit (s := S6x128x128) ![5, 0, 0] S1x128x128.size inb_S6x128x128_S1x128x128_5_0_0).toLoadRect f14) (View.readAt (Elt F) arg19.view (Rect.unit (s := S1024x768) ![896, 640] S128x128.size inb_S1024x768_S128x128_896_640).toLoadRect f19)⟩, ⟨Rect.unit (s := S1024x1024) ![896, 768] S128x128.size inb_S1024x1024_S128x128_896_768, k0_pay85 (View.readAt (Elt F) arg13.view (Rect.unit (s := S6x128x128) ![4, 0, 0] S1x128x128.size inb_S6x128x128_S1x128x128_4_0_0).toLoadRect f13) (View.readAt (Elt F) arg20.view (Rect.unit (s := S1024x768) ![896, 512] S128x128.size inb_S1024x768_S128x128_896_512).toLoadRect f20) (View.readAt (Elt F) arg14.view (Rect.unit (s := S6x128x128) ![4, 0, 0] S1x128x128.size inb_S6x128x128_S1x128x128_4_0_0).toLoadRect f14) (View.readAt (Elt F) arg19.view (Rect.unit (s := S1024x768) ![896, 512] S128x128.size inb_S1024x768_S128x128_896_512).toLoadRect f19)⟩, ⟨Rect.unit (s := S1024x1024) ![896, 640] S128x128.size inb_S1024x1024_S128x128_896_640, k0_pay84 v676⟩]) -∗ K ⟨⟩))
      ⊢ wp frame (wpE (defs₀ (F := F)) Variants.none c none) E (k0_part25 i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 v676) K := by
  simp only [k0_part25_eq_skeleton]; unfold k0_part25_skel
  iintro ⟨⟨H2, H3, H4, H5, H6, H7, H8, H9, H10, H11, H12, H13, H14, H15, H16, H17, H18, H19, H20, H21, H22, H23⟩, Hk⟩
  sl_exec
  sl_step
  iapply Hk
  unfold Held; iframe ∗

set_option maxHeartbeats 1000000 in
/-- Part 26: 3 stores into buffer 17. -/
theorem part26_run  {E : Set ℕ} {K : (Σ' (v709 : FVec F S1024x1024 .f32), FVec F S128x1024 .f32) → sProp 𝕄} :
    iprop(Held c f2 f3 f4 f5 f6 f7 f8 f9 f10 f11 f12 f13 f14 f15 f16 f17 f18 f19 f20 f21 f22 f23
      ∗ (Held c f2 f3 f4 f5 f6 f7 f8 f9 f10 f11 f12 f13 f14 f15 f16 (arg17.view.writes (Elt F) f17 [⟨Rect.unit (s := S8x128x1024) ![2, 0, 0] S1x128x1024.size inb_S8x128x1024_S1x128x1024_2_0_0, k0_pay90 (View.readAt (Elt F) arg23.view (Rect.unit (s := S1024x1024) ![0, 0] S1024x1024.size inb_S1024x1024_S1024x1024_0_0).toLoadRect f23) (View.readAt (Elt F) arg16.view (Rect.unit (s := S1024x1024) ![0, 0] S1024x1024.size inb_S1024x1024_S1024x1024_0_0).toLoadRect f16) (View.readAt (Elt F) arg2.view (Rect.unit (s := S8x128x1024) ![2, 0, 0] S1x128x1024.size inb_S8x128x1024_S1x128x1024_2_0_0).toLoadRect f2)⟩, ⟨Rect.unit (s := S8x128x1024) ![1, 0, 0] S1x128x1024.size inb_S8x128x1024_S1x128x1024_1_0_0, k0_pay89 (View.readAt (Elt F) arg23.view (Rect.unit (s := S1024x1024) ![0, 0] S1024x1024.size inb_S1024x1024_S1024x1024_0_0).toLoadRect f23) (View.readAt (Elt F) arg16.view (Rect.unit (s := S1024x1024) ![0, 0] S1024x1024.size inb_S1024x1024_S1024x1024_0_0).toLoadRect f16) (View.readAt (Elt F) arg2.view (Rect.unit (s := S8x128x1024) ![1, 0, 0] S1x128x1024.size inb_S8x128x1024_S1x128x1024_1_0_0).toLoadRect f2)⟩, ⟨Rect.unit (s := S8x128x1024) ![0, 0, 0] S1x128x1024.size inb_S8x128x1024_S1x128x1024_0_0_0, k0_pay88 (View.readAt (Elt F) arg23.view (Rect.unit (s := S1024x1024) ![0, 0] S1024x1024.size inb_S1024x1024_S1024x1024_0_0).toLoadRect f23) (View.readAt (Elt F) arg16.view (Rect.unit (s := S1024x1024) ![0, 0] S1024x1024.size inb_S1024x1024_S1024x1024_0_0).toLoadRect f16) (View.readAt (Elt F) arg2.view (Rect.unit (s := S8x128x1024) ![0, 0, 0] S1x128x1024.size inb_S8x128x1024_S1x128x1024_0_0_0).toLoadRect f2)⟩]) f18 f19 f20 f21 f22 f23 -∗ K ⟨k0_pay87 (View.readAt (Elt F) arg23.view (Rect.unit (s := S1024x1024) ![0, 0] S1024x1024.size inb_S1024x1024_S1024x1024_0_0).toLoadRect f23) (View.readAt (Elt F) arg16.view (Rect.unit (s := S1024x1024) ![0, 0] S1024x1024.size inb_S1024x1024_S1024x1024_0_0).toLoadRect f16), k0_pay91 (View.readAt (Elt F) arg23.view (Rect.unit (s := S1024x1024) ![0, 0] S1024x1024.size inb_S1024x1024_S1024x1024_0_0).toLoadRect f23) (View.readAt (Elt F) arg16.view (Rect.unit (s := S1024x1024) ![0, 0] S1024x1024.size inb_S1024x1024_S1024x1024_0_0).toLoadRect f16) (View.readAt (Elt F) arg2.view (Rect.unit (s := S8x128x1024) ![3, 0, 0] S1x128x1024.size inb_S8x128x1024_S1x128x1024_3_0_0).toLoadRect f2)⟩))
      ⊢ wp frame (wpE (defs₀ (F := F)) Variants.none c none) E (k0_part26 i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 ) K := by
  simp only [k0_part26_eq_skeleton]; unfold k0_part26_skel
  iintro ⟨⟨H2, H3, H4, H5, H6, H7, H8, H9, H10, H11, H12, H13, H14, H15, H16, H17, H18, H19, H20, H21, H22, H23⟩, Hk⟩
  sl_exec
  sl_step
  iapply Hk
  unfold Held; iframe ∗

set_option maxHeartbeats 1000000 in
/-- Part 27: 5 stores into buffer 17. -/
theorem part27_run (v709 : FVec F S1024x1024 .f32) (v734 : FVec F S128x1024 .f32) {E : Set ℕ} {K : (PUnit) → sProp 𝕄} :
    iprop(Held c f2 f3 f4 f5 f6 f7 f8 f9 f10 f11 f12 f13 f14 f15 f16 f17 f18 f19 f20 f21 f22 f23
      ∗ (Held c f2 f3 f4 f5 f6 f7 f8 f9 f10 f11 f12 f13 f14 f15 f16 (arg17.view.writes (Elt F) f17 [⟨Rect.unit (s := S8x128x1024) ![7, 0, 0] S1x128x1024.size inb_S8x128x1024_S1x128x1024_7_0_0, k0_pay96 v709 (View.readAt (Elt F) arg2.view (Rect.unit (s := S8x128x1024) ![7, 0, 0] S1x128x1024.size inb_S8x128x1024_S1x128x1024_7_0_0).toLoadRect f2)⟩, ⟨Rect.unit (s := S8x128x1024) ![6, 0, 0] S1x128x1024.size inb_S8x128x1024_S1x128x1024_6_0_0, k0_pay95 v709 (View.readAt (Elt F) arg2.view (Rect.unit (s := S8x128x1024) ![6, 0, 0] S1x128x1024.size inb_S8x128x1024_S1x128x1024_6_0_0).toLoadRect f2)⟩, ⟨Rect.unit (s := S8x128x1024) ![5, 0, 0] S1x128x1024.size inb_S8x128x1024_S1x128x1024_5_0_0, k0_pay94 v709 (View.readAt (Elt F) arg2.view (Rect.unit (s := S8x128x1024) ![5, 0, 0] S1x128x1024.size inb_S8x128x1024_S1x128x1024_5_0_0).toLoadRect f2)⟩, ⟨Rect.unit (s := S8x128x1024) ![4, 0, 0] S1x128x1024.size inb_S8x128x1024_S1x128x1024_4_0_0, k0_pay93 v709 (View.readAt (Elt F) arg2.view (Rect.unit (s := S8x128x1024) ![4, 0, 0] S1x128x1024.size inb_S8x128x1024_S1x128x1024_4_0_0).toLoadRect f2)⟩, ⟨Rect.unit (s := S8x128x1024) ![3, 0, 0] S1x128x1024.size inb_S8x128x1024_S1x128x1024_3_0_0, k0_pay92 v734⟩]) f18 f19 f20 f21 f22 f23 -∗ K ⟨⟩))
      ⊢ wp frame (wpE (defs₀ (F := F)) Variants.none c none) E (k0_part27 i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 v709 v734) K := by
  simp only [k0_part27_eq_skeleton]; unfold k0_part27_skel
  iintro ⟨⟨H2, H3, H4, H5, H6, H7, H8, H9, H10, H11, H12, H13, H14, H15, H16, H17, H18, H19, H20, H21, H22, H23⟩, Hk⟩
  sl_exec
  sl_step
  iapply Hk
  unfold Held; iframe ∗

end Cert.EvenIdeal.Hand

end
-- ==== Proof.EvenIdealBody.lean ====
/- The even mixer's body, part after part: what it leaves in the result and in the carried state. -/
module

public import proofs.«01_k».proof.Proof.EvenIdealLoop
public import proofs.«01_k».proof.Proof.EvenIdealPartsB
public import proofs.«01_k».proof.Proof.EvenIdealPartsC
public import Idealize.ShloMosaic.Lib.Pipeline.FrameBody
public import Idealize.ShloMosaic.Lib.Ring
public import Idealize.ShloMosaic.Lib.Tactic
public import Idealize.ShloMosaic.Lib.WordCmp
public import Idealize.ShloMosaic.Lib.Pipeline.Value

@[expose] public section

set_option maxRecDepth 16384

noncomputable section

namespace Cert.EvenIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.EvenIdeal Cert.EvenIdeal.Gen

variable {F : FTy → Type} [FloatOps F]

local notation "𝕄" => MT nD τ sig Unit (Elt F) ℕ (UR sig nD τ) ℕ

variable {c : Dev nD} {i : grid0.Coords} {arg2 : Memref sig .tc .vmem S8x128x1024 .f32} {harg2 : arg2.IsWhole} {arg3 : Memref sig .tc .vmem S1x1024 .f32} {harg3 : arg3.IsWhole} {arg4 : Memref sig .tc .vmem S1024x1792 .bf16} {harg4 : arg4.IsWhole} {arg5 : Memref sig .tc .vmem S1024x1024 .bf16} {harg5 : arg5.IsWhole} {arg6 : Memref sig .tc .vmem S1024x1024 .bf16} {harg6 : arg6.IsWhole} {arg7 : Memref sig .tc .vmem S256x2048 .bf16} {harg7 : arg7.IsWhole} {arg8 : Memref sig .tc .vmem S2x1024 .f32} {harg8 : arg8.IsWhole} {arg9 : Memref sig .tc .vmem S2048x256 .bf16} {harg9 : arg9.IsWhole} {arg10 : Memref sig .tc .vmem S1x256 .f32} {harg10 : arg10.IsWhole} {arg11 : Memref sig .tc .vmem S256x256 .bf16} {harg11 : arg11.IsWhole} {arg12 : Memref sig .tc .vmem S1x256 .f32} {harg12 : arg12.IsWhole} {arg13 : Memref sig .tc .vmem S6x128x128 .bf16} {harg13 : arg13.IsWhole} {arg14 : Memref sig .tc .vmem S6x128x128 .f32} {harg14 : arg14.IsWhole} {arg15 : Memref sig .tc .vmem S1x768 .f32} {harg15 : arg15.IsWhole} {arg16 : Memref sig .tc .vmem S1024x1024 .bf16} {harg16 : arg16.IsWhole} {arg17 : Memref sig .tc .vmem S8x128x1024 .f32} {harg17 : arg17.IsWhole} {arg18 : Memref sig .tc .vmem S1024x256 .f32} {harg18 : arg18.IsWhole} {arg19 : Memref sig .tc .vmem S1024x768 .f32} {harg19 : arg19.IsWhole} {arg20 : Memref sig .tc .vmem S1024x768 .bf16} {harg20 : arg20.IsWhole} {arg21 : Memref sig .tc .vmem S1024x2048 .f32} {harg21 : arg21.IsWhole} {arg22 : Memref sig .tc .vmem S8x2048 .f32} {harg22 : arg22.IsWhole} {arg23 : Memref sig .tc .vmem S1024x1024 .bf16} {harg23 : arg23.IsWhole}
  {f2 : BufTy.Contents (Elt F) arg2.view.ty} {f3 : BufTy.Contents (Elt F) arg3.view.ty} {f4 : BufTy.Contents (Elt F) arg4.view.ty} {f5 : BufTy.Contents (Elt F) arg5.view.ty} {f6 : BufTy.Contents (Elt F) arg6.view.ty} {f7 : BufTy.Contents (Elt F) arg7.view.ty} {f8 : BufTy.Contents (Elt F) arg8.view.ty} {f9 : BufTy.Contents (Elt F) arg9.view.ty} {f10 : BufTy.Contents (Elt F) arg10.view.ty} {f11 : BufTy.Contents (Elt F) arg11.view.ty} {f12 : BufTy.Contents (Elt F) arg12.view.ty} {f13 : BufTy.Contents (Elt F) arg13.view.ty} {f14 : BufTy.Contents (Elt F) arg14.view.ty} {f15 : BufTy.Contents (Elt F) arg15.view.ty} {f16 : BufTy.Contents (Elt F) arg16.view.ty} {f17 : BufTy.Contents (Elt F) arg17.view.ty} {f18 : BufTy.Contents (Elt F) arg18.view.ty} {f19 : BufTy.Contents (Elt F) arg19.view.ty} {f20 : BufTy.Contents (Elt F) arg20.view.ty} {f21 : BufTy.Contents (Elt F) arg21.view.ty} {f22 : BufTy.Contents (Elt F) arg22.view.ty} {f23 : BufTy.Contents (Elt F) arg23.view.ty}

/-- The eight stores of the result, over mixed rows that read `M`. -/
theorem out_final {G : BufTy.Contents (Elt F) arg23.view.ty} {M : Vec F S1024x1024 .bf16} (hG : arg23.view.read (Elt F) G = M) :
    arg17.view.read (Elt F) (arg17.view.writes (Elt F) (arg17.view.writes (Elt F) f17 [⟨Rect.unit (s := S8x128x1024) ![2, 0, 0] S1x128x1024.size inb_S8x128x1024_S1x128x1024_2_0_0, k0_pay90 (View.readAt (Elt F) arg23.view (Rect.unit (s := S1024x1024) ![0, 0] S1024x1024.size inb_S1024x1024_S1024x1024_0_0).toLoadRect G) (View.readAt (Elt F) arg16.view (Rect.unit (s := S1024x1024) ![0, 0] S1024x1024.size inb_S1024x1024_S1024x1024_0_0).toLoadRect f16) (View.readAt (Elt F) arg2.view (Rect.unit (s := S8x128x1024) ![2, 0, 0] S1x128x1024.size inb_S8x128x1024_S1x128x1024_2_0_0).toLoadRect f2)⟩, ⟨Rect.unit (s := S8x128x1024) ![1, 0, 0] S1x128x1024.size inb_S8x128x1024_S1x128x1024_1_0_0, k0_pay89 (View.readAt (Elt F) arg23.view (Rect.unit (s := S1024x1024) ![0, 0] S1024x1024.size inb_S1024x1024_S1024x1024_0_0).toLoadRect G) (View.readAt (Elt F) arg16.view (Rect.unit (s := S1024x1024) ![0, 0] S1024x1024.size inb_S1024x1024_S1024x1024_0_0).toLoadRect f16) (View.readAt (Elt F) arg2.view (Rect.unit (s := S8x128x1024) ![1, 0, 0] S1x128x1024.size inb_S8x128x1024_S1x128x1024_1_0_0).toLoadRect f2)⟩, ⟨Rect.unit (s := S8x128x1024) ![0, 0, 0] S1x128x1024.size inb_S8x128x1024_S1x128x1024_0_0_0, k0_pay88 (View.readAt (Elt F) arg23.view (Rect.unit (s := S1024x1024) ![0, 0] S1024x1024.size inb_S1024x1024_S1024x1024_0_0).toLoadRect G) (View.readAt (Elt F) arg16.view (Rect.unit (s := S1024x1024) ![0, 0] S1024x1024.size inb_S1024x1024_S1024x1024_0_0).toLoadRect f16) (View.readAt (Elt F) arg2.view (Rect.unit (s := S8x128x1024) ![0, 0, 0] S1x128x1024.size inb_S8x128x1024_S1x128x1024_0_0_0).toLoadRect f2)⟩])
      [⟨Rect.unit (s := S8x128x1024) ![7, 0, 0] S1x128x1024.size inb_S8x128x1024_S1x128x1024_7_0_0, k0_pay96 (k0_pay87 (View.readAt (Elt F) arg23.view (Rect.unit (s := S1024x1024) ![0, 0] S1024x1024.size inb_S1024x1024_S1024x1024_0_0).toLoadRect G) (View.readAt (Elt F) arg16.view (Rect.unit (s := S1024x1024) ![0, 0] S1024x1024.size inb_S1024x1024_S1024x1024_0_0).toLoadRect f16)) (View.readAt (Elt F) arg2.view (Rect.unit (s := S8x128x1024) ![7, 0, 0] S1x128x1024.size inb_S8x128x1024_S1x128x1024_7_0_0).toLoadRect f2)⟩, ⟨Rect.unit (s := S8x128x1024) ![6, 0, 0] S1x128x1024.size inb_S8x128x1024_S1x128x1024_6_0_0, k0_pay95 (k0_pay87 (View.readAt (Elt F) arg23.view (Rect.unit (s := S1024x1024) ![0, 0] S1024x1024.size inb_S1024x1024_S1024x1024_0_0).toLoadRect G) (View.readAt (Elt F) arg16.view (Rect.unit (s := S1024x1024) ![0, 0] S1024x1024.size inb_S1024x1024_S1024x1024_0_0).toLoadRect f16)) (View.readAt (Elt F) arg2.view (Rect.unit (s := S8x128x1024) ![6, 0, 0] S1x128x1024.size inb_S8x128x1024_S1x128x1024_6_0_0).toLoadRect f2)⟩, ⟨Rect.unit (s := S8x128x1024) ![5, 0, 0] S1x128x1024.size inb_S8x128x1024_S1x128x1024_5_0_0, k0_pay94 (k0_pay87 (View.readAt (Elt F) arg23.view (Rect.unit (s := S1024x1024) ![0, 0] S1024x1024.size inb_S1024x1024_S1024x1024_0_0).toLoadRect G) (View.readAt (Elt F) arg16.view (Rect.unit (s := S1024x1024) ![0, 0] S1024x1024.size inb_S1024x1024_S1024x1024_0_0).toLoadRect f16)) (View.readAt (Elt F) arg2.view (Rect.unit (s := S8x128x1024) ![5, 0, 0] S1x128x1024.size inb_S8x128x1024_S1x128x1024_5_0_0).toLoadRect f2)⟩, ⟨Rect.unit (s := S8x128x1024) ![4, 0, 0] S1x128x1024.size inb_S8x128x1024_S1x128x1024_4_0_0, k0_pay93 (k0_pay87 (View.readAt (Elt F) arg23.view (Rect.unit (s := S1024x1024) ![0, 0] S1024x1024.size inb_S1024x1024_S1024x1024_0_0).toLoadRect G) (View.readAt (Elt F) arg16.view (Rect.unit (s := S1024x1024) ![0, 0] S1024x1024.size inb_S1024x1024_S1024x1024_0_0).toLoadRect f16)) (View.readAt (Elt F) arg2.view (Rect.unit (s := S8x128x1024) ![4, 0, 0] S1x128x1024.size inb_S8x128x1024_S1x128x1024_4_0_0).toLoadRect f2)⟩, ⟨Rect.unit (s := S8x128x1024) ![3, 0, 0] S1x128x1024.size inb_S8x128x1024_S1x128x1024_3_0_0, k0_pay92 (k0_pay91 (View.readAt (Elt F) arg23.view (Rect.unit (s := S1024x1024) ![0, 0] S1024x1024.size inb_S1024x1024_S1024x1024_0_0).toLoadRect G) (View.readAt (Elt F) arg16.view (Rect.unit (s := S1024x1024) ![0, 0] S1024x1024.size inb_S1024x1024_S1024x1024_0_0).toLoadRect f16) (View.readAt (Elt F) arg2.view (Rect.unit (s := S8x128x1024) ![3, 0, 0] S1x128x1024.size inb_S8x128x1024_S1x128x1024_3_0_0).toLoadRect f2))⟩])
      = View.canon (outL (arg2.view.read (Elt F) f2) (View.ld M (Rect.unit (s := S1024x1024) ![0, 0] S1024x1024.size inb_S1024x1024_S1024x1024_0_0)) (View.ld (arg16.view.read (Elt F) f16) (Rect.unit (s := S1024x1024) ![0, 0] S1024x1024.size inb_S1024x1024_S1024x1024_0_0))) := by
  subst hG
  rw [← View.writes_append]
  exact View.read_writes_eq_canon _ _ (outL (arg2.view.read (Elt F) f2) _ _) (out_cover _ _ _)

set_option maxHeartbeats 4000000 in
/-- The whole body. -/
theorem body_run {E : Set ℕ} {K : PUnit → sProp 𝕄} :
    iprop(Held c f2 f3 f4 f5 f6 f7 f8 f9 f10 f11 f12 f13 f14 f15 f16 f17 f18 f19 f20 f21 f22 f23
      ∗ (∀ g17 g18 g19 g20 g21 g22 g23, Held c (arg17 := arg17) (arg18 := arg18) (arg19 := arg19) (arg20 := arg20) (arg21 := arg21) (arg22 := arg22) (arg23 := arg23) f2 f3 f4 f5 f6 f7 f8 f9 f10 f11 f12 f13 f14 f15 f16 g17 g18 g19 g20 g21 g22 g23
        -∗ ⌜arg17.view.read (Elt F) g17 = outV (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9) (arg10.view.read (Elt F) f10) (arg11.view.read (Elt F) f11) (arg12.view.read (Elt F) f12) (arg13.view.read (Elt F) f13) (arg14.view.read (Elt F) f14) (arg15.view.read (Elt F) f15) (arg16.view.read (Elt F) f16) (startV i (arg22.view.read (Elt F) f22))
          ∧ arg22.view.read (Elt F) g22 = carV (arg2.view.read (Elt F) f2) (arg3.view.read (Elt F) f3) (arg4.view.read (Elt F) f4) (arg5.view.read (Elt F) f5) (arg7.view.read (Elt F) f7) (arg8.view.read (Elt F) f8) (startV i (arg22.view.read (Elt F) f22))⌝
        -∗ K ⟨⟩))
      ⊢ wp frame (wpE (defs₀ (F := F)) Variants.none c none) E (cc0_even_mixer i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23) K := by
  simp only [cc0_even_mixer_eq_skeleton]; unfold cc0_even_mixer_skel
  iintro ⟨HR, Hk⟩
  rw [wp_bind]
  iapply part2_run
  isplitl [HR]; · iexact HR
  iintro %r %g18 %g19 %g20 %g21 %g22 HR %hr
  obtain ⟨rfl, h19, h20, h21⟩ := hr
  dsimp only
  rw [wp_bind]
  iapply part3_run
  isplitl [HR]; · iexact HR
  iintro HR
  dsimp only
  rw [wp_bind]
  iapply part4_run
  isplitl [HR]; · iexact HR
  iintro HR
  dsimp only
  rw [wp_bind]
  iapply part5_run
  isplitl [HR]; · iexact HR
  iintro HR
  dsimp only
  rw [wp_bind]
  iapply part6_run
  isplitl [HR]; · iexact HR
  iintro HR
  dsimp only
  rw [wp_bind]
  iapply part7_run
  isplitl [HR]; · iexact HR
  iintro HR
  dsimp only
  rw [wp_bind]
  iapply part8_run
  isplitl [HR]; · iexact HR
  iintro HR
  dsimp only
  rw [wp_bind]
  iapply part9_run
  isplitl [HR]; · iexact HR
  iintro HR
  dsimp only
  rw [wp_bind]
  iapply part10_run
  isplitl [HR]; · iexact HR
  iintro HR
  dsimp only
  rw [wp_bind]
  iapply part11_run
  isplitl [HR]; · iexact HR
  iintro HR
  dsimp only
  rw [wp_bind]
  iapply part12_run
  isplitl [HR]; · iexact HR
  iintro HR
  dsimp only
  rw [wp_bind]
  iapply part13_run
  isplitl [HR]; · iexact HR
  iintro HR
  dsimp only
  rw [wp_bind]
  iapply part14_run
  isplitl [HR]; · iexact HR
  iintro HR
  dsimp only
  rw [wp_bind]
  iapply part15_run
  isplitl [HR]; · iexact HR
  iintro HR
  dsimp only
  rw [wp_bind]
  iapply part16_run
  isplitl [HR]; · iexact HR
  iintro HR
  dsimp only
  rw [wp_bind]
  iapply part17_run
  isplitl [HR]; · iexact HR
  iintro HR
  dsimp only
  rw [wp_bind]
  iapply part18_run
  isplitl [HR]; · iexact HR
  iintro HR
  dsimp only
  rw [wp_bind]
  iapply part19_run
  isplitl [HR]; · iexact HR
  iintro HR
  dsimp only
  rw [wp_bind]
  iapply part20_run
  isplitl [HR]; · iexact HR
  iintro HR
  dsimp only
  rw [wp_bind]
  iapply part21_run
  isplitl [HR]; · iexact HR
  iintro HR
  dsimp only
  rw [wp_bind]
  iapply part22_run
  isplitl [HR]; · iexact HR
  iintro HR
  dsimp only
  rw [wp_bind]
  iapply part23_run
  isplitl [HR]; · iexact HR
  iintro HR
  dsimp only
  rw [wp_bind]
  iapply part24_run
  isplitl [HR]; · iexact HR
  iintro HR
  dsimp only
  rw [wp_bind]
  iapply part25_run
  isplitl [HR]; · iexact HR
  iintro HR
  dsimp only
  rw [wp_bind]
  iapply part26_run
  isplitl [HR]; · iexact HR
  iintro HR
  dsimp only
  rw [wp_bind]
  iapply part27_run
  isplitl [HR]; · iexact HR
  iintro HR
  dsimp only
  sl_step
  iapply Hk $$ [HR]
  · iexact HR
  ipureintro
  refine ⟨out_final (f2 := f2) (f16 := f16) (M := mixV (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9) (arg10.view.read (Elt F) f10) (arg11.view.read (Elt F) f11) (arg12.view.read (Elt F) f12) (arg13.view.read (Elt F) f13) (arg14.view.read (Elt F) f14) (arg15.view.read (Elt F) f15) (startV i (arg22.view.read (Elt F) f22))) ?_, View.read_writes_eq_canon _ _ (carL _) (car_cover _)⟩
  simp only [← View.writes_append]
  refine (View.read_writes_eq_canon _ _ (mixL (gluV (arg6.view.read (Elt F) f6) (arg9.view.read (Elt F) f9) (arg10.view.read (Elt F) f10) (arg11.view.read (Elt F) f11) (arg12.view.read (Elt F) f12) (usR (arg2.view.read (Elt F) f2) (arg3.view.read (Elt F) f3) (arg4.view.read (Elt F) f4)) (arg21.view.read (Elt F) g21)) (arg13.view.read (Elt F) f13) (arg14.view.read (Elt F) f14) (arg19.view.read (Elt F) g19) (arg20.view.read (Elt F) g20)) (mix_cover _ _ _ _ _)).trans ?_
  rw [h19, h20, h21]; rfl

end Cert.EvenIdeal.Hand

end
-- ==== Proof.EvenIdealFrame.lean ====
/- The even mixer's launch: what every grid point leaves in the result block and in the carried state, and that the run ends with every argument unchanged. -/
module

public import proofs.«01_k».proof.Proof.EvenIdealBody
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp
public import Idealize.ShloMosaic.Lib.Pipeline.Value

@[expose] public section

set_option maxRecDepth 16384

noncomputable section

namespace Cert.EvenIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.EvenIdeal Cert.EvenIdeal.Gen

variable {F : FTy → Type} [FloatOps F]

local notation "𝕄" => MT nD τ sig Unit (Elt F) ℕ (UR sig nD τ) ℕ

variable {c : Dev nD} {i : grid0.Coords} {arg2 : Memref sig .tc .vmem S8x128x1024 .f32} {harg2 : arg2.IsWhole} {arg3 : Memref sig .tc .vmem S1x1024 .f32} {harg3 : arg3.IsWhole} {arg4 : Memref sig .tc .vmem S1024x1792 .bf16} {harg4 : arg4.IsWhole} {arg5 : Memref sig .tc .vmem S1024x1024 .bf16} {harg5 : arg5.IsWhole} {arg6 : Memref sig .tc .vmem S1024x1024 .bf16} {harg6 : arg6.IsWhole} {arg7 : Memref sig .tc .vmem S256x2048 .bf16} {harg7 : arg7.IsWhole} {arg8 : Memref sig .tc .vmem S2x1024 .f32} {harg8 : arg8.IsWhole} {arg9 : Memref sig .tc .vmem S2048x256 .bf16} {harg9 : arg9.IsWhole} {arg10 : Memref sig .tc .vmem S1x256 .f32} {harg10 : arg10.IsWhole} {arg11 : Memref sig .tc .vmem S256x256 .bf16} {harg11 : arg11.IsWhole} {arg12 : Memref sig .tc .vmem S1x256 .f32} {harg12 : arg12.IsWhole} {arg13 : Memref sig .tc .vmem S6x128x128 .bf16} {harg13 : arg13.IsWhole} {arg14 : Memref sig .tc .vmem S6x128x128 .f32} {harg14 : arg14.IsWhole} {arg15 : Memref sig .tc .vmem S1x768 .f32} {harg15 : arg15.IsWhole} {arg16 : Memref sig .tc .vmem S1024x1024 .bf16} {harg16 : arg16.IsWhole} {arg17 : Memref sig .tc .vmem S8x128x1024 .f32} {harg17 : arg17.IsWhole} {arg18 : Memref sig .tc .vmem S1024x256 .f32} {harg18 : arg18.IsWhole} {arg19 : Memref sig .tc .vmem S1024x768 .f32} {harg19 : arg19.IsWhole} {arg20 : Memref sig .tc .vmem S1024x768 .bf16} {harg20 : arg20.IsWhole} {arg21 : Memref sig .tc .vmem S1024x2048 .f32} {harg21 : arg21.IsWhole} {arg22 : Memref sig .tc .vmem S8x2048 .f32} {harg22 : arg22.IsWhole} {arg23 : Memref sig .tc .vmem S1024x1024 .bf16} {harg23 : arg23.IsWhole}

set_option maxHeartbeats 4000000 in
/-- The whole body, over owned buffers. -/
theorem body_owns (x2 : Vec F S8x128x1024 .f32) (x3 : Vec F S1x1024 .f32) (x4 : Vec F S1024x1792 .bf16) (x5 : Vec F S1024x1024 .bf16) (x6 : Vec F S1024x1024 .bf16) (x7 : Vec F S256x2048 .bf16) (x8 : Vec F S2x1024 .f32) (x9 : Vec F S2048x256 .bf16) (x10 : Vec F S1x256 .f32) (x11 : Vec F S256x256 .bf16) (x12 : Vec F S1x256 .f32) (x13 : Vec F S6x128x128 .bf16) (x14 : Vec F S6x128x128 .f32) (x15 : Vec F S1x768 .f32) (x16 : Vec F S1024x1024 .bf16) (x22 : Vec F S8x2048 .f32) {E : Set ℕ} {K : PUnit → sProp 𝕄} :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ owns (c : Thread nD τ) arg22 fullShare x22 ∗ (∃ d, owns (c : Thread nD τ) arg23 fullShare d)
      ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare (outV x2 x3 x4 x5 x6 x7 x8 x9 x10 x11 x12 x13 x14 x15 x16 (startV i x22)) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ owns (c : Thread nD τ) arg22 fullShare (carV x2 x3 x4 x5 x7 x8 (startV i x22)) ∗ (∃ d, owns (c : Thread nD τ) arg23 fullShare d)) -∗ K ⟨⟩))
      ⊢ wp frame (wpE (defs₀ (F := F)) Variants.none c none) E (cc0_even_mixer i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23) K := by
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%d18, %f18, -, H18⟩, ⟨%d19, %f19, -, H19⟩, ⟨%d20, %f20, -, H20⟩, ⟨%d21, %f21, -, H21⟩, ⟨%f22, %hf22, H22⟩, ⟨%d23, %f23, -, H23⟩, Hk⟩
  subst hf2 hf3 hf4 hf5 hf6 hf7 hf8 hf9 hf10 hf11 hf12 hf13 hf14 hf15 hf16 hf22
  iapply body_run
  isplitl [H2 H3 H4 H5 H6 H7 H8 H9 H10 H11 H12 H13 H14 H15 H16 H17 H18 H19 H20 H21 H22 H23]
  · unfold Held; iframe ∗
  iintro %g17 %g18 %g19 %g20 %g21 %g22 %g23 ⟨H2, H3, H4, H5, H6, H7, H8, H9, H10, H11, H12, H13, H14, H15, H16, H17, H18, H19, H20, H21, H22, H23⟩ %hr
  iapply Hk
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [H8]
  · iexists _; isplitr; swap; · iexact H8
    ipureintro; rfl
  isplitl [H9]
  · iexists _; isplitr; swap; · iexact H9
    ipureintro; rfl
  isplitl [H10]
  · iexists _; isplitr; swap; · iexact H10
    ipureintro; rfl
  isplitl [H11]
  · iexists _; isplitr; swap; · iexact H11
    ipureintro; rfl
  isplitl [H12]
  · iexists _; isplitr; swap; · iexact H12
    ipureintro; rfl
  isplitl [H13]
  · iexists _; isplitr; swap; · iexact H13
    ipureintro; rfl
  isplitl [H14]
  · iexists _; isplitr; swap; · iexact H14
    ipureintro; rfl
  isplitl [H15]
  · iexists _; isplitr; swap; · iexact H15
    ipureintro; rfl
  isplitl [H16]
  · iexists _; isplitr; swap; · iexact H16
    ipureintro; rfl
  isplitl [H17]
  · iexists _; isplitr; swap; · iexact H17
    ipureintro; exact hr.1
  isplitl [H18]
  · iexists _; iexists _; isplitr; swap; · iexact H18
    ipureintro; rfl
  isplitl [H19]
  · iexists _; iexists _; isplitr; swap; · iexact H19
    ipureintro; rfl
  isplitl [H20]
  · iexists _; iexists _; isplitr; swap; · iexact H20
    ipureintro; rfl
  isplitl [H21]
  · iexists _; iexists _; isplitr; swap; · iexact H21
    ipureintro; rfl
  isplitl [H22]
  · iexists _; isplitr; swap; · iexact H22
    ipureintro; exact hr.2
  iexists _; iexists _; isplitr; swap; · iexact H23
  ipureintro; rfl

/-- The grid point `t`'s block is a sequence's first exactly at the multiples of 32. -/
theorem first_iff (t : Fin cfg0.N) : first (grid0.coords t) ↔ t.val % 32 = 0 := by
  have e1 : (grid0.coords t 1).val = t.val / 1 % 32 := Pipeline.Grid.coords_val t 1 (by decide) rfl
  unfold first; rw [e1]; omega

/-- The scratch buffers as memrefs. -/
abbrev scM18 : Memref sig .tc .vmem S1024x256 .f32 := Memref.whole cc0_scratch0
abbrev scM19 : Memref sig .tc .vmem S1024x768 .f32 := Memref.whole cc0_scratch1
abbrev scM20 : Memref sig .tc .vmem S1024x768 .bf16 := Memref.whole cc0_scratch2
abbrev scM21 : Memref sig .tc .vmem S1024x2048 .f32 := Memref.whole cc0_scratch3
abbrev scM22 : Memref sig .tc .vmem S8x2048 .f32 := Memref.whole cc0_scratch4
abbrev scM23 : Memref sig .tc .vmem S1024x1024 .bf16 := Memref.whole cc0_scratch5

/-- The launch's invariant with the scratch buffers as memrefs owned at anything. -/
theorem PhiA0_eq (c : Dev nD) :
    (Pipeline.ΦA spec0 c : sProp 𝕄) = iprop(iprop((∃ d, owns (c : Thread nD τ) scM18 fullShare d) ∗ (∃ d, owns (c : Thread nD τ) scM19 fullShare d) ∗ (∃ d, owns (c : Thread nD τ) scM20 fullShare d) ∗ (∃ d, owns (c : Thread nD τ) scM21 fullShare d) ∗ (∃ d, owns (c : Thread nD τ) scM22 fullShare d) ∗ (∃ d, owns (c : Thread nD τ) scM23 fullShare d)) ∗ (∃ r, prngReg c r)) := by
  unfold Pipeline.ΦA; rw [scopedRest0_eq]; simp only [scM18, scM19, scM20, scM21, scM22, scM23, owns_whole]; try rfl

variable (m : (ℓ : Loc nD τ sig) → Buf (Elt F) ℓ) (ρ : Dev nD → PrngReg)

/-- The state the point `n` starts its recurrence from: zero at a sequence's first block, else what the block before left. -/
def carryIn (c : Dev nD) : (n : ℕ) → n < cfg0.N → Vec F S8x2048 .f32
  | 0, _ => k0_pay6 (F := F)
  | n + 1, hn => if (n + 1) % 32 = 0 then k0_pay6 (F := F)
      else carV (iblk m c 0 ⟨n, Nat.lt_of_succ_lt hn⟩) (iblk m c 1 ⟨n, Nat.lt_of_succ_lt hn⟩) (iblk m c 2 ⟨n, Nat.lt_of_succ_lt hn⟩) (iblk m c 3 ⟨n, Nat.lt_of_succ_lt hn⟩) (iblk m c 5 ⟨n, Nat.lt_of_succ_lt hn⟩) (iblk m c 6 ⟨n, Nat.lt_of_succ_lt hn⟩) (carryIn c n (Nat.lt_of_succ_lt hn))

/-- The state the point `n` leaves. -/
def carryOut (c : Dev nD) (n : ℕ) (hn : n < cfg0.N) : Vec F S8x2048 .f32 :=
  carV (iblk m c 0 ⟨n, hn⟩) (iblk m c 1 ⟨n, hn⟩) (iblk m c 2 ⟨n, hn⟩) (iblk m c 3 ⟨n, hn⟩) (iblk m c 5 ⟨n, hn⟩) (iblk m c 6 ⟨n, hn⟩) (carryIn m c n hn)

/-- The block of results the point `t` leaves. -/
def outAt (c : Dev nD) (t : Fin cfg0.N) : Vec F S8x128x1024 .f32 :=
  outV (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (carryIn m c t.val t.isLt)

/-- At a sequence's first block the recurrence starts from zero. -/
theorem carryIn_first (c : Dev nD) (t : Fin cfg0.N) (h : t.val % 32 = 0) : carryIn m c t.val t.isLt = k0_pay6 (F := F) := by
  obtain ⟨n, hn⟩ := t
  cases n with
  | zero => rfl
  | succ n => exact if_pos h

/-- At a later block it starts from what the block before left. -/
theorem carryIn_later (c : Dev nD) (t : Fin cfg0.N) (h : ¬ t.val % 32 = 0) :
    carryIn m c t.val t.isLt = carryOut m c (t.val - 1) (Nat.lt_of_le_of_lt (Nat.sub_le _ _) t.isLt) := by
  obtain ⟨n, hn⟩ := t
  cases n with
  | zero => exact absurd (Nat.zero_mod _) h
  | succ n => exact if_neg h

/-- What holds before the point `n`: the carried state at what the point before left, the other scratch at anything. -/
def PhiS (c : Dev nD) : (n : ℕ) → n ≤ cfg0.N → sProp 𝕄
  | 0, _ => Pipeline.ΦA spec0 c
  | n + 1, hn => iprop(iprop((∃ d, owns (c : Thread nD τ) scM18 fullShare d) ∗ (∃ d, owns (c : Thread nD τ) scM19 fullShare d) ∗ (∃ d, owns (c : Thread nD τ) scM20 fullShare d) ∗ (∃ d, owns (c : Thread nD τ) scM21 fullShare d) ∗ owns (c : Thread nD τ) scM22 fullShare (carryOut m c n hn) ∗ (∃ d, owns (c : Thread nD τ) scM23 fullShare d)) ∗ (∃ r, prngReg c r))

/-- Before the first point, the launch's. -/
theorem PhiS_zero (c : Dev nD) (n : ℕ) (h : n ≤ cfg0.N) (hz : n = 0) : PhiS m c n h = Pipeline.ΦA spec0 c := by
  subst hz; rfl

/-- After the point `n`. -/
theorem PhiS_succ (c : Dev nD) (n : ℕ) (hn : n < cfg0.N) :
    PhiS m c (n + 1) hn = iprop(iprop((∃ d, owns (c : Thread nD τ) scM18 fullShare d) ∗ (∃ d, owns (c : Thread nD τ) scM19 fullShare d) ∗ (∃ d, owns (c : Thread nD τ) scM20 fullShare d) ∗ (∃ d, owns (c : Thread nD τ) scM21 fullShare d) ∗ owns (c : Thread nD τ) scM22 fullShare (carryOut m c n hn) ∗ (∃ d, owns (c : Thread nD τ) scM23 fullShare d)) ∗ (∃ r, prngReg c r)) := rfl

/-- Before a point that is not the first. -/
theorem PhiS_pos (c : Dev nD) (n : ℕ) (h : n ≤ cfg0.N) (hz : n ≠ 0) :
    PhiS m c n h = iprop(iprop((∃ d, owns (c : Thread nD τ) scM18 fullShare d) ∗ (∃ d, owns (c : Thread nD τ) scM19 fullShare d) ∗ (∃ d, owns (c : Thread nD τ) scM20 fullShare d) ∗ (∃ d, owns (c : Thread nD τ) scM21 fullShare d) ∗ owns (c : Thread nD τ) scM22 fullShare (carryOut m c (n - 1) (by omega)) ∗ (∃ d, owns (c : Thread nD τ) scM23 fullShare d)) ∗ (∃ r, prngReg c r)) := by
  cases n with
  | zero => exact absurd rfl hz
  | succ n => rfl

/-- The pipeline's data: inputs at their blocks, the result at what the body leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => outAt m c t
    | ⟨n + 16, h⟩ => absurd h (Nat.not_lt.mpr (Nat.le_add_left 16 n))
  Φ t := PhiS m c t.val (Nat.le_of_lt_succ t.isLt)
  q _ := fullShare
  owed _ := 0

/-- The arrays are the region's. -/
theorem A_eq (c : Dev nD) (w : Fin cfg0.W) : (dats m 0 c).A w = V m c (Pipeline.arrRef spec0 w) := by
  dsimp only [dats]

/-- The invariant at a point's start. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves in window 0. -/
theorem after0_0 (c : Dev nD) (t : Fin cfg0.N) : (dats m 0 c).after 0 t = iblk m c 0 t := by dsimp only [dats]
/-- What the body leaves in window 1. -/
theorem after0_1 (c : Dev nD) (t : Fin cfg0.N) : (dats m 0 c).after 1 t = iblk m c 1 t := by dsimp only [dats]
/-- What the body leaves in window 2. -/
theorem after0_2 (c : Dev nD) (t : Fin cfg0.N) : (dats m 0 c).after 2 t = iblk m c 2 t := by dsimp only [dats]
/-- What the body leaves in window 3. -/
theorem after0_3 (c : Dev nD) (t : Fin cfg0.N) : (dats m 0 c).after 3 t = iblk m c 3 t := by dsimp only [dats]
/-- What the body leaves in window 4. -/
theorem after0_4 (c : Dev nD) (t : Fin cfg0.N) : (dats m 0 c).after 4 t = iblk m c 4 t := by dsimp only [dats]
/-- What the body leaves in window 5. -/
theorem after0_5 (c : Dev nD) (t : Fin cfg0.N) : (dats m 0 c).after 5 t = iblk m c 5 t := by dsimp only [dats]
/-- What the body leaves in window 6. -/
theorem after0_6 (c : Dev nD) (t : Fin cfg0.N) : (dats m 0 c).after 6 t = iblk m c 6 t := by dsimp only [dats]
/-- What the body leaves in window 7. -/
theorem after0_7 (c : Dev nD) (t : Fin cfg0.N) : (dats m 0 c).after 7 t = iblk m c 7 t := by dsimp only [dats]
/-- What the body leaves in window 8. -/
theorem after0_8 (c : Dev nD) (t : Fin cfg0.N) : (dats m 0 c).after 8 t = iblk m c 8 t := by dsimp only [dats]
/-- What the body leaves in window 9. -/
theorem after0_9 (c : Dev nD) (t : Fin cfg0.N) : (dats m 0 c).after 9 t = iblk m c 9 t := by dsimp only [dats]
/-- What the body leaves in window 10. -/
theorem after0_10 (c : Dev nD) (t : Fin cfg0.N) : (dats m 0 c).after 10 t = iblk m c 10 t := by dsimp only [dats]
/-- What the body leaves in window 11. -/
theorem after0_11 (c : Dev nD) (t : Fin cfg0.N) : (dats m 0 c).after 11 t = iblk m c 11 t := by dsimp only [dats]
/-- What the body leaves in window 12. -/
theorem after0_12 (c : Dev nD) (t : Fin cfg0.N) : (dats m 0 c).after 12 t = iblk m c 12 t := by dsimp only [dats]
/-- What the body leaves in window 13. -/
theorem after0_13 (c : Dev nD) (t : Fin cfg0.N) : (dats m 0 c).after 13 t = iblk m c 13 t := by dsimp only [dats]
/-- What the body leaves in window 14. -/
theorem after0_14 (c : Dev nD) (t : Fin cfg0.N) : (dats m 0 c).after 14 t = iblk m c 14 t := by dsimp only [dats]
/-- What the body leaves in window 15. -/
theorem after0_15 (c : Dev nD) (t : Fin cfg0.N) : (dats m 0 c).after 15 t = outAt m c t := by dsimp only [dats]
/-- Input window 0 holds its block. -/
theorem before0_0 (c : Dev nD) (t : Fin cfg0.N) (d) : (dats m 0 c).before 0 t d = iblk m c 0 t :=
  before0_0_of m (dats m 0 c) (A_eq m c 0) (after0_0 m c) t d
/-- Input window 1 holds its block. -/
theorem before0_1 (c : Dev nD) (t : Fin cfg0.N) (d) : (dats m 0 c).before 1 t d = iblk m c 1 t :=
  before0_1_of m (dats m 0 c) (A_eq m c 1) (after0_1 m c) t d
/-- Input window 2 holds its block. -/
theorem before0_2 (c : Dev nD) (t : Fin cfg0.N) (d) : (dats m 0 c).before 2 t d = iblk m c 2 t :=
  before0_2_of m (dats m 0 c) (A_eq m c 2) (after0_2 m c) t d
/-- Input window 3 holds its block. -/
theorem before0_3 (c : Dev nD) (t : Fin cfg0.N) (d) : (dats m 0 c).before 3 t d = iblk m c 3 t :=
  before0_3_of m (dats m 0 c) (A_eq m c 3) (after0_3 m c) t d
/-- Input window 4 holds its block. -/
theorem before0_4 (c : Dev nD) (t : Fin cfg0.N) (d) : (dats m 0 c).before 4 t d = iblk m c 4 t :=
  before0_4_of m (dats m 0 c) (A_eq m c 4) (after0_4 m c) t d
/-- Input window 5 holds its block. -/
theorem before0_5 (c : Dev nD) (t : Fin cfg0.N) (d) : (dats m 0 c).before 5 t d = iblk m c 5 t :=
  before0_5_of m (dats m 0 c) (A_eq m c 5) (after0_5 m c) t d
/-- Input window 6 holds its block. -/
theorem before0_6 (c : Dev nD) (t : Fin cfg0.N) (d) : (dats m 0 c).before 6 t d = iblk m c 6 t :=
  before0_6_of m (dats m 0 c) (A_eq m c 6) (after0_6 m c) t d
/-- Input window 7 holds its block. -/
theorem before0_7 (c : Dev nD) (t : Fin cfg0.N) (d) : (dats m 0 c).before 7 t d = iblk m c 7 t :=
  before0_7_of m (dats m 0 c) (A_eq m c 7) (after0_7 m c) t d
/-- Input window 8 holds its block. -/
theorem before0_8 (c : Dev nD) (t : Fin cfg0.N) (d) : (dats m 0 c).before 8 t d = iblk m c 8 t :=
  before0_8_of m (dats m 0 c) (A_eq m c 8) (after0_8 m c) t d
/-- Input window 9 holds its block. -/
theorem before0_9 (c : Dev nD) (t : Fin cfg0.N) (d) : (dats m 0 c).before 9 t d = iblk m c 9 t :=
  before0_9_of m (dats m 0 c) (A_eq m c 9) (after0_9 m c) t d
/-- Input window 10 holds its block. -/
theorem before0_10 (c : Dev nD) (t : Fin cfg0.N) (d) : (dats m 0 c).before 10 t d = iblk m c 10 t :=
  before0_10_of m (dats m 0 c) (A_eq m c 10) (after0_10 m c) t d
/-- Input window 11 holds its block. -/
theorem before0_11 (c : Dev nD) (t : Fin cfg0.N) (d) : (dats m 0 c).before 11 t d = iblk m c 11 t :=
  before0_11_of m (dats m 0 c) (A_eq m c 11) (after0_11 m c) t d
/-- Input window 12 holds its block. -/
theorem before0_12 (c : Dev nD) (t : Fin cfg0.N) (d) : (dats m 0 c).before 12 t d = iblk m c 12 t :=
  before0_12_of m (dats m 0 c) (A_eq m c 12) (after0_12 m c) t d
/-- Input window 13 holds its block. -/
theorem before0_13 (c : Dev nD) (t : Fin cfg0.N) (d) : (dats m 0 c).before 13 t d = iblk m c 13 t :=
  before0_13_of m (dats m 0 c) (A_eq m c 13) (after0_13 m c) t d
/-- Input window 14 holds its block. -/
theorem before0_14 (c : Dev nD) (t : Fin cfg0.N) (d) : (dats m 0 c).before 14 t d = iblk m c 14 t :=
  before0_14_of m (dats m 0 c) (A_eq m c 14) (after0_14 m c) t d

/-- Before a point, the state buffer holds something that its recurrence's start is read from. -/
theorem PhiS_open (c : Dev nD) (t : Fin cfg0.N) :
    PhiS m c t.val (Nat.le_of_lt t.isLt) ⊢ iprop(∃ x22 : Vec F S8x2048 .f32, ⌜carryIn m c t.val t.isLt = startV (grid0.coords t) x22⌝
      ∗ iprop(iprop((∃ d, owns (c : Thread nD τ) scM18 fullShare d) ∗ (∃ d, owns (c : Thread nD τ) scM19 fullShare d) ∗ (∃ d, owns (c : Thread nD τ) scM20 fullShare d) ∗ (∃ d, owns (c : Thread nD τ) scM21 fullShare d) ∗ owns (c : Thread nD τ) scM22 fullShare x22 ∗ (∃ d, owns (c : Thread nD τ) scM23 fullShare d)) ∗ (∃ r, prngReg c r))) := by
  by_cases hz : t.val = 0
  · rw [PhiS_zero m c _ _ hz, PhiA0_eq]
    iintro ⟨⟨S18, S19, S20, S21, ⟨%x22, S22⟩, S23⟩, Hg⟩
    iexists x22; isplitr; swap
    · iframe ∗
    ipureintro
    rw [carryIn_first m c t (by rw [hz])]
    exact (if_pos ((first_iff t).mpr (by rw [hz]))).symm
  · rw [PhiS_pos m c _ _ hz]
    iintro ⟨⟨S18, S19, S20, S21, S22, S23⟩, Hg⟩
    iexists _; isplitr; swap
    · iframe ∗
    ipureintro
    by_cases h0 : t.val % 32 = 0
    · rw [carryIn_first m c t h0]
      exact (if_pos ((first_iff t).mpr h0)).symm
    · rw [carryIn_later m c t h0]
      exact (if_neg (fun h => h0 ((first_iff t).mp h))).symm

/-- What the body is called with. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0) : Memref sig .tc .vmem S8x128x1024 .f32) fullShare ((dats m 0 c).before 0 t d))
    ∗ (∃ d, owns (c : Thread nD τ) (win0_1.stage (cfg0.slots t 1) : Memref sig .tc .vmem S1x1024 .f32) fullShare ((dats m 0 c).before 1 t d))
    ∗ (∃ d, owns (c : Thread nD τ) (win0_2.stage (cfg0.slots t 2) : Memref sig .tc .vmem S1024x1792 .bf16) fullShare ((dats m 0 c).before 2 t d))
    ∗ (∃ d, owns (c : Thread nD τ) (win0_3.stage (cfg0.slots t 3) : Memref sig .tc .vmem S1024x1024 .bf16) fullShare ((dats m 0 c).before 3 t d))
    ∗ (∃ d, owns (c : Thread nD τ) (win0_4.stage (cfg0.slots t 4) : Memref sig .tc .vmem S1024x1024 .bf16) fullShare ((dats m 0 c).before 4 t d))
    ∗ (∃ d, owns (c : Thread nD τ) (win0_5.stage (cfg0.slots t 5) : Memref sig .tc .vmem S256x2048 .bf16) fullShare ((dats m 0 c).before 5 t d))
    ∗ (∃ d, owns (c : Thread nD τ) (win0_6.stage (cfg0.slots t 6) : Memref sig .tc .vmem S2x1024 .f32) fullShare ((dats m 0 c).before 6 t d))
    ∗ (∃ d, owns (c : Thread nD τ) (win0_7.stage (cfg0.slots t 7) : Memref sig .tc .vmem S2048x256 .bf16) fullShare ((dats m 0 c).before 7 t d))
    ∗ (∃ d, owns (c : Thread nD τ) (win0_8.stage (cfg0.slots t 8) : Memref sig .tc .vmem S1x256 .f32) fullShare ((dats m 0 c).before 8 t d))
    ∗ (∃ d, owns (c : Thread nD τ) (win0_9.stage (cfg0.slots t 9) : Memref sig .tc .vmem S256x256 .bf16) fullShare ((dats m 0 c).before 9 t d))
    ∗ (∃ d, owns (c : Thread nD τ) (win0_10.stage (cfg0.slots t 10) : Memref sig .tc .vmem S1x256 .f32) fullShare ((dats m 0 c).before 10 t d))
    ∗ (∃ d, owns (c : Thread nD τ) (win0_11.stage (cfg0.slots t 11) : Memref sig .tc .vmem S6x128x128 .bf16) fullShare ((dats m 0 c).before 11 t d))
    ∗ (∃ d, owns (c : Thread nD τ) (win0_12.stage (cfg0.slots t 12) : Memref sig .tc .vmem S6x128x128 .f32) fullShare ((dats m 0 c).before 12 t d))
    ∗ (∃ d, owns (c : Thread nD τ) (win0_13.stage (cfg0.slots t 13) : Memref sig .tc .vmem S1x768 .f32) fullShare ((dats m 0 c).before 13 t d))
    ∗ (∃ d, owns (c : Thread nD τ) (win0_14.stage (cfg0.slots t 14) : Memref sig .tc .vmem S1024x1024 .bf16) fullShare ((dats m 0 c).before 14 t d))
    ∗ (∃ d, owns (c : Thread nD τ) (win0_15.stage (cfg0.slots t 15) : Memref sig .tc .vmem S8x128x1024 .f32) fullShare ((dats m 0 c).before 15 t d)))

/-- What it returns. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0) : Memref sig .tc .vmem S8x128x1024 .f32) fullShare ((dats m 0 c).after 0 t)
    ∗ owns (c : Thread nD τ) (win0_1.stage (cfg0.slots t 1) : Memref sig .tc .vmem S1x1024 .f32) fullShare ((dats m 0 c).after 1 t)
    ∗ owns (c : Thread nD τ) (win0_2.stage (cfg0.slots t 2) : Memref sig .tc .vmem S1024x1792 .bf16) fullShare ((dats m 0 c).after 2 t)
    ∗ owns (c : Thread nD τ) (win0_3.stage (cfg0.slots t 3) : Memref sig .tc .vmem S1024x1024 .bf16) fullShare ((dats m 0 c).after 3 t)
    ∗ owns (c : Thread nD τ) (win0_4.stage (cfg0.slots t 4) : Memref sig .tc .vmem S1024x1024 .bf16) fullShare ((dats m 0 c).after 4 t)
    ∗ owns (c : Thread nD τ) (win0_5.stage (cfg0.slots t 5) : Memref sig .tc .vmem S256x2048 .bf16) fullShare ((dats m 0 c).after 5 t)
    ∗ owns (c : Thread nD τ) (win0_6.stage (cfg0.slots t 6) : Memref sig .tc .vmem S2x1024 .f32) fullShare ((dats m 0 c).after 6 t)
    ∗ owns (c : Thread nD τ) (win0_7.stage (cfg0.slots t 7) : Memref sig .tc .vmem S2048x256 .bf16) fullShare ((dats m 0 c).after 7 t)
    ∗ owns (c : Thread nD τ) (win0_8.stage (cfg0.slots t 8) : Memref sig .tc .vmem S1x256 .f32) fullShare ((dats m 0 c).after 8 t)
    ∗ owns (c : Thread nD τ) (win0_9.stage (cfg0.slots t 9) : Memref sig .tc .vmem S256x256 .bf16) fullShare ((dats m 0 c).after 9 t)
    ∗ owns (c : Thread nD τ) (win0_10.stage (cfg0.slots t 10) : Memref sig .tc .vmem S1x256 .f32) fullShare ((dats m 0 c).after 10 t)
    ∗ owns (c : Thread nD τ) (win0_11.stage (cfg0.slots t 11) : Memref sig .tc .vmem S6x128x128 .bf16) fullShare ((dats m 0 c).after 11 t)
    ∗ owns (c : Thread nD τ) (win0_12.stage (cfg0.slots t 12) : Memref sig .tc .vmem S6x128x128 .f32) fullShare ((dats m 0 c).after 12 t)
    ∗ owns (c : Thread nD τ) (win0_13.stage (cfg0.slots t 13) : Memref sig .tc .vmem S1x768 .f32) fullShare ((dats m 0 c).after 13 t)
    ∗ owns (c : Thread nD τ) (win0_14.stage (cfg0.slots t 14) : Memref sig .tc .vmem S1024x1024 .bf16) fullShare ((dats m 0 c).after 14 t)
    ∗ owns (c : Thread nD τ) (win0_15.stage (cfg0.slots t 15) : Memref sig .tc .vmem S8x128x1024 .f32) fullShare ((dats m 0 c).after 15 t))

set_option maxHeartbeats 6400000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15]
  rw [show (dats m 0 c).Φ t.succ = PhiS m c (t.val + 1) t.isLt from rfl, PhiS_succ]
  rw [PhiS_castSucc m c t]
  unfold outAt carryOut
  refine (Laws.sep_mono_left (PhiS_open m c t)).trans ?_
  iintro ⟨⟨%x22, %hx, ⟨S18, S19, S20, S21, S22, S23⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  rw [hx]
  iapply (body_owns (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) x22)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  isplitl [S18]; · iexact S18
  isplitl [S19]; · iexact S19
  isplitl [S20]; · iexact S20
  isplitl [S21]; · iexact S21
  isplitl [S22]; · iexact S22
  isplitl [S23]; · iexact S23
  iintro ⟨H0, H1, H2, H3, H4, H5, H6, H7, H8, H9, H10, H11, H12, H13, H14, H15, S18, S19, S20, S21, S22, S23⟩
  isplitl [S18 S19 S20 S21 S22 S23 Hg]
  · isplitr [Hg]; swap; · iexact Hg
    isplitl [S18]; · iexact S18
    isplitl [S19]; · iexact S19
    isplitl [S20]; · iexact S20
    isplitl [S21]; · iexact S21
    isplitl [S22]; · iexact S22
    iexact S23
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The body table's row is the body. -/
theorem row_eq (t : Fin cfg0.N) : defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ := fun t => by
  rw [bigSep_W0, bigSep_W0, row_eq]
  exact triple_restated (sound_body m c t) rfl .rfl fun _ => .rfl

/-- The launch hands over the invariant. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the scratch back. -/
theorem hout (c : Dev nD) : (dats m 0 c).Φ (Fin.last cfg0.N) ⊢ Pipeline.ΦA spec0 c := by
  have ht : (Fin.last cfg0.N).val ≠ 0 := by rw [Fin.val_last]; have : cfg0.N = 64 := N_0; omega
  rw [show (dats m 0 c).Φ (Fin.last cfg0.N) = PhiS m c (Fin.last cfg0.N).val (Nat.le_of_lt_succ (Fin.last cfg0.N).isLt) from rfl,
    PhiS_pos m c _ _ ht, PhiA0_eq]
  iintro ⟨⟨S18, S19, S20, S21, S22, S23⟩, Hg⟩
  isplitr [Hg]; swap; · iexact Hg
  isplitl [S18]; · iexact S18
  isplitl [S19]; · iexact S19
  isplitl [S20]; · iexact S20
  isplitl [S21]; · iexact S21
  isplitl [S22]; · iexists _; iexact S22
  iexact S23

set_option backward.isDefEq.respectTransparency.types false in
/-- The launch: it terminates with the arrays at what the data say and every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The launch, without the counters. -/
theorem run_main : θ_run defs (onTc (τ := τ) (main (F := F))) (s₀ m ρ) (Pipeline.FramePost cfgs (dats m) 0 (V m)) :=
  (θ_run defs _ _).mono (fun _ h => h.1) (run_quiescent m ρ)

/-- Every execution terminates, the arguments end unchanged, every counter at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16))
      ∧ r.2.sem = fun _ => 0) :=
  θ_run_and (frame_of m ρ (dats m) (A_eq m) (run_main m ρ)) ((θ_run defs _ _).mono (fun _ h => h.2) (run_quiescent m ρ))

end Cert.EvenIdeal.Hand

end
-- ==== Proof.EvenRef.lean ====
/- The even mixer's reference: its run over the time loop, and the buffers the loop and the stretches around it leave alone. -/
module

public import proofs.«01_k».proof.Proof.Gen.EvenRefIdeal.Run
public import Idealize.ShloMosaic.Lib.Quiescent
public import Idealize.ShloMosaic.Lib.Claim

@[expose] public section

set_option maxRecDepth 16384

noncomputable section

namespace Cert.EvenRefIdeal.Hand

open Idealize.ShloMosaic Idealize.ShloMosaic.TcCoe Idealize.ShloMosaic.StableHlo
open Idealize.SL.Sem
open Cert.EvenRefIdeal Cert.EvenRefIdeal.Gen Cert.EvenRefIdeal.Value

variable {F : FTy → Type} [FloatOps F]

/-- The buffers `hostOps0_1` writes, in order. -/
abbrev hostOps0_1_outs : List (Ref sig .tc) := [main_v66, main_v67, main_v68, main_v69, main_v70, main_v71, main_v72, main_v73, main_v74, main_v75, main_v76, main_v77, main_v78, main_v79, main_v80, main_cst_7, main_v81, main_v82, main_v83, main_cst_8, main_v84, main_v85, main_v86, main_cst_9, main_v87, main_v88, main_cst_10, main_v89, main_v90, main_v91, main_v92, main_v93, main_v94, main_v95, main_v96, main_v97, main_cst_11, main_v98, main_v99, main_cst_12, main_v100, main_v101, main_v102, main_v103, main_v104, main_v105, main_cst_13, main_v106, main_v107, main_v108, main_cst_14, main_v109, main_v110, main_v111, main_cst_15, main_v112, main_v113, main_cst_16, main_v114, main_v115, main_v116, main_v117, main_v118, main_v119, main_cst_17, main_v120, main_v121, main_cst_18, main_v122, main_v123, main_cst_19, main_v124, main_v125, main_v126, main_v127, main_v128, main_v129, main_v130, main_v131, main_v132, main_c_20, main_v133]
set_option maxHeartbeats 4000000 in
/-- It writes no other. -/
theorem hostOps0_1_only : (hostOps0_1 : List (HloOp τ sig (Elt F))).Forall fun op => op.writes ⊆ (hostOps0_1_outs.map (Proc.devRef (τ := τ) .tc)).toFinset :=
  StableHlo.forall_writes_sub_of_map rfl

/-- The buffers `hostOps0_2` writes, in order. -/
abbrev hostOps0_2_outs : List (Ref sig .tc) := [main_call4_v0, main_call4_c, main_call4_v1, main_call4_v2, main_call4_v3, main_call4_v4, main_call4_c_0, main_call4_v5, main_v134]
set_option maxHeartbeats 4000000 in
/-- It writes no other. -/
theorem hostOps0_2_only : (hostOps0_2 : List (HloOp τ sig (Elt F))).Forall fun op => op.writes ⊆ (hostOps0_2_outs.map (Proc.devRef (τ := τ) .tc)).toFinset :=
  StableHlo.forall_writes_sub_of_map rfl

/-- The buffers `hostOps0_3` writes, in order. -/
abbrev hostOps0_3_outs : List (Ref sig .tc) := [main_c_21]
set_option maxHeartbeats 4000000 in
/-- It writes no other. -/
theorem hostOps0_3_only : (hostOps0_3 : List (HloOp τ sig (Elt F))).Forall fun op => op.writes ⊆ (hostOps0_3_outs.map (Proc.devRef (τ := τ) .tc)).toFinset :=
  StableHlo.forall_writes_sub_of_map rfl

/-- The buffers `hostOps0_4` writes, in order. -/
abbrev hostOps0_4_outs : List (Ref sig .tc) := [main_call5_v0, main_call5_v1, main_call5_v2, main_v135]
set_option maxHeartbeats 4000000 in
/-- It writes no other. -/
theorem hostOps0_4_only : (hostOps0_4 : List (HloOp τ sig (Elt F))).Forall fun op => op.writes ⊆ (hostOps0_4_outs.map (Proc.devRef (τ := τ) .tc)).toFinset :=
  StableHlo.forall_writes_sub_of_map rfl

/-- The buffers `hostOps0_5` writes, in order. -/
abbrev hostOps0_5_outs : List (Ref sig .tc) := [main_v136, main_v137, main_v138, main_v139, main_v140, main_v141, main_v142, main_v143, main_v144, main_v145, main_v146]
set_option maxHeartbeats 4000000 in
/-- It writes no other. -/
theorem hostOps0_5_only : (hostOps0_5 : List (HloOp τ sig (Elt F))).Forall fun op => op.writes ⊆ (hostOps0_5_outs.map (Proc.devRef (τ := τ) .tc)).toFinset :=
  StableHlo.forall_writes_sub_of_map rfl

/-- Every buffer the loop writes. -/
abbrev loopOuts : List (Ref sig .tc) := condOps_W ++ while0Ops0_W ++ while0Ops0_1_W ++ while0Ops0_2_W ++ while0Ops0_3_W ++ while0Ops0_4_W ++ while0Ops0_5_W

/-- A buffer the loop does not write is as it was, before every trip. -/
theorem atTrip_keep (W₀ : Dev nD → Valuation τ sig (Elt F)) (c : Dev nD) (r : Ref sig .tc) (h : r ∉ loopOuts) :
    ∀ k, atTrip condOps bodyI W₀ k c (Proc.devRef .tc r) = W₀ c (Proc.devRef .tc r)
  | 0 => rfl
  | k + 1 => by
    simp only [loopOuts, List.mem_append, not_or] at h
    obtain ⟨⟨⟨⟨⟨⟨hc, h0⟩, h1⟩, h2⟩, h3⟩, h4⟩, h5⟩ := h
    rw [atTrip_succ]
    simp only [bodyI, afterL_cons, afterL_nil]
    rw [after_of_writes_sub while0Ops0_5 _ while0Ops0_5_writes h5]
    rw [after_of_writes_sub while0Ops0_4 _ while0Ops0_4_writes h4]
    rw [after_of_writes_sub while0Ops0_3 _ while0Ops0_3_writes h3]
    rw [after_of_writes_sub while0Ops0_2 _ while0Ops0_2_writes h2]
    rw [after_of_writes_sub while0Ops0_1 _ while0Ops0_1_writes h1]
    rw [after_of_writes_sub while0Ops0 _ while0Ops0_writes h0]
    rw [after_of_writes_sub condOps _ condOps_writes hc]
    exact atTrip_keep W₀ c r (by simp only [loopOuts, List.mem_append, not_or]; exact ⟨⟨⟨⟨⟨⟨hc, h0⟩, h1⟩, h2⟩, h3⟩, h4⟩, h5⟩) k

/-- Every buffer written after the loop. -/
abbrev postOuts : List (Ref sig .tc) := hostOps0_1_outs ++ hostOps0_2_outs ++ hostOps0_3_outs ++ hostOps0_4_outs ++ hostOps0_5_outs

/-- A buffer nothing after the loop writes ends at what it holds after the loop. -/
theorem post_keep (V : Valuation τ sig (Elt F)) (r : Ref sig .tc) (h : r ∉ postOuts) :
    afterL postI V (Proc.devRef .tc r) = V (Proc.devRef .tc r) := by
  simp only [postOuts, List.mem_append, not_or] at h
  obtain ⟨⟨⟨⟨h1, h2⟩, h3⟩, h4⟩, h5⟩ := h
  simp only [postI, afterL_cons, afterL_nil]
  rw [after_of_writes_sub hostOps0_5 _ hostOps0_5_only h5]
  rw [after_of_writes_sub hostOps0_4 _ hostOps0_4_only h4]
  rw [after_of_writes_sub hostOps0_3 _ hostOps0_3_only h3]
  rw [after_of_writes_sub hostOps0_2 _ hostOps0_2_only h2]
  rw [after_of_writes_sub hostOps0_1 _ hostOps0_1_only h1]

/-- A buffer the program never writes ends as launched. -/
theorem final_keep (m : (ℓ : Loc nD τ sig) → Buf (Elt F) ℓ) (c : Dev nD) (r : Ref sig .tc)
    (h0 : r ∉ hostOps0_W) (hl : r ∉ loopOuts) (hp : r ∉ postOuts) :
    finalContents condOps preI bodyI postI 4096 m c (Proc.devRef .tc r) = launchContents m c (Proc.devRef .tc r) := by
  have hc : r ∉ condOps_W := fun hh => hl (by simp only [loopOuts, List.mem_append, hh, true_or])
  unfold finalContents
  rw [post_keep _ r hp, after_of_writes_sub condOps _ condOps_writes hc, atTrip_keep _ c r hl]
  simp only [entryContents, preI, afterL_cons, afterL_nil]
  exact after_of_writes_sub hostOps0 _ hostOps0_writes h0

/-- The reference runs and its arguments end unchanged; it holds no counter. -/
theorem run_args (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v146) = finalContents condOps preI bodyI postI 4096 m c (Proc.devRef .tc main_v146)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c => ⟨h c main_v146 (by decide),
    (h c main_arg0 (by decide)).trans (final_keep m c main_arg0 (by decide +kernel) (by decide +kernel) (by decide +kernel)),
    (h c main_arg1 (by decide)).trans (final_keep m c main_arg1 (by decide +kernel) (by decide +kernel) (by decide +kernel)),
    (h c main_arg2 (by decide)).trans (final_keep m c main_arg2 (by decide +kernel) (by decide +kernel) (by decide +kernel)),
    (h c main_arg3 (by decide)).trans (final_keep m c main_arg3 (by decide +kernel) (by decide +kernel) (by decide +kernel)),
    (h c main_arg4 (by decide)).trans (final_keep m c main_arg4 (by decide +kernel) (by decide +kernel) (by decide +kernel)),
    (h c main_arg5 (by decide)).trans (final_keep m c main_arg5 (by decide +kernel) (by decide +kernel) (by decide +kernel)),
    (h c main_arg6 (by decide)).trans (final_keep m c main_arg6 (by decide +kernel) (by decide +kernel) (by decide +kernel)),
    (h c main_arg7 (by decide)).trans (final_keep m c main_arg7 (by decide +kernel) (by decide +kernel) (by decide +kernel)),
    (h c main_arg8 (by decide)).trans (final_keep m c main_arg8 (by decide +kernel) (by decide +kernel) (by decide +kernel)),
    (h c main_arg9 (by decide)).trans (final_keep m c main_arg9 (by decide +kernel) (by decide +kernel) (by decide +kernel)),
    (h c main_arg10 (by decide)).trans (final_keep m c main_arg10 (by decide +kernel) (by decide +kernel) (by decide +kernel)),
    (h c main_arg11 (by decide)).trans (final_keep m c main_arg11 (by decide +kernel) (by decide +kernel) (by decide +kernel)),
    (h c main_arg12 (by decide)).trans (final_keep m c main_arg12 (by decide +kernel) (by decide +kernel) (by decide +kernel)),
    (h c main_arg13 (by decide)).trans (final_keep m c main_arg13 (by decide +kernel) (by decide +kernel) (by decide +kernel)),
    (h c main_arg14 (by decide)).trans (final_keep m c main_arg14 (by decide +kernel) (by decide +kernel) (by decide +kernel)),
    (h c main_arg15 (by decide)).trans (final_keep m c main_arg15 (by decide +kernel) (by decide +kernel) (by decide +kernel)),
    (h c main_arg16 (by decide)).trans (final_keep m c main_arg16 (by decide +kernel) (by decide +kernel) (by decide +kernel))⟩) (run_fold m ρ)

end Cert.EvenRefIdeal.Hand

end
-- ==== Proof.Spec.lean ====
/-
  The mathematics of the layer over the extended reals, one row at a time, as the kernels and the references both compute it,
  and how a scratch buffer written by whole rows is read at one element.
-/
module

public import Idealize.ShloMosaic.Lib.Pointwise
public import Idealize.ShloMosaic.Lib.WritesUnit

@[expose] public section

noncomputable section

namespace Trunk

open Idealize.ShloMosaic

/-- The root-mean-square normalization of a row `x` scaled by `g`, at position `k`: the mean of the squares is taken over the
    printed length `1024.0` and the printed epsilon is added before the reciprocal root. -/
def rms {n : ℕ} (x g : Fin n → EReal) (k : Fin n) : EReal :=
  x k * Ideal.rsqrt (Ideal.div (∑ j : Fin n, x j * x j) (Ideal.ofBits .f32 0x44800000#32) + Ideal.ofBits .f32 0x358637BD#32) * g k

/-- A row times one column of a matrix. -/
def proj {n : ℕ} (x w : Fin n → EReal) : EReal := ∑ k : Fin n, x k * w k

/-- The causal convolution of width three with its bias: `u0` is the present value, `u1` the one before, `u2` the one before that. -/
def conv (b w0 w1 w2 u0 u1 u2 : EReal) : EReal := b + (w0 * u2 + w1 * u1 + w2 * u0)

/-- The gate `a · logistic(a) · v`. -/
def swiglu (a v : EReal) : EReal := a * Ideal.logistic a * v

/-- One row of the feed-forward block before any closing normalization: the row itself plus the gated convolution of the
    up-projected rows `u0` (this row's), `u1` (the row's before) and `u2` (two rows before) times the down projection. -/
def ffnRow (x : Fin 1024 → EReal) (u0 u1 u2 : Fin 5632 → EReal) (w : Fin 3 → Fin 5632 → EReal) (b : Fin 5632 → EReal)
    (wd : Fin 2816 → Fin 1024 → EReal) (d : Fin 1024) : EReal :=
  x d + ∑ j : Fin 2816,
    swiglu (conv (b ⟨j.val, by omega⟩) (w 0 ⟨j.val, by omega⟩) (w 1 ⟨j.val, by omega⟩) (w 2 ⟨j.val, by omega⟩)
        (u0 ⟨j.val, by omega⟩) (u1 ⟨j.val, by omega⟩) (u2 ⟨j.val, by omega⟩))
      (conv (b ⟨2816 + j.val, by omega⟩) (w 0 ⟨2816 + j.val, by omega⟩) (w 1 ⟨2816 + j.val, by omega⟩) (w 2 ⟨2816 + j.val, by omega⟩)
        (u0 ⟨2816 + j.val, by omega⟩) (u1 ⟨2816 + j.val, by omega⟩) (u2 ⟨2816 + j.val, by omega⟩)) * wd j d

/-- The rows `u` of a sequence, `k` places back from place `s`: zero before the sequence begins. -/
def back {n N : ℕ} (u : Fin N → Fin n → EReal) (k : ℕ) (s : Fin N) (f : Fin n) : EReal :=
  if k ≤ s.val then u ⟨s.val - k, by omega⟩ f else 0

/-- The up-projected rows of a sequence `x`: each row normalized with gain `g`, times `w`. -/
def up {n N M : ℕ} (x : Fin N → Fin n → EReal) (g : Fin n → EReal) (w : Fin n → Fin M → EReal) (s : Fin N) (f : Fin M) : EReal :=
  proj (rms (x s) g) fun k => w k f

/-- The feed-forward block of a sequence `x` at place `s`. -/
def ffn {N : ℕ} (x : Fin N → Fin 1024 → EReal) (g : Fin 1024 → EReal) (wu : Fin 1024 → Fin 5632 → EReal) (w : Fin 3 → Fin 5632 → EReal)
    (b : Fin 5632 → EReal) (wd : Fin 2816 → Fin 1024 → EReal) (s : Fin N) : Fin 1024 → EReal :=
  ffnRow (x s) (up x g wu s) (back (up x g wu) 1 s) (back (up x g wu) 2 s) w b wd

/-- The last feed-forward block of the trunk: its row under the closing normalization with gain `gf`. -/
def ffnFinal {N : ℕ} (x : Fin N → Fin 1024 → EReal) (g : Fin 1024 → EReal) (wu : Fin 1024 → Fin 5632 → EReal) (w : Fin 3 → Fin 5632 → EReal)
    (b : Fin 5632 → EReal) (wd : Fin 2816 → Fin 1024 → EReal) (gf : Fin 1024 → EReal) (s : Fin N) : Fin 1024 → EReal :=
  rms (ffn x g wu w b wd s) gf

/-- One row of the short-convolution mixer: the row itself plus the gate `a` times the convolution of `z0` (this row's), `z1` and
    `z2` (the rows' before), times the output projection. -/
def oddRow (x : Fin 1024 → EReal) (a z0 z1 z2 : Fin 1024 → EReal) (w : Fin 3 → Fin 1024 → EReal) (b : Fin 1024 → EReal)
    (wo : Fin 1024 → Fin 1024 → EReal) (d : Fin 1024) : EReal :=
  x d + ∑ j : Fin 1024, a j * conv (b j) (w 0 j) (w 1 j) (w 2 j) (z0 j) (z1 j) (z2 j) * wo j d

/-- The product the mixer convolves: the second third of the projected row times its last third. -/
def gate {N : ℕ} (x : Fin N → Fin 1024 → EReal) (g : Fin 1024 → EReal) (wi : Fin 1024 → Fin 3072 → EReal) (s : Fin N) (j : Fin 1024) : EReal :=
  up x g wi s ⟨1024 + j.val, by omega⟩ * up x g wi s ⟨2048 + j.val, by omega⟩

/-- The short-convolution mixer of a sequence `x` at place `s`. -/
def odd {N : ℕ} (x : Fin N → Fin 1024 → EReal) (g : Fin 1024 → EReal) (wi : Fin 1024 → Fin 3072 → EReal) (w : Fin 3 → Fin 1024 → EReal)
    (b : Fin 1024 → EReal) (wo : Fin 1024 → Fin 1024 → EReal) (s : Fin N) : Fin 1024 → EReal :=
  oddRow (x s) (fun j => up x g wi s ⟨j.val, by omega⟩) (gate x g wi s) (back (gate x g wi) 1 s) (back (gate x g wi) 2 s) w b wo

/-- The integer word zero read as a number is zero. -/
theorem zero_word : FloatOps.sitofp (F := Ideal) .f32 (0#32 : BitVec 32) = (0 : EReal) := by
  show ((((0#32 : BitVec 32).toInt : ℤ) : ℝ) : EReal) = 0
  simp

/-- A sequence padded with two zero rows in front, read at its place `s`: the row two places back. -/
theorem pad2 {n N : ℕ} (u : Fin N → Fin n → EReal) (s : Fin N) (f : Fin n) :
    (if h : 2 ≤ s.val ∧ s.val - 2 < N then u ⟨s.val - 2, h.2⟩ f else FloatOps.sitofp (F := Ideal) .f32 (0#32 : BitVec 32)) = back u 2 s f := by
  unfold back
  by_cases h : 2 ≤ s.val
  · rw [dif_pos ⟨h, by omega⟩, if_pos h]
  · rw [dif_neg (fun h' => h h'.1), if_neg h, zero_word]

/-- The same read one place on: the row one place back. -/
theorem pad1 {n N : ℕ} (u : Fin N → Fin n → EReal) (s : Fin N) (f : Fin n) :
    (if h : 2 ≤ 1 + s.val ∧ 1 + s.val - 2 < N then u ⟨1 + s.val - 2, h.2⟩ f else FloatOps.sitofp (F := Ideal) .f32 (0#32 : BitVec 32))
      = back u 1 s f := by
  unfold back
  by_cases h : 1 ≤ s.val
  · rw [dif_pos (by omega), if_pos h]
    congr 1
    apply Fin.ext; simp only; omega
  · rw [dif_neg (by omega), if_neg h, zero_word]

/-! ## Rows of a rank-two buffer -/

section Rows

variable {sig : RefSig} {κ : Kind} {sp : Space} {e : EltTy} {Val : EltTy → Type} {m n : ℕ}

/-- A row inside the newest stored band of whole rows reads that band's payload. -/
theorem rows_hit (v : View sig κ sp (⟨2, ![m, n]⟩ : Shape) e) (f : v.ty.Contents Val) {o W : ℕ}
    (inb : ∀ a : Fin 2, (![o, 0] : Fin 2 → ℕ) a + (![W, n] : Fin 2 → ℕ) a ≤ (![m, n] : Fin 2 → ℕ) a)
    (w : (Rect.unit (s := ⟨2, ![m, n]⟩) ![o, 0] ![W, n] inb).shape.Idx → Val e) (L : List (View.Piece Val (⟨2, ![m, n]⟩ : Shape) e))
    (r : Fin m) (j : Fin n) (k : Fin W) (h : r.val = o + k.val) :
    v.read Val (v.writes Val f ((⟨Rect.unit (s := ⟨2, ![m, n]⟩) ![o, 0] ![W, n] inb, w⟩ : View.Piece Val (⟨2, ![m, n]⟩ : Shape) e) :: L)) (ix2 r j)
      = w (ix2 k j) :=
  View.read_writes_cons_rows_of_mem v f inb w L (ix2 r j) (ix2 k j) rfl h rfl

/-- A row outside the newest stored band of whole rows reads what the earlier stores left. -/
theorem rows_miss (v : View sig κ sp (⟨2, ![m, n]⟩ : Shape) e) (f : v.ty.Contents Val) {o W : ℕ}
    (inb : ∀ a : Fin 2, (![o, 0] : Fin 2 → ℕ) a + (![W, n] : Fin 2 → ℕ) a ≤ (![m, n] : Fin 2 → ℕ) a)
    (w : (Rect.unit (s := ⟨2, ![m, n]⟩) ![o, 0] ![W, n] inb).shape.Idx → Val e) (L : List (View.Piece Val (⟨2, ![m, n]⟩ : Shape) e))
    (r : Fin m) (j : Fin n) (h : r.val < o ∨ o + W ≤ r.val) :
    v.read Val (v.writes Val f ((⟨Rect.unit (s := ⟨2, ![m, n]⟩) ![o, 0] ![W, n] inb, w⟩ : View.Piece Val (⟨2, ![m, n]⟩ : Shape) e) :: L)) (ix2 r j)
      = v.read Val (v.writes Val f L) (ix2 r j) :=
  View.read_writes_cons_rows_of_not_mem v f inb w L (ix2 r j) rfl rfl h

/-- A band of whole rows of a value, at an element: the row as many places down as the band begins. -/
theorem ld_rows {m' : ℕ} (X : (⟨2, ![m, n]⟩ : Shape).Idx → Val e) {o : ℕ}
    (inb : ∀ a : Fin 2, (![o, 0] : Fin 2 → ℕ) a + (![m', n] : Fin 2 → ℕ) a ≤ (![m, n] : Fin 2 → ℕ) a) (r : Fin m') (j : Fin n)
    (k : Fin m) (h : k.val = o + r.val) :
    View.ld X (Rect.unit (s := ⟨2, ![m, n]⟩) ![o, 0] ![m', n] inb) (ix2 r j) = X (ix2 k j) := by
  refine congrArg X (funext fun a => Fin.ext ?_)
  fin_cases a
  · show o + 1 * r.val = k.val
    omega
  · show 0 + 1 * j.val = j.val
    omega

/-- A band of whole rows read back from stores alone, at an element. -/
theorem cov_rows [∀ e, Nonempty (Val e)] {m' : ℕ} (v : View sig κ sp (⟨2, ![m, n]⟩ : Shape) e) (L : List (View.Piece Val (⟨2, ![m, n]⟩ : Shape) e))
    {o : ℕ} (inb : ∀ a : Fin 2, (![o, 0] : Fin 2 → ℕ) a + (![m', n] : Fin 2 → ℕ) a ≤ (![m, n] : Fin 2 → ℕ) a) (r : Fin m') (j : Fin n)
    (k : Fin m) (h : k.val = o + r.val) :
    v.readCov L (Rect.unit (s := ⟨2, ![m, n]⟩) ![o, 0] ![m', n] inb).toLoadRect (ix2 r j) = v.read Val (v.writes Val v.junk L) (ix2 k j) :=
  ld_rows (v.read Val (v.writes Val v.junk L)) inb r j k h

end Rows

/-- The zero offsets of ranks two and three. -/
theorem zero2 : (![0, 0] : Fin 2 → ℕ) = fun _ => 0 := by decide
theorem zero3 : (![0, 0, 0] : Fin 3 → ℕ) = fun _ => 0 := by decide

end Trunk

end
-- ==== Proof.EvenSpec.lean ====
/-
  The even mixer's mathematics over the extended reals, one row at a time: the gelu, the gated rows, the mixed row.
-/
module

public import proofs.«01_k».proof.Proof.Spec

@[expose] public section

noncomputable section

namespace Trunk

open Idealize.ShloMosaic

/-- The gelu by its tanh formula, at the printed constants. -/
def gelu (v : EReal) : EReal :=
  v * (Ideal.ofBits .f32 0x3F000000#32 * (1
    + Ideal.tanh (Ideal.ofBits .f32 0x3F4C422A#32 * (v + Ideal.ofBits .f32 0x3D372713#32 * (v * (v * v))))))

/-- The root-mean-square normalization of a row of 768. -/
def rms768 (x g : Fin 768 → EReal) (k : Fin 768) : EReal :=
  x k * Ideal.rsqrt (Ideal.div (∑ j : Fin 768, x j * x j) (Ideal.ofBits .f32 0x44400000#32) + Ideal.ofBits .f32 0x358637BD#32) * g k

/-- The gating half of a projected row. -/
def ugRow (p : Fin 1792 → EReal) (j : Fin 768) : EReal := gelu (p ⟨256 + j.val, by omega⟩)

/-- The gated half of a projected row, normalized. -/
def vRow (p : Fin 1792 → EReal) (gv : Fin 768 → EReal) (j : Fin 768) : EReal :=
  rms768 (fun j => gelu (p ⟨256 + (768 + j.val), by omega⟩)) gv j

/-- The state-space half of a mixed row: the gelu of the read-out row, times the logistic of its projection. -/
def glu (y : Fin 256 → EReal) (w : Fin 256 → Fin 256 → EReal) (b : Fin 256 → EReal) (f : Fin 256) : EReal :=
  gelu (y f) * Ideal.logistic ((∑ k : Fin 256, gelu (y k) * w k f) + b f)

/-- A row plus the mixed row's output projection. -/
def evenRow (x : Fin 1024 → EReal) (a : Fin 256 → EReal) (q : Fin 768 → EReal) (wo : Fin 1024 → Fin 1024 → EReal) (d : Fin 1024) : EReal :=
  x d + ∑ j : Fin 1024, (if h : j.val < 256 then a ⟨j.val, h⟩ else q ⟨j.val - 256, by omega⟩) * wo j d

/-- The complex recurrence, its two parts: `h ← a h + x` with `a = p + i q`, step `k`'s drive `x k`. -/
def recur (p q : EReal) (x y : ℕ → EReal) (h : EReal × EReal) : ℕ → EReal × EReal
  | 0 => h
  | k + 1 => (p * (recur p q x y h k).1 - q * (recur p q x y h k).2 + x k, p * (recur p q x y h k).2 + q * (recur p q x y h k).1 + y k)

end Trunk

end
-- ==== Proof.EvenSsm.lean ====
/-
  The even mixer of a whole sequence over the extended reals: its arguments, the discretized state-space system, the states, the
  read-out and the mixed rows; and that a finite argument gives finite states.
-/
module

public import proofs.«01_k».proof.Proof.EvenSpec

@[expose] public section

noncomputable section

namespace Trunk

open Idealize.ShloMosaic

/-- The even mixer's arguments by their coordinates. -/
structure EvenArgs where
  x : Fin 16 → Fin 4096 → Fin 1024 → EReal
  g : Fin 1024 → EReal
  wi : Fin 1024 → Fin 1792 → EReal
  wo : Fin 1024 → Fin 1024 → EReal
  lr : Fin 16 → Fin 64 → EReal
  li : Fin 16 → Fin 64 → EReal
  dt : Fin 16 → EReal
  br : Fin 16 → Fin 64 → Fin 16 → EReal
  bi : Fin 16 → Fin 64 → Fin 16 → EReal
  cr : Fin 16 → Fin 16 → Fin 64 → EReal
  ci : Fin 16 → Fin 16 → Fin 64 → EReal
  dd : Fin 256 → EReal
  wg : Fin 256 → Fin 256 → EReal
  bg : Fin 256 → EReal
  ws : Fin 6 → Fin 128 → Fin 128 → EReal
  bs : Fin 6 → Fin 128 → EReal
  gv : Fin 768 → EReal

namespace EvenArgs

variable (a : EvenArgs)

/-- The clipped decay rate of state `p` of group `g`. -/
def lam (g : Fin 16) (p : Fin 64) : EReal := min (a.lr g p) (Ideal.ofBits .f32 0xB8D1B717#32)
/-- The discretized transition of a state, real and imaginary part. -/
def abRe (g : Fin 16) (p : Fin 64) : EReal := Ideal.exp (a.lam g p * Ideal.exp (a.dt g)) * Ideal.cos (a.li g p * Ideal.exp (a.dt g))
def abIm (g : Fin 16) (p : Fin 64) : EReal := Ideal.exp (a.lam g p * Ideal.exp (a.dt g)) * Ideal.sin (a.li g p * Ideal.exp (a.dt g))
/-- The squared modulus of a state's rate. -/
def den (g : Fin 16) (p : Fin 64) : EReal := a.lam g p * a.lam g p + a.li g p * a.li g p
/-- The input scale of a state, real and imaginary part. -/
def zRe (g : Fin 16) (p : Fin 64) : EReal := Ideal.div ((a.abRe g p - 1) * a.lam g p + a.abIm g p * a.li g p) (a.den g p)
def zIm (g : Fin 16) (p : Fin 64) : EReal := Ideal.div (a.abIm g p * a.lam g p - (a.abRe g p - 1) * a.li g p) (a.den g p)
/-- The discretized input matrix, real and imaginary part. -/
def bbRe (g : Fin 16) (p : Fin 64) (h : Fin 16) : EReal := a.zRe g p * a.br g p h - a.zIm g p * a.bi g p h
def bbIm (g : Fin 16) (p : Fin 64) (h : Fin 16) : EReal := a.zRe g p * a.bi g p h + a.zIm g p * a.br g p h
/-- The projected rows of sequence `b`. -/
abbrev u (b : Fin 16) : Fin 4096 → Fin 1792 → EReal := up (a.x b) a.g a.wi
/-- What drives a state at place `s` (nothing past the sequence's end), real and imaginary part. -/
def drRe (b g : Fin 16) (p : Fin 64) (s : ℕ) : EReal :=
  if h : s < 4096 then ∑ k : Fin 16, a.bbRe g p k * a.u b ⟨s, h⟩ ⟨16 * g.val + k.val, by omega⟩ else 0
def drIm (b g : Fin 16) (p : Fin 64) (s : ℕ) : EReal :=
  if h : s < 4096 then ∑ k : Fin 16, a.bbIm g p k * a.u b ⟨s, h⟩ ⟨16 * g.val + k.val, by omega⟩ else 0
/-- A state after `s` places. -/
def st (b g : Fin 16) (p : Fin 64) : ℕ → EReal × EReal := recur (a.abRe g p) (a.abIm g p) (a.drRe b g p) (a.drIm b g p) (0, 0)
/-- The states' read-out at place `s`, column `f`. -/
def rd (b : Fin 16) (s : Fin 4096) (f : Fin 256) : EReal :=
  (∑ p : Fin 64, a.cr ⟨f.val / 16, by omega⟩ ⟨f.val % 16, by omega⟩ p * (a.st b ⟨f.val / 16, by omega⟩ p (s.val + 1)).1)
    - ∑ p : Fin 64, a.ci ⟨f.val / 16, by omega⟩ ⟨f.val % 16, by omega⟩ p * (a.st b ⟨f.val / 16, by omega⟩ p (s.val + 1)).2
/-- The read-out with the skipped input. -/
def ry (b : Fin 16) (s : Fin 4096) (f : Fin 256) : EReal := a.rd b s f + a.dd f * a.u b s ⟨f.val, by omega⟩
/-- The causal weights. -/
def wm (h : Fin 6) (t s : Fin 128) : EReal := if s.val ≤ t.val then a.ws h t s else 0
/-- The gated half of a mixed row: the gate of a chunk's row times the causal mix of the chunk's gated rows. -/
def gm (b : Fin 16) (s : Fin 4096) (j : Fin 768) : EReal :=
  ugRow (a.u b s) j * ((∑ k : Fin 128, a.wm ⟨j.val / 128, by omega⟩ ⟨s.val % 128, by omega⟩ k * vRow (a.u b ⟨128 * (s.val / 128) + k.val, by omega⟩) a.gv j)
    + a.bs ⟨j.val / 128, by omega⟩ ⟨s.val % 128, by omega⟩)
/-- The even mixer of sequence `b` at place `s`. -/
def even (b : Fin 16) (s : Fin 4096) : Fin 1024 → EReal := evenRow (a.x b s) (glu (a.ry b s) a.wg a.bg) (a.gm b s) a.wo

end EvenArgs

/-- A value that is a real number. -/
def Fin' (v : EReal) : Prop := ∃ r : ℝ, v = (r : EReal)

theorem Fin'.add {v w : EReal} : Fin' v → Fin' w → Fin' (v + w)
  | ⟨r, hr⟩, ⟨t, ht⟩ => ⟨r + t, by rw [hr, ht, EReal.coe_add]⟩
theorem Fin'.sub {v w : EReal} : Fin' v → Fin' w → Fin' (v - w)
  | ⟨r, hr⟩, ⟨t, ht⟩ => ⟨r - t, by rw [hr, ht, EReal.coe_sub]⟩
theorem Fin'.mul {v w : EReal} : Fin' v → Fin' w → Fin' (v * w)
  | ⟨r, hr⟩, ⟨t, ht⟩ => ⟨r * t, by rw [hr, ht, EReal.coe_mul]⟩
theorem Fin'.sum {ι : Type} (s : Finset ι) {f : ι → EReal} (h : ∀ i, Fin' (f i)) : Fin' (∑ i ∈ s, f i) := by
  classical
  induction s using Finset.induction_on with
  | empty => exact ⟨0, by simp⟩
  | insert i s hi ih => rw [Finset.sum_insert hi]; exact (h i).add ih
theorem Fin'.exp {v : EReal} : Fin' v → Fin' (Ideal.exp v)
  | ⟨r, hr⟩ => ⟨Real.exp r, by rw [hr]; rfl⟩
theorem Fin'.cos {v : EReal} : Fin' v → Fin' (Ideal.cos v)
  | ⟨r, hr⟩ => ⟨Real.cos r, by rw [hr]; rfl⟩
theorem Fin'.sin {v : EReal} : Fin' v → Fin' (Ideal.sin v)
  | ⟨r, hr⟩ => ⟨Real.sin r, by rw [hr]; rfl⟩
/-- A quotient by a real number other than zero. -/
theorem Fin'.div {v : EReal} {d : ℝ} (hd : d ≠ 0) : Fin' v → Fin' (Ideal.div v (d : EReal))
  | ⟨r, hr⟩ => ⟨r * d⁻¹, by
      have h0 : (d : EReal) ≠ 0 := fun h => hd (by exact_mod_cast h)
      unfold Ideal.div
      rw [if_neg h0, hr, EReal.coe_mul, EReal.coe_inv]⟩

theorem coe_sums {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- The printed bounds and constants as real numbers. -/
theorem bound_lit : ∃ r : ℝ, Ideal.ofBits .f32 0xB8D1B717#32 = (r : EReal) ∧ r < 0 := by
  unfold Ideal.ofBits Ideal.ieee
  dsimp only
  refine ⟨_, (if_neg (by decide)).trans (if_neg (by decide)), ?_⟩
  norm_num
  rw [if_pos (by decide)]
  exact neg_neg_of_pos (by positivity)
theorem mean_lit : ∃ r : ℝ, Ideal.ofBits .f32 0x44800000#32 = (r : EReal) ∧ 0 < r := by
  unfold Ideal.ofBits Ideal.ieee
  dsimp only
  refine ⟨_, (if_neg (by decide)).trans (if_neg (by decide)), ?_⟩
  norm_num
  rw [if_neg (by decide)]
  positivity
theorem eps_lit : ∃ r : ℝ, Ideal.ofBits .f32 0x358637BD#32 = (r : EReal) ∧ 0 < r := by
  unfold Ideal.ofBits Ideal.ieee
  dsimp only
  refine ⟨_, (if_neg (by decide)).trans (if_neg (by decide)), ?_⟩
  norm_num
  rw [if_neg (by decide)]
  positivity

/-- A sum of squares of real numbers is a real number, and not negative. -/
theorem sumsq {n : ℕ} {x : Fin n → EReal} (h : ∀ i, Fin' (x i)) : ∃ r : ℝ, ∑ j : Fin n, x j * x j = (r : EReal) ∧ 0 ≤ r := by
  choose r hr using h
  refine ⟨∑ j : Fin n, r j * r j, ?_, Finset.sum_nonneg fun j _ => mul_self_nonneg _⟩
  rw [coe_sums]
  exact Finset.sum_congr rfl fun j _ => by rw [hr, EReal.coe_mul]

/-- A normalized row of real numbers is a row of real numbers. -/
theorem Fin'.rms {n : ℕ} {x g : Fin n → EReal} (hx : ∀ i, Fin' (x i)) (hg : ∀ i, Fin' (g i)) (k : Fin n) : Fin' (rms x g k) := by
  obtain ⟨r, hr, h0⟩ := sumsq hx
  obtain ⟨m, hm, m0⟩ := mean_lit
  obtain ⟨e, he, e0⟩ := eps_lit
  unfold Trunk.rms
  refine ((hx k).mul ?_).mul (hg k)
  have hd : Ideal.div (r : EReal) (m : EReal) = ((r * m⁻¹ : ℝ) : EReal) := by
    have h0 : (m : EReal) ≠ 0 := fun h => m0.ne' (by exact_mod_cast h)
    unfold Ideal.div
    rw [if_neg h0, EReal.coe_mul, EReal.coe_inv]
  rw [hr, hm, he, hd, ← EReal.coe_add]
  have hp : 0 < r * m⁻¹ + e := by positivity
  refine ⟨(Real.sqrt (r * m⁻¹ + e))⁻¹, ?_⟩
  show (if r * m⁻¹ + e < 0 then (⊥ : EReal) else if r * m⁻¹ + e = 0 then ⊤ else (((Real.sqrt (r * m⁻¹ + e))⁻¹ : ℝ) : EReal)) = _
  rw [if_neg (by linarith), if_neg hp.ne']

/-- A projected row of real numbers is a row of real numbers. -/
theorem Fin'.up {n N M : ℕ} {x : Fin N → Fin n → EReal} {g : Fin n → EReal} {w : Fin n → Fin M → EReal} (hx : ∀ s i, Fin' (x s i))
    (hg : ∀ i, Fin' (g i)) (hw : ∀ k f, Fin' (w k f)) (s : Fin N) (f : Fin M) : Fin' (up x g w s f) := by
  unfold Trunk.up proj
  exact Fin'.sum _ fun k => (Fin'.rms (hx s) hg k).mul (hw k f)

/-- The recurrence of real numbers stays real. -/
theorem Fin'.recur {p q : EReal} {x y : ℕ → EReal} {h : EReal × EReal} (hp : Fin' p) (hq : Fin' q) (hx : ∀ k, Fin' (x k)) (hy : ∀ k, Fin' (y k))
    (h1 : Fin' h.1) (h2 : Fin' h.2) : ∀ k, Fin' (recur p q x y h k).1 ∧ Fin' (recur p q x y h k).2
  | 0 => ⟨h1, h2⟩
  | k + 1 => by
    obtain ⟨i1, i2⟩ := Fin'.recur hp hq hx hy h1 h2 k
    exact ⟨((hp.mul i1).sub (hq.mul i2)).add (hx k), ((hp.mul i2).add (hq.mul i1)).add (hy k)⟩

/-- The recurrence run on: `j` places and then `k` more are `j + k` places. -/
theorem recur_add (p q : EReal) (x y : ℕ → EReal) (h : EReal × EReal) (j : ℕ) :
    ∀ k, recur p q (fun i => x (j + i)) (fun i => y (j + i)) (recur p q x y h j) k = recur p q x y h (j + k)
  | 0 => rfl
  | k + 1 => by
    show _ = recur p q x y h ((j + k) + 1)
    simp only [recur, recur_add p q x y h j k]

/-- The recurrence reads its drives only at the places before. -/
theorem recur_congr (p q : EReal) {x y x' y' : ℕ → EReal} (h : EReal × EReal) : ∀ k, (∀ i < k, x i = x' i) → (∀ i < k, y i = y' i) →
    recur p q x y h k = recur p q x' y' h k
  | 0, _, _ => rfl
  | k + 1, hx, hy => by
    simp only [recur, recur_congr p q h k (fun i hi => hx i (by omega)) (fun i hi => hy i (by omega)), hx k (by omega), hy k (by omega)]

/-- The arguments the states depend on are real numbers. -/
structure EvenArgs.Real (a : EvenArgs) : Prop where
  x : ∀ b s k, Fin' (a.x b s k)
  g : ∀ k, Fin' (a.g k)
  wi : ∀ k f, Fin' (a.wi k f)
  lr : ∀ g p, Fin' (a.lr g p)
  li : ∀ g p, Fin' (a.li g p)
  dt : ∀ g, Fin' (a.dt g)
  br : ∀ g p h, Fin' (a.br g p h)
  bi : ∀ g p h, Fin' (a.bi g p h)
  cr : ∀ g h p, Fin' (a.cr g h p)
  ci : ∀ g h p, Fin' (a.ci g h p)

namespace EvenArgs.Real

variable {a : EvenArgs} (R : a.Real)
include R

theorem lam (g : Fin 16) (p : Fin 64) : ∃ r : ℝ, a.lam g p = (r : EReal) ∧ r < 0 := by
  obtain ⟨m, hm, m0⟩ := bound_lit
  obtain ⟨r, hr⟩ := R.lr g p
  refine ⟨min r m, ?_, lt_of_le_of_lt (min_le_right _ _) m0⟩
  unfold EvenArgs.lam
  rw [hr, hm]
  exact (EReal.coe_strictMono.monotone.map_min).symm
theorem lamF (g : Fin 16) (p : Fin 64) : Fin' (a.lam g p) := let ⟨r, hr, _⟩ := R.lam g p; ⟨r, hr⟩
theorem abRe (g : Fin 16) (p : Fin 64) : Fin' (a.abRe g p) :=
  ((R.lamF g p).mul (R.dt g).exp).exp.mul ((R.li g p).mul (R.dt g).exp).cos
theorem abIm (g : Fin 16) (p : Fin 64) : Fin' (a.abIm g p) :=
  ((R.lamF g p).mul (R.dt g).exp).exp.mul ((R.li g p).mul (R.dt g).exp).sin
theorem den (g : Fin 16) (p : Fin 64) : ∃ r : ℝ, a.den g p = (r : EReal) ∧ r ≠ 0 := by
  obtain ⟨r, hr, r0⟩ := R.lam g p
  obtain ⟨i, hi⟩ := R.li g p
  refine ⟨r * r + i * i, ?_, ?_⟩
  · unfold EvenArgs.den
    rw [hr, hi, EReal.coe_add, EReal.coe_mul, EReal.coe_mul]
  · have := mul_pos_of_neg_of_neg r0 r0
    have := mul_self_nonneg i
    linarith
omit R in
theorem oneF : Fin' (1 : EReal) := ⟨1, rfl⟩
theorem zRe (g : Fin 16) (p : Fin 64) : Fin' (a.zRe g p) := by
  obtain ⟨d, hd, d0⟩ := R.den g p
  unfold EvenArgs.zRe
  rw [hd]
  exact Fin'.div d0 ((((R.abRe g p).sub oneF).mul (R.lamF g p)).add ((R.abIm g p).mul (R.li g p)))
theorem zIm (g : Fin 16) (p : Fin 64) : Fin' (a.zIm g p) := by
  obtain ⟨d, hd, d0⟩ := R.den g p
  unfold EvenArgs.zIm
  rw [hd]
  exact Fin'.div d0 (((R.abIm g p).mul (R.lamF g p)).sub (((R.abRe g p).sub oneF).mul (R.li g p)))
theorem u (b : Fin 16) (s : Fin 4096) (f : Fin 1792) : Fin' (a.u b s f) := Fin'.up (R.x b) R.g R.wi s f
theorem drRe (b g : Fin 16) (p : Fin 64) (s : ℕ) : Fin' (a.drRe b g p s) := by
  unfold EvenArgs.drRe
  split
  · exact Fin'.sum _ fun k => (((R.zRe g p).mul (R.br g p k)).sub ((R.zIm g p).mul (R.bi g p k))).mul (R.u b _ _)
  · exact ⟨0, rfl⟩
theorem drIm (b g : Fin 16) (p : Fin 64) (s : ℕ) : Fin' (a.drIm b g p s) := by
  unfold EvenArgs.drIm
  split
  · exact Fin'.sum _ fun k => (((R.zRe g p).mul (R.bi g p k)).add ((R.zIm g p).mul (R.br g p k))).mul (R.u b _ _)
  · exact ⟨0, rfl⟩
/-- The states are real numbers. -/
theorem st (b g : Fin 16) (p : Fin 64) (s : ℕ) : Fin' (a.st b g p s).1 ∧ Fin' (a.st b g p s).2 :=
  Fin'.recur (R.abRe g p) (R.abIm g p) (R.drRe b g p) (R.drIm b g p) ⟨0, rfl⟩ ⟨0, rfl⟩ s
/-- The read-out is a real number. -/
theorem rd (b : Fin 16) (s : Fin 4096) (f : Fin 256) : Fin' (a.rd b s f) :=
  (Fin'.sum _ fun p => (R.cr _ _ p).mul (R.st b _ p _).1).sub (Fin'.sum _ fun p => (R.ci _ _ p).mul (R.st b _ p _).2)
/-- The read-out as one sum over both parts with the imaginary weights negated. -/
theorem rd_neg (b : Fin 16) (s : Fin 4096) (f : Fin 256) :
    (∑ p : Fin 64, (a.st b ⟨f.val / 16, by omega⟩ p (s.val + 1)).1 * a.cr ⟨f.val / 16, by omega⟩ ⟨f.val % 16, by omega⟩ p)
      + (∑ p : Fin 64, (a.st b ⟨f.val / 16, by omega⟩ p (s.val + 1)).2 * -(a.ci ⟨f.val / 16, by omega⟩ ⟨f.val % 16, by omega⟩ p)) = a.rd b s f := by
  unfold EvenArgs.rd
  choose r hr using fun p : Fin 64 => (R.st b ⟨f.val / 16, by omega⟩ p (s.val + 1)).2
  choose i hi using fun p : Fin 64 => R.ci ⟨f.val / 16, by omega⟩ ⟨f.val % 16, by omega⟩ p
  rw [sub_eq_add_neg]
  refine congrArg₂ (· + ·) (Finset.sum_congr rfl fun p _ => mul_comm _ _) ?_
  simp only [hr, hi]
  have e1 : ∀ p : Fin 64, (r p : EReal) * -(i p : EReal) = ((r p * -(i p) : ℝ) : EReal) := fun p => by rw [EReal.coe_mul, EReal.coe_neg]
  have e2 : ∀ p : Fin 64, (i p : EReal) * (r p : EReal) = ((i p * r p : ℝ) : EReal) := fun p => by rw [EReal.coe_mul]
  simp only [e1, e2]
  rw [← coe_sums, ← coe_sums, ← EReal.coe_neg]
  congr 1
  rw [← Finset.sum_neg_distrib]
  exact Finset.sum_congr rfl fun p _ => by ring

end EvenArgs.Real

end Trunk

end
-- ==== Proof.EvenHost.lean ====
/-
  What the host hands the even mixer's kernel, at an element, in terms of the arguments.
-/
module

public import proofs.«01_k».proof.Proof.EvenSsm
public import proofs.«01_k».proof.Proof.EvenIdealFrame
public import Idealize.ShloMosaic.Lib.StableHlo.ReadAt

@[expose] public section

set_option maxRecDepth 16384

noncomputable section

namespace Cert.EvenIdeal.Hand

open Cert.EvenIdeal Cert.EvenIdeal.Gen Idealize.ShloMosaic Idealize.ShloMosaic.TcCoe Idealize.ShloMosaic.Tactic
open Trunk

variable (m : (ℓ : Loc nD τ sig) → Buf (Elt Ideal) ℓ) (c : Dev nD)

/-- The arguments by their coordinates. -/
def args : EvenArgs where
  x b s k := m ((c : Thread nD τ).loc main_arg0) (ix3 b s k)
  g k := m ((c : Thread nD τ).loc main_arg1) (ix1 k)
  wi k f := m ((c : Thread nD τ).loc main_arg2) (ix2 k f)
  wo k f := m ((c : Thread nD τ).loc main_arg3) (ix2 k f)
  lr g p := m ((c : Thread nD τ).loc main_arg4) (ix2 g p)
  li g p := m ((c : Thread nD τ).loc main_arg5) (ix2 g p)
  dt g := m ((c : Thread nD τ).loc main_arg6) (ix1 g)
  br g p h := m ((c : Thread nD τ).loc main_arg7) (ix3 g p h)
  bi g p h := m ((c : Thread nD τ).loc main_arg8) (ix3 g p h)
  cr g h p := m ((c : Thread nD τ).loc main_arg9) (ix3 g h p)
  ci g h p := m ((c : Thread nD τ).loc main_arg10) (ix3 g h p)
  dd f := m ((c : Thread nD τ).loc main_arg11) (ix1 f)
  wg k f := m ((c : Thread nD τ).loc main_arg12) (ix2 k f)
  bg f := m ((c : Thread nD τ).loc main_arg13) (ix1 f)
  ws h t s := m ((c : Thread nD τ).loc main_arg14) (ix3 h t s)
  bs h t := m ((c : Thread nD τ).loc main_arg15) (ix2 h t)
  gv j := m ((c : Thread nD τ).loc main_arg16) (ix1 j)

/-- Two numbers below the word size compared as words, read as a number. -/
theorem eq_word {φ : FTy} (i j : ℕ) (hi : i < 4294967296) (hj : j < 4294967296) :
    FloatOps.uitofp (F := Ideal) φ (IntOp.cmpi .eq (BitVec.ofNat 32 i) (BitVec.ofNat 32 j)) = if i = j then (1 : EReal) else 0 := by
  have hv : ∀ b : BitVec 1, FloatOps.uitofp (F := Ideal) φ b = (((b.toNat : ℕ) : ℝ) : EReal) := fun _ => rfl
  rw [hv]
  by_cases h : i = j
  · subst h
    rw [if_pos rfl]
    simp [IntOp.cmpi]
  · have hne : BitVec.ofNat 32 i ≠ BitVec.ofNat 32 j := fun he => h (by
      have := congrArg BitVec.toNat he
      simp only [BitVec.toNat_ofNat] at this
      omega)
    have hb : (BitVec.ofNat 32 i == BitVec.ofNat 32 j) = false := beq_eq_false_iff_ne.mpr hne
    rw [if_neg h]
    simp [IntOp.cmpi, hb]

/-- The same with a zero word added on the left, as the identity matrix is printed. -/
theorem eye_word (i j : ℕ) (hi : i < 4294967296) (hj : j < 4294967296) :
    FloatOps.uitofp (F := Ideal) .f32 (IntOp.cmpi .eq (IntOp.addi (BitVec.ofNat 32 i) 0#32) (BitVec.ofNat 32 j)) = if i = j then (1 : EReal) else 0 := by
  rw [show IntOp.addi (BitVec.ofNat 32 i) 0#32 = BitVec.ofNat 32 i from BitVec.add_zero _]
  exact eq_word i j hi hj

/-- The time-major permutation. -/
theorem host_perm (i j : Fin 1024) : V (F := Ideal) m c main_v12 (ix2 i j) = if i.val % 8 * 128 + i.val / 8 = j.val then (1 : EReal) else 0 := by
  simp only [V, List.flatten_cons, List.flatten_nil, List.append_nil]
  after_reads_at
  refine Eq.trans ?_ (eq_word (φ := .bf16) (i.val % 8 * 128 + i.val / 8) j.val (by omega) (by omega))
  refine congrArg (fun w => FloatOps.uitofp (F := Ideal) .bf16 (IntOp.cmpi .eq w (BitVec.ofNat 32 j.val))) ?_
  revert i
  decide +kernel

/-- Its transpose. -/
theorem host_permt (i j : Fin 1024) : V (F := Ideal) m c main_v13 (ix2 i j) = if j.val % 8 * 128 + j.val / 8 = i.val then (1 : EReal) else 0 := by
  refine Eq.trans ?_ (host_perm m c j i)
  simp only [V, List.flatten_cons, List.flatten_nil, List.append_nil]
  after_reads_at

/-- The discretized input matrix, block by block on the diagonal. -/
theorem host_b (i : Fin 256) (j : Fin 2048) :
    V (F := Ideal) m c main_v77 (ix2 i j) = if h : j.val < 1024 then
        (args m c).bbRe ⟨i.val / 16, by omega⟩ ⟨j.val % 64, by omega⟩ ⟨i.val % 16, by omega⟩ * (if i.val / 16 = j.val / 64 then (1 : EReal) else 0)
      else (args m c).bbIm ⟨i.val / 16, by omega⟩ ⟨(j.val - 1024) % 64, by omega⟩ ⟨i.val % 16, by omega⟩
        * (if i.val / 16 = (j.val - 1024) / 64 then (1 : EReal) else 0) := by
  simp only [V, List.flatten_cons, List.flatten_nil, List.append_nil]
  after_reads_at
  by_cases h : j.val < 1024
  · rw [dif_pos h, dif_pos h]
    after_reads_at
    refine congrArg₂ (fun a b : EReal => a * b) ?_ (eye_word (i.val / 16) (j.val / 64) (by omega) (by omega))
    simp only [EvenArgs.bbRe, EvenArgs.bbIm, EvenArgs.zRe, EvenArgs.zIm, EvenArgs.den, EvenArgs.abRe, EvenArgs.abIm, EvenArgs.lam, args]
  · rw [dif_neg h, dif_neg h]
    after_reads_at
    refine congrArg₂ (fun a b : EReal => a * b) ?_ (eye_word (i.val / 16) ((j.val - 1024) / 64) (by omega) (by omega))
    simp only [EvenArgs.bbRe, EvenArgs.bbIm, EvenArgs.zRe, EvenArgs.zIm, EvenArgs.den, EvenArgs.abRe, EvenArgs.abIm, EvenArgs.lam, args]

/-- The transitions. -/
theorem host_a (n : Fin 1024) : V (F := Ideal) m c main_v99 (ix2 0 n) = (args m c).abRe ⟨n.val / 64, by omega⟩ ⟨n.val % 64, by omega⟩
    ∧ V (F := Ideal) m c main_v99 (ix2 1 n) = (args m c).abIm ⟨n.val / 64, by omega⟩ ⟨n.val % 64, by omega⟩ := by
  constructor
  · simp only [V, List.flatten_cons, List.flatten_nil, List.append_nil]
    after_reads_at
    rfl
  · simp only [V, List.flatten_cons, List.flatten_nil, List.append_nil]
    after_reads_at
    rfl

set_option maxHeartbeats 1000000 in
/-- The read-out matrix, block by block on the diagonal, the imaginary half negated. -/
theorem host_c (i : Fin 2048) (j : Fin 256) :
    V (F := Ideal) m c main_v94 (ix2 i j) = if h : i.val < 1024 then
        (args m c).cr ⟨i.val / 64, by omega⟩ ⟨j.val % 16, by omega⟩ ⟨i.val % 64, by omega⟩ * (if i.val / 64 = j.val / 16 then (1 : EReal) else 0)
      else -((args m c).ci ⟨(i.val - 1024) / 64, by omega⟩ ⟨j.val % 16, by omega⟩ ⟨(i.val - 1024) % 64, by omega⟩
        * (if (i.val - 1024) / 64 = j.val / 16 then (1 : EReal) else 0)) := by
  simp only [V, List.flatten_cons, List.flatten_nil, List.append_nil]
  after_reads_at
  by_cases h : i.val < 1024
  · rw [dif_pos h, dif_pos h]
    after_reads_at
    exact congrArg₂ (fun a b : EReal => a * b) rfl (eye_word (i.val / 64) (j.val / 16) (by omega) (by omega))
  · rw [dif_neg h, dif_neg h]
    after_reads_at
    exact congrArg (fun x : EReal => -x) (congrArg₂ (fun a b : EReal => a * b) rfl (eye_word ((i.val - 1024) / 64) (j.val / 16) (by omega) (by omega)))

/-- The causal weights. -/
theorem host_ws (h : Fin 6) (t s : Fin 128) : V (F := Ideal) m c main_v101 (ix3 h t s) = (args m c).wm h t s := by
  simp only [V, List.flatten_cons, List.flatten_nil, List.append_nil]
  after_reads_at
  rw [zero_word]
  have hm : ∀ t s : Fin 128, Scalar.select (IntOp.cmpi CmpIPredicate.sge (IntOp.addi (BitVec.ofNat 32 t.val) 0#32) (BitVec.ofNat 32 s.val)) 1#1 0#1
      = if s.val ≤ t.val then 1#1 else 0#1 := by decide +kernel
  rw [hm]
  unfold EvenArgs.wm
  by_cases hst : s.val ≤ t.val
  · rw [if_pos hst, if_pos hst]; rfl
  · rw [if_neg hst, if_neg hst]; rfl

/-- The gates' bias. -/
theorem host_bs (h : Fin 6) (t j : Fin 128) : V (F := Ideal) m c main_v103 (ix3 h t j) = (args m c).bs h t := by
  simp only [V, List.flatten_cons, List.flatten_nil, List.append_nil]
  after_reads_at
  rfl
theorem host_g (k : Fin 1024) : V (F := Ideal) m c main_v104 (ix2 0 k) = (args m c).g k := by
  simp only [V, List.flatten_cons, List.flatten_nil, List.append_nil]
  after_reads_at
  rfl
theorem host_wi (k : Fin 1024) (f : Fin 1792) : V (F := Ideal) m c main_v105 (ix2 k f) = (args m c).wi k f := by
  simp only [V, List.flatten_cons, List.flatten_nil, List.append_nil]
  after_reads_at
  rfl
theorem host_dd (f : Fin 256) : V (F := Ideal) m c main_v106 (ix2 0 f) = (args m c).dd f := by
  simp only [V, List.flatten_cons, List.flatten_nil, List.append_nil]
  after_reads_at
  rfl
theorem host_wg (k f : Fin 256) : V (F := Ideal) m c main_v107 (ix2 k f) = (args m c).wg k f := by
  simp only [V, List.flatten_cons, List.flatten_nil, List.append_nil]
  after_reads_at
  rfl
theorem host_bg (f : Fin 256) : V (F := Ideal) m c main_v108 (ix2 0 f) = (args m c).bg f := by
  simp only [V, List.flatten_cons, List.flatten_nil, List.append_nil]
  after_reads_at
  rfl
theorem host_gv (j : Fin 768) : V (F := Ideal) m c main_v109 (ix2 0 j) = (args m c).gv j := by
  simp only [V, List.flatten_cons, List.flatten_nil, List.append_nil]
  after_reads_at
  rfl
theorem host_wo (k f : Fin 1024) : V (F := Ideal) m c main_v110 (ix2 k f) = (args m c).wo k f := by
  simp only [V, List.flatten_cons, List.flatten_nil, List.append_nil]
  after_reads_at
  rfl

end Cert.EvenIdeal.Hand

end
-- ==== Proof.EvenBlock.lean ====
/-
  The even mixer's kernel at one grid point: the projected rows, the gating and gated rows, at an element.
-/
module

public import proofs.«01_k».proof.Proof.EvenSpec
public import proofs.«01_k».proof.Proof.EvenIdealFun

@[expose] public section

set_option maxRecDepth 16384

noncomputable section

namespace Cert.EvenIdeal.Hand

open Cert.EvenIdeal Cert.EvenIdeal.Gen Idealize.ShloMosaic Idealize.ShloMosaic.TcCoe Idealize.ShloMosaic.Tactic
open Trunk

/-! ### Stores and reads of rectangles, at an element -/

section Rects

variable {Val : EltTy → Type} [∀ e, Nonempty (Val e)] {e : EltTy} {m n m' n' : ℕ}

/-- A read of a rectangle reads the element its corner displaces. -/
theorem ld_rect (X : (⟨2, ![m, n]⟩ : Shape).Idx → Val e) {off : Fin 2 → ℕ}
    (inb : ∀ a : Fin 2, off a + (![m', n'] : Fin 2 → ℕ) a ≤ (![m, n] : Fin 2 → ℕ) a) (r : Fin m') (k : Fin n') (R : Fin m) (C : Fin n)
    (hR : R.val = off 0 + r.val) (hC : C.val = off 1 + k.val) :
    View.ld X (Rect.unit (s := ⟨2, ![m, n]⟩) off ![m', n'] inb) (ix2 r k) = X (ix2 R C) := by
  refine congrArg X (funext fun a => Fin.ext ?_)
  fin_cases a
  · show off 0 + 1 * r.val = R.val
    omega
  · show off 1 + 1 * k.val = C.val
    omega

/-- An element of a rectangle, in the buffer. -/
theorem emb_rect {off : Fin 2 → ℕ}
    (inb : ∀ a : Fin 2, off a + (![m', n'] : Fin 2 → ℕ) a ≤ (![m, n] : Fin 2 → ℕ) a)
    (r : Fin m') (k : Fin n') (R : Fin m) (C : Fin n) (hR : R.val = off 0 + r.val) (hC : C.val = off 1 + k.val) :
    (Rect.unit (s := ⟨2, ![m, n]⟩) off ![m', n'] inb).emb (ix2 r k) = (ix2 R C : (⟨2, ![m, n]⟩ : Shape).Idx) := by
  refine funext fun a => Fin.ext ?_
  fin_cases a
  · show off 0 + 1 * r.val = R.val
    omega
  · show off 1 + 1 * k.val = C.val
    omega

/-- An element of the last stored rectangle is what was stored there. -/
theorem canon_hit {off : Fin 2 → ℕ}
    (inb : ∀ a : Fin 2, off a + (![m', n'] : Fin 2 → ℕ) a ≤ (![m, n] : Fin 2 → ℕ) a)
    (w : (Rect.unit (s := ⟨2, ![m, n]⟩) off ![m', n'] inb).shape.Idx → Val e) (L : List (View.Piece Val (⟨2, ![m, n]⟩ : Shape) e))
    (r : Fin m') (k : Fin n') (R : Fin m) (C : Fin n) (hR : R.val = off 0 + r.val) (hC : C.val = off 1 + k.val) :
    View.canon ((⟨Rect.unit (s := ⟨2, ![m, n]⟩) off ![m', n'] inb, w⟩ : View.Piece Val (⟨2, ![m, n]⟩ : Shape) e) :: L) (ix2 R C)
      = w (ix2 r k) := by
  rw [← emb_rect inb r k R C hR hC]
  exact View.canon_cons_emb (Val := Val) (Rect.unit (s := ⟨2, ![m, n]⟩) off ![m', n'] inb) w L _

/-- An element outside the last stored rectangle is what the stores before left there. -/
theorem canon_miss {off : Fin 2 → ℕ}
    (inb : ∀ a : Fin 2, off a + (![m', n'] : Fin 2 → ℕ) a ≤ (![m, n] : Fin 2 → ℕ) a)
    (w : (Rect.unit (s := ⟨2, ![m, n]⟩) off ![m', n'] inb).shape.Idx → Val e) (L : List (View.Piece Val (⟨2, ![m, n]⟩ : Shape) e))
    (R : Fin m) (C : Fin n) (h : (R.val < off 0 ∨ off 0 + m' ≤ R.val) ∨ (C.val < off 1 ∨ off 1 + n' ≤ C.val)) :
    View.canon ((⟨Rect.unit (s := ⟨2, ![m, n]⟩) off ![m', n'] inb, w⟩ : View.Piece Val (⟨2, ![m, n]⟩ : Shape) e) :: L) (ix2 R C)
      = View.canon L (ix2 R C) := by
  refine View.canon_cons_of_not_mem _ _ ?_
  intro hm
  rw [Rect.mem_set_unit] at hm
  have h0 := hm 0
  have h1 := hm 1
  have h0' : off 0 ≤ R.val ∧ R.val < off 0 + m' := h0
  have h1' : off 1 ≤ C.val ∧ C.val < off 1 + n' := h1
  omega

end Rects

/-! ### The projection -/

/-- The projected row `R` of a grid point's block: batch `R / 128`, place `R % 128`. -/
def prow (x2 : FVec Ideal S8x128x1024 .f32) (x3 : FVec Ideal S1x1024 .f32) (x4 : FVec Ideal S1024x1792 .bf16) (R : Fin 1024) (f : Fin 1792) : EReal :=
  proj (rms (fun k => x2 (ix3 ⟨R.val / 128, by omega⟩ ⟨R.val % 128, by omega⟩ k)) (fun k => x3 (ix2 0 k))) (fun k => x4 (ix2 k f))

/-- The projection of two batches' rows. -/
theorem pay1_apply (v0 : FVec Ideal S2x128x1024 .f32) (v1 : FVec Ideal S1x1024 .f32) (v2 : FVec Ideal S1024x1792 .bf16) (r : Fin 256) (f : Fin 1792) :
    k0_pay1 (F := Ideal) v0 v1 v2 (ix2 r f)
      = proj (rms (fun k => v0 (ix3 ⟨r.val / 128, by omega⟩ ⟨r.val % 128, by omega⟩ k)) (fun k => v1 (ix2 0 k))) (fun k => v2 (ix2 k f)) := by
  pointwise [k0_pay1]
  rfl

/-- The projection's first 256 columns. -/
theorem pay2_apply (v0 : FVec Ideal S2x128x1024 .f32) (v1 : FVec Ideal S1x1024 .f32) (v2 : FVec Ideal S1024x1792 .bf16) (r : Fin 256) (f : Fin 256) :
    k0_pay2 (F := Ideal) v0 v1 v2 (ix2 r f) = k0_pay1 (F := Ideal) v0 v1 v2 (ix2 r ⟨f.val, by omega⟩) := by
  unfold k0_pay2
  generalize k0_pay1 (F := Ideal) v0 v1 v2 = P
  pointwise

/-- The gelu of the projected rows' last 1536 columns. -/
theorem pay7_apply (v0 : FVec Ideal S2x128x1024 .f32) (v1 : FVec Ideal S1x1024 .f32) (v2 : FVec Ideal S1024x1792 .bf16) (r : Fin 256) (f : Fin 1536) :
    k0_pay7 (F := Ideal) (k0_pay3 v0 v1 v2) (k0_pay4 v0 v1 v2) (k0_pay5 (F := Ideal)) (ix2 r f)
      = gelu (k0_pay1 (F := Ideal) v0 v1 v2 (ix2 r ⟨256 + f.val, by omega⟩)) := by
  unfold k0_pay7 k0_pay4 k0_pay3
  generalize k0_pay1 (F := Ideal) v0 v1 v2 = P
  pointwise [k0_pay5]
  rfl

/-- The gate columns of the projected rows. -/
theorem pay8_apply (v0 : FVec Ideal S2x128x1024 .f32) (v1 : FVec Ideal S1x1024 .f32) (v2 : FVec Ideal S1024x1792 .bf16) (r : Fin 256) (j : Fin 768) :
    k0_pay8 (F := Ideal) (k0_pay3 v0 v1 v2) (k0_pay4 v0 v1 v2) (k0_pay5 (F := Ideal)) (ix2 r j)
      = ugRow (fun f => k0_pay1 (F := Ideal) v0 v1 v2 (ix2 r f)) j := by
  have hP := pay7_apply v0 v1 v2 r
  unfold k0_pay8
  generalize k0_pay7 (F := Ideal) (k0_pay3 v0 v1 v2) (k0_pay4 v0 v1 v2) (k0_pay5 (F := Ideal)) = P at hP ⊢
  pointwise
  simp only [hP]
  rfl

/-- The gated columns of the projected rows. -/
theorem pay9_apply (v0 : FVec Ideal S2x128x1024 .f32) (v1 : FVec Ideal S1x1024 .f32) (v2 : FVec Ideal S1024x1792 .bf16) (v3 : FVec Ideal S1x768 .f32) (r : Fin 256) (j : Fin 768) :
    k0_pay9 (F := Ideal) (k0_pay3 v0 v1 v2) (k0_pay4 v0 v1 v2) (k0_pay5 (F := Ideal)) v3 (ix2 r j)
      = vRow (fun f => k0_pay1 (F := Ideal) v0 v1 v2 (ix2 r f)) (fun j => v3 (ix2 0 j)) j := by
  have hP := pay7_apply v0 v1 v2 r
  unfold k0_pay9
  generalize k0_pay7 (F := Ideal) (k0_pay3 v0 v1 v2) (k0_pay4 v0 v1 v2) (k0_pay5 (F := Ideal)) = P at hP ⊢
  pointwise
  simp only [hP]
  rfl

/-- The corners of the projection loop's rectangles. -/
theorem off1_eq : ∀ k : Fin k0_t1_loop.trips, k0_off1 k = ![2 * k.val, 0, 0] := by decide +kernel
/-- The corners of the projection loop's rectangles. -/
theorem off2_eq : ∀ k : Fin k0_t1_loop.trips, k0_off2 k = ![256 * k.val, 0] := by decide +kernel
/-- The corners of the projection loop's rectangles. -/
theorem off3_eq : ∀ k : Fin k0_t1_loop.trips, k0_off3 k = ![256 * k.val, 0] := by decide +kernel
/-- The projection loop makes four trips. -/
theorem trips1 : k0_t1_loop.trips = 4 := by decide +kernel

/-- What trip `k` projects: rows `256 k` on of the block. -/
theorem pay1_piece (x2 : FVec Ideal S8x128x1024 .f32) (x3 : FVec Ideal S1x1024 .f32) (x4 : FVec Ideal S1024x1792 .bf16) (k : Fin k0_t1_loop.trips)
    (r : Fin 256) (R : Fin 1024) (hR : R.val = 256 * k.val + r.val) (f : Fin 1792) :
    k0_pay1 (F := Ideal) (View.ld x2 (Rect.unit (s := S8x128x1024) (k0_off1 k) S2x128x1024.size (k0_off1_inb k)))
      (View.ld x3 (Rect.unit (s := S1x1024) ![0, 0] S1x1024.size inb_S1x1024_S1x1024_0_0))
      (View.ld x4 (Rect.unit (s := S1024x1792) ![0, 0] S1024x1792.size inb_S1024x1792_S1024x1792_0_0)) (ix2 r f) = prow x2 x3 x4 R f := by
  rw [pay1_apply, View.ld_unit_zero (S := S1x1024) zero2, View.ld_unit_zero (S := S1024x1792) zero2]
  unfold prow
  have h : ∀ j : Fin 1024, View.ld (Val := Elt Ideal) (e' := .f32) x2 (Rect.unit (s := S8x128x1024) (k0_off1 k) S2x128x1024.size (k0_off1_inb k)) (ix3 ⟨r.val / 128, by omega⟩ ⟨r.val % 128, by omega⟩ j)
      = x2 (ix3 ⟨R.val / 128, by omega⟩ ⟨R.val % 128, by omega⟩ j) := by
    intro j
    refine congrArg x2 (funext fun a => Fin.ext ?_)
    have h1 := off1_eq k
    fin_cases a
    · show k0_off1 k 0 + 1 * (r.val / 128) = R.val / 128
      rw [h1]; show 2 * k.val + 1 * (r.val / 128) = R.val / 128
      omega
    · show k0_off1 k 1 + 1 * (r.val % 128) = R.val % 128
      rw [h1]; show 0 + 1 * (r.val % 128) = R.val % 128
      omega
    · show k0_off1 k 2 + 1 * j.val = j.val
      rw [h1]; show 0 + 1 * j.val = j.val
      omega
  simp only [h]

/-- The state-space columns of the projected rows. -/
theorem usV_apply (x2 : FVec Ideal S8x128x1024 .f32) (x3 : FVec Ideal S1x1024 .f32) (x4 : FVec Ideal S1024x1792 .bf16) (R : Fin 1024) (f : Fin 256) :
    usV (F := Ideal) x2 x3 x4 (ix2 R f) = prow x2 x3 x4 R ⟨f.val, by omega⟩ := by
  unfold usV
  have hk : ∀ (k : Fin k0_t1_loop.trips) (x : (usPiece (F := Ideal) x2 x3 x4 k).1.shape.Idx), (usPiece (F := Ideal) x2 x3 x4 k).2 x
      = (fun y : S1024x256.Idx => prow x2 x3 x4 (y 0) ⟨(y 1).val, Nat.lt_of_lt_of_le (y 1).isLt (by decide)⟩) ((usPiece (F := Ideal) x2 x3 x4 k).1.emb x) := by
    intro k
    unfold usPiece
    dsimp only
    intro x
    obtain ⟨r, c, rfl⟩ : ∃ (r : Fin 256) (c : Fin 256), x = ix2 r c := ⟨x 0, x 1, by funext a; fin_cases a <;> rfl⟩
    have hk4 : k.val < 4 := lt_of_lt_of_eq k.isLt trips1
    have ho := off2_eq k
    have e0 := emb_rect (m := 1024) (n := 256) (k0_off2_inb k) r c ⟨256 * k.val + r.val, by omega⟩ c (by rw [ho]; rfl) (by rw [ho]; show c.val = 0 + c.val; omega)
    refine Eq.trans ?_ (congrArg (fun y : S1024x256.Idx => prow x2 x3 x4 (y 0) ⟨(y 1).val, Nat.lt_of_lt_of_le (y 1).isLt (by decide)⟩) e0.symm)
    exact (pay2_apply _ _ _ r c).trans (pay1_piece x2 x3 x4 k r _ rfl _)
  have hL : ∀ p ∈ usL (F := Ideal) x2 x3 x4, ∀ x : p.1.shape.Idx, p.2 x = (fun y : S1024x256.Idx => prow x2 x3 x4 (y 0) ⟨(y 1).val, Nat.lt_of_lt_of_le (y 1).isLt (by decide)⟩) (p.1.emb x) := by
   intro p hp
   simp only [usL, List.mem_cons, List.not_mem_nil, or_false] at hp
   rcases hp with rfl | rfl | rfl | rfl
   · exact hk ⟨3, by decide⟩
   · exact hk ⟨2, by decide⟩
   · exact hk ⟨1, by decide⟩
   · exact hk ⟨0, by decide⟩
  exact View.canon_apply_of_pieces (Val := Elt Ideal) (S := S1024x256) (e := .f32) (fun y : S1024x256.Idx => prow x2 x3 x4 (y 0) ⟨(y 1).val, Nat.lt_of_lt_of_le (y 1).isLt (by decide)⟩) (usL (F := Ideal) x2 x3 x4) hL (ix2 R f) (us_cover (F := Ideal) x2 x3 x4 _)

/-- The gate columns of the projected rows. -/
theorem ugV_apply (x2 : FVec Ideal S8x128x1024 .f32) (x3 : FVec Ideal S1x1024 .f32) (x4 : FVec Ideal S1024x1792 .bf16) (R : Fin 1024) (j : Fin 768) :
    ugV (F := Ideal) x2 x3 x4 (ix2 R j) = ugRow (prow x2 x3 x4 R) j := by
  unfold ugV
  have hk : ∀ (k : Fin k0_t1_loop.trips) (x : (ugPiece (F := Ideal) x2 x3 x4 k).1.shape.Idx), (ugPiece (F := Ideal) x2 x3 x4 k).2 x
      = (fun y : S1024x768.Idx => ugRow (prow x2 x3 x4 (y 0)) (y 1)) ((ugPiece (F := Ideal) x2 x3 x4 k).1.emb x) := by
    intro k
    unfold ugPiece
    dsimp only
    intro x
    obtain ⟨r, c, rfl⟩ : ∃ (r : Fin 256) (c : Fin 768), x = ix2 r c := ⟨x 0, x 1, by funext a; fin_cases a <;> rfl⟩
    have hk4 : k.val < 4 := lt_of_lt_of_eq k.isLt trips1
    have ho := off3_eq k
    have e0 := emb_rect (m := 1024) (n := 768) (k0_off3_inb k) r c ⟨256 * k.val + r.val, by omega⟩ c (by rw [ho]; rfl) (by rw [ho]; show c.val = 0 + c.val; omega)
    refine Eq.trans ?_ (congrArg (fun y : S1024x768.Idx => ugRow (prow x2 x3 x4 (y 0)) (y 1)) e0.symm)
    exact (pay8_apply _ _ _ r c).trans (congrArg (fun p => ugRow p c) (funext fun f => pay1_piece x2 x3 x4 k r _ rfl f))
  have hL : ∀ p ∈ ugL (F := Ideal) x2 x3 x4, ∀ x : p.1.shape.Idx, p.2 x = (fun y : S1024x768.Idx => ugRow (prow x2 x3 x4 (y 0)) (y 1)) (p.1.emb x) := by
   intro p hp
   simp only [ugL, List.mem_cons, List.not_mem_nil, or_false] at hp
   rcases hp with rfl | rfl | rfl | rfl
   · exact hk ⟨3, by decide⟩
   · exact hk ⟨2, by decide⟩
   · exact hk ⟨1, by decide⟩
   · exact hk ⟨0, by decide⟩
  exact View.canon_apply_of_pieces (Val := Elt Ideal) (S := S1024x768) (e := .f32) (fun y : S1024x768.Idx => ugRow (prow x2 x3 x4 (y 0)) (y 1)) (ugL (F := Ideal) x2 x3 x4) hL (ix2 R j) (ug_cover (F := Ideal) x2 x3 x4 _)

/-- The gated columns of the projected rows. -/
theorem vV_apply (x2 : FVec Ideal S8x128x1024 .f32) (x3 : FVec Ideal S1x1024 .f32) (x4 : FVec Ideal S1024x1792 .bf16) (x15 : FVec Ideal S1x768 .f32) (R : Fin 1024) (j : Fin 768) :
    vV (F := Ideal) x2 x3 x4 x15 (ix2 R j) = vRow (prow x2 x3 x4 R) (fun j => x15 (ix2 0 j)) j := by
  unfold vV
  have hk : ∀ (k : Fin k0_t1_loop.trips) (x : (vPiece (F := Ideal) x2 x3 x4 x15 k).1.shape.Idx), (vPiece (F := Ideal) x2 x3 x4 x15 k).2 x
      = (fun y : S1024x768.Idx => vRow (prow x2 x3 x4 (y 0)) (fun j => x15 (ix2 0 j)) (y 1)) ((vPiece (F := Ideal) x2 x3 x4 x15 k).1.emb x) := by
    intro k
    unfold vPiece
    dsimp only
    intro x
    obtain ⟨r, c, rfl⟩ : ∃ (r : Fin 256) (c : Fin 768), x = ix2 r c := ⟨x 0, x 1, by funext a; fin_cases a <;> rfl⟩
    have hk4 : k.val < 4 := lt_of_lt_of_eq k.isLt trips1
    have ho := off3_eq k
    have e0 := emb_rect (m := 1024) (n := 768) (k0_off3_inb k) r c ⟨256 * k.val + r.val, by omega⟩ c (by rw [ho]; rfl) (by rw [ho]; show c.val = 0 + c.val; omega)
    refine Eq.trans ?_ (congrArg (fun y : S1024x768.Idx => vRow (prow x2 x3 x4 (y 0)) (fun j => x15 (ix2 0 j)) (y 1)) e0.symm)
    rw [View.ld_unit_zero (S := S1x768) zero2]
    exact (pay9_apply _ _ _ _ r c).trans (congrArg (fun p => vRow p (fun j => x15 (ix2 0 j)) c) (funext fun f => pay1_piece x2 x3 x4 k r _ rfl f))
  have hL : ∀ p ∈ vL (F := Ideal) x2 x3 x4 x15, ∀ x : p.1.shape.Idx, p.2 x = (fun y : S1024x768.Idx => vRow (prow x2 x3 x4 (y 0)) (fun j => x15 (ix2 0 j)) (y 1)) (p.1.emb x) := by
   intro p hp
   simp only [vL, List.mem_cons, List.not_mem_nil, or_false] at hp
   rcases hp with rfl | rfl | rfl | rfl
   · exact hk ⟨3, by decide⟩
   · exact hk ⟨2, by decide⟩
   · exact hk ⟨1, by decide⟩
   · exact hk ⟨0, by decide⟩
  exact View.canon_apply_of_pieces (Val := Elt Ideal) (S := S1024x768) (e := .bf16) (fun y : S1024x768.Idx => vRow (prow x2 x3 x4 (y 0)) (fun j => x15 (ix2 0 j)) (y 1)) (vL (F := Ideal) x2 x3 x4 x15) hL (ix2 R j) (v_cover (F := Ideal) x2 x3 x4 x15 _)

/-- The state-space columns as read back. -/
theorem usR_apply (x2 : FVec Ideal S8x128x1024 .f32) (x3 : FVec Ideal S1x1024 .f32) (x4 : FVec Ideal S1024x1792 .bf16) (R : Fin 1024) (f : Fin 256) :
    usR (F := Ideal) x2 x3 x4 (ix2 R f) = prow x2 x3 x4 R ⟨f.val, by omega⟩ := by
  unfold usR
  rw [View.ld_unit_zero (S := S1024x256) zero2]
  exact usV_apply x2 x3 x4 R f

end Cert.EvenIdeal.Hand

end
-- ==== Proof.EvenScan.lean ====
/-
  The even mixer's recurrence over one block, at an element: after `k` steps the two halves of the state, and the rows of the buffer
  the steps overwrite.
-/
module

public import proofs.«01_k».proof.Proof.EvenBlock

@[expose] public section

set_option maxRecDepth 16384

noncomputable section

namespace Cert.EvenIdeal.Hand

open Cert.EvenIdeal Cert.EvenIdeal.Gen Idealize.ShloMosaic Idealize.ShloMosaic.TcCoe Idealize.ShloMosaic.Tactic
open Trunk

/-- The drives of a state's real part, batch `r`, column `n`. -/
def driveRe (xs : FVec Ideal S1024x2048 .f32) (r : Fin 8) (n : Fin 1024) (k : ℕ) : EReal :=
  if h : 8 * k + r.val < 1024 then xs (ix2 ⟨8 * k + r.val, h⟩ ⟨n.val, by omega⟩) else 0
/-- The drives of a state's imaginary part, batch `r`, column `n`. -/
def driveIm (xs : FVec Ideal S1024x2048 .f32) (r : Fin 8) (n : Fin 1024) (k : ℕ) : EReal :=
  if h : 8 * k + r.val < 1024 then xs (ix2 ⟨8 * k + r.val, h⟩ ⟨1024 + n.val, by omega⟩) else 0

/-- The state of batch `r`, column `n`, after `k` steps. -/
def stat (a b : FVec Ideal S1x1024 .f32) (xs : FVec Ideal S1024x2048 .f32) (h : FVec Ideal S8x1024 .f32 × FVec Ideal S8x1024 .f32) (r : Fin 8) (n : Fin 1024) :
    ℕ → EReal × EReal :=
  recur (a (ix2 0 n)) (b (ix2 0 n)) (driveRe xs r n) (driveIm xs r n) (h.1 (ix2 r n), h.2 (ix2 r n))

theorem pay13_apply (a b : FVec Ideal S1x1024 .f32) (hr hi x : FVec Ideal S8x1024 .f32) (r : Fin 8) (n : Fin 1024) :
    k0_pay13 (F := Ideal) a b hr hi x (ix2 r n) = a (ix2 0 n) * hr (ix2 r n) - b (ix2 0 n) * hi (ix2 r n) + x (ix2 r n) := by
  pointwise [k0_pay13, k0_pay12, k0_pay11]

theorem pay14_apply (a b : FVec Ideal S1x1024 .f32) (hr hi x : FVec Ideal S8x1024 .f32) (r : Fin 8) (n : Fin 1024) :
    k0_pay14 (F := Ideal) a b hr hi x (ix2 r n) = a (ix2 0 n) * hi (ix2 r n) + b (ix2 0 n) * hr (ix2 r n) + x (ix2 r n) := by
  pointwise [k0_pay14, k0_pay12, k0_pay11]

theorem pay15_apply (a b : FVec Ideal S1x1024 .f32) (hr hi x : FVec Ideal S8x1024 .f32) (r : Fin 8) (n : Fin 1024) :
    k0_pay15 (F := Ideal) a b hr hi x (ix2 r n) = a (ix2 0 n) * hr (ix2 r n) - b (ix2 0 n) * hi (ix2 r n) + x (ix2 r n) := by
  pointwise [k0_pay15, k0_pay13, k0_pay12, k0_pay11]

theorem pay16_apply (a b : FVec Ideal S1x1024 .f32) (hr hi x : FVec Ideal S8x1024 .f32) (r : Fin 8) (n : Fin 1024) :
    k0_pay16 (F := Ideal) a b hr hi x (ix2 r n) = a (ix2 0 n) * hi (ix2 r n) + b (ix2 0 n) * hr (ix2 r n) + x (ix2 r n) := by
  pointwise [k0_pay16, k0_pay14, k0_pay12, k0_pay11]

theorem pay17_apply (v : FVec Ideal S8x1024 .f32) (r : Fin 8) (n : Fin 1024) : k0_pay17 (F := Ideal) v (ix2 r n) = v (ix2 r n) := by
  pointwise [k0_pay17]
theorem pay18_apply (v : FVec Ideal S8x1024 .f32) (r : Fin 8) (n : Fin 1024) : k0_pay18 (F := Ideal) v (ix2 r n) = v (ix2 r n) := by
  pointwise [k0_pay18]

/-- The corners of a step's rectangles. -/
theorem off4_eq : ∀ k : Fin k0_t2_loop.trips, k0_off4 k = ![8 * k.val, 0] := by decide +kernel
/-- The corners of a step's rectangles. -/
theorem off5_eq : ∀ k : Fin k0_t2_loop.trips, k0_off5 k = ![8 * k.val, 1024] := by decide +kernel
/-- The recurrence makes 128 steps per block. -/
theorem trips2 : k0_t2_loop.trips = 128 := by decide +kernel

/-- The buffer after `k` steps: the rows of the steps made hold states, the rest still drives. -/
def rowsAt (a b : FVec Ideal S1x1024 .f32) (xs : FVec Ideal S1024x2048 .f32) (h : FVec Ideal S8x1024 .f32 × FVec Ideal S8x1024 .f32) (k : ℕ)
    (R : Fin 1024) (C : Fin 2048) : EReal :=
  if R.val < 8 * k then
    if hc : C.val < 1024 then (stat a b xs h ⟨R.val % 8, by omega⟩ ⟨C.val, hc⟩ (R.val / 8 + 1)).1
    else (stat a b xs h ⟨R.val % 8, by omega⟩ ⟨C.val - 1024, by omega⟩ (R.val / 8 + 1)).2
  else xs (ix2 R C)

/-- After `k` steps: the state, and the buffer. -/
theorem scan_at (a b : FVec Ideal S1x1024 .f32) (xs : FVec Ideal S1024x2048 .f32) (h : FVec Ideal S8x1024 .f32 × FVec Ideal S8x1024 .f32) :
    ∀ k : ℕ, k ≤ 128 →
      (∀ (r : Fin 8) (n : Fin 1024), (scanS (F := Ideal) a b xs h k).1.1 (ix2 r n) = (stat a b xs h r n k).1
        ∧ (scanS (F := Ideal) a b xs h k).1.2 (ix2 r n) = (stat a b xs h r n k).2)
      ∧ ∀ (R : Fin 1024) (C : Fin 2048), View.canon (Val := Elt Ideal) ((scanS (F := Ideal) a b xs h k).2 ++ [wholeP (F := Ideal) xs]) (ix2 R C) = rowsAt a b xs h k R C
  | 0, _ => by
    refine ⟨fun r n => ⟨rfl, rfl⟩, fun R C => ?_⟩
    show View.canon (Val := Elt Ideal) [wholeP (F := Ideal) xs] (ix2 R C) = _
    unfold wholeP rowsAt
    rw [View.canon_unit_zero (S := S1024x2048) zero2, if_neg (by omega)]
  | k + 1, hk => by
    obtain ⟨hs, hc⟩ := scan_at a b xs h k (by omega)
    have hk' : k < k0_t2_loop.trips := by rw [trips2]; omega
    have h4 := off4_eq ⟨k, hk'⟩
    have h5 := off5_eq ⟨k, hk'⟩
    have h40 : k0_off4 ⟨k, hk'⟩ 0 = 8 * k := by rw [h4]; rfl
    have h41 : k0_off4 ⟨k, hk'⟩ 1 = 0 := by rw [h4]; rfl
    have h50 : k0_off5 ⟨k, hk'⟩ 0 = 8 * k := by rw [h5]; rfl
    have h51 : k0_off5 ⟨k, hk'⟩ 1 = 1024 := by rw [h5]; rfl
    have hx4 : ∀ (r : Fin 8) (n : Fin 1024), View.ld (View.canon (Val := Elt Ideal) ((scanS (F := Ideal) a b xs h k).2 ++ [wholeP (F := Ideal) xs])) (Rect.unit (s := S1024x2048) (k0_off4 ⟨k, hk'⟩) S8x1024.size (k0_off4_inb ⟨k, hk'⟩)) (ix2 r n)
        = driveRe xs r n k := by
      intro r n
      rw [ld_rect (Val := Elt Ideal) (e := .f32) _ (k0_off4_inb ⟨k, hk'⟩) r n ⟨8 * k + r.val, by omega⟩ ⟨n.val, by omega⟩ (by rw [h40]) (by rw [h41]; simp), hc]
      unfold rowsAt driveRe
      rw [if_neg (by show ¬ 8 * k + r.val < 8 * k; omega), dif_pos (by omega)]
    have hx5 : ∀ (r : Fin 8) (n : Fin 1024), View.ld (View.canon (Val := Elt Ideal) ((scanS (F := Ideal) a b xs h k).2 ++ [wholeP (F := Ideal) xs])) (Rect.unit (s := S1024x2048) (k0_off5 ⟨k, hk'⟩) S8x1024.size (k0_off5_inb ⟨k, hk'⟩)) (ix2 r n)
        = driveIm xs r n k := by
      intro r n
      rw [ld_rect (Val := Elt Ideal) (e := .f32) _ (k0_off5_inb ⟨k, hk'⟩) r n ⟨8 * k + r.val, by omega⟩ ⟨1024 + n.val, by omega⟩ (by rw [h50]) (by rw [h51]), hc]
      unfold rowsAt driveIm
      rw [if_neg (by show ¬ 8 * k + r.val < 8 * k; omega), dif_pos (by omega)]
    rw [scanS, dif_pos hk']
    dsimp only
    refine ⟨fun r n => ⟨?_, ?_⟩, fun R C => ?_⟩
    · rw [pay13_apply, hx4, (hs r n).1, (hs r n).2]; rfl
    · rw [pay14_apply, hx5, (hs r n).1, (hs r n).2]; rfl
    · rw [List.cons_append, List.cons_append]
      by_cases hR : 8 * k ≤ R.val ∧ R.val < 8 * k + 8
      · have hm : R.val % 8 = R.val - 8 * k := by omega
        have hd : R.val / 8 = k := by omega
        by_cases hC : C.val < 1024
        · rw [canon_miss (Val := Elt Ideal) (e := .f32) _ _ _ R C (by rw [h51]; omega),
            canon_hit (Val := Elt Ideal) (e := .f32) _ _ _ ⟨R.val % 8, by omega⟩ ⟨C.val, hC⟩ R C (by rw [h40]; simp only; omega) (by rw [h41]; simp),
            pay15_apply, hx4, (hs _ _).1, (hs _ _).2]
          unfold rowsAt
          rw [if_pos (by omega), dif_pos hC, hd]
          rfl
        · rw [canon_hit (Val := Elt Ideal) (e := .f32) _ _ _ ⟨R.val % 8, by omega⟩ ⟨C.val - 1024, by omega⟩ R C (by rw [h50]; simp only; omega) (by rw [h51]; simp only; omega),
            pay16_apply, hx5, (hs _ _).1, (hs _ _).2]
          unfold rowsAt
          rw [if_pos (by omega), dif_neg hC, hd]
          rfl
      · rw [canon_miss (Val := Elt Ideal) (e := .f32) _ _ _ R C (by rw [h50]; omega),
          canon_miss (Val := Elt Ideal) (e := .f32) _ _ _ R C (by rw [h40]; omega), hc]
        unfold rowsAt
        by_cases h1 : R.val < 8 * k
        · rw [if_pos h1, if_pos (by omega)]
        · rw [if_neg h1, if_neg (by omega)]

/-- The drives, at an element: the permuted rows times the block-diagonal matrix. -/
theorem pay10_apply (us : FVec Ideal S1024x256 .f32) (pm : FVec Ideal S1024x1024 .bf16) (bb : FVec Ideal S256x2048 .bf16) (R : Fin 1024) (C : Fin 2048) :
    k0_pay10 (F := Ideal) us pm bb (ix2 R C) = ∑ f : Fin 256, (∑ j : Fin 1024, pm (ix2 R j) * us (ix2 j f)) * bb (ix2 f C) := by
  pointwise [k0_pay10]

/-- The block's drives, at an element. -/
theorem xsV_apply (x2 : FVec Ideal S8x128x1024 .f32) (x3 : FVec Ideal S1x1024 .f32) (x4 : FVec Ideal S1024x1792 .bf16) (x5 : FVec Ideal S1024x1024 .bf16) (x7 : FVec Ideal S256x2048 .bf16)
    (R : Fin 1024) (C : Fin 2048) :
    xsV (F := Ideal) x2 x3 x4 x5 x7 (ix2 R C) = ∑ f : Fin 256, (∑ j : Fin 1024, x5 (ix2 R j) * prow x2 x3 x4 j ⟨f.val, by omega⟩) * x7 (ix2 f C) := by
  unfold xsV
  rw [pay10_apply, View.ld_unit_zero (S := S1024x1024) zero2, View.ld_unit_zero (S := S256x2048) zero2]
  simp only [usR_apply]

/-- The two halves of a stored state. -/
theorem halves_apply (x22 : FVec Ideal S8x2048 .f32) (r : Fin 8) (n : Fin 1024) :
    (halves (F := Ideal) x22).1 (ix2 r n) = x22 (ix2 r ⟨n.val, by omega⟩) ∧ (halves (F := Ideal) x22).2 (ix2 r n) = x22 (ix2 r ⟨1024 + n.val, by omega⟩) :=
  ⟨ld_rect (Val := Elt Ideal) (e := .f32) x22 _ r n _ _ (by simp) (by simp), ld_rect (Val := Elt Ideal) (e := .f32) x22 _ r n _ _ (by simp) (by simp)⟩

/-- A state of the block: batch `r`, column `n`, after `k` steps from the stored state `x22`. -/
def bstat (x2 : FVec Ideal S8x128x1024 .f32) (x3 : FVec Ideal S1x1024 .f32) (x4 : FVec Ideal S1024x1792 .bf16) (x5 : FVec Ideal S1024x1024 .bf16) (x7 : FVec Ideal S256x2048 .bf16)
    (x8 : FVec Ideal S2x1024 .f32) (x22 : FVec Ideal S8x2048 .f32) (r : Fin 8) (n : Fin 1024) : ℕ → EReal × EReal :=
  recur (x8 (ix2 0 n)) (x8 (ix2 1 n)) (driveRe (xsV (F := Ideal) x2 x3 x4 x5 x7) r n) (driveIm (xsV (F := Ideal) x2 x3 x4 x5 x7) r n)
    (x22 (ix2 r ⟨n.val, by omega⟩), x22 (ix2 r ⟨1024 + n.val, by omega⟩))

theorem stat_eq (x2 : FVec Ideal S8x128x1024 .f32) (x3 : FVec Ideal S1x1024 .f32) (x4 : FVec Ideal S1024x1792 .bf16) (x5 : FVec Ideal S1024x1024 .bf16) (x7 : FVec Ideal S256x2048 .bf16)
    (x8 : FVec Ideal S2x1024 .f32) (x22 : FVec Ideal S8x2048 .f32) (r : Fin 8) (n : Fin 1024) :
    stat (View.ld (Val := Elt Ideal) (e' := .f32) x8 (Rect.unit (s := S2x1024) ![0, 0] S1x1024.size inb_S2x1024_S1x1024_0_0)) (View.ld (Val := Elt Ideal) (e' := .f32) x8 (Rect.unit (s := S2x1024) ![1, 0] S1x1024.size inb_S2x1024_S1x1024_1_0))
      (xsV (F := Ideal) x2 x3 x4 x5 x7) (halves (F := Ideal) x22) r n = bstat x2 x3 x4 x5 x7 x8 x22 r n := by
  unfold stat bstat
  rw [(halves_apply x22 r n).1, (halves_apply x22 r n).2,
    ld_rect (Val := Elt Ideal) (e := .f32) x8 _ 0 n 0 n (by simp) (by simp), ld_rect (Val := Elt Ideal) (e := .f32) x8 _ 0 n 1 n (by simp) (by simp)]

/-- The states of the block, at an element: row `8 k + r` holds batch `r`'s state after step `k`. -/
theorem statesV_apply (x2 : FVec Ideal S8x128x1024 .f32) (x3 : FVec Ideal S1x1024 .f32) (x4 : FVec Ideal S1024x1792 .bf16) (x5 : FVec Ideal S1024x1024 .bf16) (x7 : FVec Ideal S256x2048 .bf16)
    (x8 : FVec Ideal S2x1024 .f32) (x22 : FVec Ideal S8x2048 .f32) (R : Fin 1024) (C : Fin 2048) :
    statesV (F := Ideal) x2 x3 x4 x5 x7 x8 x22 (ix2 R C)
      = if hc : C.val < 1024 then (bstat x2 x3 x4 x5 x7 x8 x22 ⟨R.val % 8, by omega⟩ ⟨C.val, hc⟩ (R.val / 8 + 1)).1
        else (bstat x2 x3 x4 x5 x7 x8 x22 ⟨R.val % 8, by omega⟩ ⟨C.val - 1024, by omega⟩ (R.val / 8 + 1)).2 := by
  unfold statesV scanV
  rw [trips2, (scan_at _ _ _ _ 128 (Nat.le_refl _)).2 R C]
  unfold rowsAt
  rw [if_pos (by omega)]
  simp only [stat_eq]

/-- The state carried on, at an element. -/
theorem carV_apply (x2 : FVec Ideal S8x128x1024 .f32) (x3 : FVec Ideal S1x1024 .f32) (x4 : FVec Ideal S1024x1792 .bf16) (x5 : FVec Ideal S1024x1024 .bf16) (x7 : FVec Ideal S256x2048 .bf16)
    (x8 : FVec Ideal S2x1024 .f32) (x22 : FVec Ideal S8x2048 .f32) (r : Fin 8) (n : Fin 1024) :
    carV (F := Ideal) x2 x3 x4 x5 x7 x8 x22 (ix2 r ⟨n.val, by omega⟩) = (bstat x2 x3 x4 x5 x7 x8 x22 r n 128).1
      ∧ carV (F := Ideal) x2 x3 x4 x5 x7 x8 x22 (ix2 r ⟨1024 + n.val, by omega⟩) = (bstat x2 x3 x4 x5 x7 x8 x22 r n 128).2 := by
  unfold carV carL scanV
  rw [trips2]
  constructor
  · rw [canon_miss (Val := Elt Ideal) (e := .f32) _ _ _ _ _ (Or.inr (Or.inl (by simp))),
      canon_hit (Val := Elt Ideal) (e := .f32) _ _ _ r n _ _ (by simp) (by simp), pay17_apply,
      ((scan_at _ _ _ _ 128 (Nat.le_refl _)).1 r n).1, stat_eq]
  · rw [canon_hit (Val := Elt Ideal) (e := .f32) _ _ _ r n _ _ (by simp) (by simp), pay18_apply,
      ((scan_at _ _ _ _ 128 (Nat.le_refl _)).1 r n).2, stat_eq]

end Cert.EvenIdeal.Hand

end
-- ==== Proof.EvenMix.lean ====
/-
  The even mixer's block, at an element: the state-space columns, the tiles, and the result.
-/
module

public import proofs.«01_k».proof.Proof.EvenScan

@[expose] public section

set_option maxRecDepth 16384

noncomputable section

namespace Cert.EvenIdeal.Hand

open Cert.EvenIdeal Cert.EvenIdeal.Gen Idealize.ShloMosaic Idealize.ShloMosaic.TcCoe Idealize.ShloMosaic.Tactic
open Trunk

/-- The states read out: row `j`, column `f`. -/
def yread (st : FVec Ideal S1024x2048 .f32) (c : FVec Ideal S2048x256 .bf16) (j : Fin 1024) (f : Fin 256) : EReal :=
  ∑ n : Fin 2048, st (ix2 j n) * c (ix2 n f)

/-- The read-out rows put back in batch order, in two parts, plus the skip. -/
def yrow (us : FVec Ideal S1024x256 .f32) (st : FVec Ideal S1024x2048 .f32) (c : FVec Ideal S2048x256 .bf16) (pt : FVec Ideal S1024x1024 .bf16) (d : FVec Ideal S1x256 .f32)
    (R : Fin 1024) (f : Fin 256) : EReal :=
  (∑ j : Fin 1024, pt (ix2 R j) * yread st c j f) + (∑ j : Fin 1024, pt (ix2 R j) * (yread st c j f - yread st c j f)) + d (ix2 0 f) * us (ix2 R f)

theorem pay19_apply (us : FVec Ideal S1024x256 .f32) (st : FVec Ideal S1024x2048 .f32) (c : FVec Ideal S2048x256 .bf16) (pt : FVec Ideal S1024x1024 .bf16) (d : FVec Ideal S1x256 .f32)
    (R : Fin 1024) (f : Fin 256) : k0_pay19 (F := Ideal) us st c pt d (ix2 R f) = yrow us st c pt d R f := by
  pointwise [k0_pay19]
  first | rfl | (simp [yrow, yread])

theorem pay21_apply (us : FVec Ideal S1024x256 .f32) (st : FVec Ideal S1024x2048 .f32) (c : FVec Ideal S2048x256 .bf16) (pt : FVec Ideal S1024x1024 .bf16) (d : FVec Ideal S1x256 .f32)
    (w : FVec Ideal S256x256 .bf16) (b : FVec Ideal S1x256 .f32) (R : Fin 1024) (f : Fin 256) :
    k0_pay21 (F := Ideal) (k0_pay19 us st c pt d) (k0_pay20 us st c pt d) w b (ix2 R f)
      = glu (yrow us st c pt d R) (fun k f => w (ix2 k f)) (fun f => b (ix2 0 f)) f := by
  have hP := pay19_apply us st c pt d R
  unfold k0_pay21 k0_pay20
  generalize k0_pay19 (F := Ideal) us st c pt d = P at hP ⊢
  pointwise
  simp only [hP]
  rfl

/-- The state-space columns of a mixed row. -/
theorem gluV_apply (x6 : FVec Ideal S1024x1024 .bf16) (x9 : FVec Ideal S2048x256 .bf16) (x10 : FVec Ideal S1x256 .f32) (x11 : FVec Ideal S256x256 .bf16) (x12 : FVec Ideal S1x256 .f32)
    (us : FVec Ideal S1024x256 .f32) (x21 : FVec Ideal S1024x2048 .f32) (R : Fin 1024) (f : Fin 256) :
    gluV (F := Ideal) x6 x9 x10 x11 x12 us x21 (ix2 R f)
      = glu (yrow us x21 x9 x6 x10 R) (fun k f => x11 (ix2 k f)) (fun f => x12 (ix2 0 f)) f := by
  unfold gluV
  rw [pay21_apply, View.ld_unit_zero (S := S1024x2048) zero2, View.ld_unit_zero (S := S2048x256) zero2, View.ld_unit_zero (S := S1024x1024) zero2,
    View.ld_unit_zero (S := S1x256) zero2, View.ld_unit_zero (S := S256x256) zero2, View.ld_unit_zero (S := S1x256) zero2]

theorem pay22_apply (w : FVec Ideal S1x128x128 .bf16) (v : FVec Ideal S128x128 .bf16) (b : FVec Ideal S1x128x128 .f32) (u : FVec Ideal S128x128 .f32) (r e : Fin 128) :
    k0_pay22 (F := Ideal) w v b u (ix2 r e) = u (ix2 r e) * ((∑ k : Fin 128, w (ix3 0 r k) * v (ix2 k e)) + b (ix3 0 r e)) := by
  pointwise [k0_pay22]

/-- One gated element of a mixed row: batch and place by `R`, head and lane by `j`. -/
def tileAt (x13 : FVec Ideal S6x128x128 .bf16) (x14 : FVec Ideal S6x128x128 .f32) (x19 : FVec Ideal S1024x768 .f32) (x20 : FVec Ideal S1024x768 .bf16) (R : Fin 1024) (j : Fin 768) : EReal :=
  x19 (ix2 R j) * ((∑ k : Fin 128, x13 (ix3 ⟨j.val / 128, by omega⟩ ⟨R.val % 128, by omega⟩ k) * x20 (ix2 ⟨128 * (R.val / 128) + k.val, by omega⟩ j))
    + x14 (ix3 ⟨j.val / 128, by omega⟩ ⟨R.val % 128, by omega⟩ ⟨j.val % 128, by omega⟩))

/-- A mixed row. -/
def mixAt (g : FVec Ideal S1024x256 .bf16) (x13 : FVec Ideal S6x128x128 .bf16) (x14 : FVec Ideal S6x128x128 .f32) (x19 : FVec Ideal S1024x768 .f32) (x20 : FVec Ideal S1024x768 .bf16)
    (R C : Fin 1024) : EReal :=
  if h : C.val < 256 then g (ix2 R ⟨C.val, h⟩) else tileAt x13 x14 x19 x20 R ⟨C.val - 256, by omega⟩

/-- A read of one head's square reads that head's element. -/
theorem ld_head {Val : EltTy → Type} {e : EltTy} (X : S6x128x128.Idx → Val e) (h : ℕ)
    (inb : ∀ a : Fin 3, (![h, 0, 0] : Fin 3 → ℕ) a + S1x128x128.size a ≤ S6x128x128.size a) (i k : Fin 128) (hh : h < 6) :
    View.ld X (Rect.unit (s := S6x128x128) ![h, 0, 0] S1x128x128.size inb) (ix3 0 i k) = X (ix3 ⟨h, hh⟩ i k) := by
  refine congrArg X (funext fun a => Fin.ext ?_)
  fin_cases a
  · show h + 1 * 0 = h
    omega
  · show 0 + 1 * i.val = i.val
    omega
  · show 0 + 1 * k.val = k.val
    omega

/-- One tile's store. -/
theorem tile_ok (g : FVec Ideal S1024x256 .bf16) (x13 : FVec Ideal S6x128x128 .bf16) (x14 : FVec Ideal S6x128x128 .f32) (x19 : FVec Ideal S1024x768 .f32) (x20 : FVec Ideal S1024x768 .bf16)
    {R0 C0 C1 h : ℕ} (hh : h < 6) (hC : C0 = 128 * h) (hC1 : C1 = 256 + C0) (hR : R0 % 128 = 0) (hR8 : R0 < 1024)
    (inb : ∀ a : Fin 2, (![R0, C1] : Fin 2 → ℕ) a + S128x128.size a ≤ S1024x1024.size a)
    (i13 : ∀ a : Fin 3, (![h, 0, 0] : Fin 3 → ℕ) a + S1x128x128.size a ≤ S6x128x128.size a)
    (i20 : ∀ a : Fin 2, (![R0, C0] : Fin 2 → ℕ) a + S128x128.size a ≤ S1024x768.size a)
    (x : S128x128.Idx) :
    (tileP (F := Ideal) x13 x14 x19 x20 h R0 C0 C1 inb i13 i20).2 x
      = (fun y : S1024x1024.Idx => mixAt g x13 x14 x19 x20 (y 0) (y 1)) ((tileP (F := Ideal) x13 x14 x19 x20 h R0 C0 C1 inb i13 i20).1.emb x) := by
  obtain ⟨r, c, rfl⟩ : ∃ (r : Fin 128) (c : Fin 128), x = ix2 r c := ⟨x 0, x 1, by funext a; fin_cases a <;> rfl⟩
  have e0 := emb_rect (m := 1024) (n := 1024) inb r c ⟨R0 + r.val, by omega⟩ ⟨C1 + c.val, by omega⟩ rfl rfl
  dsimp only [tileP]
  refine Eq.trans ?_ (congrArg (fun y : S1024x1024.Idx => mixAt g x13 x14 x19 x20 (y 0) (y 1)) e0.symm)
  change _ = mixAt g x13 x14 x19 x20 ⟨R0 + r.val, by omega⟩ ⟨C1 + c.val, by omega⟩
  rw [pay22_apply, ld_rect (Val := Elt Ideal) (e := .f32) x19 i20 r c ⟨R0 + r.val, by omega⟩ ⟨C0 + c.val, by omega⟩ rfl rfl,
    ld_head (Val := Elt Ideal) (e := .f32) x14 h i13 r c hh]
  have hs : ∀ k : Fin 128, View.ld (Val := Elt Ideal) (e' := .bf16) x13 (Rect.unit (s := S6x128x128) ![h, 0, 0] S1x128x128.size i13) (ix3 0 r k)
      * View.ld (Val := Elt Ideal) (e' := .bf16) x20 (Rect.unit (s := S1024x768) ![R0, C0] S128x128.size i20) (ix2 k c)
      = x13 (ix3 ⟨h, hh⟩ r k) * x20 (ix2 ⟨R0 + k.val, by omega⟩ ⟨C0 + c.val, by omega⟩) := by
    intro k
    rw [ld_head (Val := Elt Ideal) (e := .bf16) x13 h i13 r k hh, ld_rect (Val := Elt Ideal) (e := .bf16) x20 i20 k c ⟨R0 + k.val, by omega⟩ ⟨C0 + c.val, by omega⟩ rfl rfl]
  rw [Finset.sum_congr rfl fun k _ => hs k]
  unfold mixAt tileAt
  rw [dif_neg (by show ¬ C1 + c.val < 256; omega)]
  have a1 : (⟨C1 + c.val - 256, by omega⟩ : Fin 768) = ⟨C0 + c.val, by omega⟩ := Fin.ext (by show C1 + c.val - 256 = C0 + c.val; omega)
  have a2 : (⟨(C1 + c.val - 256) / 128, by omega⟩ : Fin 6) = ⟨h, hh⟩ := Fin.ext (by show (C1 + c.val - 256) / 128 = h; omega)
  have a3 : (⟨(R0 + r.val) % 128, by omega⟩ : Fin 128) = r := Fin.ext (by show (R0 + r.val) % 128 = r.val; omega)
  have a4 : (⟨(C1 + c.val - 256) % 128, by omega⟩ : Fin 128) = c := Fin.ext (by show (C1 + c.val - 256) % 128 = c.val; omega)
  have a5 : ∀ k : Fin 128, (⟨128 * ((R0 + r.val) / 128) + k.val, by omega⟩ : Fin 1024) = ⟨R0 + k.val, by omega⟩ := fun k => Fin.ext (by show 128 * ((R0 + r.val) / 128) + k.val = R0 + k.val; omega)
  simp only [a1, a2, a3, a4, a5]

/-- The state-space columns' store. -/
theorem glu_ok (g : FVec Ideal S1024x256 .bf16) (x13 : FVec Ideal S6x128x128 .bf16) (x14 : FVec Ideal S6x128x128 .f32) (x19 : FVec Ideal S1024x768 .f32) (x20 : FVec Ideal S1024x768 .bf16)
    (inb : ∀ a : Fin 2, (![0, 0] : Fin 2 → ℕ) a + S1024x256.size a ≤ S1024x1024.size a) (x : S1024x256.Idx) :
    g x = (fun y : S1024x1024.Idx => mixAt g x13 x14 x19 x20 (y 0) (y 1)) ((Rect.unit (s := S1024x1024) ![0, 0] S1024x256.size inb).emb x) := by
  obtain ⟨r, c, rfl⟩ : ∃ (r : Fin 1024) (c : Fin 256), x = ix2 r c := ⟨x 0, x 1, by funext a; fin_cases a <;> rfl⟩
  have e0 := emb_rect (m := 1024) (n := 1024) inb r c r ⟨c.val, by omega⟩ (by simp) (by simp)
  refine Eq.trans ?_ (congrArg (fun y : S1024x1024.Idx => mixAt g x13 x14 x19 x20 (y 0) (y 1)) e0.symm)
  show _ = mixAt g x13 x14 x19 x20 r ⟨c.val, by omega⟩
  unfold mixAt
  rw [dif_pos c.isLt]

set_option maxHeartbeats 1000000 in
/-- The mixed rows, at an element. -/
theorem mix_apply (g : FVec Ideal S1024x256 .bf16) (x13 : FVec Ideal S6x128x128 .bf16) (x14 : FVec Ideal S6x128x128 .f32) (x19 : FVec Ideal S1024x768 .f32) (x20 : FVec Ideal S1024x768 .bf16)
    (R C : Fin 1024) : View.canon (Val := Elt Ideal) (mixL (F := Ideal) g x13 x14 x19 x20) (ix2 R C) = mixAt g x13 x14 x19 x20 R C := by
  have hL : ∀ p ∈ mixL (F := Ideal) g x13 x14 x19 x20, ∀ x : p.1.shape.Idx, p.2 x = (fun y : S1024x1024.Idx => mixAt g x13 x14 x19 x20 (y 0) (y 1)) (p.1.emb x) := by
    intro p hp
    simp only [mixL, tileL, gluP, List.cons_append, List.nil_append, List.mem_cons, List.not_mem_nil, or_false] at hp
    rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
    on_goal 49 => exact fun x => glu_ok g x13 x14 x19 x20 inb_S1024x1024_S1024x256_0_0 x
    all_goals exact fun x => tile_ok g x13 x14 x19 x20 (by decide) rfl rfl rfl (by decide) _ _ _ x
  exact View.canon_apply_of_pieces (Val := Elt Ideal) (S := S1024x1024) (e := .bf16) (fun y : S1024x1024.Idx => mixAt g x13 x14 x19 x20 (y 0) (y 1))
    (mixL (F := Ideal) g x13 x14 x19 x20) hL (ix2 R C) (mix_cover (F := Ideal) g x13 x14 x19 x20 _)

/-- The mixed rows times the output projection. -/
theorem pay87_apply (m w : FVec Ideal S1024x1024 .bf16) (R d : Fin 1024) :
    k0_pay87 (F := Ideal) m w (ix2 R d) = ∑ j : Fin 1024, m (ix2 R j) * w (ix2 j d) := by
  pointwise [k0_pay87]

/-- Batch 0's rows of the result. -/
theorem outb0_apply (m w : FVec Ideal S1024x1024 .bf16) (v : FVec Ideal S1x128x1024 .f32) (r : Fin 128) (d : Fin 1024) :
    k0_pay88 (F := Ideal) m w v (ix3 0 r d) = v (ix3 0 r d) + ∑ j : Fin 1024, m (ix2 ⟨128 * 0 + r.val, by omega⟩ j) * w (ix2 j d) := by
  have hP := fun R => pay87_apply m w R d
  unfold k0_pay88
  generalize k0_pay87 (F := Ideal) m w = P at hP ⊢
  pointwise
  simp only [hP]

/-- Batch 1's rows of the result. -/
theorem outb1_apply (m w : FVec Ideal S1024x1024 .bf16) (v : FVec Ideal S1x128x1024 .f32) (r : Fin 128) (d : Fin 1024) :
    k0_pay89 (F := Ideal) m w v (ix3 0 r d) = v (ix3 0 r d) + ∑ j : Fin 1024, m (ix2 ⟨128 * 1 + r.val, by omega⟩ j) * w (ix2 j d) := by
  have hP := fun R => pay87_apply m w R d
  unfold k0_pay89
  generalize k0_pay87 (F := Ideal) m w = P at hP ⊢
  pointwise
  simp only [hP]

/-- Batch 2's rows of the result. -/
theorem outb2_apply (m w : FVec Ideal S1024x1024 .bf16) (v : FVec Ideal S1x128x1024 .f32) (r : Fin 128) (d : Fin 1024) :
    k0_pay90 (F := Ideal) m w v (ix3 0 r d) = v (ix3 0 r d) + ∑ j : Fin 1024, m (ix2 ⟨128 * 2 + r.val, by omega⟩ j) * w (ix2 j d) := by
  have hP := fun R => pay87_apply m w R d
  unfold k0_pay90
  generalize k0_pay87 (F := Ideal) m w = P at hP ⊢
  pointwise
  simp only [hP]

/-- Batch 3's rows of the result. -/
theorem outb3_apply (m w : FVec Ideal S1024x1024 .bf16) (v : FVec Ideal S1x128x1024 .f32) (r : Fin 128) (d : Fin 1024) :
    k0_pay92 (F := Ideal) (k0_pay91 m w v) (ix3 0 r d) = v (ix3 0 r d) + ∑ j : Fin 1024, m (ix2 ⟨128 * 3 + r.val, by omega⟩ j) * w (ix2 j d) := by
  have hP := fun R => pay87_apply m w R d
  unfold k0_pay92 k0_pay91
  generalize k0_pay87 (F := Ideal) m w = P at hP ⊢
  pointwise
  simp only [hP]

/-- Batch 4's rows of the result. -/
theorem outb4_apply (m w : FVec Ideal S1024x1024 .bf16) (v : FVec Ideal S1x128x1024 .f32) (r : Fin 128) (d : Fin 1024) :
    k0_pay93 (F := Ideal) (k0_pay87 (F := Ideal) m w) v (ix3 0 r d) = v (ix3 0 r d) + ∑ j : Fin 1024, m (ix2 ⟨128 * 4 + r.val, by omega⟩ j) * w (ix2 j d) := by
  have hP := fun R => pay87_apply m w R d
  unfold k0_pay93
  generalize k0_pay87 (F := Ideal) m w = P at hP ⊢
  pointwise
  simp only [hP]

/-- Batch 5's rows of the result. -/
theorem outb5_apply (m w : FVec Ideal S1024x1024 .bf16) (v : FVec Ideal S1x128x1024 .f32) (r : Fin 128) (d : Fin 1024) :
    k0_pay94 (F := Ideal) (k0_pay87 (F := Ideal) m w) v (ix3 0 r d) = v (ix3 0 r d) + ∑ j : Fin 1024, m (ix2 ⟨128 * 5 + r.val, by omega⟩ j) * w (ix2 j d) := by
  have hP := fun R => pay87_apply m w R d
  unfold k0_pay94
  generalize k0_pay87 (F := Ideal) m w = P at hP ⊢
  pointwise
  simp only [hP]

/-- Batch 6's rows of the result. -/
theorem outb6_apply (m w : FVec Ideal S1024x1024 .bf16) (v : FVec Ideal S1x128x1024 .f32) (r : Fin 128) (d : Fin 1024) :
    k0_pay95 (F := Ideal) (k0_pay87 (F := Ideal) m w) v (ix3 0 r d) = v (ix3 0 r d) + ∑ j : Fin 1024, m (ix2 ⟨128 * 6 + r.val, by omega⟩ j) * w (ix2 j d) := by
  have hP := fun R => pay87_apply m w R d
  unfold k0_pay95
  generalize k0_pay87 (F := Ideal) m w = P at hP ⊢
  pointwise
  simp only [hP]

/-- Batch 7's rows of the result. -/
theorem outb7_apply (m w : FVec Ideal S1024x1024 .bf16) (v : FVec Ideal S1x128x1024 .f32) (r : Fin 128) (d : Fin 1024) :
    k0_pay96 (F := Ideal) (k0_pay87 (F := Ideal) m w) v (ix3 0 r d) = v (ix3 0 r d) + ∑ j : Fin 1024, m (ix2 ⟨128 * 7 + r.val, by omega⟩ j) * w (ix2 j d) := by
  have hP := fun R => pay87_apply m w R d
  unfold k0_pay96
  generalize k0_pay87 (F := Ideal) m w = P at hP ⊢
  pointwise
  simp only [hP]

/-- One element of the result. -/
def outAtE (x2 : FVec Ideal S8x128x1024 .f32) (m w : FVec Ideal S1024x1024 .bf16) (y : S8x128x1024.Idx) : EReal :=
  x2 y + ∑ j : Fin 1024, m (ix2 ⟨128 * (y 0).val + (y 1).val, by have h0 : (y 0).val < 8 := (y 0).isLt; have h1 : (y 1).val < 128 := (y 1).isLt; omega⟩ j) * w (ix2 j (y 2))

/-- An element of one batch's slab, in the block. -/
theorem emb_slab (b : ℕ) (hb : b < 8) (inb : ∀ a : Fin 3, (![b, 0, 0] : Fin 3 → ℕ) a + S1x128x1024.size a ≤ S8x128x1024.size a) (r : Fin 128) (d : Fin 1024) :
    (Rect.unit (s := S8x128x1024) ![b, 0, 0] S1x128x1024.size inb).emb (ix3 0 r d) = (ix3 ⟨b, hb⟩ r d : S8x128x1024.Idx) := by
  refine funext fun a => Fin.ext ?_
  fin_cases a
  · show b + 1 * 0 = b
    omega
  · show 0 + 1 * r.val = r.val
    omega
  · show 0 + 1 * d.val = d.val
    omega

/-- One batch's store. -/
theorem slab_ok (x2 : FVec Ideal S8x128x1024 .f32) (m w : FVec Ideal S1024x1024 .bf16) (b : ℕ) (hb : b < 8)
    (inb : ∀ a : Fin 3, (![b, 0, 0] : Fin 3 → ℕ) a + S1x128x1024.size a ≤ S8x128x1024.size a) (q : FVec Ideal S1x128x1024 .f32)
    (hq : ∀ (r : Fin 128) (d : Fin 1024), q (ix3 0 r d) = View.ld (Val := Elt Ideal) (e' := .f32) x2 (Rect.unit (s := S8x128x1024) ![b, 0, 0] S1x128x1024.size inb) (ix3 0 r d)
      + ∑ j : Fin 1024, m (ix2 ⟨128 * b + r.val, by omega⟩ j) * w (ix2 j d)) (x : S1x128x1024.Idx) :
    q x = outAtE x2 m w ((Rect.unit (s := S8x128x1024) ![b, 0, 0] S1x128x1024.size inb).emb x) := by
  obtain ⟨r, d, rfl⟩ : ∃ (r : Fin 128) (d : Fin 1024), x = ix3 0 r d := ⟨x 1, x 2, by
    funext a
    fin_cases a
    · exact Fin.ext (by have h : (x 0).val < 1 := (x 0).isLt; show (x 0).val = 0; omega)
    · rfl
    · rfl⟩
  have e0 := emb_slab b hb inb r d
  refine Eq.trans ?_ (congrArg (outAtE x2 m w) e0.symm)
  rw [hq]
  have h1 : View.ld (Val := Elt Ideal) (e' := .f32) x2 (Rect.unit (s := S8x128x1024) ![b, 0, 0] S1x128x1024.size inb) (ix3 0 r d) = x2 (ix3 ⟨b, hb⟩ r d) := congrArg x2 e0
  rw [h1]
  rfl

/-- The result's stores, at an element. -/
theorem out_apply (x2 : FVec Ideal S8x128x1024 .f32) (m w : FVec Ideal S1024x1024 .bf16) (y : S8x128x1024.Idx) :
    View.canon (Val := Elt Ideal) (outL (F := Ideal) x2 m w) y = outAtE x2 m w y := by
  have hL : ∀ p ∈ outL (F := Ideal) x2 m w, ∀ x : p.1.shape.Idx, p.2 x = outAtE x2 m w (p.1.emb x) := by
    intro p hp
    simp only [outL, List.mem_cons, List.not_mem_nil, or_false] at hp
    rcases hp with rfl | rfl | rfl | rfl | rfl | rfl | rfl | rfl
    · exact fun x => slab_ok x2 m w 7 (by decide) inb_S8x128x1024_S1x128x1024_7_0_0 _ (fun r d => outb7_apply m w _ r d) x
    · exact fun x => slab_ok x2 m w 6 (by decide) inb_S8x128x1024_S1x128x1024_6_0_0 _ (fun r d => outb6_apply m w _ r d) x
    · exact fun x => slab_ok x2 m w 5 (by decide) inb_S8x128x1024_S1x128x1024_5_0_0 _ (fun r d => outb5_apply m w _ r d) x
    · exact fun x => slab_ok x2 m w 4 (by decide) inb_S8x128x1024_S1x128x1024_4_0_0 _ (fun r d => outb4_apply m w _ r d) x
    · exact fun x => slab_ok x2 m w 3 (by decide) inb_S8x128x1024_S1x128x1024_3_0_0 _ (fun r d => outb3_apply m w _ r d) x
    · exact fun x => slab_ok x2 m w 2 (by decide) inb_S8x128x1024_S1x128x1024_2_0_0 _ (fun r d => outb2_apply m w _ r d) x
    · exact fun x => slab_ok x2 m w 1 (by decide) inb_S8x128x1024_S1x128x1024_1_0_0 _ (fun r d => outb1_apply m w _ r d) x
    · exact fun x => slab_ok x2 m w 0 (by decide) inb_S8x128x1024_S1x128x1024_0_0_0 _ (fun r d => outb0_apply m w _ r d) x
  exact View.canon_apply_of_pieces (Val := Elt Ideal) (S := S8x128x1024) (e := .f32) (outAtE x2 m w) (outL (F := Ideal) x2 m w) hL y (out_cover (F := Ideal) x2 m w y)

/-- The block's result, at an element. -/
theorem outV_apply (x2 : FVec Ideal S8x128x1024 .f32) (x3 : FVec Ideal S1x1024 .f32) (x4 : FVec Ideal S1024x1792 .bf16) (x5 : FVec Ideal S1024x1024 .bf16) (x6 : FVec Ideal S1024x1024 .bf16) (x7 : FVec Ideal S256x2048 .bf16) (x8 : FVec Ideal S2x1024 .f32) (x9 : FVec Ideal S2048x256 .bf16) (x10 : FVec Ideal S1x256 .f32) (x11 : FVec Ideal S256x256 .bf16) (x12 : FVec Ideal S1x256 .f32) (x13 : FVec Ideal S6x128x128 .bf16) (x14 : FVec Ideal S6x128x128 .f32) (x15 : FVec Ideal S1x768 .f32) (x16 : FVec Ideal S1024x1024 .bf16) (x22 : FVec Ideal S8x2048 .f32)
    (b : Fin 8) (r : Fin 128) (d : Fin 1024) :
    outV (F := Ideal) x2 x3 x4 x5 x6 x7 x8 x9 x10 x11 x12 x13 x14 x15 x16 x22 (ix3 b r d)
      = x2 (ix3 b r d) + ∑ j : Fin 1024, mixAt (gluV (F := Ideal) x6 x9 x10 x11 x12 (usR (F := Ideal) x2 x3 x4) (statesV (F := Ideal) x2 x3 x4 x5 x7 x8 x22)) x13 x14 (ugV (F := Ideal) x2 x3 x4) (vV (F := Ideal) x2 x3 x4 x15)
          ⟨128 * b.val + r.val, by omega⟩ j * x16 (ix2 j d) := by
  unfold outV mixV
  rw [out_apply]
  unfold outAtE
  rw [View.ld_unit_zero (S := S1024x1024) zero2, View.ld_unit_zero (S := S1024x1024) zero2]
  simp only [mix_apply]
  rfl

end Cert.EvenIdeal.Hand

end
-- ==== Proof.EvenArray.lean ====
/-
  The even mixer's kernel over the whole grid: its block of results, at an element, is the mixer of its token.
-/
module

public import proofs.«01_k».proof.Proof.EvenHost
public import proofs.«01_k».proof.Proof.EvenMix
public import Idealize.ShloMosaic.Lib.Pipeline.ValueKit.Point

@[expose] public section

set_option maxRecDepth 16384

noncomputable section

namespace Cert.EvenIdeal.Hand

open Cert.EvenIdeal Cert.EvenIdeal.Gen Idealize.ShloMosaic Idealize.ShloMosaic.TcCoe Idealize.ShloMosaic.Tactic
open Trunk

variable (m : (ℓ : Loc nD τ sig) → Buf (Elt Ideal) ℓ) (c : Dev nD)

/-- The input's block index at a point: eight sequences per 32 points, one chunk of 128 rows per point. -/
theorem idx0 (t : Fin cfg0.N) : win0_0.index t (0 : Fin 3) = t.val / 32 ∧ win0_0.index t (1 : Fin 3) = t.val % 32
    ∧ win0_0.index t (2 : Fin 3) = 0 := by
  revert t
  show ∀ t : Fin grid0.N, _
  decide +kernel
/-- Every other input is one block, the same at every point. -/
theorem idx2 (t : Fin cfg0.N) : (∀ a : Fin 2, win0_1.index t a = 0) ∧ (∀ a : Fin 2, win0_2.index t a = 0) ∧ (∀ a : Fin 2, win0_3.index t a = 0)
    ∧ (∀ a : Fin 2, win0_4.index t a = 0) ∧ (∀ a : Fin 2, win0_5.index t a = 0) ∧ (∀ a : Fin 2, win0_6.index t a = 0) ∧ (∀ a : Fin 2, win0_7.index t a = 0)
    ∧ (∀ a : Fin 2, win0_8.index t a = 0) ∧ (∀ a : Fin 2, win0_9.index t a = 0) ∧ (∀ a : Fin 2, win0_10.index t a = 0) := by
  revert t
  show ∀ t : Fin grid0.N, _
  decide +kernel
theorem idx3 (t : Fin cfg0.N) : (∀ a : Fin 3, win0_11.index t a = 0) ∧ (∀ a : Fin 3, win0_12.index t a = 0) ∧ (∀ a : Fin 2, win0_13.index t a = 0)
    ∧ (∀ a : Fin 2, win0_14.index t a = 0) := by
  revert t
  show ∀ t : Fin grid0.N, _
  decide +kernel

theorem lt_N (t : Fin cfg0.N) : t.val < 64 := lt_of_lt_of_eq t.isLt N_0

/-- The sequence of a point's row `r`, and the token of its place `k`. -/
def bOf (t : Fin cfg0.N) (r : ℕ) (hr : r < 8) : Fin 16 := ⟨8 * (t.val / 32) + r, by have := lt_N t; omega⟩
def sOf (t : Fin cfg0.N) (k : ℕ) (hk : k < 128) : Fin 4096 := ⟨128 * (t.val % 32) + k, by omega⟩

theorem blk0 (t : Fin cfg0.N) (b : Fin 8) (r : Fin 128) (k : Fin 1024) :
    iblk (F := Ideal) m c 0 t (ix3 b r k) = (args m c).x (bOf t b.val b.isLt) (sOf t r.val r.isLt) k := by
  obtain ⟨e0, e1, e2⟩ := idx0 t
  show _ = m ((c : Thread nD τ).loc main_arg0) _
  unfold bOf sOf
  blk_ext! [iblk, V, e0, e1, e2]
theorem blk1 (t : Fin cfg0.N) (i : Fin 1) (j : Fin 1024) : iblk (F := Ideal) m c 1 t (ix2 i j) = V (F := Ideal) m c main_v104 (ix2 i j) := by
  have e0 := (idx2 t).1 0
  have e1 := (idx2 t).1 1
  blk_ext! [iblk, e0, e1]
theorem blk2 (t : Fin cfg0.N) (i : Fin 1024) (j : Fin 1792) : iblk (F := Ideal) m c 2 t (ix2 i j) = V (F := Ideal) m c main_v105 (ix2 i j) := by
  have e0 := (idx2 t).2.1 0
  have e1 := (idx2 t).2.1 1
  blk_ext! [iblk, e0, e1]
theorem blk3 (t : Fin cfg0.N) (i : Fin 1024) (j : Fin 1024) : iblk (F := Ideal) m c 3 t (ix2 i j) = V (F := Ideal) m c main_v12 (ix2 i j) := by
  have e0 := (idx2 t).2.2.1 0
  have e1 := (idx2 t).2.2.1 1
  blk_ext! [iblk, e0, e1]
theorem blk4 (t : Fin cfg0.N) (i : Fin 1024) (j : Fin 1024) : iblk (F := Ideal) m c 4 t (ix2 i j) = V (F := Ideal) m c main_v13 (ix2 i j) := by
  have e0 := (idx2 t).2.2.2.1 0
  have e1 := (idx2 t).2.2.2.1 1
  blk_ext! [iblk, e0, e1]
theorem blk5 (t : Fin cfg0.N) (i : Fin 256) (j : Fin 2048) : iblk (F := Ideal) m c 5 t (ix2 i j) = V (F := Ideal) m c main_v77 (ix2 i j) := by
  have e0 := (idx2 t).2.2.2.2.1 0
  have e1 := (idx2 t).2.2.2.2.1 1
  blk_ext! [iblk, e0, e1]
theorem blk6 (t : Fin cfg0.N) (i : Fin 2) (j : Fin 1024) : iblk (F := Ideal) m c 6 t (ix2 i j) = V (F := Ideal) m c main_v99 (ix2 i j) := by
  have e0 := (idx2 t).2.2.2.2.2.1 0
  have e1 := (idx2 t).2.2.2.2.2.1 1
  blk_ext! [iblk, e0, e1]
theorem blk7 (t : Fin cfg0.N) (i : Fin 2048) (j : Fin 256) : iblk (F := Ideal) m c 7 t (ix2 i j) = V (F := Ideal) m c main_v94 (ix2 i j) := by
  have e0 := (idx2 t).2.2.2.2.2.2.1 0
  have e1 := (idx2 t).2.2.2.2.2.2.1 1
  blk_ext! [iblk, e0, e1]
theorem blk8 (t : Fin cfg0.N) (i : Fin 1) (j : Fin 256) : iblk (F := Ideal) m c 8 t (ix2 i j) = V (F := Ideal) m c main_v106 (ix2 i j) := by
  have e0 := (idx2 t).2.2.2.2.2.2.2.1 0
  have e1 := (idx2 t).2.2.2.2.2.2.2.1 1
  blk_ext! [iblk, e0, e1]
theorem blk9 (t : Fin cfg0.N) (i : Fin 256) (j : Fin 256) : iblk (F := Ideal) m c 9 t (ix2 i j) = V (F := Ideal) m c main_v107 (ix2 i j) := by
  have e0 := (idx2 t).2.2.2.2.2.2.2.2.1 0
  have e1 := (idx2 t).2.2.2.2.2.2.2.2.1 1
  blk_ext! [iblk, e0, e1]
theorem blk10 (t : Fin cfg0.N) (i : Fin 1) (j : Fin 256) : iblk (F := Ideal) m c 10 t (ix2 i j) = V (F := Ideal) m c main_v108 (ix2 i j) := by
  have e0 := (idx2 t).2.2.2.2.2.2.2.2.2 0
  have e1 := (idx2 t).2.2.2.2.2.2.2.2.2 1
  blk_ext! [iblk, e0, e1]
theorem blk11 (t : Fin cfg0.N) (i : Fin 6) (j : Fin 128) (l : Fin 128) : iblk (F := Ideal) m c 11 t (ix3 i j l) = V (F := Ideal) m c main_v101 (ix3 i j l) := by
  have e0 := (idx3 t).1 0
  have e1 := (idx3 t).1 1
  have e2 := (idx3 t).1 2
  blk_ext! [iblk, e0, e1, e2]
theorem blk12 (t : Fin cfg0.N) (i : Fin 6) (j : Fin 128) (l : Fin 128) : iblk (F := Ideal) m c 12 t (ix3 i j l) = V (F := Ideal) m c main_v103 (ix3 i j l) := by
  have e0 := (idx3 t).2.1 0
  have e1 := (idx3 t).2.1 1
  have e2 := (idx3 t).2.1 2
  blk_ext! [iblk, e0, e1, e2]
theorem blk13 (t : Fin cfg0.N) (i : Fin 1) (j : Fin 768) : iblk (F := Ideal) m c 13 t (ix2 i j) = V (F := Ideal) m c main_v109 (ix2 i j) := by
  have e0 := (idx3 t).2.2.1 0
  have e1 := (idx3 t).2.2.1 1
  blk_ext! [iblk, e0, e1]
theorem blk14 (t : Fin cfg0.N) (i : Fin 1024) (j : Fin 1024) : iblk (F := Ideal) m c 14 t (ix2 i j) = V (F := Ideal) m c main_v110 (ix2 i j) := by
  have e0 := (idx3 t).2.2.2 0
  have e1 := (idx3 t).2.2.2 1
  blk_ext! [iblk, e0, e1]

/-- A row of the point's projected block is its token's. -/
theorem prow_blk (t : Fin cfg0.N) (R : Fin 1024) (f : Fin 1792) :
    prow (iblk (F := Ideal) m c 0 t) (iblk (F := Ideal) m c 1 t) (iblk (F := Ideal) m c 2 t) R f
      = (args m c).u (bOf t (R.val / 128) (by omega)) (sOf t (R.val % 128) (by omega)) f := by
  unfold prow
  exact congrArg₂ proj (congrArg₂ rms (funext fun k => blk0 m c t _ _ k) (funext fun k => (blk1 m c t 0 k).trans (host_g m c k)))
    (funext fun k => (blk2 m c t k f).trans (host_wi m c k f))

/-- A sum against an indicator of one place. -/
theorem pick {n : ℕ} (P : Fin n → Prop) [DecidablePred P] (i : Fin n) (h : ∀ j, P j ↔ j = i) (g : Fin n → EReal) :
    ∑ j : Fin n, (if P j then (1 : EReal) else 0) * g j = g i := by
  rw [Finset.sum_eq_single i (fun j _ hj => by rw [if_neg (fun hp => hj ((h j).1 hp)), zero_mul]) (fun hn => absurd (Finset.mem_univ i) hn),
    if_pos ((h i).2 rfl), one_mul]

/-- A sum against the indicator of one run of `H` places. -/
theorem diag {N : ℕ} (H q : ℕ) (hH : 0 < H) (hq : H * q + H ≤ N) (w : Fin N → EReal) :
    ∑ i : Fin N, w i * (if i.val / H = q then (1 : EReal) else 0) = ∑ k : Fin H, w ⟨H * q + k.val, by omega⟩ := by
  simp only [mul_ite, mul_one, mul_zero]
  rw [← Finset.sum_filter]
  refine Finset.sum_nbij' (fun i => (⟨i.val % H, Nat.mod_lt _ hH⟩ : Fin H)) (fun k => (⟨H * q + k.val, by omega⟩ : Fin N)) (fun _ _ => Finset.mem_univ _) ?_ ?_ ?_ ?_
  · intro k _
    refine Finset.mem_filter.2 ⟨Finset.mem_univ _, ?_⟩
    show (H * q + k.val) / H = q
    rw [Nat.mul_add_div hH, Nat.div_eq_of_lt k.isLt, Nat.add_zero]
  · intro i hi
    have h := (Finset.mem_filter.1 hi).2
    apply Fin.ext
    show H * q + i.val % H = i.val
    rw [← h]; exact Nat.div_add_mod _ _
  · intro k _
    apply Fin.ext
    show (H * q + k.val) % H = k.val
    rw [Nat.mul_add_mod, Nat.mod_eq_of_lt k.isLt]
  · intro i hi
    have h := (Finset.mem_filter.1 hi).2
    refine congrArg w (Fin.ext ?_)
    show i.val = H * q + i.val % H
    rw [← h]; exact (Nat.div_add_mod _ _).symm

/-- The drives the kernel lays out, real and imaginary. -/
theorem xs_row (t : Fin cfg0.N) (R : Fin 1024) (C : Fin 2048) :
    xsV (F := Ideal) (iblk (F := Ideal) m c 0 t) (iblk (F := Ideal) m c 1 t) (iblk (F := Ideal) m c 2 t) (iblk (F := Ideal) m c 3 t) (iblk (F := Ideal) m c 5 t) (ix2 R C)
      = ∑ f : Fin 256, (args m c).u (bOf t (R.val % 8) (by omega)) (sOf t (R.val / 8) (by omega)) ⟨f.val, by omega⟩ * V (F := Ideal) m c main_v77 (ix2 f C) := by
  rw [xsV_apply]
  refine Finset.sum_congr rfl fun f _ => congrArg₂ (fun a b : EReal => a * b) ?_ (blk5 m c t f C)
  have e : ∀ j : Fin 1024, iblk (F := Ideal) m c 3 t (ix2 R j) = if R.val % 8 * 128 + R.val / 8 = j.val then (1 : EReal) else 0 :=
    fun j => (blk3 m c t R j).trans (host_perm m c R j)
  simp only [e]
  rw [pick (fun j : Fin 1024 => R.val % 8 * 128 + R.val / 8 = j.val) ⟨R.val % 8 * 128 + R.val / 8, by omega⟩
    (fun j => ⟨fun h => Fin.ext h.symm, fun h => (congrArg Fin.val h).symm⟩), prow_blk]
  refine congrArg₂ (fun b s => (args m c).u b s _) (Fin.ext ?_) (Fin.ext ?_)
  · show 8 * (t.val / 32) + (R.val % 8 * 128 + R.val / 8) / 128 = 8 * (t.val / 32) + R.val % 8
    omega
  · show 128 * (t.val % 32) + (R.val % 8 * 128 + R.val / 8) % 128 = 128 * (t.val % 32) + R.val / 8
    omega

theorem bb_re (u : Fin 256 → EReal) (n : Fin 1024) :
    ∑ f : Fin 256, u f * V (F := Ideal) m c main_v77 (ix2 f ⟨n.val, by omega⟩)
      = ∑ k : Fin 16, (args m c).bbRe ⟨n.val / 64, by omega⟩ ⟨n.val % 64, by omega⟩ k * u ⟨16 * (n.val / 64) + k.val, by omega⟩ := by
  have h : ∀ f : Fin 256, u f * V (F := Ideal) m c main_v77 (ix2 f ⟨n.val, by omega⟩)
      = (u f * (args m c).bbRe ⟨f.val / 16, by omega⟩ ⟨n.val % 64, by omega⟩ ⟨f.val % 16, by omega⟩) * (if f.val / 16 = n.val / 64 then (1 : EReal) else 0) := by
    intro f
    rw [host_b m c f ⟨n.val, by omega⟩, dif_pos n.isLt, mul_assoc]
  rw [Finset.sum_congr rfl (fun f _ => h f), diag 16 (n.val / 64) (by omega) (by omega)
    (fun f => u f * (args m c).bbRe ⟨f.val / 16, by omega⟩ ⟨n.val % 64, by omega⟩ ⟨f.val % 16, by omega⟩)]
  refine Finset.sum_congr rfl fun k _ => ?_
  have e1 : (16 * (n.val / 64) + k.val) / 16 = n.val / 64 := by omega
  have e2 : (16 * (n.val / 64) + k.val) % 16 = k.val := by omega
  simp only [e1, e2]
  exact mul_comm _ _

theorem xs_re (t : Fin cfg0.N) (R : Fin 1024) (n : Fin 1024) :
    xsV (F := Ideal) (iblk (F := Ideal) m c 0 t) (iblk (F := Ideal) m c 1 t) (iblk (F := Ideal) m c 2 t) (iblk (F := Ideal) m c 3 t) (iblk (F := Ideal) m c 5 t) (ix2 R ⟨n.val, by omega⟩)
      = (args m c).drRe (bOf t (R.val % 8) (by omega)) ⟨n.val / 64, by omega⟩ ⟨n.val % 64, by omega⟩ (128 * (t.val % 32) + R.val / 8) := by
  refine (xs_row m c t R ⟨n.val, by omega⟩).trans ((bb_re m c (fun f => (args m c).u (bOf t (R.val % 8) (by omega)) (sOf t (R.val / 8) (by omega)) ⟨f.val, by omega⟩) n).trans ?_)
  unfold EvenArgs.drRe
  rw [dif_pos (by omega)]
  rfl

theorem bb_im (u : Fin 256 → EReal) (n : Fin 1024) :
    ∑ f : Fin 256, u f * V (F := Ideal) m c main_v77 (ix2 f ⟨1024 + n.val, by omega⟩)
      = ∑ k : Fin 16, (args m c).bbIm ⟨n.val / 64, by omega⟩ ⟨n.val % 64, by omega⟩ k * u ⟨16 * (n.val / 64) + k.val, by omega⟩ := by
  have e : 1024 + n.val - 1024 = n.val := by omega
  have h : ∀ f : Fin 256, u f * V (F := Ideal) m c main_v77 (ix2 f ⟨1024 + n.val, by omega⟩)
      = (u f * (args m c).bbIm ⟨f.val / 16, by omega⟩ ⟨n.val % 64, by omega⟩ ⟨f.val % 16, by omega⟩) * (if f.val / 16 = n.val / 64 then (1 : EReal) else 0) := by
    intro f
    rw [host_b m c f ⟨1024 + n.val, by omega⟩, dif_neg (show ¬ 1024 + n.val < 1024 by omega), mul_assoc]
    simp only [e]
  rw [Finset.sum_congr rfl (fun f _ => h f), diag 16 (n.val / 64) (by omega) (by omega)
    (fun f => u f * (args m c).bbIm ⟨f.val / 16, by omega⟩ ⟨n.val % 64, by omega⟩ ⟨f.val % 16, by omega⟩)]
  refine Finset.sum_congr rfl fun k _ => ?_
  have e1 : (16 * (n.val / 64) + k.val) / 16 = n.val / 64 := by omega
  have e2 : (16 * (n.val / 64) + k.val) % 16 = k.val := by omega
  simp only [e1, e2]
  exact mul_comm _ _

theorem xs_im (t : Fin cfg0.N) (R : Fin 1024) (n : Fin 1024) :
    xsV (F := Ideal) (iblk (F := Ideal) m c 0 t) (iblk (F := Ideal) m c 1 t) (iblk (F := Ideal) m c 2 t) (iblk (F := Ideal) m c 3 t) (iblk (F := Ideal) m c 5 t) (ix2 R ⟨1024 + n.val, by omega⟩)
      = (args m c).drIm (bOf t (R.val % 8) (by omega)) ⟨n.val / 64, by omega⟩ ⟨n.val % 64, by omega⟩ (128 * (t.val % 32) + R.val / 8) := by
  refine (xs_row m c t R ⟨1024 + n.val, by omega⟩).trans ((bb_im m c (fun f => (args m c).u (bOf t (R.val % 8) (by omega)) (sOf t (R.val / 8) (by omega)) ⟨f.val, by omega⟩) n).trans ?_)
  unfold EvenArgs.drIm
  rw [dif_pos (by omega)]
  rfl

/-- A point's carried rows hold the recurrence at its first token. -/
def Carried (t : Fin cfg0.N) (h : FVec Ideal S8x2048 .f32) : Prop :=
  ∀ (r : Fin 8) (n : Fin 1024),
    h (ix2 r ⟨n.val, by omega⟩) = ((args m c).st (bOf t r.val r.isLt) ⟨n.val / 64, by omega⟩ ⟨n.val % 64, by omega⟩ (128 * (t.val % 32))).1
    ∧ h (ix2 r ⟨1024 + n.val, by omega⟩) = ((args m c).st (bOf t r.val r.isLt) ⟨n.val / 64, by omega⟩ ⟨n.val % 64, by omega⟩ (128 * (t.val % 32))).2

/-- The block's recurrence continues the sequence's. -/
theorem bstat_blk (t : Fin cfg0.N) (h : FVec Ideal S8x2048 .f32) (hc : Carried m c t h) (r : Fin 8) (n : Fin 1024) (k : ℕ) (hk : k ≤ 128) :
    bstat (iblk (F := Ideal) m c 0 t) (iblk (F := Ideal) m c 1 t) (iblk (F := Ideal) m c 2 t) (iblk (F := Ideal) m c 3 t) (iblk (F := Ideal) m c 5 t) (iblk (F := Ideal) m c 6 t) h r n k
      = (args m c).st (bOf t r.val r.isLt) ⟨n.val / 64, by omega⟩ ⟨n.val % 64, by omega⟩ (128 * (t.val % 32) + k) := by
  unfold bstat
  rw [(hc r n).1, (hc r n).2, blk6, blk6, (host_a m c n).1, (host_a m c n).2, Prod.mk.eta]
  unfold EvenArgs.st
  rw [← recur_add]
  refine recur_congr _ _ _ _ (fun i hi => ?_) (fun i hi => ?_)
  · unfold driveRe
    rw [dif_pos (by omega), xs_re]
    exact congrArg₂ (fun b s => (args m c).drRe b _ _ s) (Fin.ext (by show _ + (8 * i + r.val) % 8 = _ + r.val; omega)) (by show _ + (8 * i + r.val) / 8 = _; omega)
  · unfold driveIm
    rw [dif_pos (by omega), xs_im]
    exact congrArg₂ (fun b s => (args m c).drIm b _ _ s) (Fin.ext (by show _ + (8 * i + r.val) % 8 = _ + r.val; omega)) (by show _ + (8 * i + r.val) / 8 = _; omega)

theorem zero_carry (i : S8x2048.Idx) : (k0_pay6 (F := Ideal)) i = (0 : EReal) := by
  pointwise [k0_pay6]

/-- Every point starts with the recurrence at its first token. -/
theorem carried : ∀ (n : ℕ) (hn : n < cfg0.N), Carried m c ⟨n, hn⟩ (carryIn (F := Ideal) m c n hn) := by
  intro n
  induction n with
  | zero =>
    intro hn r n
    rw [carryIn_first m c ⟨0, hn⟩ rfl, zero_carry, zero_carry]
    exact ⟨rfl, rfl⟩
  | succ k ih =>
    intro hn r n
    by_cases h : (k + 1) % 32 = 0
    · rw [carryIn_first m c ⟨k + 1, hn⟩ h, zero_carry, zero_carry]
      show (0 : EReal) = ((args m c).st _ _ _ (128 * ((k + 1) % 32))).1 ∧ _ = ((args m c).st _ _ _ (128 * ((k + 1) % 32))).2
      rw [h]
      exact ⟨rfl, rfl⟩
    · have hk : k < cfg0.N := by omega
      rw [carryIn_later m c ⟨k + 1, hn⟩ h]
      show carryOut m c k _ _ = _ ∧ carryOut m c k _ _ = _
      unfold carryOut
      rw [(carV_apply _ _ _ _ _ _ _ r n).1, (carV_apply _ _ _ _ _ _ _ r n).2, bstat_blk m c ⟨k, hk⟩ _ (ih hk) r n 128 (Nat.le_refl _)]
      have eb : bOf ⟨k, hk⟩ r.val r.isLt = bOf ⟨k + 1, hn⟩ r.val r.isLt := Fin.ext (by show 8 * (k / 32) + r.val = 8 * ((k + 1) / 32) + r.val; omega)
      have es : 128 * (k % 32) + 128 = 128 * ((k + 1) % 32) := by omega
      rw [eb]
      show ((args m c).st _ _ _ (128 * (k % 32) + 128)).1 = _ ∧ ((args m c).st _ _ _ (128 * (k % 32) + 128)).2 = _
      rw [es]
      exact ⟨rfl, rfl⟩

end Cert.EvenIdeal.Hand

end
-- ==== Proof.EvenOut.lean ====
/-
  The even mixer's block of results at a point, at an element.
-/
module

public import proofs.«01_k».proof.Proof.EvenArray

@[expose] public section

set_option maxRecDepth 16384

noncomputable section

namespace Cert.EvenIdeal.Hand

open Cert.EvenIdeal Cert.EvenIdeal.Gen Idealize.ShloMosaic Idealize.ShloMosaic.TcCoe Idealize.ShloMosaic.Tactic
open Trunk

variable (m : (ℓ : Loc nD τ sig) → Buf (Elt Ideal) ℓ) (c : Dev nD)

/-- The stored states, real and imaginary. -/
theorem states_re (t : Fin cfg0.N) (R n : Fin 1024) : (statesV (F := Ideal) (iblk (F := Ideal) m c 0 t) (iblk (F := Ideal) m c 1 t) (iblk (F := Ideal) m c 2 t) (iblk (F := Ideal) m c 3 t) (iblk (F := Ideal) m c 5 t) (iblk (F := Ideal) m c 6 t) (carryIn (F := Ideal) m c t.val t.isLt)) (ix2 R ⟨n.val, by omega⟩)
    = ((args m c).st (bOf t (R.val % 8) (by omega)) ⟨n.val / 64, by omega⟩ ⟨n.val % 64, by omega⟩ (128 * (t.val % 32) + (R.val / 8 + 1))).1 :=
  ((statesV_apply _ _ _ _ _ _ _ R ⟨n.val, by omega⟩).trans (dif_pos n.isLt)).trans
    (congrArg Prod.fst (bstat_blk m c t _ (carried m c t.val t.isLt) ⟨R.val % 8, by omega⟩ n (R.val / 8 + 1) (by omega)))
theorem states_im (t : Fin cfg0.N) (R n : Fin 1024) : (statesV (F := Ideal) (iblk (F := Ideal) m c 0 t) (iblk (F := Ideal) m c 1 t) (iblk (F := Ideal) m c 2 t) (iblk (F := Ideal) m c 3 t) (iblk (F := Ideal) m c 5 t) (iblk (F := Ideal) m c 6 t) (carryIn (F := Ideal) m c t.val t.isLt)) (ix2 R ⟨1024 + n.val, by omega⟩)
    = ((args m c).st (bOf t (R.val % 8) (by omega)) ⟨n.val / 64, by omega⟩ ⟨n.val % 64, by omega⟩ (128 * (t.val % 32) + (R.val / 8 + 1))).2 := by
  have hn : ¬ 1024 + n.val < 1024 := by omega
  have e : (⟨1024 + n.val - 1024, by omega⟩ : Fin 1024) = n := Fin.ext (by show 1024 + n.val - 1024 = n.val; omega)
  refine ((statesV_apply _ _ _ _ _ _ _ R ⟨1024 + n.val, by omega⟩).trans (dif_neg hn)).trans ?_
  show (bstat _ _ _ _ _ _ _ _ ⟨1024 + n.val - 1024, by omega⟩ _).2 = _
  rw [e]
  exact congrArg Prod.snd (bstat_blk m c t _ (carried m c t.val t.isLt) ⟨R.val % 8, by omega⟩ n (R.val / 8 + 1) (by omega))

/-- The read-out of a stored row: its block of the state's columns. -/
theorem read_row (S : Fin 2048 → EReal) (zr zi : Fin 1024 → EReal) (hr : ∀ n : Fin 1024, S ⟨n.val, by omega⟩ = zr n) (hi : ∀ n : Fin 1024, S ⟨1024 + n.val, by omega⟩ = zi n) (f : Fin 256) :
    ∑ n : Fin 2048, S n * V (F := Ideal) m c main_v94 (ix2 n f)
      = (∑ p : Fin 64, zr ⟨64 * (f.val / 16) + p.val, by omega⟩ * (args m c).cr ⟨f.val / 16, by omega⟩ ⟨f.val % 16, by omega⟩ p)
        + ∑ p : Fin 64, zi ⟨64 * (f.val / 16) + p.val, by omega⟩ * -((args m c).ci ⟨f.val / 16, by omega⟩ ⟨f.val % 16, by omega⟩ p) := by
  refine (Fin.sum_univ_add (a := 1024) (b := 1024) (fun n : Fin 2048 => S n * V (F := Ideal) m c main_v94 (ix2 n f))).trans (congrArg₂ (fun a b : EReal => a + b) ?_ ?_)
  · have h : ∀ n : Fin 1024, S ⟨n.val, by omega⟩ * V (F := Ideal) m c main_v94 (ix2 ⟨n.val, by omega⟩ f)
        = (zr n * (args m c).cr ⟨n.val / 64, by omega⟩ ⟨f.val % 16, by omega⟩ ⟨n.val % 64, by omega⟩) * (if n.val / 64 = f.val / 16 then (1 : EReal) else 0) := by
      intro n
      rw [hr, host_c m c ⟨n.val, by omega⟩ f, dif_pos n.isLt, mul_assoc]
    refine (Finset.sum_congr rfl (fun n _ => h n)).trans ((diag 64 (f.val / 16) (by omega) (by omega)
      (fun n : Fin 1024 => zr n * (args m c).cr ⟨n.val / 64, by omega⟩ ⟨f.val % 16, by omega⟩ ⟨n.val % 64, by omega⟩)).trans ?_)
    refine Finset.sum_congr rfl fun p _ => ?_
    have e1 : (64 * (f.val / 16) + p.val) / 64 = f.val / 16 := by omega
    have e2 : (64 * (f.val / 16) + p.val) % 64 = p.val := by omega
    simp only [e1, e2]
  · have h : ∀ n : Fin 1024, S ⟨1024 + n.val, by omega⟩ * V (F := Ideal) m c main_v94 (ix2 ⟨1024 + n.val, by omega⟩ f)
        = (zi n * -((args m c).ci ⟨n.val / 64, by omega⟩ ⟨f.val % 16, by omega⟩ ⟨n.val % 64, by omega⟩)) * (if n.val / 64 = f.val / 16 then (1 : EReal) else 0) := by
      intro n
      have e : 1024 + n.val - 1024 = n.val := by omega
      rw [hi, host_c m c ⟨1024 + n.val, by omega⟩ f, dif_neg (show ¬ 1024 + n.val < 1024 by omega)]
      simp only [e]
      rw [← neg_mul, mul_assoc]
    refine (Finset.sum_congr rfl (fun n _ => h n)).trans ((diag 64 (f.val / 16) (by omega) (by omega)
      (fun n : Fin 1024 => zi n * -((args m c).ci ⟨n.val / 64, by omega⟩ ⟨f.val % 16, by omega⟩ ⟨n.val % 64, by omega⟩))).trans ?_)
    refine Finset.sum_congr rfl fun p _ => ?_
    have e1 : (64 * (f.val / 16) + p.val) / 64 = f.val / 16 := by omega
    have e2 : (64 * (f.val / 16) + p.val) % 64 = p.val := by omega
    simp only [e1, e2]

theorem yread_blk (a : (args m c).Real) (t : Fin cfg0.N) (R : Fin 1024) (f : Fin 256) :
    yread (statesV (F := Ideal) (iblk (F := Ideal) m c 0 t) (iblk (F := Ideal) m c 1 t) (iblk (F := Ideal) m c 2 t) (iblk (F := Ideal) m c 3 t) (iblk (F := Ideal) m c 5 t) (iblk (F := Ideal) m c 6 t) (carryIn (F := Ideal) m c t.val t.isLt)) (iblk (F := Ideal) m c 7 t) R f = (args m c).rd (bOf t (R.val % 8) (by omega)) (sOf t (R.val / 8) (by omega)) f := by
  unfold yread
  refine (Finset.sum_congr rfl (fun n _ => congrArg (fun v : EReal => (statesV (F := Ideal) (iblk (F := Ideal) m c 0 t) (iblk (F := Ideal) m c 1 t) (iblk (F := Ideal) m c 2 t) (iblk (F := Ideal) m c 3 t) (iblk (F := Ideal) m c 5 t) (iblk (F := Ideal) m c 6 t) (carryIn (F := Ideal) m c t.val t.isLt)) (ix2 R n) * v) (blk7 m c t n f))).trans ?_
  refine (read_row m c (fun n => (statesV (F := Ideal) (iblk (F := Ideal) m c 0 t) (iblk (F := Ideal) m c 1 t) (iblk (F := Ideal) m c 2 t) (iblk (F := Ideal) m c 3 t) (iblk (F := Ideal) m c 5 t) (iblk (F := Ideal) m c 6 t) (carryIn (F := Ideal) m c t.val t.isLt)) (ix2 R n)) _ _ (states_re m c t R) (states_im m c t R) f).trans ?_
  refine Eq.trans ?_ (a.rd_neg (bOf t (R.val % 8) (by omega)) (sOf t (R.val / 8) (by omega)) f)
  have e1 : ∀ p : Fin 64, (64 * (f.val / 16) + p.val) / 64 = f.val / 16 := fun p => by omega
  have e2 : ∀ p : Fin 64, (64 * (f.val / 16) + p.val) % 64 = p.val := fun p => by omega
  simp only [e1, e2]
  rfl

/-- The read-out rows, in batch order. -/
theorem yrow_blk (a : (args m c).Real) (t : Fin cfg0.N) (R : Fin 1024) (f : Fin 256) :
    yrow (usR (F := Ideal) (iblk (F := Ideal) m c 0 t) (iblk (F := Ideal) m c 1 t) (iblk (F := Ideal) m c 2 t)) (statesV (F := Ideal) (iblk (F := Ideal) m c 0 t) (iblk (F := Ideal) m c 1 t) (iblk (F := Ideal) m c 2 t) (iblk (F := Ideal) m c 3 t) (iblk (F := Ideal) m c 5 t) (iblk (F := Ideal) m c 6 t) (carryIn (F := Ideal) m c t.val t.isLt)) (iblk (F := Ideal) m c 7 t) (iblk (F := Ideal) m c 4 t) (iblk (F := Ideal) m c 8 t) R f = (args m c).ry (bOf t (R.val / 128) (by omega)) (sOf t (R.val % 128) (by omega)) f := by
  have hp : ∀ j : Fin 1024, (iblk (F := Ideal) m c 4 t) (ix2 R j) = if j.val % 8 * 128 + j.val / 8 = R.val then (1 : EReal) else 0 :=
    fun j => (blk4 m c t R j).trans (host_permt m c R j)
  have hj : ∀ j : Fin 1024, j.val % 8 * 128 + j.val / 8 = R.val ↔ j = ⟨8 * (R.val % 128) + R.val / 128, by omega⟩ := fun j =>
    ⟨fun h => Fin.ext (by show j.val = 8 * (R.val % 128) + R.val / 128; omega), fun h => by
      have h' : j.val = 8 * (R.val % 128) + R.val / 128 := congrArg Fin.val h
      omega⟩
  have hd : ∀ j : Fin 1024, (args m c).rd (bOf t (j.val % 8) (by omega)) (sOf t (j.val / 8) (by omega)) f - (args m c).rd (bOf t (j.val % 8) (by omega)) (sOf t (j.val / 8) (by omega)) f = 0 := by
    intro j
    obtain ⟨r, hr⟩ := a.rd (bOf t (j.val % 8) (by omega)) (sOf t (j.val / 8) (by omega)) f
    rw [hr, ← EReal.coe_sub, sub_self]
    rfl
  unfold yrow
  simp only [hp, yread_blk m c a t, hd, mul_zero, Finset.sum_const_zero, add_zero]
  rw [pick (fun j : Fin 1024 => j.val % 8 * 128 + j.val / 8 = R.val) _ hj]
  unfold EvenArgs.ry
  refine congrArg₂ (fun a b : EReal => a + b) ?_ (congrArg₂ (fun a b : EReal => a * b) ((blk8 m c t 0 f).trans (host_dd m c f)) ?_)
  · exact congrArg₂ (fun b s => (args m c).rd b s f) (Fin.ext (by show _ + (8 * (R.val % 128) + R.val / 128) % 8 = _ + R.val / 128; omega))
      (Fin.ext (by show _ + (8 * (R.val % 128) + R.val / 128) / 8 = _ + R.val % 128; omega))
  · exact (usR_apply _ _ _ R f).trans (prow_blk m c t R ⟨f.val, by omega⟩)

/-- The state-space half of a mixed row. -/
theorem glu_blk (a : (args m c).Real) (t : Fin cfg0.N) (R : Fin 1024) (f : Fin 256) :
    (gluV (F := Ideal) (iblk (F := Ideal) m c 4 t) (iblk (F := Ideal) m c 7 t) (iblk (F := Ideal) m c 8 t) (iblk (F := Ideal) m c 9 t) (iblk (F := Ideal) m c 10 t) (usR (F := Ideal) (iblk (F := Ideal) m c 0 t) (iblk (F := Ideal) m c 1 t) (iblk (F := Ideal) m c 2 t)) (statesV (F := Ideal) (iblk (F := Ideal) m c 0 t) (iblk (F := Ideal) m c 1 t) (iblk (F := Ideal) m c 2 t) (iblk (F := Ideal) m c 3 t) (iblk (F := Ideal) m c 5 t) (iblk (F := Ideal) m c 6 t) (carryIn (F := Ideal) m c t.val t.isLt))) (ix2 R f) = glu ((args m c).ry (bOf t (R.val / 128) (by omega)) (sOf t (R.val % 128) (by omega))) (args m c).wg (args m c).bg f := by
  rw [gluV_apply]
  rw [show yrow (usR (F := Ideal) (iblk (F := Ideal) m c 0 t) (iblk (F := Ideal) m c 1 t) (iblk (F := Ideal) m c 2 t)) (statesV (F := Ideal) (iblk (F := Ideal) m c 0 t) (iblk (F := Ideal) m c 1 t) (iblk (F := Ideal) m c 2 t) (iblk (F := Ideal) m c 3 t) (iblk (F := Ideal) m c 5 t) (iblk (F := Ideal) m c 6 t) (carryIn (F := Ideal) m c t.val t.isLt)) (iblk (F := Ideal) m c 7 t) (iblk (F := Ideal) m c 4 t) (iblk (F := Ideal) m c 8 t) R = (args m c).ry (bOf t (R.val / 128) (by omega)) (sOf t (R.val % 128) (by omega)) from funext fun f => yrow_blk m c a t R f,
    show (fun k f : Fin 256 => (iblk (F := Ideal) m c 9 t) (ix2 k f)) = (args m c).wg from funext fun k => funext fun f => (blk9 m c t k f).trans (host_wg m c k f),
    show (fun f : Fin 256 => (iblk (F := Ideal) m c 10 t) (ix2 0 f)) = (args m c).bg from funext fun f => (blk10 m c t 0 f).trans (host_bg m c f)]

/-- The gated half of a mixed row. -/
theorem tile_blk (t : Fin cfg0.N) (R : Fin 1024) (j : Fin 768) :
    tileAt (iblk (F := Ideal) m c 11 t) (iblk (F := Ideal) m c 12 t) (ugV (F := Ideal) (iblk (F := Ideal) m c 0 t) (iblk (F := Ideal) m c 1 t) (iblk (F := Ideal) m c 2 t)) (vV (F := Ideal) (iblk (F := Ideal) m c 0 t) (iblk (F := Ideal) m c 1 t) (iblk (F := Ideal) m c 2 t) (iblk (F := Ideal) m c 13 t)) R j = (args m c).gm (bOf t (R.val / 128) (by omega)) (sOf t (R.val % 128) (by omega)) j := by
  have hu : ∀ R : Fin 1024, prow (iblk (F := Ideal) m c 0 t) (iblk (F := Ideal) m c 1 t) (iblk (F := Ideal) m c 2 t) R = (args m c).u (bOf t (R.val / 128) (by omega)) (sOf t (R.val % 128) (by omega)) :=
    fun R => funext fun f => prow_blk m c t R f
  have hg : (fun j : Fin 768 => (iblk (F := Ideal) m c 13 t) (ix2 0 j)) = (args m c).gv := funext fun j => (blk13 m c t 0 j).trans (host_gv m c j)
  have es : (sOf t (R.val % 128) (by omega)).val % 128 = R.val % 128 := by show (128 * (t.val % 32) + R.val % 128) % 128 = _; omega
  unfold tileAt EvenArgs.gm
  refine congrArg₂ (fun a b : EReal => a * b) ((ugV_apply _ _ _ R j).trans (congrArg (fun p => ugRow p j) (hu R))) (congrArg₂ (fun a b : EReal => a + b)
    (Finset.sum_congr rfl fun k _ => congrArg₂ (fun a b : EReal => a * b) ?_ ?_) ?_)
  · refine (blk11 m c t _ _ k).trans ((host_ws m c _ _ k).trans ?_)
    exact congrArg (fun s => (args m c).wm _ s k) (Fin.ext es.symm)
  · refine (vV_apply _ _ _ _ _ j).trans ?_
    rw [hg, hu]
    refine congrArg (fun p => vRow p (args m c).gv j) (congrArg₂ (args m c).u (Fin.ext ?_) (Fin.ext ?_))
    · show 8 * (t.val / 32) + (128 * (R.val / 128) + k.val) / 128 = 8 * (t.val / 32) + R.val / 128
      omega
    · show 128 * (t.val % 32) + (128 * (R.val / 128) + k.val) % 128 = 128 * ((128 * (t.val % 32) + R.val % 128) / 128) + k.val
      omega
  · refine (blk12 m c t _ _ _).trans ((host_bs m c _ _ _).trans ?_)
    exact congrArg (fun s => (args m c).bs _ s) (Fin.ext es.symm)

/-- The block of results a point leaves, at an element. -/
theorem out_blk (a : (args m c).Real) (t : Fin cfg0.N) (b : Fin 8) (r : Fin 128) (d : Fin 1024) :
    outAt (F := Ideal) m c t (ix3 b r d) = (args m c).even (bOf t b.val b.isLt) (sOf t r.val r.isLt) d := by
  unfold outAt
  refine (outV_apply _ _ _ _ _ _ _ _ _ _ _ _ _ _ _ _ b r d).trans ?_
  unfold EvenArgs.even evenRow
  have e1 : bOf t ((128 * b.val + r.val) / 128) (by omega) = bOf t b.val b.isLt := Fin.ext (by show _ + (128 * b.val + r.val) / 128 = _ + b.val; omega)
  have e2 : sOf t ((128 * b.val + r.val) % 128) (by omega) = sOf t r.val r.isLt := Fin.ext (by show _ + (128 * b.val + r.val) % 128 = _ + r.val; omega)
  refine congrArg₂ (fun a b : EReal => a + b) (blk0 m c t b r d) (Finset.sum_congr rfl fun j _ => congrArg₂ (fun a b : EReal => a * b) ?_ ((blk14 m c t j d).trans (host_wo m c j d)))
  unfold mixAt
  by_cases h : j.val < 256
  · rw [dif_pos h, dif_pos h, glu_blk m c a, ← e1, ← e2]
  · rw [dif_neg h, dif_neg h, tile_blk, ← e1, ← e2]

end Cert.EvenIdeal.Hand

end
-- ==== Proof.EvenGrid.lean ====
/-
  The even mixer's kernel: its output array after the run is the mixer of every token.
-/
module

public import proofs.«01_k».proof.Proof.EvenOut

@[expose] public section

set_option maxRecDepth 16384

noncomputable section

namespace Cert.EvenIdeal.Hand

open Cert.EvenIdeal Cert.EvenIdeal.Gen Idealize.ShloMosaic Idealize.ShloMosaic.TcCoe Idealize.ShloMosaic.Tactic Idealize.SL Idealize.SL.Sem
open Trunk

variable (m : (ℓ : Loc nD τ sig) → Buf (Elt Ideal) ℓ) (c : Dev nD) (ρ : Dev nD → PrngReg)

/-- The array of results. -/
def G15 : Buf (Elt Ideal) ((c : Thread nD τ).loc main_v111) := fun i : S16x4096x1024.Idx => (args m c).even (i 0) (i 1) (i 2)

/-- The output's block index at a point. -/
theorem idx15 (t : Fin cfg0.N) : win0_15.index t (0 : Fin 3) = t.val / 32 ∧ win0_15.index t (1 : Fin 3) = t.val % 32
    ∧ win0_15.index t (2 : Fin 3) = 0 := by
  revert t
  show ∀ t : Fin grid0.N, _
  decide +kernel

theorem out_idx (a : (args m c).Real) (t : Fin cfg0.N) (i : S8x128x1024.Idx) :
    outAt (F := Ideal) m c t i = (args m c).even (bOf t (i 0).val (i 0).isLt) (sOf t (i 1).val (i 1).isLt) (i 2) := by
  have e : i = ix3 (i 0) (i 1) (i 2) := by
    funext k
    match k with
    | ⟨0, _⟩ => rfl
    | ⟨1, _⟩ => rfl
    | ⟨2, _⟩ => rfl
  exact (congrArg (outAt (F := Ideal) m c t) e).trans (out_blk m c a t (i 0) (i 1) (i 2))

/-- What a point writes back is its block of the array. -/
theorem wrote (a : (args m c).Real) (t : Fin cfg0.N) (hf : (cfg0.win 15).flush t = true) :
    (dats (F := Ideal) m 0 c).flushed 15 t = ((cfg0.win 15).blk t).view.read (Elt Ideal) (G15 m c) := by
  show (cfg0.win 15).cut (grid0.coords t) ((dats (F := Ideal) m 0 c).after 15 t) = _
  rw [after0_15]
  obtain ⟨e0, e1, e2⟩ := idx15 t
  funext y
  have hb0 : (((cfg0.win 15).blk t).view.emb y 0).val = win0_15.index t (0 : Fin 3) * 8 + 1 * (y 0).val := rfl
  have hb1 : (((cfg0.win 15).blk t).view.emb y 1).val = win0_15.index t (1 : Fin 3) * 128 + 1 * (y 1).val := rfl
  have hb2 : (((cfg0.win 15).blk t).view.emb y 2).val = win0_15.index t (2 : Fin 3) * 1024 + 1 * (y 2).val := rfl
  show outAt (F := Ideal) m c t ((cfg0.win 15).xinj (grid0.coords t) y) = G15 m c (((cfg0.win 15).blk t).view.emb y)
  rw [out_idx m c a]
  unfold G15
  have q0 : bOf t (((cfg0.win 15).xinj (grid0.coords t) y) 0).val (((cfg0.win 15).xinj (grid0.coords t) y) 0).isLt = ((cfg0.win 15).blk t).view.emb y 0 := by
    apply Fin.ext
    show 8 * (t.val / 32) + (y 0).val = (((cfg0.win 15).blk t).view.emb y 0).val
    rw [hb0, e0]; omega
  have q1 : sOf t (((cfg0.win 15).xinj (grid0.coords t) y) 1).val (((cfg0.win 15).xinj (grid0.coords t) y) 1).isLt = ((cfg0.win 15).blk t).view.emb y 1 := by
    apply Fin.ext
    show 128 * (t.val % 32) + (y 1).val = (((cfg0.win 15).blk t).view.emb y 1).val
    rw [hb1, e1]; omega
  have q2 : ((cfg0.win 15).xinj (grid0.coords t) y) 2 = ((cfg0.win 15).blk t).view.emb y 2 := by
    apply Fin.ext
    show (y 2).val = (((cfg0.win 15).blk t).view.emb y 2).val
    rw [hb2, e2]; omega
  rw [q0, q1, q2]

/-- Every place of the array is in some point's block. -/
theorem filled (i : S16x4096x1024.Idx) : ∃ t : Fin cfg0.N, (cfg0.win 15).flush t = true ∧ i ∈ ((cfg0.win 15).blk t).view.set := by
  have hi0 : (i 0).val < 16 := (i 0).isLt
  have hi1 : (i 1).val < 4096 := (i 1).isLt
  have hi2 : (i 2).val < 1024 := (i 2).isLt
  obtain ⟨t, ht⟩ : ∃ t : Fin cfg0.N, t.val = 32 * ((i 0).val / 8) + (i 1).val / 128 := ⟨⟨_, lt_of_lt_of_eq (by omega) N_0.symm⟩, rfl⟩
  refine ⟨t, flush0_15 t, ?_⟩
  show i ∈ ((View.whole main_v111).slice (win0_15.rect t)).set
  rw [View.set_slice_whole, Rect.mem_set_unit]
  obtain ⟨e0, e1, e2⟩ := idx15 t
  intro a
  match a with
  | ⟨0, _⟩ =>
    show win0_15.index t (0 : Fin 3) * 8 ≤ (i 0).val ∧ (i 0).val < win0_15.index t (0 : Fin 3) * 8 + 8
    rw [e0]; omega
  | ⟨1, _⟩ =>
    show win0_15.index t (1 : Fin 3) * 128 ≤ (i 1).val ∧ (i 1).val < win0_15.index t (1 : Fin 3) * 128 + 128
    rw [e1]; omega
  | ⟨2, _⟩ =>
    show win0_15.index t (2 : Fin 3) * 1024 ≤ (i 2).val ∧ (i 2).val < win0_15.index t (2 : Fin 3) * 1024 + 1024
    rw [e2]; omega

/-- Every execution leaves the mixer of the arguments in the result, and the arguments as they were. -/
theorem run_value (a : ∀ c, (args m c).Real) : θ_run defs (onTc (τ := τ) (main (F := Ideal))) ⟨m, fun _ => 0, ρ⟩ fun r => ∀ c : Dev nD,
      r.2.mem ((c.tc : Thread nD τ).loc main_v111) = G15 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run defs _ _).mono (fun r h c => ⟨((h c).1 15).trans ((dats (F := Ideal) m 0 c).arrAt_eq_of_cover 15 _ (fun t hf => wrote m c (a c) t hf) filled),
      ((h c).1 0).trans (((dats (F := Ideal) m 0 c).arrAt_in 0 rfl _).trans ((A_eq (F := Ideal) m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c)⟩)
    (run_main (F := Ideal) m ρ)

end Cert.EvenIdeal.Hand

end
-- ==== Proof.EvenPre.lean ====
/-
  The even mixer's precondition, element by element.
-/
module

public import proofs.«01_k».proof.Pre_finite
public import proofs.«01_k».proof.Proof.EvenHost

@[expose] public section

set_option maxRecDepth 16384

noncomputable section

namespace Cert.EvenIdeal.Hand

open Cert.EvenIdeal Cert.EvenIdeal.Gen Idealize.ShloMosaic Idealize.ShloMosaic.TcCoe
open Trunk

/-- The precondition's shapes. -/
instance preFacts : Cert.Pre_finite.Facts := ⟨by decide, by decide, by decide, by decide, by decide, by decide, by decide⟩

/-- A value whose absolute value is below infinity is a real number. -/
theorem real_of_finite (x : EReal) (h : Ideal.cmp .olt (max x (-x)) (Ideal.ofBits .f32 0x7F800000#32) = 1#1) : Fin' x := by
  have ht : Ideal.ofBits .f32 0x7F800000#32 = ⊤ := by simp [Ideal.ofBits, Ideal.ieee]
  rw [ht] at h
  induction x using EReal.rec with
  | bot => simp [Ideal.cmp] at h
  | top => simp [Ideal.cmp] at h
  | coe r => exact ⟨r, rfl⟩

/-- An array whose absolute values are all below infinity holds real numbers. -/
theorem real_of_all {s : Shape} (v : FVec Ideal s .f32) (hb : Cert.Pre_finite.S_.BroadcastsInDim s (![] : Fin 0 → Fin s.rank))
    (h : cmpf .olt (Host.absf v) (broadcastInDim s ![] hb (constant Cert.Pre_finite.S_ .f32 0x7F800000#32)) = fun _ => 1#1) (i : s.Idx) : Fin' (v i) :=
  real_of_finite (v i) (congrFun h i)

/-- The precondition's verdicts on a memory's arguments. -/
def verdicts (m : (ℓ : Loc nD τ sig) → Buf (Elt Ideal) ℓ) (c : Dev nD) :=
  Cert.Pre_finite.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))

/-- The precondition makes the arguments of the recurrence real numbers. -/
theorem real_args (m : (ℓ : Loc nD τ sig) → Buf (Elt Ideal) ℓ) (c : Dev nD)
    (hp : (verdicts m c).1 = (fun _ => 1#1)
    ∧ (verdicts m c).2.1 = (fun _ => 1#1)
    ∧ (verdicts m c).2.2.1 = (fun _ => 1#1)
    ∧ (verdicts m c).2.2.2.1 = (fun _ => 1#1)
    ∧ (verdicts m c).2.2.2.2.1 = (fun _ => 1#1)
    ∧ (verdicts m c).2.2.2.2.2.1 = (fun _ => 1#1)
    ∧ (verdicts m c).2.2.2.2.2.2.1 = (fun _ => 1#1)
    ∧ (verdicts m c).2.2.2.2.2.2.2.1 = (fun _ => 1#1)
    ∧ (verdicts m c).2.2.2.2.2.2.2.2.1 = (fun _ => 1#1)
    ∧ (verdicts m c).2.2.2.2.2.2.2.2.2 = (fun _ => 1#1)) : (args m c).Real := by
  obtain ⟨h0, h1, h2, h4, h5, h6, h7, h8, h9, h10⟩ := hp
  exact ⟨fun b s k => real_of_all (m ((c.tc : Thread nD τ).loc main_arg0)) _ h0 (ix3 b s k),
    fun k => real_of_all (m ((c.tc : Thread nD τ).loc main_arg1)) _ h1 (ix1 k),
    fun k f => real_of_all (m ((c.tc : Thread nD τ).loc main_arg2)) _ h2 (ix2 k f),
    fun g p => real_of_all (m ((c.tc : Thread nD τ).loc main_arg4)) _ h4 (ix2 g p),
    fun g p => real_of_all (m ((c.tc : Thread nD τ).loc main_arg5)) _ h5 (ix2 g p),
    fun g => real_of_all (m ((c.tc : Thread nD τ).loc main_arg6)) _ h6 (ix1 g),
    fun g p h => real_of_all (m ((c.tc : Thread nD τ).loc main_arg7)) _ h7 (ix3 g p h),
    fun g p h => real_of_all (m ((c.tc : Thread nD τ).loc main_arg8)) _ h8 (ix3 g p h),
    fun g h p => real_of_all (m ((c.tc : Thread nD τ).loc main_arg9)) _ h9 (ix3 g h p),
    fun g h p => real_of_all (m ((c.tc : Thread nD τ).loc main_arg10)) _ h10 (ix3 g h p)⟩

end Cert.EvenIdeal.Hand

end
-- ==== Proof.EvenRefVal.lean ====
/-
  The even mixer's reference after its time loop, at an element.
-/
module

public import proofs.«01_k».proof.Proof.EvenSsm
public import proofs.«01_k».proof.Proof.EvenRef
public import Idealize.ShloMosaic.Lib.StableHlo.ReadAt
public import Idealize.ShloMosaic.Lib.Pipeline.ValueKit.Point

@[expose] public section

set_option maxRecDepth 16384

noncomputable section

namespace Cert.EvenRefIdeal.Hand

open Idealize.ShloMosaic Idealize.ShloMosaic.TcCoe Idealize.ShloMosaic.StableHlo Idealize.ShloMosaic.Tactic
open Cert.EvenRefIdeal Cert.EvenRefIdeal.Gen Cert.EvenRefIdeal.Value
open Trunk

/-- The arguments by their coordinates. -/
def rargs (X : Valuation τ sig (Elt Ideal)) : EvenArgs where
  x b s k := X (Proc.devRef .tc main_arg0) (ix3 b s k)
  g k := X (Proc.devRef .tc main_arg1) (ix1 k)
  wi k f := X (Proc.devRef .tc main_arg2) (ix2 k f)
  wo k f := X (Proc.devRef .tc main_arg3) (ix2 k f)
  lr g p := X (Proc.devRef .tc main_arg4) (ix2 g p)
  li g p := X (Proc.devRef .tc main_arg5) (ix2 g p)
  dt g := X (Proc.devRef .tc main_arg6) (ix1 g)
  br g p h := X (Proc.devRef .tc main_arg7) (ix3 g p h)
  bi g p h := X (Proc.devRef .tc main_arg8) (ix3 g p h)
  cr g h p := X (Proc.devRef .tc main_arg9) (ix3 g h p)
  ci g h p := X (Proc.devRef .tc main_arg10) (ix3 g h p)
  dd f := X (Proc.devRef .tc main_arg11) (ix1 f)
  wg k f := X (Proc.devRef .tc main_arg12) (ix2 k f)
  bg f := X (Proc.devRef .tc main_arg13) (ix1 f)
  ws h t s := X (Proc.devRef .tc main_arg14) (ix3 h t s)
  bs h t := X (Proc.devRef .tc main_arg15) (ix2 h t)
  gv j := X (Proc.devRef .tc main_arg16) (ix1 j)

/-- The buffers the stretches after the loop read: the stored states' two parts, the projection, its first columns. -/
def S7 (X : Valuation τ sig (Elt Ideal)) (s : Fin 4096) (b g : Fin 16) (p : Fin 64) : EReal := X (Proc.devRef .tc main_v65_7) (ix4 s b g p)
def S8 (X : Valuation τ sig (Elt Ideal)) (s : Fin 4096) (b g : Fin 16) (p : Fin 64) : EReal := X (Proc.devRef .tc main_v65_8) (ix4 s b g p)
def P13 (X : Valuation τ sig (Elt Ideal)) (b : Fin 16) (s : Fin 4096) (f : Fin 1792) : EReal := X (Proc.devRef .tc main_v13) (ix3 b s f)
def P15 (X : Valuation τ sig (Elt Ideal)) (b : Fin 16) (s : Fin 4096) (g h : Fin 16) : EReal := X (Proc.devRef .tc main_v15) (ix4 b s g h)

/-- The read-out with the skip, of those. -/
def yOf (X : Valuation τ sig (Elt Ideal)) (b : Fin 16) (s : Fin 4096) (f : Fin 256) : EReal :=
  ((∑ p : Fin 64, (rargs X).cr ⟨f.val / 16, by omega⟩ ⟨f.val % 16, by omega⟩ p * S7 X s b ⟨f.val / 16, by omega⟩ p)
    - ∑ p : Fin 64, (rargs X).ci ⟨f.val / 16, by omega⟩ ⟨f.val % 16, by omega⟩ p * S8 X s b ⟨f.val / 16, by omega⟩ p)
    + (rargs X).dd ⟨f.val / 16 * 16 + f.val % 16, by omega⟩ * P15 X b s ⟨f.val / 16, by omega⟩ ⟨f.val % 16, by omega⟩

/-- The gelu with its cube grouped the other way. -/
def gelu2 (v : EReal) : EReal :=
  v * (Ideal.ofBits .f32 0x3F000000#32 * (1
    + Ideal.tanh (Ideal.ofBits .f32 0x3F4C422A#32 * (v + Ideal.ofBits .f32 0x3D372713#32 * ((v * v) * v)))))
theorem gelu2_eq (v : EReal) : gelu2 v = gelu v := by
  unfold gelu2 gelu
  rw [mul_assoc v v v]

theorem read_v91 (X : Valuation τ sig (Elt Ideal)) (b : Fin 16) (s : Fin 4096) (f : Fin 256) :
    after (hostOps0_1 (F := Ideal)) X (Proc.devRef .tc main_v91) (ix3 b s f) = gelu2 (yOf X b s f) := by
  after_reads_at
  rfl

/-- The state-space half of a mixed row. -/
theorem read_v102 (X : Valuation τ sig (Elt Ideal)) (b : Fin 16) (s : Fin 4096) (f : Fin 256) :
    after (hostOps0_1 (F := Ideal)) X (Proc.devRef .tc main_v102) (ix3 b s f)
      = gelu2 (yOf X b s f) * Ideal.logistic ((∑ k : Fin 256, gelu2 (yOf X b s k) * (rargs X).wg k f) + (rargs X).bg f) := by
  after_reads_at
  rfl

/-- The gate of the gated half. -/
theorem read_v117 (X : Valuation τ sig (Elt Ideal)) (b : Fin 16) (s : Fin 4096) (j : Fin 768) :
    after (hostOps0_1 (F := Ideal)) X (Proc.devRef .tc main_v117) (ix3 b s j) = gelu2 (P13 X b s ⟨256 + j.val, by omega⟩) := by
  after_reads_at
  rfl

/-- The gated rows, normalized. -/
theorem read_v132 (X : Valuation τ sig (Elt Ideal)) (b : Fin 16) (c : Fin 32) (k : Fin 128) (h : Fin 6) (j : Fin 128) :
    after (hostOps0_1 (F := Ideal)) X (Proc.devRef .tc main_v132) (ix5 b c k h j)
      = rms768 (fun j => gelu2 (P13 X b ⟨c.val * 128 + k.val, by omega⟩ ⟨256 + (768 + j.val), by omega⟩)) (rargs X).gv ⟨h.val * 128 + j.val, by omega⟩ := by
  after_reads_at
  rfl

theorem read_v133 (X : Valuation τ sig (Elt Ideal)) (i j : Fin 128) :
    after (hostOps0_1 (F := Ideal)) X (Proc.devRef .tc main_v133) (ix2 i j) = (1#1 : BitVec 1) := by
  after_reads_at
theorem read_arg0 (X : Valuation τ sig (Elt Ideal)) (b : Fin 16) (s : Fin 4096) (k : Fin 1024) :
    after (hostOps0_1 (F := Ideal)) X (Proc.devRef .tc main_arg0) (ix3 b s k) = (rargs X).x b s k := by
  after_reads_at
  rfl
theorem read_arg3 (X : Valuation τ sig (Elt Ideal)) (k d : Fin 1024) :
    after (hostOps0_1 (F := Ideal)) X (Proc.devRef .tc main_arg3) (ix2 k d) = (rargs X).wo k d := by
  after_reads_at
  rfl
theorem read_arg14 (X : Valuation τ sig (Elt Ideal)) (h : Fin 6) (t k : Fin 128) :
    after (hostOps0_1 (F := Ideal)) X (Proc.devRef .tc main_arg14) (ix3 h t k) = (rargs X).ws h t k := by
  after_reads_at
  rfl
theorem read_arg15 (X : Valuation τ sig (Elt Ideal)) (h : Fin 6) (t : Fin 128) :
    after (hostOps0_1 (F := Ideal)) X (Proc.devRef .tc main_arg15) (ix2 h t) = (rargs X).bs h t := by
  after_reads_at
  rfl

/-- Typed readings of the buffers the last stretch takes. -/
def F102 (Y : Valuation τ sig (Elt Ideal)) (b : Fin 16) (s : Fin 4096) (f : Fin 256) : EReal := Y (Proc.devRef .tc main_v102) (ix3 b s f)
def F117 (Y : Valuation τ sig (Elt Ideal)) (b : Fin 16) (s : Fin 4096) (j : Fin 768) : EReal := Y (Proc.devRef .tc main_v117) (ix3 b s j)
def F132 (Y : Valuation τ sig (Elt Ideal)) (b : Fin 16) (c : Fin 32) (k : Fin 128) (h : Fin 6) (j : Fin 128) : EReal :=
  Y (Proc.devRef .tc main_v132) (ix5 b c k h j)

/-- A causal weight as the reference selects it. -/
theorem causal (w : EReal) (t k : Fin 128) :
    Scalar.select (Scalar.select (IntOp.cmpi CmpIPredicate.sge (IntOp.addi (BitVec.ofNat 32 t.val) 0#32) (BitVec.ofNat 32 k.val)) 1#1 0#1) w (FloatOps.sitofp (F := Ideal) .f32 (0#32 : BitVec 32))
      = if k.val ≤ t.val then w else 0 := by
  rw [zero_word]
  have hm : ∀ t s : Fin 128, Scalar.select (IntOp.cmpi CmpIPredicate.sge (IntOp.addi (BitVec.ofNat 32 t.val) 0#32) (BitVec.ofNat 32 s.val)) 1#1 0#1
      = if s.val ≤ t.val then 1#1 else 0#1 := by decide +kernel
  rw [hm]
  by_cases hst : k.val ≤ t.val
  · rw [if_pos hst, if_pos hst]; rfl
  · rw [if_neg hst, if_neg hst]; rfl

/-- The valuation past the two calls, read at the parts the last stretch takes. -/
theorem keep_v102 (Y : Valuation τ sig (Elt Ideal)) (b : Fin 16) (s : Fin 4096) (f : Fin 256) :
    upto (hostOps0_5 (F := Ideal)) (after hostOps0_4 (after hostOps0_3 (after hostOps0_2 Y))) 8 (Proc.devRef .tc main_v102) (ix3 b s f)
      = F102 Y b s f := by
  after_reads_at
  rfl
theorem keep_v143 (Y : Valuation τ sig (Elt Ideal)) (hm : ∀ i j : Fin 128, Y (Proc.devRef .tc main_v133) (ix2 i j) = (1#1 : BitVec 1)) (b : Fin 16) (s : Fin 4096) (j : Fin 768) :
    upto (hostOps0_5 (F := Ideal)) (after hostOps0_4 (after hostOps0_3 (after hostOps0_2 Y))) 8 (Proc.devRef .tc main_v143) (ix3 b s j)
      = F117 Y b s j * ((∑ k : Fin 128, F132 Y b ⟨s.val / 128, by omega⟩ k ⟨j.val / 128, by omega⟩ ⟨j.val % 128, by omega⟩
          * (if k.val ≤ s.val % 128 then (rargs Y).ws ⟨j.val / 128, by omega⟩ ⟨s.val % 128, by omega⟩ k else 0))
        + (rargs Y).bs ⟨j.val / 128, by omega⟩ ⟨s.val % 128, by omega⟩) := by
  after_reads_at
  refine congrArg₂ (fun a b : EReal => a * b) rfl (congrArg₂ (fun a b : EReal => a + b) (Finset.sum_congr rfl fun k _ => congrArg₂ (fun a b : EReal => a * b) rfl ?_) rfl)
  rw [hm]
  exact causal _ ⟨s.val % 128, by omega⟩ k

theorem read_v146 (Y : Valuation τ sig (Elt Ideal)) (b : Fin 16) (s : Fin 4096) (d : Fin 1024) (a : Fin 256 → EReal) (q : Fin 768 → EReal)
    (ha : ∀ f : Fin 256, upto (hostOps0_5 (F := Ideal)) (after hostOps0_4 (after hostOps0_3 (after hostOps0_2 Y))) 8 (Proc.devRef .tc main_v102) (ix3 b s f) = a f)
    (hq : ∀ j : Fin 768, upto (hostOps0_5 (F := Ideal)) (after hostOps0_4 (after hostOps0_3 (after hostOps0_2 Y))) 8 (Proc.devRef .tc main_v143) (ix3 b s j) = q j) :
    after (hostOps0_5 (F := Ideal)) (after hostOps0_4 (after hostOps0_3 (after hostOps0_2 Y))) (Proc.devRef .tc main_v146) (ix3 b s d)
      = (rargs Y).x b s d + ((∑ f : Fin 256, a f * (rargs Y).wo ⟨f.val, by omega⟩ d) + ∑ j : Fin 768, q j * (rargs Y).wo ⟨256 + j.val, by omega⟩ d) := by
  after_reads_at
  exact congrArg₂ (fun a b : EReal => a + b) rfl (congrArg₂ (fun a b : EReal => a + b)
    (Finset.sum_congr rfl fun f _ => congrArg₂ (fun a b : EReal => a * b) (ha f) rfl)
    (Finset.sum_congr rfl fun j _ => congrArg₂ (fun a b : EReal => a * b) (hq j) rfl))

/-- The gated half of a mixed row, of the projection. -/
def gmOf (X : Valuation τ sig (Elt Ideal)) (b : Fin 16) (s : Fin 4096) (j : Fin 768) : EReal :=
  ugRow (P13 X b s) j * ((∑ k : Fin 128, (rargs X).wm ⟨j.val / 128, by omega⟩ ⟨s.val % 128, by omega⟩ k * vRow (P13 X b ⟨128 * (s.val / 128) + k.val, by omega⟩) (rargs X).gv j)
    + (rargs X).bs ⟨j.val / 128, by omega⟩ ⟨s.val % 128, by omega⟩)

/-- A sum over 1024 columns in its first 256 and its last 768. -/
theorem two_halves (a : Fin 256 → EReal) (q : Fin 768 → EReal) (w : Fin 1024 → EReal) :
    ∑ j : Fin 1024, (if h : j.val < 256 then a ⟨j.val, h⟩ else q ⟨j.val - 256, by omega⟩) * w j
      = (∑ f : Fin 256, a f * w ⟨f.val, by omega⟩) + ∑ j : Fin 768, q j * w ⟨256 + j.val, by omega⟩ := by
  refine (Fin.sum_univ_add (a := 256) (b := 768) (fun j : Fin 1024 => (if h : j.val < 256 then a ⟨j.val, h⟩ else q ⟨j.val - 256, by omega⟩) * w j)).trans
    (congrArg₂ (fun a b : EReal => a + b) (Finset.sum_congr rfl fun f _ => congrArg₂ (fun a b : EReal => a * b) ?_ rfl) (Finset.sum_congr rfl fun j _ => congrArg₂ (fun a b : EReal => a * b) ?_ rfl))
  · exact dif_pos f.isLt
  · refine (dif_neg (show ¬ 256 + j.val < 256 by omega)).trans (congrArg q (Fin.ext ?_))
    show 256 + j.val - 256 = j.val
    omega

/-- The stretches after the loop leave the mixed row's projection, plus the input, in the result. -/
theorem tail_value (X : Valuation τ sig (Elt Ideal)) (b : Fin 16) (s : Fin 4096) (d : Fin 1024) :
    afterL (postI (F := Ideal)) X (Proc.devRef .tc main_v146) (ix3 b s d)
      = evenRow ((rargs X).x b s) (glu (yOf X b s) (rargs X).wg (rargs X).bg) (gmOf X b s) (rargs X).wo d := by
  simp only [postI, afterL_cons, afterL_nil]
  unfold evenRow
  rw [two_halves]
  refine (read_v146 _ b s d _ _ (keep_v102 _ b s) (keep_v143 _ (read_v133 X) b s)).trans ?_
  refine congrArg₂ (fun a b : EReal => a + b) (read_arg0 X b s d) (congrArg₂ (fun a b : EReal => a + b)
    (Finset.sum_congr rfl fun f _ => congrArg₂ (fun a b : EReal => a * b) ?_ (read_arg3 X _ d))
    (Finset.sum_congr rfl fun j _ => congrArg₂ (fun a b : EReal => a * b) ?_ (read_arg3 X _ d)))
  · refine (read_v102 X b s f).trans ?_
    simp only [gelu2_eq]
    rfl
  · unfold gmOf
    refine congrArg₂ (fun a b : EReal => a * b) ((read_v117 X b s j).trans (gelu2_eq _)) (congrArg₂ (fun a b : EReal => a + b)
      (Finset.sum_congr rfl fun k _ => (mul_comm _ _).trans (congrArg₂ (fun a b : EReal => a * b) ?_ ?_)) (read_arg15 X _ _))
    · exact congrArg (fun w : EReal => if k.val ≤ s.val % 128 then w else 0) (read_arg14 X _ _ k)
    · refine (read_v132 X b _ k _ _).trans ?_
      simp only [gelu2_eq]
      have e1 : s.val / 128 * 128 + k.val = 128 * (s.val / 128) + k.val := by omega
      have e2 : j.val / 128 * 128 + j.val % 128 = j.val := by omega
      simp only [e1, e2]
      rfl

end Cert.EvenRefIdeal.Hand

end
-- ==== Proof.EvenRefLoop.lean ====
/-
  The even mixer's reference's time loop, at an element: the states are the recurrence, the stacks its past states.
-/
module

public import proofs.«01_k».proof.Proof.EvenRefVal
public import Idealize.ShloMosaic.Lib.WordCmp

@[expose] public section

set_option maxRecDepth 16384

noncomputable section

namespace Cert.EvenRefIdeal.Hand

open Idealize.ShloMosaic Idealize.ShloMosaic.TcCoe Idealize.ShloMosaic.StableHlo Idealize.ShloMosaic.Tactic Idealize.ShloMosaic.WordCmp
open Cert.EvenRefIdeal Cert.EvenRefIdeal.Gen Cert.EvenRefIdeal.Value
open Trunk

/-- The start of a trip's slice: the trip's number, then zeros. -/
abbrev start (n : (⟨S_, .i32⟩ : BufTy).Contents (Elt Ideal)) : Fin 4 → Int :=
  fun k => (((![n, constantI S_ 32 0#32, constantI S_ 32 0#32, constantI S_ 32 0#32] : Fin 4 → (⟨S_, .i32⟩ : BufTy).Contents (Elt Ideal))) k (Shape.Idx.first h_S_)).toInt

theorem start_eq (k : ℕ) (hk : k < 4096) (a : Fin 4) : start (fun _ => BitVec.ofNat 32 k) a = ((![k, 0, 0, 0] : Fin 4 → ℕ) a : Int) := by
  match a with
  | ⟨0, _⟩ => exact toInt_ofNat_of_lt (w := 32) (by show k < 2147483648; omega)
  | ⟨1, _⟩ => rfl
  | ⟨2, _⟩ => rfl
  | ⟨3, _⟩ => rfl

theorem fits (k : ℕ) (hk : k < 4096) : S4096x16x16x64.Slices (![k, 0, 0, 0] : Fin 4 → ℕ) S1x16x16x64 := by
  refine ⟨rfl, fun a => ?_⟩
  match a with
  | ⟨0, _⟩ => show k + 1 ≤ 4096; omega
  | ⟨1, _⟩ => show 0 + 16 ≤ 16; omega
  | ⟨2, _⟩ => show 0 + 16 ≤ 16; omega
  | ⟨3, _⟩ => show 0 + 64 ≤ 64; omega

/-- A trip's slice of the drives. -/
theorem slice_apply (x : FVec Ideal S4096x16x16x64 .f32) (k : ℕ) (hk : k < 4096) (b g : Fin 16) (p : Fin 64) :
    shapeCast S16x16x64 (Host.dynamicSlice S1x16x16x64 x (start (fun _ => BitVec.ofNat 32 k)) sliceFits_S4096x16x16x64_S1x16x16x64) shapeCasts_S1x16x16x64_S16x16x64 (ix3 b g p)
      = x (ix4 ⟨k, hk⟩ b g p) := by
  rw [dynamicSlice_eq_extract S1x16x16x64 x _ _ (![k, 0, 0, 0]) (fits k hk) (start_eq k hk)]
  pointwise

/-- A trip's update of a stack. -/
theorem bcast1_apply (u : FVec Ideal S16x16x64 .f32) (b g : Fin 16) (p : Fin 64) :
    broadcastInDim S1x16x16x64 ![1, 2, 3] bcast_S16x16x64_S1x16x16x64_1_2_3 u (ix4 0 b g p) = u (ix3 b g p) := by
  pointwise
theorem stack_apply (x : FVec Ideal S4096x16x16x64 .f32) (u : FVec Ideal S16x16x64 .f32) (k : ℕ) (hk : k < 4096) (s : Fin 4096) (b g : Fin 16) (p : Fin 64) :
    Host.dynamicUpdateSlice x (broadcastInDim S1x16x16x64 ![1, 2, 3] bcast_S16x16x64_S1x16x16x64_1_2_3 u) (start (fun _ => BitVec.ofNat 32 k)) updateFits_S4096x16x16x64_S1x16x16x64 (ix4 s b g p)
      = if s.val = k then u (ix3 b g p) else x (ix4 s b g p) := by
  rw [dynamicUpdateSlice_eq_update x _ _ _ (![k, 0, 0, 0]) (fits k hk) (start_eq k hk)]
  unfold updateSlice
  by_cases h : s.val = k
  · have hin : ∀ a : Fin 4, (![k, 0, 0, 0] : Fin 4 → ℕ) a ≤ ((ix4 s b g p : S4096x16x16x64.Idx) a).val
        ∧ ((ix4 s b g p : S4096x16x16x64.Idx) a).val < (![k, 0, 0, 0] : Fin 4 → ℕ) a + S1x16x16x64.size a := by
      intro a
      match a with
      | ⟨0, _⟩ => show k ≤ s.val ∧ s.val < k + 1; omega
      | ⟨1, _⟩ => show 0 ≤ b.val ∧ b.val < 0 + 16; omega
      | ⟨2, _⟩ => show 0 ≤ g.val ∧ g.val < 0 + 16; omega
      | ⟨3, _⟩ => show 0 ≤ p.val ∧ p.val < 0 + 64; omega
    rw [if_pos h]
    refine (dif_pos hin).trans ?_
    refine (congrArg (broadcastInDim S1x16x16x64 ![1, 2, 3] bcast_S16x16x64_S1x16x16x64_1_2_3 u) (a₂ := ix4 0 b g p) (funext fun a => ?_)).trans (bcast1_apply u b g p)
    match a with
    | ⟨0, _⟩ => exact Fin.ext (by show s.val - k = 0; omega)
    | ⟨1, _⟩ => rfl
    | ⟨2, _⟩ => rfl
    | ⟨3, _⟩ => rfl
  · rw [if_neg h]
    exact dif_neg (fun hin => h (by
      have h0 : k ≤ s.val ∧ s.val < k + 1 := hin 0
      omega))

/-- Typed readings of the loop's carried buffers: the drives, the multiplier, the states. -/
def D0 (X : Valuation τ sig (Elt Ideal)) (s : Fin 4096) (b g : Fin 16) (p : Fin 64) : EReal := X (Proc.devRef .tc main_v65_0) (ix4 s b g p)
def D1 (X : Valuation τ sig (Elt Ideal)) (s : Fin 4096) (b g : Fin 16) (p : Fin 64) : EReal := X (Proc.devRef .tc main_v65_1) (ix4 s b g p)
def A2 (X : Valuation τ sig (Elt Ideal)) (g : Fin 16) (p : Fin 64) : EReal := X (Proc.devRef .tc main_v65_2) (ix2 g p)
def A3 (X : Valuation τ sig (Elt Ideal)) (g : Fin 16) (p : Fin 64) : EReal := X (Proc.devRef .tc main_v65_3) (ix2 g p)
def H5 (X : Valuation τ sig (Elt Ideal)) (b g : Fin 16) (p : Fin 64) : EReal := X (Proc.devRef .tc main_v65_5) (ix3 b g p)
def H6 (X : Valuation τ sig (Elt Ideal)) (b g : Fin 16) (p : Fin 64) : EReal := X (Proc.devRef .tc main_v65_6) (ix3 b g p)

/-- A channel's multiplier over the batch. -/
theorem over_apply (v : FVec Ideal S16x64 .f32) (b g : Fin 16) (p : Fin 64) :
    broadcastInDim S16x16x64 ![0, 1, 2] bcast_S1x16x64_S16x16x64_0_1_2 (broadcastInDim S1x16x64 ![1, 2] bcast_S16x64_S1x16x64_1_2 v) (ix3 b g p) = v (ix2 g p) := by
  pointwise

section Trip
variable (X : Valuation τ sig (Elt Ideal)) (k : ℕ) (hk : k < 4096) (hn : X (Proc.devRef .tc main_v65_4) = fun _ => BitVec.ofNat 32 k)
include hk hn

/-- The state's real part after a trip. -/
theorem trip_re (b g : Fin 16) (p : Fin 64) : res_main_while0b_v156 X (ix3 b g p) = A2 X g p * H5 X b g p - A3 X g p * H6 X b g p + D0 X ⟨k, hk⟩ b g p := by
  unfold res_main_while0b_v156
  rw [hn]
  refine congrArg₂ (fun a b : EReal => a + b) ?_ (slice_apply _ k hk b g p)
  exact congrArg₂ (fun a b : EReal => a - b) (congrArg (fun a : EReal => a * _) (over_apply _ b g p)) (congrArg (fun a : EReal => a * _) (over_apply _ b g p))
/-- Its imaginary part. -/
theorem trip_im (b g : Fin 16) (p : Fin 64) : res_main_while0b_v164 X (ix3 b g p) = A2 X g p * H6 X b g p + A3 X g p * H5 X b g p + D1 X ⟨k, hk⟩ b g p := by
  unfold res_main_while0b_v164
  rw [hn]
  refine congrArg₂ (fun a b : EReal => a + b) ?_ (slice_apply _ k hk b g p)
  exact congrArg₂ (fun a b : EReal => a + b) (congrArg (fun a : EReal => a * _) (over_apply _ b g p)) (congrArg (fun a : EReal => a * _) (over_apply _ b g p))

theorem step_H5 (b g : Fin 16) (p : Fin 64) : H5 (STEP X) b g p = A2 X g p * H5 X b g p - A3 X g p * H6 X b g p + D0 X ⟨k, hk⟩ b g p := by
  unfold H5
  rw [STEP_main_v65_5]
  exact trip_re X k hk hn b g p
theorem step_H6 (b g : Fin 16) (p : Fin 64) : H6 (STEP X) b g p = A2 X g p * H6 X b g p + A3 X g p * H5 X b g p + D1 X ⟨k, hk⟩ b g p := by
  unfold H6
  rw [STEP_main_v65_6]
  exact trip_im X k hk hn b g p
theorem step_S7 (s : Fin 4096) (b g : Fin 16) (p : Fin 64) : S7 (STEP X) s b g p = if s.val = k then H5 (STEP X) b g p else S7 X s b g p := by
  unfold S7 H5
  rw [STEP_main_v65_7, STEP_main_v65_5]
  unfold step_main_v65_7 step_main_v65_5
  rw [hn]
  exact stack_apply _ _ k hk s b g p
theorem step_S8 (s : Fin 4096) (b g : Fin 16) (p : Fin 64) : S8 (STEP X) s b g p = if s.val = k then H6 (STEP X) b g p else S8 X s b g p := by
  unfold S8 H6
  rw [STEP_main_v65_8, STEP_main_v65_6]
  unfold step_main_v65_8 step_main_v65_6
  rw [hn]
  exact stack_apply _ _ k hk s b g p
theorem step_ctr : STEP X (Proc.devRef .tc main_v65_4) = fun _ => BitVec.ofNat 32 (k + 1) := by
  rw [STEP_main_v65_4]
  unfold step_main_v65_4
  rw [hn]
  funext i
  show BitVec.ofNat 32 k + 1#32 = _
  rw [BitVec.ofNat_add]
end Trip

/-- The recurrence the loop runs, of its entry. -/
def rc (X : Valuation τ sig (Elt Ideal)) (b g : Fin 16) (p : Fin 64) : ℕ → EReal × EReal :=
  recur (A2 X g p) (A3 X g p) (fun i => if h : i < 4096 then D0 X ⟨i, h⟩ b g p else 0) (fun i => if h : i < 4096 then D1 X ⟨i, h⟩ b g p else 0) (H5 X b g p, H6 X b g p)

/-- What the loop holds after `k` trips. -/
structure After (E X : Valuation τ sig (Elt Ideal)) (k : ℕ) : Prop where
  ctr : X (Proc.devRef .tc main_v65_4) = fun _ => BitVec.ofNat 32 k
  d0 : D0 X = D0 E
  d1 : D1 X = D1 E
  a2 : A2 X = A2 E
  a3 : A3 X = A3 E
  re : ∀ b g p, H5 X b g p = (rc E b g p k).1
  im : ∀ b g p, H6 X b g p = (rc E b g p k).2
  s7 : ∀ (s : Fin 4096) b g p, s.val < k → S7 X s b g p = (rc E b g p (s.val + 1)).1
  s8 : ∀ (s : Fin 4096) b g p, s.val < k → S8 X s b g p = (rc E b g p (s.val + 1)).2

theorem after_step (E X : Valuation τ sig (Elt Ideal)) (k : ℕ) (hk : k < 4096) (h : After E X k) : After E (STEP X) (k + 1) := by
  have hre : ∀ b g p, H5 (STEP X) b g p = (rc E b g p (k + 1)).1 := by
    intro b g p
    rw [step_H5 X k hk h.ctr, h.a2, h.a3, h.d0, h.re, h.im]
    show _ = _ + (if h : k < 4096 then D0 E ⟨k, h⟩ b g p else 0)
    rw [dif_pos hk]
    rfl
  have him : ∀ b g p, H6 (STEP X) b g p = (rc E b g p (k + 1)).2 := by
    intro b g p
    rw [step_H6 X k hk h.ctr, h.a2, h.a3, h.d1, h.re, h.im]
    show _ = _ + (if h : k < 4096 then D1 E ⟨k, h⟩ b g p else 0)
    rw [dif_pos hk]
    rfl
  refine ⟨step_ctr X k hk h.ctr, ?_, ?_, ?_, ?_, hre, him, ?_, ?_⟩
  · rw [← h.d0]; unfold D0; rw [STEP_main_v65_0]
  · rw [← h.d1]; unfold D1; rw [STEP_main_v65_1]
  · rw [← h.a2]; unfold A2; rw [STEP_main_v65_2]
  · rw [← h.a3]; unfold A3; rw [STEP_main_v65_3]
  · intro s b g p hs
    rw [step_S7 X k hk h.ctr]
    by_cases e : s.val = k
    · rw [if_pos e, hre, e]
    · rw [if_neg e]; exact h.s7 s b g p (by omega)
  · intro s b g p hs
    rw [step_S8 X k hk h.ctr]
    by_cases e : s.val = k
    · rw [if_pos e, him, e]
    · rw [if_neg e]; exact h.s8 s b g p (by omega)

theorem after_loop (E : Valuation τ sig (Elt Ideal)) (h0 : E (Proc.devRef .tc main_v65_4) = fun _ => BitVec.ofNat 32 0) : ∀ k, k ≤ 4096 → After E (STEP^[k] E) k
  | 0, _ => ⟨h0, rfl, rfl, rfl, rfl, fun _ _ _ => rfl, fun _ _ _ => rfl, fun s _ _ _ h => absurd h (Nat.not_lt_zero _), fun s _ _ _ h => absurd h (Nat.not_lt_zero _)⟩
  | k + 1, hk => by
    rw [Function.iterate_succ_apply']
    exact after_step E _ k (by omega) (after_loop E h0 k (by omega))

end Cert.EvenRefIdeal.Hand

end
-- ==== Proof.EvenRefEntry.lean ====
/-
  The even mixer's reference before its time loop, at an element.
-/
module

public import proofs.«01_k».proof.Proof.EvenRefVal

@[expose] public section

set_option maxRecDepth 16384

noncomputable section

namespace Cert.EvenRefIdeal.Hand

open Idealize.ShloMosaic Idealize.ShloMosaic.TcCoe Idealize.ShloMosaic.StableHlo Idealize.ShloMosaic.Tactic
open Cert.EvenRefIdeal Cert.EvenRefIdeal.Gen Cert.EvenRefIdeal.Value
open Trunk

variable (X : Valuation τ sig (Elt Ideal))

/-- The projected rows. -/
theorem entry_v13 (b : Fin 16) (s : Fin 4096) (f : Fin 1792) :
    after (hostOps0 (F := Ideal)) X (Proc.devRef .tc main_v13) (ix3 b s f) = (rargs X).u b s f := by
  after_reads_at
  rfl
theorem entry_v15 (b : Fin 16) (s : Fin 4096) (g h : Fin 16) :
    after (hostOps0 (F := Ideal)) X (Proc.devRef .tc main_v15) (ix4 b s g h) = (rargs X).u b s ⟨16 * g.val + h.val, by omega⟩ := by
  after_reads_at
  refine Eq.trans (b := (rargs X).u b s ⟨g.val * 16 + h.val, by omega⟩) rfl (congrArg ((rargs X).u b s) (Fin.ext ?_))
  show g.val * 16 + h.val = 16 * g.val + h.val
  omega

/-- The discretized transition. -/
theorem entry_re (g : Fin 16) (p : Fin 64) :
    after (hostOps0 (F := Ideal)) X (Proc.devRef .tc main_v65_2) (ix2 g p) = (rargs X).abRe g p := by
  after_reads_at
  simp only [id_eq]
  pointwise
  rfl
theorem entry_im (g : Fin 16) (p : Fin 64) :
    after (hostOps0 (F := Ideal)) X (Proc.devRef .tc main_v65_3) (ix2 g p) = (rargs X).abIm g p := by
  after_reads_at
  simp only [id_eq]
  pointwise
  rfl
/-- The starting states. -/
theorem entry_h5 (b g : Fin 16) (p : Fin 64) :
    after (hostOps0 (F := Ideal)) X (Proc.devRef .tc main_v65_5) (ix3 b g p) = (0 : EReal) := by
  after_reads_at
  simp only [id_eq]
  pointwise
theorem entry_h6 (b g : Fin 16) (p : Fin 64) :
    after (hostOps0 (F := Ideal)) X (Proc.devRef .tc main_v65_6) (ix3 b g p) = (0 : EReal) := by
  after_reads_at
  simp only [id_eq]
  pointwise

/-- The drives. -/
theorem entry_d0 (s : Fin 4096) (b g : Fin 16) (p : Fin 64) :
    after (hostOps0 (F := Ideal)) X (Proc.devRef .tc main_v65_0) (ix4 s b g p)
      = ∑ k : Fin 16, (rargs X).bbRe g p k * (rargs X).u b s ⟨16 * g.val + k.val, by omega⟩ := by
  after_reads_at
  simp only [id_eq]
  pointwise
  refine Finset.sum_congr rfl fun k _ => congrArg₂ (fun a b : EReal => a * b) rfl ?_
  refine Eq.trans (b := (rargs X).u b s ⟨g.val * 16 + k.val, by omega⟩) rfl (congrArg ((rargs X).u b s) (Fin.ext ?_))
  show g.val * 16 + k.val = 16 * g.val + k.val
  omega
theorem entry_d1 (s : Fin 4096) (b g : Fin 16) (p : Fin 64) :
    after (hostOps0 (F := Ideal)) X (Proc.devRef .tc main_v65_1) (ix4 s b g p)
      = ∑ k : Fin 16, (rargs X).bbIm g p k * (rargs X).u b s ⟨16 * g.val + k.val, by omega⟩ := by
  after_reads_at
  simp only [id_eq]
  pointwise
  refine Finset.sum_congr rfl fun k _ => congrArg₂ (fun a b : EReal => a * b) rfl ?_
  refine Eq.trans (b := (rargs X).u b s ⟨g.val * 16 + k.val, by omega⟩) rfl (congrArg ((rargs X).u b s) (Fin.ext ?_))
  show g.val * 16 + k.val = 16 * g.val + k.val
  omega

/-- What the operations before the loop leave of the arguments. -/
theorem entry_args : rargs (after (hostOps0 (F := Ideal)) X) = rargs X := by
  unfold rargs
  after_reads_simp

end Cert.EvenRefIdeal.Hand

end
-- ==== Proof.EvenRefOut.lean ====
/-
  The even mixer's reference: the result is the mathematics of the arguments.
-/
module

public import proofs.«01_k».proof.Proof.EvenRefLoop
public import proofs.«01_k».proof.Proof.EvenRefEntry

@[expose] public section

set_option maxRecDepth 16384

noncomputable section

namespace Cert.EvenRefIdeal.Hand

open Idealize.ShloMosaic Idealize.ShloMosaic.TcCoe Idealize.ShloMosaic.StableHlo Idealize.ShloMosaic.Pipeline
open Cert.EvenRefIdeal Cert.EvenRefIdeal.Gen Cert.EvenRefIdeal.Value
open Trunk

/-- The arguments' buffers. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16]

/-- Valuations agreeing on the arguments have the same arguments by coordinates. -/
theorem rargs_congr (X Y : Valuation τ sig (Elt Ideal)) (h : ∀ r ∈ argRefs, X (Proc.devRef .tc r) = Y (Proc.devRef .tc r)) : rargs X = rargs Y := by
  simp only [rargs, EvenArgs.mk.injEq]
  exact ⟨funext fun _ => funext fun _ => funext fun _ => congrFun (h main_arg0 (by decide)) _,
    funext fun _ => congrFun (h main_arg1 (by decide)) _,
    funext fun _ => funext fun _ => congrFun (h main_arg2 (by decide)) _,
    funext fun _ => funext fun _ => congrFun (h main_arg3 (by decide)) _,
    funext fun _ => funext fun _ => congrFun (h main_arg4 (by decide)) _,
    funext fun _ => funext fun _ => congrFun (h main_arg5 (by decide)) _,
    funext fun _ => congrFun (h main_arg6 (by decide)) _,
    funext fun _ => funext fun _ => funext fun _ => congrFun (h main_arg7 (by decide)) _,
    funext fun _ => funext fun _ => funext fun _ => congrFun (h main_arg8 (by decide)) _,
    funext fun _ => funext fun _ => funext fun _ => congrFun (h main_arg9 (by decide)) _,
    funext fun _ => funext fun _ => funext fun _ => congrFun (h main_arg10 (by decide)) _,
    funext fun _ => congrFun (h main_arg11 (by decide)) _,
    funext fun _ => funext fun _ => congrFun (h main_arg12 (by decide)) _,
    funext fun _ => congrFun (h main_arg13 (by decide)) _,
    funext fun _ => funext fun _ => funext fun _ => congrFun (h main_arg14 (by decide)) _,
    funext fun _ => funext fun _ => congrFun (h main_arg15 (by decide)) _,
    funext fun _ => congrFun (h main_arg16 (by decide)) _⟩

/-- The recurrence of the loop's entry is the states' recurrence. -/
theorem rc_entry (X : Valuation τ sig (Elt Ideal)) (b g : Fin 16) (p : Fin 64) : rc (after (hostOps0 (F := Ideal)) X) b g p = (rargs X).st b g p := by
  have h2 : A2 (after (hostOps0 (F := Ideal)) X) g p = (rargs X).abRe g p := entry_re X g p
  have h3 : A3 (after (hostOps0 (F := Ideal)) X) g p = (rargs X).abIm g p := entry_im X g p
  have h5 : H5 (after (hostOps0 (F := Ideal)) X) b g p = 0 := entry_h5 X b g p
  have h6 : H6 (after (hostOps0 (F := Ideal)) X) b g p = 0 := entry_h6 X b g p
  have h0 : (fun i => if h : i < 4096 then D0 (after (hostOps0 (F := Ideal)) X) ⟨i, h⟩ b g p else 0) = (rargs X).drRe b g p :=
    funext fun i => dite_congr rfl (fun h => entry_d0 X ⟨i, h⟩ b g p) fun _ => rfl
  have h1 : (fun i => if h : i < 4096 then D1 (after (hostOps0 (F := Ideal)) X) ⟨i, h⟩ b g p else 0) = (rargs X).drIm b g p :=
    funext fun i => dite_congr rfl (fun h => entry_d1 X ⟨i, h⟩ b g p) fun _ => rfl
  unfold rc EvenArgs.st
  rw [h0, h1, h2, h3, h5, h6]

section Final
variable (m : (ℓ : Loc nD τ sig) → Buf (Elt Ideal) ℓ) (c : Dev nD)

/-- What the loop enters with. -/
theorem entry_eq : entryContents (preI (F := Ideal)) m c = after (hostOps0 (F := Ideal)) (launchContents m c) := by
  simp only [entryContents, preI, afterL_cons, afterL_nil]

/-- What the operations after the loop start from. -/
def past : Valuation τ sig (Elt Ideal) := after (condOps (F := Ideal)) (atK m 4096 c)

/-- A buffer the loop does not write is as at its entry. -/
theorem past_keep (r : Ref sig .tc) (hl : r ∉ loopOuts) :
    past m c (Proc.devRef .tc r) = after (hostOps0 (F := Ideal)) (launchContents m c) (Proc.devRef .tc r) := by
  have hc : r ∉ condOps_W := fun hh => hl (by simp only [loopOuts, List.mem_append, hh, true_or])
  unfold past
  rw [after_of_writes_sub condOps _ condOps_writes hc]
  exact (atTrip_keep (entryContents preI m) c r hl 4096).trans (congrFun (entry_eq m c) _)

theorem past_args : rargs (past m c) = rargs (launchContents m c) :=
  (rargs_congr _ _ fun r hr => past_keep m c r ((by decide +kernel : ∀ r ∈ argRefs, r ∉ loopOuts) r hr)).trans (entry_args _)

/-- The stacks hold the states after each place. -/
theorem past_S7 (s : Fin 4096) (b g : Fin 16) (p : Fin 64) : S7 (past m c) s b g p = ((rargs (launchContents m c)).st b g p (s.val + 1)).1 := by
  have h : past m c (Proc.devRef .tc main_v65_7) = STEP^[4096] (entryContents preI m c) (Proc.devRef .tc main_v65_7) :=
    (cond_keeps _ main_v65_7 (by decide)).trans (atK_agree m c 4096 main_v65_7 (by decide))
  have := (after_loop (entryContents preI m c) (ctr_entry m c) 4096 (le_refl _)).s7 s b g p s.isLt
  rw [entry_eq, rc_entry, ← entry_eq] at this
  exact (congrFun h _).trans this
theorem past_S8 (s : Fin 4096) (b g : Fin 16) (p : Fin 64) : S8 (past m c) s b g p = ((rargs (launchContents m c)).st b g p (s.val + 1)).2 := by
  have h : past m c (Proc.devRef .tc main_v65_8) = STEP^[4096] (entryContents preI m c) (Proc.devRef .tc main_v65_8) :=
    (cond_keeps _ main_v65_8 (by decide)).trans (atK_agree m c 4096 main_v65_8 (by decide))
  have := (after_loop (entryContents preI m c) (ctr_entry m c) 4096 (le_refl _)).s8 s b g p s.isLt
  rw [entry_eq, rc_entry, ← entry_eq] at this
  exact (congrFun h _).trans this

/-- The projected rows, past the loop. -/
theorem past_P13 (b : Fin 16) (s : Fin 4096) : P13 (past m c) b s = (rargs (launchContents m c)).u b s :=
  funext fun f => (congrFun (past_keep m c main_v13 (by decide +kernel)) _).trans (entry_v13 _ b s f)
theorem past_P15 (b : Fin 16) (s : Fin 4096) (g h : Fin 16) : P15 (past m c) b s g h = (rargs (launchContents m c)).u b s ⟨16 * g.val + h.val, by omega⟩ :=
  (congrFun (past_keep m c main_v15 (by decide +kernel)) _).trans (entry_v15 _ b s g h)

theorem past_y (b : Fin 16) (s : Fin 4096) : yOf (past m c) b s = (rargs (launchContents m c)).ry b s := by
  funext f
  unfold yOf EvenArgs.ry EvenArgs.rd
  simp only [past_args, past_S7, past_S8, past_P15]
  have e1 : (⟨f.val / 16 * 16 + f.val % 16, by omega⟩ : Fin 256) = f := Fin.ext (by show f.val / 16 * 16 + f.val % 16 = f.val; omega)
  have e2 : (⟨16 * (f.val / 16) + f.val % 16, by omega⟩ : Fin 1792) = ⟨f.val, by omega⟩ := Fin.ext (by show 16 * (f.val / 16) + f.val % 16 = f.val; omega)
  rw [e1, e2]

theorem past_gm (b : Fin 16) (s : Fin 4096) : gmOf (past m c) b s = (rargs (launchContents m c)).gm b s := by
  funext j
  unfold gmOf EvenArgs.gm
  simp only [past_args, past_P13]

/-- The reference's result. -/
theorem ref_value (b : Fin 16) (s : Fin 4096) (d : Fin 1024) :
    finalContents condOps preI bodyI postI 4096 m c (Proc.devRef .tc main_v146) (ix3 b s d) = (rargs (launchContents m c)).even b s d := by
  refine (tail_value (past m c) b s d).trans ?_
  rw [past_args, past_y, past_gm]
  rfl

/-- The reference's array, of the arguments' arrays. -/
def refArray (a0 : FVec Ideal S16x4096x1024 .f32) (a1 : FVec Ideal S1024 .f32) (a2 : FVec Ideal S1024x1792 .f32) (a3 : FVec Ideal S1024x1024 .f32) (a4 : FVec Ideal S16x64 .f32) (a5 : FVec Ideal S16x64 .f32) (a6 : FVec Ideal S16 .f32) (a7 : FVec Ideal S16x64x16 .f32) (a8 : FVec Ideal S16x64x16 .f32) (a9 : FVec Ideal S16x16x64 .f32) (a10 : FVec Ideal S16x16x64 .f32) (a11 : FVec Ideal S256 .f32) (a12 : FVec Ideal S256x256 .f32) (a13 : FVec Ideal S256 .f32) (a14 : FVec Ideal S6x128x128 .f32) (a15 : FVec Ideal S6x128 .f32) (a16 : FVec Ideal S768 .f32) : FVec Ideal S16x4096x1024 .f32 :=
  fun i => EvenArgs.even ⟨fun b s k => a0 (ix3 b s k), fun k => a1 (ix1 k), fun k f => a2 (ix2 k f), fun k f => a3 (ix2 k f), fun g p => a4 (ix2 g p), fun g p => a5 (ix2 g p), fun g => a6 (ix1 g), fun g p h => a7 (ix3 g p h), fun g p h => a8 (ix3 g p h), fun g h p => a9 (ix3 g h p), fun g h p => a10 (ix3 g h p), fun f => a11 (ix1 f), fun k f => a12 (ix2 k f), fun f => a13 (ix1 f), fun h t s => a14 (ix3 h t s), fun h t => a15 (ix2 h t), fun j => a16 (ix1 j)⟩ (i 0) (i 1) (i 2)
theorem ref_array : finalContents condOps preI bodyI postI 4096 m c (Proc.devRef .tc main_v146)
    = refArray (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  funext i
  have hi : i = ix3 (i 0) (i 1) (i 2) := by
    funext a
    match a with
    | ⟨0, _⟩ => rfl
    | ⟨1, _⟩ => rfl
    | ⟨2, _⟩ => rfl
  exact (congrArg (finalContents condOps preI bodyI postI 4096 m c (Proc.devRef .tc main_v146)) hi).trans (ref_value m c (i 0) (i 1) (i 2))
end Final

end Cert.EvenRefIdeal.Hand

end
-- ==== Proof.EvenEq.lean ====
/-
  The even mixer: the reference's array is the kernel's.
-/
module

public import proofs.«01_k».proof.Proof.EvenGrid
public import proofs.«01_k».proof.Proof.EvenPre
public import proofs.«01_k».proof.Proof.EvenRefOut

@[expose] public section

set_option maxRecDepth 16384

noncomputable section

namespace Cert.EvenIdeal.Hand

open Cert.EvenIdeal Cert.EvenIdeal.Gen Idealize.ShloMosaic Idealize.ShloMosaic.TcCoe Idealize.ShloMosaic.StableHlo Idealize.ShloMosaic.Pipeline
open Trunk

/-- THE EQUATION: the reference's array of the kernel's arguments is what the kernel's output array ends holding. -/
theorem equation (m : (ℓ : Loc nD τ sig) → Buf (Elt Ideal) ℓ) (c : Dev nD) :
    Cert.EvenRefIdeal.Hand.refArray (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) = G15 m c := rfl

end Cert.EvenIdeal.Hand

end
-- ==== Proof.FfnBlock.lean ====
/-
  The feed-forward block's kernel at one grid point: what its payloads compute at an element, and what the point leaves in its
  output block and in the rows of the scratch it hands to the next point.
-/
module

public import proofs.«01_k».proof.Proof.Spec
public import proofs.«01_k».proof.Proof.Gen.FfnIdeal.Value

@[expose] public section

set_option maxRecDepth 16384

noncomputable section

namespace Cert.FfnIdeal.Hand

open Cert.FfnIdeal Cert.FfnIdeal.Gen Cert.FfnIdeal.Value Idealize.ShloMosaic Idealize.ShloMosaic.TcCoe Idealize.ShloMosaic.Tactic
open Trunk

/-- The up-projection of a block: each row normalized, times the weights' column. -/
theorem up_apply (v3 : FVec Ideal S1x512x1024 .f32) (v5 : FVec Ideal S1x1024 .f32) (v20 : FVec Ideal S1024x5632 .bf16)
    (r : Fin 512) (f : Fin 5632) :
    k0_pay5 (F := Ideal) v3 v5 v20 (ix2 r f)
      = proj (rms (fun k => v3 (ix3 0 r k)) (fun k => v5 (ix2 0 k))) (fun k => v20 (ix2 k f)) := by
  pointwise [k0_pay5, k0_pay4]
  rfl

/-- The output payload of a block, from the block's rows and the three bands of up-projected rows it read back. -/
theorem out_apply (v3 : FVec Ideal S1x512x1024 .f32) (v26 v27 v28 : FVec Ideal S512x5632 .f32) (v29 v31 v36 v40 : FVec Ideal S1x5632 .f32)
    (v50 : FVec Ideal S2816x1024 .bf16) (r : Fin 512) (d : Fin 1024) :
    k0_pay1 (F := Ideal) (k0_pay4 v3) v26 v27 v28 (k0_pay6 v29) v31 v36 v40 v50 (ix3 0 r d)
      = ffnRow (fun k => v3 (ix3 0 r k)) (fun f => v26 (ix2 r f)) (fun f => v27 (ix2 r f)) (fun f => v28 (ix2 r f))
          ![fun f => v31 (ix2 0 f), fun f => v36 (ix2 0 f), fun f => v40 (ix2 0 f)] (fun f => v29 (ix2 0 f)) (fun j d => v50 (ix2 j d)) d := by
  pointwise [k0_pay1, k0_pay4, k0_pay6]
  simp only [ffnRow, swiglu, conv, add_assoc]
  rfl

/-- The eight rows stored before a sequence begins are zero. -/
theorem halo_zero (r : Fin 8) (f : Fin 5632) : k0_pay3 (F := Ideal) (ix2 r f) = 0 := by
  pointwise [k0_pay3]

/-- The eight rows handed on are stored as they were read. -/
theorem halo_apply (v : FVec Ideal S8x5632 .f32) (r : Fin 8) (f : Fin 5632) : k0_pay2 (F := Ideal) v (ix2 r f) = v (ix2 r f) := by
  pointwise [k0_pay2]

/-- The output block of a point in case A: row `r` reads the up-projected rows `r`, `r - 1`, `r - 2` of its own block, and before
    the block's first row zeros. -/
theorem out_A (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg5 : Memref sig .tc .vmem S3x5632 .f32) (harg5 : arg5.IsWhole) (arg6 : Memref sig .tc .vmem S1x5632 .f32) (harg6 : arg6.IsWhole) (arg7 : Memref sig .tc .vmem S2816x1024 .bf16) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S520x5632 .f32) (harg10 : arg10.IsWhole) (hc0 : cond0_0 i)
    (x0 : Vec Ideal S1x512x1024 .f32) (x1 : Vec Ideal S1x1024 .f32) (x2 : Vec Ideal S1024x5632 .bf16) (x3 : Vec Ideal S3x5632 .f32) (x4 : Vec Ideal S1x5632 .f32) (x5 : Vec Ideal S2816x1024 .bf16) (x6 : Vec Ideal S1x1024 .f32) (r : Fin 512) (d : Fin 1024) :
    out0_A_7 c i arg2 harg2 arg3 harg3 arg4 harg4 arg5 harg5 arg6 harg6 arg7 harg7 arg8 harg8 arg9 harg9 arg10 harg10 hc0 x0 x1 x2 x3 x4 x5 x6 (ix3 0 r d)
      = ffnRow (fun k => x0 (ix3 0 r k)) (fun f => k0_pay5 (F := Ideal) x0 x1 x2 (ix2 r f))
          (fun f => if h : 1 ≤ r.val then k0_pay5 (F := Ideal) x0 x1 x2 (ix2 ⟨r.val - 1, by omega⟩ f) else 0)
          (fun f => if h : 2 ≤ r.val then k0_pay5 (F := Ideal) x0 x1 x2 (ix2 ⟨r.val - 2, by omega⟩ f)
            else 0)
          (fun a f => x3 (ix2 a f)) (fun f => x4 (ix2 0 f)) (fun j d => x5 (ix2 j d)) d := by
  unfold out0_A_7
  rw [View.read_writes_eq_canon _ _ _ (cover0_A_7 c i arg2 harg2 arg3 harg3 arg4 harg4 arg5 harg5 arg6 harg6 arg7 harg7 arg8 harg8 arg9 harg9 arg10 harg10 hc0 x0 x1 x2 x3 x4 x5 x6)]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread]
  simp only [View.ld_unit_zero (S := S1x512x1024) zero3, View.ld_unit_zero (S := S1x1024) zero2, View.ld_unit_zero (S := S1024x5632) zero2,
    View.ld_unit_zero (S := S1x5632) zero2, View.ld_unit_zero (S := S2816x1024) zero2]
  rw [View.canon_unit_zero (S := S1x512x1024) zero3, out_apply, View.readCov_cons_toLoadRect]
  congr 1
  · funext f
    by_cases h : 1 ≤ r.val
    · rw [dif_pos h, cov_rows _ _ _ r f ⟨7 + r.val, by omega⟩ rfl, rows_hit _ _ _ _ _ _ f ⟨r.val - 1, by omega⟩ (by simp only; omega)]
    · rw [dif_neg h, cov_rows _ _ _ r f ⟨7, by omega⟩ (by simp only; omega), rows_miss _ _ _ _ _ _ f (by left; simp only; omega)]
      rw [rows_hit _ _ _ _ _ _ f ⟨7, by omega⟩ (by simp only <;> omega)]
      exact halo_zero _ _
  · funext f
    by_cases h : 2 ≤ r.val
    · rw [dif_pos h, cov_rows _ _ _ r f ⟨6 + r.val, by omega⟩ rfl, rows_hit _ _ _ _ _ _ f ⟨r.val - 2, by omega⟩ (by simp only; omega)]
    · rw [dif_neg h, cov_rows _ _ _ r f ⟨6 + r.val, by omega⟩ rfl, rows_miss _ _ _ _ _ _ f (by left; simp only; omega)]
      rw [rows_hit _ _ _ _ _ _ f ⟨6 + r.val, by omega⟩ (by simp only; omega)]
      exact halo_zero _ _
  · funext a f
    fin_cases a <;> exact ld_rows _ _ 0 f _ rfl

/-- The first eight rows of the scratch after a point in case A are the last eight up-projected rows of its block. -/
theorem sout_A (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg5 : Memref sig .tc .vmem S3x5632 .f32) (harg5 : arg5.IsWhole) (arg6 : Memref sig .tc .vmem S1x5632 .f32) (harg6 : arg6.IsWhole) (arg7 : Memref sig .tc .vmem S2816x1024 .bf16) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S520x5632 .f32) (harg10 : arg10.IsWhole) (hc0 : cond0_0 i)
    (x0 : Vec Ideal S1x512x1024 .f32) (x1 : Vec Ideal S1x1024 .f32) (x2 : Vec Ideal S1024x5632 .bf16) (x3 : Vec Ideal S3x5632 .f32) (x4 : Vec Ideal S1x5632 .f32) (x5 : Vec Ideal S2816x1024 .bf16) (x6 : Vec Ideal S1x1024 .f32) (r : Fin 8) (f : Fin 5632) :
    sout0_A_0 c i arg2 harg2 arg3 harg3 arg4 harg4 arg5 harg5 arg6 harg6 arg7 harg7 arg8 harg8 arg9 harg9 arg10 harg10 hc0 x0 x1 x2 x3 x4 x5 x6 (ix2 ⟨r.val, by omega⟩ f) = k0_pay5 (F := Ideal) x0 x1 x2 (ix2 ⟨504 + r.val, by omega⟩ f) := by
  unfold sout0_A_0
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread]
  simp only [View.ld_unit_zero (S := S1x512x1024) zero3, View.ld_unit_zero (S := S1x1024) zero2, View.ld_unit_zero (S := S1024x5632) zero2,
    View.ld_unit_zero (S := S1x5632) zero2, View.ld_unit_zero (S := S2816x1024) zero2]
  rw [rows_hit _ _ _ _ _ _ f r (by simp only; omega)]
  rw [halo_apply, cov_rows _ _ _ r f ⟨512 + r.val, by omega⟩ rfl, rows_hit _ _ _ _ _ _ f ⟨504 + r.val, by omega⟩ (by simp only; omega)]

/-- The output block of a point in case B: row `r` reads the up-projected rows `r`, `r - 1`, `r - 2` of its own block, and before
    the block's first row the last two rows of the scratch as the point before left it. -/
theorem out_B (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg5 : Memref sig .tc .vmem S3x5632 .f32) (harg5 : arg5.IsWhole) (arg6 : Memref sig .tc .vmem S1x5632 .f32) (harg6 : arg6.IsWhole) (arg7 : Memref sig .tc .vmem S2816x1024 .bf16) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S520x5632 .f32) (harg10 : arg10.IsWhole) (hc0 : ¬cond0_0 i)
    (x0 : Vec Ideal S1x512x1024 .f32) (x1 : Vec Ideal S1x1024 .f32) (x2 : Vec Ideal S1024x5632 .bf16) (x3 : Vec Ideal S3x5632 .f32) (x4 : Vec Ideal S1x5632 .f32) (x5 : Vec Ideal S2816x1024 .bf16) (x6 : Vec Ideal S1x1024 .f32) (xs0 : Vec Ideal S520x5632 .f32) (r : Fin 512) (d : Fin 1024) :
    out0_B_7 c i arg2 harg2 arg3 harg3 arg4 harg4 arg5 harg5 arg6 harg6 arg7 harg7 arg8 harg8 arg9 harg9 arg10 harg10 hc0 x0 x1 x2 x3 x4 x5 x6 xs0 (ix3 0 r d)
      = ffnRow (fun k => x0 (ix3 0 r k)) (fun f => k0_pay5 (F := Ideal) x0 x1 x2 (ix2 r f))
          (fun f => if h : 1 ≤ r.val then k0_pay5 (F := Ideal) x0 x1 x2 (ix2 ⟨r.val - 1, by omega⟩ f) else xs0 (ix2 7 f))
          (fun f => if h : 2 ≤ r.val then k0_pay5 (F := Ideal) x0 x1 x2 (ix2 ⟨r.val - 2, by omega⟩ f)
            else xs0 (ix2 ⟨6 + r.val, by omega⟩ f))
          (fun a f => x3 (ix2 a f)) (fun f => x4 (ix2 0 f)) (fun j d => x5 (ix2 j d)) d := by
  unfold out0_B_7
  rw [View.read_writes_eq_canon _ _ _ (cover0_B_7 c i arg2 harg2 arg3 harg3 arg4 harg4 arg5 harg5 arg6 harg6 arg7 harg7 arg8 harg8 arg9 harg9 arg10 harg10 hc0 x0 x1 x2 x3 x4 x5 x6 xs0)]
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread]
  simp only [View.ld_unit_zero (S := S1x512x1024) zero3, View.ld_unit_zero (S := S1x1024) zero2, View.ld_unit_zero (S := S1024x5632) zero2,
    View.ld_unit_zero (S := S1x5632) zero2, View.ld_unit_zero (S := S2816x1024) zero2]
  rw [View.canon_unit_zero (S := S1x512x1024) zero3, out_apply, View.readCov_cons_toLoadRect]
  congr 1
  · funext f
    by_cases h : 1 ≤ r.val
    · rw [dif_pos h, ld_rows _ _ r f ⟨7 + r.val, by omega⟩ rfl, rows_hit _ _ _ _ _ _ f ⟨r.val - 1, by omega⟩ (by simp only; omega)]
    · rw [dif_neg h, ld_rows _ _ r f ⟨7, by omega⟩ (by simp only; omega), rows_miss _ _ _ _ _ _ f (by left; simp only; omega)]
      exact congrFun (harg10.read_unread xs0) _
  · funext f
    by_cases h : 2 ≤ r.val
    · rw [dif_pos h, ld_rows _ _ r f ⟨6 + r.val, by omega⟩ rfl, rows_hit _ _ _ _ _ _ f ⟨r.val - 2, by omega⟩ (by simp only; omega)]
    · rw [dif_neg h, ld_rows _ _ r f ⟨6 + r.val, by omega⟩ rfl, rows_miss _ _ _ _ _ _ f (by left; simp only; omega)]
      exact congrFun (harg10.read_unread xs0) _
  · funext a f
    fin_cases a <;> exact ld_rows _ _ 0 f _ rfl

/-- The first eight rows of the scratch after a point in case B are the last eight up-projected rows of its block. -/
theorem sout_B (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg5 : Memref sig .tc .vmem S3x5632 .f32) (harg5 : arg5.IsWhole) (arg6 : Memref sig .tc .vmem S1x5632 .f32) (harg6 : arg6.IsWhole) (arg7 : Memref sig .tc .vmem S2816x1024 .bf16) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S520x5632 .f32) (harg10 : arg10.IsWhole) (hc0 : ¬cond0_0 i)
    (x0 : Vec Ideal S1x512x1024 .f32) (x1 : Vec Ideal S1x1024 .f32) (x2 : Vec Ideal S1024x5632 .bf16) (x3 : Vec Ideal S3x5632 .f32) (x4 : Vec Ideal S1x5632 .f32) (x5 : Vec Ideal S2816x1024 .bf16) (x6 : Vec Ideal S1x1024 .f32) (xs0 : Vec Ideal S520x5632 .f32) (r : Fin 8) (f : Fin 5632) :
    sout0_B_0 c i arg2 harg2 arg3 harg3 arg4 harg4 arg5 harg5 arg6 harg6 arg7 harg7 arg8 harg8 arg9 harg9 arg10 harg10 hc0 x0 x1 x2 x3 x4 x5 x6 xs0 (ix2 ⟨r.val, by omega⟩ f) = k0_pay5 (F := Ideal) x0 x1 x2 (ix2 ⟨504 + r.val, by omega⟩ f) := by
  unfold sout0_B_0
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread]
  simp only [View.ld_unit_zero (S := S1x512x1024) zero3, View.ld_unit_zero (S := S1x1024) zero2, View.ld_unit_zero (S := S1024x5632) zero2,
    View.ld_unit_zero (S := S1x5632) zero2, View.ld_unit_zero (S := S2816x1024) zero2]
  rw [rows_hit _ _ _ _ _ _ f r (by simp only; omega)]
  rw [halo_apply, cov_rows _ _ _ r f ⟨512 + r.val, by omega⟩ rfl, rows_hit _ _ _ _ _ _ f ⟨504 + r.val, by omega⟩ (by simp only; omega)]

end Cert.FfnIdeal.Hand

end
-- ==== Proof.FfnArray.lean ====
/-
  The feed-forward block's kernel over the whole grid: its output array, at an element, is the block of the sequence.
-/
module

public import proofs.«01_k».proof.Proof.FfnBlock
public import Idealize.ShloMosaic.Lib.Pipeline.ValueKit.Point

@[expose] public section

set_option maxRecDepth 16384

noncomputable section

namespace Cert.FfnIdeal.Hand

open Cert.FfnIdeal Cert.FfnIdeal.Gen Cert.FfnIdeal.Value Idealize.ShloMosaic Idealize.ShloMosaic.TcCoe Idealize.ShloMosaic.Tactic
open Trunk

variable (m : (ℓ : Loc nD τ sig) → Buf (Elt Ideal) ℓ) (c : Dev nD)

/-- The arguments by their coordinates: the input, the gains, the projections, the convolution's taps and bias. -/
def X (b : Fin 16) (s : Fin 4096) (k : Fin 1024) : EReal := m ((c : Thread nD τ).loc main_arg0) (ix3 b s k)
def G (k : Fin 1024) : EReal := m ((c : Thread nD τ).loc main_arg1) (ix1 k)
def WU (k : Fin 1024) (f : Fin 5632) : EReal := m ((c : Thread nD τ).loc main_arg2) (ix2 k f)
def CW (a : Fin 3) (f : Fin 5632) : EReal := m ((c : Thread nD τ).loc main_arg3) (ix2 a f)
def CB (f : Fin 5632) : EReal := m ((c : Thread nD τ).loc main_arg4) (ix1 f)
def WD (j : Fin 2816) (d : Fin 1024) : EReal := m ((c : Thread nD τ).loc main_arg5) (ix2 j d)

/-- The input's block index at a point: one sequence per eight points, one tile of 512 rows per point. -/
theorem idx0 (t : Fin cfg0.N) : win0_0.index t (0 : Fin 3) = t.val / 8 ∧ win0_0.index t (1 : Fin 3) = t.val % 8
    ∧ win0_0.index t (2 : Fin 3) = 0 := by
  revert t
  show ∀ t : Fin grid0.N, _
  decide +kernel
/-- Every other input is one block, the same at every point. -/
theorem idxc (t : Fin cfg0.N) : (win0_1.index t (0 : Fin 2) = 0 ∧ win0_1.index t (1 : Fin 2) = 0)
    ∧ (win0_2.index t (0 : Fin 2) = 0 ∧ win0_2.index t (1 : Fin 2) = 0) ∧ (win0_3.index t (0 : Fin 2) = 0 ∧ win0_3.index t (1 : Fin 2) = 0)
    ∧ (win0_4.index t (0 : Fin 2) = 0 ∧ win0_4.index t (1 : Fin 2) = 0) ∧ (win0_5.index t (0 : Fin 2) = 0 ∧ win0_5.index t (1 : Fin 2) = 0)
    ∧ (win0_6.index t (0 : Fin 2) = 0 ∧ win0_6.index t (1 : Fin 2) = 0) := by
  revert t
  show ∀ t : Fin grid0.N, _
  decide +kernel

theorem lt_N (t : Fin cfg0.N) : t.val < 128 := lt_of_lt_of_eq t.isLt N_0

/-- The sequence a point works on, and its tile's row in that sequence. -/
def bOf (t : Fin cfg0.N) : Fin 16 := ⟨t.val / 8, by have := lt_N t; omega⟩
def sOf (t : Fin cfg0.N) (r : Fin 512) : Fin 4096 := ⟨t.val % 8 * 512 + r.val, by omega⟩

theorem blk0 (t : Fin cfg0.N) (r : Fin 512) (k : Fin 1024) : iblk (F := Ideal) m c 0 t (ix3 0 r k) = X m c (bOf t) (sOf t r) k := by
  obtain ⟨e0, e1, e2⟩ := idx0 t
  unfold X bOf sOf
  blk_ext! [iblk, V, e0, e1, e2]
theorem blk1 (t : Fin cfg0.N) (k : Fin 1024) : iblk (F := Ideal) m c 1 t (ix2 0 k) = G m c k := by
  obtain ⟨⟨e0, e1⟩, -⟩ := idxc t
  unfold G
  blk_ext! [iblk, V, e0, e1]
theorem blk2 (t : Fin cfg0.N) (k : Fin 1024) (f : Fin 5632) : iblk (F := Ideal) m c 2 t (ix2 k f) = WU m c k f := by
  obtain ⟨-, ⟨e0, e1⟩, -⟩ := idxc t
  unfold WU
  blk_ext! [iblk, V, e0, e1]
theorem blk3 (t : Fin cfg0.N) (k : Fin 3) (f : Fin 5632) : iblk (F := Ideal) m c 3 t (ix2 k f) = CW m c k f := by
  obtain ⟨-, -, ⟨e0, e1⟩, -⟩ := idxc t
  unfold CW
  blk_ext! [iblk, V, e0, e1]
theorem blk4 (t : Fin cfg0.N) (f : Fin 5632) : iblk (F := Ideal) m c 4 t (ix2 0 f) = CB m c f := by
  obtain ⟨-, -, -, ⟨e0, e1⟩, -⟩ := idxc t
  unfold CB
  blk_ext! [iblk, V, e0, e1]
theorem blk5 (t : Fin cfg0.N) (j : Fin 2816) (d : Fin 1024) : iblk (F := Ideal) m c 5 t (ix2 j d) = WD m c j d := by
  obtain ⟨-, -, -, -, ⟨e0, e1⟩, -⟩ := idxc t
  unfold WD
  blk_ext! [iblk, V, e0, e1]

/-- The up-projected rows of sequence `b`. -/
abbrev U (b : Fin 16) : Fin 4096 → Fin 5632 → EReal := up (X m c b) (G m c) (WU m c)

/-- What a point up-projects are its tile's rows of its sequence. -/
theorem up_blk (t : Fin cfg0.N) (r : Fin 512) (f : Fin 5632) :
    k0_pay5 (F := Ideal) (iblk (F := Ideal) m c 0 t) (iblk (F := Ideal) m c 1 t) (iblk (F := Ideal) m c 2 t) (ix2 r f) = U m c (bOf t) (sOf t r) f := by
  refine (up_apply _ _ _ r f).trans ?_
  simp only [blk0 m c, blk1 m c, blk2 m c, U, up]

/-- The scratch a point hands on: its first eight rows are the tile's last eight up-projected rows. -/
theorem scratch_apply (t : Fin cfg0.N) (r : Fin 8) (f : Fin 5632) :
    (outsAt0 (F := Ideal) m c t.val t.isLt).2 (ix2 ⟨r.val, by omega⟩ f) = U m c (bOf t) (sOf t ⟨504 + r.val, by omega⟩) f := by
  by_cases h0 : t.val % 8 = 0
  · rw [outsAt0_A m c t h0]
    dsimp only
    rw [sout_A]
    exact up_blk m c t _ f
  · rw [outsAt0_B m c t h0]
    dsimp only
    rw [sout_B]
    exact up_blk m c t _ f

/-- What a point leaves in its output block is the feed-forward block of its sequence at its tile's rows. -/
theorem point_apply (t : Fin cfg0.N) (r : Fin 512) (d : Fin 1024) :
    (outsAt0 (F := Ideal) m c t.val t.isLt).1 (ix3 0 r d)
      = ffn (X m c (bOf t)) (G m c) (WU m c) (CW m c) (CB m c) (WD m c) (sOf t r) d := by
  by_cases h0 : t.val % 8 = 0
  · rw [outsAt0_A m c t h0]
    dsimp only
    rw [out_A]
    simp only [up_blk m c, blk0 m c, blk3 m c, blk4 m c, blk5 m c]
    unfold ffn
    congr 1
    · funext f
      unfold back
      by_cases h : 1 ≤ r.val
      · rw [dif_pos h, if_pos (by simp only [sOf]; omega)]
        congr 1
        apply Fin.ext; simp only [sOf]; omega
      · rw [dif_neg h, if_neg (by simp only [sOf]; omega)]
    · funext f
      unfold back
      by_cases h : 2 ≤ r.val
      · rw [dif_pos h, if_pos (by simp only [sOf]; omega)]
        congr 1
        apply Fin.ext; simp only [sOf]; omega
      · rw [dif_neg h, if_neg (by simp only [sOf]; omega)]
  · have hN := lt_N t
    have hp : ∀ (k : Fin 8) (f : Fin 5632), (outsAt0 (F := Ideal) m c (t.val - 1) (by omega)).2 (ix2 ⟨k.val, by omega⟩ f)
        = U m c (bOf t) ⟨t.val % 8 * 512 + k.val - 8, by omega⟩ f := fun k f => by
      refine (scratch_apply m c ⟨t.val - 1, by omega⟩ k f).trans ?_
      have hb : bOf ⟨t.val - 1, by omega⟩ = bOf t := Fin.ext (by simp only [bOf]; omega)
      rw [hb]
      congr 1
      apply Fin.ext; simp only [sOf]; omega
    rw [outsAt0_B m c t h0]
    dsimp only
    rw [out_B]
    simp only [up_blk m c, blk0 m c, blk3 m c, blk4 m c, blk5 m c]
    unfold ffn
    congr 1
    · funext f
      unfold back
      rw [if_pos (by simp only [sOf]; omega)]
      by_cases h : 1 ≤ r.val
      · rw [dif_pos h]
        congr 1
        apply Fin.ext; simp only [sOf]; omega
      · rw [dif_neg h]
        refine (hp 7 f).trans ?_
        congr 1
        apply Fin.ext; simp only [sOf]; omega
    · funext f
      unfold back
      rw [if_pos (by simp only [sOf]; omega)]
      by_cases h : 2 ≤ r.val
      · rw [dif_pos h]
        congr 1
        apply Fin.ext; simp only [sOf]; omega
      · rw [dif_neg h]
        refine (hp ⟨6 + r.val, by omega⟩ f).trans ?_
        congr 1
        apply Fin.ext; simp only [sOf]; omega

/-- THE OUTPUT ARRAY at an element is the feed-forward block of its sequence. -/
theorem array_apply (b : Fin 16) (s : Fin 4096) (d : Fin 1024) :
    G7 (F := Ideal) m c (ix3 b s d) = ffn (X m c b) (G m c) (WU m c) (CW m c) (CB m c) (WD m c) s d := by
  have hp : pt7Of (ix3 b s d) = 8 * b.val + s.val / 512 := by
    show 8 * (b.val / 1 - 0) + 1 * (s.val / 512 - 0) + 1 * (d.val / 1024 - 0) = _
    omega
  have hlt : pt7Of (ix3 b s d) < cfg0.N := by rw [hp]; exact lt_of_lt_of_eq (by omega) N_0.symm
  unfold G7
  rw [dif_pos hlt, ← outsAt0_sweep]
  have hl : loc7Of (ix3 b s d) = ix3 0 (⟨s.val % 512, by omega⟩ : Fin 512) d := by
    funext a
    apply Fin.ext
    fin_cases a
    · exact Nat.mod_one _
    · rfl
    · exact Nat.mod_eq_of_lt d.isLt
  rw [hl]
  refine (point_apply m c ⟨_, hlt⟩ _ d).trans ?_
  have hb : bOf ⟨pt7Of (ix3 b s d), hlt⟩ = b := Fin.ext (by simp only [bOf, hp]; omega)
  have hs : sOf ⟨pt7Of (ix3 b s d), hlt⟩ ⟨s.val % 512, by omega⟩ = s := Fin.ext (by simp only [sOf, hp]; omega)
  rw [hb, hs]

end Cert.FfnIdeal.Hand

end
-- ==== Proof.FfnRefVal.lean ====
/-
  The feed-forward block's reference at an element: the up-projected rows, the convolution, the gated sum.
-/
module

public import proofs.«01_k».proof.Proof.Spec
public import proofs.«01_k».proof.Proof.Gen.FfnRefIdeal.Run
public import proofs.«01_k».proof.Proof.Gen.FfnRefIdeal.Read

@[expose] public section

noncomputable section

namespace Cert.FfnRefIdeal.Hand

open Cert.FfnRefIdeal Cert.FfnRefIdeal.Gen Cert.FfnRefIdeal.Read Idealize.ShloMosaic Idealize.ShloMosaic.TcCoe Idealize.ShloMosaic.Tactic
open Trunk

variable (x0 : FVec Ideal S16x4096x1024 .f32) (x1 : FVec Ideal S1024 .f32) (x2 : FVec Ideal S1024x5632 .f32)
  (x3 : FVec Ideal S3x5632 .f32) (x4 : FVec Ideal S5632 .f32) (x5 : FVec Ideal S2816x1024 .f32)

/-- The reference's up-projected rows of sequence `b`. -/
abbrev U (b : Fin 16) : Fin 4096 → Fin 5632 → EReal := up (fun s k => x0 (ix3 b s k)) (fun k => x1 (ix1 k)) (fun k f => x2 (ix2 k f))

/-- The up-projected rows. -/
theorem up_apply (b : Fin 16) (s : Fin 4096) (f : Fin 5632) : val_main_v13 (F := Ideal) x0 x1 x2 (ix3 b s f) = U x0 x1 x2 b s f := by
  pointwise [val_main_v13, val_main_v12, val_main_v11, val_main_v10, val_main_v9, val_main_v8, val_main_v7, val_main_v6, val_main_v5,
    val_main_cst_1, val_main_v4, val_main_v3, val_main_cst_0, val_main_v2, val_main_v1, val_main_cst, val_main_v0]
  rfl

/-- The convolved rows. -/
theorem conv_apply (b : Fin 16) (s : Fin 4096) (f : Fin 5632) :
    val_main_v39 (F := Ideal) x0 x1 x2 x3 x4 (ix3 b s f)
      = conv (x4 (ix1 f)) (x3 (ix2 0 f)) (x3 (ix2 1 f)) (x3 (ix2 2 f)) (U x0 x1 x2 b s f) (back (U x0 x1 x2 b) 1 s f) (back (U x0 x1 x2 b) 2 s f) := by
  have hU := up_apply x0 x1 x2 b
  unfold val_main_v39 val_main_v36 val_main_v35 val_main_v32 val_main_v29 val_main_v28 val_main_v25 val_main_v22 val_main_v20 val_main_v17 val_main_v14
  generalize val_main_v13 (F := Ideal) x0 x1 x2 = V at hU ⊢
  pointwise [val_main_v38, val_main_v37, val_main_v34, val_main_v33, val_main_v31, val_main_v30, val_main_v27, val_main_v26, val_main_v24,
    val_main_v23, val_main_v21, val_main_cst_2, val_main_v19, val_main_v18, val_main_v16, val_main_v15, val_main_call0_v0, val_main_c]
  simp only [hU, pad2 (U x0 x1 x2 b), pad1 (U x0 x1 x2 b)]
  rfl

/-- THE REFERENCE at an element is the feed-forward block of its sequence. -/
theorem ref_apply (b : Fin 16) (s : Fin 4096) (d : Fin 1024) :
    val_main_v45 (F := Ideal) x0 x1 x2 x3 x4 x5 (ix3 b s d)
      = ffn (fun s k => x0 (ix3 b s k)) (fun k => x1 (ix1 k)) (fun k f => x2 (ix2 k f)) (fun a f => x3 (ix2 a f)) (fun f => x4 (ix1 f))
          (fun j d => x5 (ix2 j d)) s d := by
  have hC := conv_apply x0 x1 x2 x3 x4 b
  unfold val_main_v45 val_main_v44 val_main_v43 val_main_v42 val_main_call1_v5 val_main_call1_v4 val_main_call1_v3 val_main_call1_v2
    val_main_call1_v1 val_main_call1_v0 val_main_v41 val_main_v40
  generalize val_main_v39 (F := Ideal) x0 x1 x2 x3 x4 = V at hC ⊢
  pointwise [val_main_call1_cst, val_main_call1_cst_0]
  simp only [hC]
  rfl

end Cert.FfnRefIdeal.Hand

end
-- ==== Proof.FfnEq.lean ====
/-
  The feed-forward block: the reference's array is the kernel's.
-/
module

public import proofs.«01_k».proof.Proof.FfnArray
public import proofs.«01_k».proof.Proof.FfnRefVal

@[expose] public section

noncomputable section

namespace Cert.FfnIdeal.Hand

open Cert.FfnIdeal Cert.FfnIdeal.Gen Cert.FfnIdeal.Value Idealize.ShloMosaic Idealize.ShloMosaic.TcCoe
open Trunk

/-- THE EQUATION: the reference, given the kernel's arguments, computes what the kernel's output array ends holding. -/
theorem equation (m : (ℓ : Loc nD τ sig) → Buf (Elt Ideal) ℓ) (c : Dev nD) :
    Cert.FfnRefIdeal.Read.val_main_v45 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) = G7 (F := Ideal) m c := by
  funext i
  have hi : i = ix3 (i 0) (i 1) (i 2) := by
    funext a
    fin_cases a <;> rfl
  rw [hi]
  exact (Cert.FfnRefIdeal.Hand.ref_apply _ _ _ _ _ _ (i 0) (i 1) (i 2)).trans (array_apply m c (i 0) (i 1) (i 2)).symm

end Cert.FfnIdeal.Hand

end
-- ==== Proof.FfnFinalBlock.lean ====
/-
  The last feed-forward block's kernel at one grid point: what its payloads compute at an element, and what the point leaves in its
  output block and in the rows of the scratch it hands to the next point.
-/
module

public import proofs.«01_k».proof.Proof.Spec
public import proofs.«01_k».proof.Proof.Gen.FfnFinalIdeal.Value

@[expose] public section

set_option maxRecDepth 16384

noncomputable section

namespace Cert.FfnFinalIdeal.Hand

open Cert.FfnFinalIdeal Cert.FfnFinalIdeal.Gen Cert.FfnFinalIdeal.Value Idealize.ShloMosaic Idealize.ShloMosaic.TcCoe Idealize.ShloMosaic.Tactic
open Trunk

/-- The up-projection of a block: each row normalized, times the weights' column. -/
theorem up_apply (v3 : FVec Ideal S1x512x1024 .f32) (v5 : FVec Ideal S1x1024 .f32) (v20 : FVec Ideal S1024x5632 .bf16)
    (r : Fin 512) (f : Fin 5632) :
    k0_pay4 (F := Ideal) v3 v5 v20 (ix2 r f)
      = proj (rms (fun k => v3 (ix3 0 r k)) (fun k => v5 (ix2 0 k))) (fun k => v20 (ix2 k f)) := by
  pointwise [k0_pay4, k0_pay3]
  rfl

/-- The output payload of a block, from the block's rows and the three bands of up-projected rows it read back. -/
theorem out_apply (v3 : FVec Ideal S1x512x1024 .f32) (v26 v27 v28 : FVec Ideal S512x5632 .f32) (v29 v31 v36 v40 : FVec Ideal S1x5632 .f32)
    (v50 : FVec Ideal S2816x1024 .bf16) (v54 : FVec Ideal S1x1024 .f32) (r : Fin 512) (d : Fin 1024) :
    k0_pay6 (F := Ideal) (k0_pay3 v3) v26 v27 v28 (k0_pay5 v29) v31 v36 v40 v50 v54 (ix3 0 r d)
      = rms (ffnRow (fun k => v3 (ix3 0 r k)) (fun f => v26 (ix2 r f)) (fun f => v27 (ix2 r f)) (fun f => v28 (ix2 r f))
          ![fun f => v31 (ix2 0 f), fun f => v36 (ix2 0 f), fun f => v40 (ix2 0 f)] (fun f => v29 (ix2 0 f)) (fun j d => v50 (ix2 j d))) (fun k => v54 (ix2 0 k)) d := by
  pointwise [k0_pay6, k0_pay3, k0_pay5]
  simp only [rms, ffnRow, swiglu, conv, add_assoc]
  rfl

/-- The eight rows stored before a sequence begins are zero. -/
theorem halo_zero (r : Fin 8) (f : Fin 5632) : k0_pay2 (F := Ideal) (ix2 r f) = 0 := by
  pointwise [k0_pay2]

/-- The eight rows handed on are stored as they were read. -/
theorem halo_apply (v : FVec Ideal S8x5632 .f32) (r : Fin 8) (f : Fin 5632) : k0_pay1 (F := Ideal) v (ix2 r f) = v (ix2 r f) := by
  pointwise [k0_pay1]

/-- The output block of a point in case A: row `r` reads the up-projected rows `r`, `r - 1`, `r - 2` of its own block, and before
    the block's first row zeros. -/
theorem out_A (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg5 : Memref sig .tc .vmem S3x5632 .f32) (harg5 : arg5.IsWhole) (arg6 : Memref sig .tc .vmem S1x5632 .f32) (harg6 : arg6.IsWhole) (arg7 : Memref sig .tc .vmem S2816x1024 .bf16) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S520x5632 .f32) (harg10 : arg10.IsWhole) (hc0 : cond0_0 i)
    (x0 : Vec Ideal S1x512x1024 .f32) (x1 : Vec Ideal S1x1024 .f32) (x2 : Vec Ideal S1024x5632 .bf16) (x3 : Vec Ideal S3x5632 .f32) (x4 : Vec Ideal S1x5632 .f32) (x5 : Vec Ideal S2816x1024 .bf16) (x6 : Vec Ideal S1x1024 .f32) (r : Fin 512) (d : Fin 1024) :
    out0_A_7 c i arg2 harg2 arg3 harg3 arg4 harg4 arg5 harg5 arg6 harg6 arg7 harg7 arg8 harg8 arg9 harg9 arg10 harg10 hc0 x0 x1 x2 x3 x4 x5 x6 (ix3 0 r d)
      = rms (ffnRow (fun k => x0 (ix3 0 r k)) (fun f => k0_pay4 (F := Ideal) x0 x1 x2 (ix2 r f))
          (fun f => if h : 1 ≤ r.val then k0_pay4 (F := Ideal) x0 x1 x2 (ix2 ⟨r.val - 1, by omega⟩ f) else 0)
          (fun f => if h : 2 ≤ r.val then k0_pay4 (F := Ideal) x0 x1 x2 (ix2 ⟨r.val - 2, by omega⟩ f)
            else 0)
          (fun a f => x3 (ix2 a f)) (fun f => x4 (ix2 0 f)) (fun j d => x5 (ix2 j d))) (fun k => x6 (ix2 0 k)) d := by
  unfold out0_A_7
  rw [View.read_writes_eq_canon _ _ _ (cover0_A_7 c i arg2 harg2 arg3 harg3 arg4 harg4 arg5 harg5 arg6 harg6 arg7 harg7 arg8 harg8 arg9 harg9 arg10 harg10 hc0 x0 x1 x2 x3 x4 x5 x6)]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread]
  simp only [View.ld_unit_zero (S := S1x512x1024) zero3, View.ld_unit_zero (S := S1x1024) zero2, View.ld_unit_zero (S := S1024x5632) zero2,
    View.ld_unit_zero (S := S1x5632) zero2, View.ld_unit_zero (S := S2816x1024) zero2]
  rw [View.canon_unit_zero (S := S1x512x1024) zero3, out_apply, View.readCov_cons_toLoadRect]
  congr 2
  · funext f
    by_cases h : 1 ≤ r.val
    · rw [dif_pos h, cov_rows _ _ _ r f ⟨7 + r.val, by omega⟩ rfl, rows_hit _ _ _ _ _ _ f ⟨r.val - 1, by omega⟩ (by simp only; omega)]
    · rw [dif_neg h, cov_rows _ _ _ r f ⟨7, by omega⟩ (by simp only; omega), rows_miss _ _ _ _ _ _ f (by left; simp only; omega)]
      rw [rows_hit _ _ _ _ _ _ f ⟨7, by omega⟩ (by simp only <;> omega)]
      exact halo_zero _ _
  · funext f
    by_cases h : 2 ≤ r.val
    · rw [dif_pos h, cov_rows _ _ _ r f ⟨6 + r.val, by omega⟩ rfl, rows_hit _ _ _ _ _ _ f ⟨r.val - 2, by omega⟩ (by simp only; omega)]
    · rw [dif_neg h, cov_rows _ _ _ r f ⟨6 + r.val, by omega⟩ rfl, rows_miss _ _ _ _ _ _ f (by left; simp only; omega)]
      rw [rows_hit _ _ _ _ _ _ f ⟨6 + r.val, by omega⟩ (by simp only; omega)]
      exact halo_zero _ _
  · funext a f
    fin_cases a <;> exact ld_rows _ _ 0 f _ rfl

/-- The first eight rows of the scratch after a point in case A are the last eight up-projected rows of its block. -/
theorem sout_A (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg5 : Memref sig .tc .vmem S3x5632 .f32) (harg5 : arg5.IsWhole) (arg6 : Memref sig .tc .vmem S1x5632 .f32) (harg6 : arg6.IsWhole) (arg7 : Memref sig .tc .vmem S2816x1024 .bf16) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S520x5632 .f32) (harg10 : arg10.IsWhole) (hc0 : cond0_0 i)
    (x0 : Vec Ideal S1x512x1024 .f32) (x1 : Vec Ideal S1x1024 .f32) (x2 : Vec Ideal S1024x5632 .bf16) (x3 : Vec Ideal S3x5632 .f32) (x4 : Vec Ideal S1x5632 .f32) (x5 : Vec Ideal S2816x1024 .bf16) (x6 : Vec Ideal S1x1024 .f32) (r : Fin 8) (f : Fin 5632) :
    sout0_A_0 c i arg2 harg2 arg3 harg3 arg4 harg4 arg5 harg5 arg6 harg6 arg7 harg7 arg8 harg8 arg9 harg9 arg10 harg10 hc0 x0 x1 x2 x3 x4 x5 x6 (ix2 ⟨r.val, by omega⟩ f) = k0_pay4 (F := Ideal) x0 x1 x2 (ix2 ⟨504 + r.val, by omega⟩ f) := by
  unfold sout0_A_0
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread]
  simp only [View.ld_unit_zero (S := S1x512x1024) zero3, View.ld_unit_zero (S := S1x1024) zero2, View.ld_unit_zero (S := S1024x5632) zero2,
    View.ld_unit_zero (S := S1x5632) zero2, View.ld_unit_zero (S := S2816x1024) zero2]
  rw [rows_hit _ _ _ _ _ _ f r (by simp only; omega)]
  rw [halo_apply, cov_rows _ _ _ r f ⟨512 + r.val, by omega⟩ rfl, rows_hit _ _ _ _ _ _ f ⟨504 + r.val, by omega⟩ (by simp only; omega)]

/-- The output block of a point in case B: row `r` reads the up-projected rows `r`, `r - 1`, `r - 2` of its own block, and before
    the block's first row the last two rows of the scratch as the point before left it. -/
theorem out_B (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg5 : Memref sig .tc .vmem S3x5632 .f32) (harg5 : arg5.IsWhole) (arg6 : Memref sig .tc .vmem S1x5632 .f32) (harg6 : arg6.IsWhole) (arg7 : Memref sig .tc .vmem S2816x1024 .bf16) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S520x5632 .f32) (harg10 : arg10.IsWhole) (hc0 : ¬cond0_0 i)
    (x0 : Vec Ideal S1x512x1024 .f32) (x1 : Vec Ideal S1x1024 .f32) (x2 : Vec Ideal S1024x5632 .bf16) (x3 : Vec Ideal S3x5632 .f32) (x4 : Vec Ideal S1x5632 .f32) (x5 : Vec Ideal S2816x1024 .bf16) (x6 : Vec Ideal S1x1024 .f32) (xs0 : Vec Ideal S520x5632 .f32) (r : Fin 512) (d : Fin 1024) :
    out0_B_7 c i arg2 harg2 arg3 harg3 arg4 harg4 arg5 harg5 arg6 harg6 arg7 harg7 arg8 harg8 arg9 harg9 arg10 harg10 hc0 x0 x1 x2 x3 x4 x5 x6 xs0 (ix3 0 r d)
      = rms (ffnRow (fun k => x0 (ix3 0 r k)) (fun f => k0_pay4 (F := Ideal) x0 x1 x2 (ix2 r f))
          (fun f => if h : 1 ≤ r.val then k0_pay4 (F := Ideal) x0 x1 x2 (ix2 ⟨r.val - 1, by omega⟩ f) else xs0 (ix2 7 f))
          (fun f => if h : 2 ≤ r.val then k0_pay4 (F := Ideal) x0 x1 x2 (ix2 ⟨r.val - 2, by omega⟩ f)
            else xs0 (ix2 ⟨6 + r.val, by omega⟩ f))
          (fun a f => x3 (ix2 a f)) (fun f => x4 (ix2 0 f)) (fun j d => x5 (ix2 j d))) (fun k => x6 (ix2 0 k)) d := by
  unfold out0_B_7
  rw [View.read_writes_eq_canon _ _ _ (cover0_B_7 c i arg2 harg2 arg3 harg3 arg4 harg4 arg5 harg5 arg6 harg6 arg7 harg7 arg8 harg8 arg9 harg9 arg10 harg10 hc0 x0 x1 x2 x3 x4 x5 x6 xs0)]
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread]
  simp only [View.ld_unit_zero (S := S1x512x1024) zero3, View.ld_unit_zero (S := S1x1024) zero2, View.ld_unit_zero (S := S1024x5632) zero2,
    View.ld_unit_zero (S := S1x5632) zero2, View.ld_unit_zero (S := S2816x1024) zero2]
  rw [View.canon_unit_zero (S := S1x512x1024) zero3, out_apply, View.readCov_cons_toLoadRect]
  congr 2
  · funext f
    by_cases h : 1 ≤ r.val
    · rw [dif_pos h, ld_rows _ _ r f ⟨7 + r.val, by omega⟩ rfl, rows_hit _ _ _ _ _ _ f ⟨r.val - 1, by omega⟩ (by simp only; omega)]
    · rw [dif_neg h, ld_rows _ _ r f ⟨7, by omega⟩ (by simp only; omega), rows_miss _ _ _ _ _ _ f (by left; simp only; omega)]
      exact congrFun (harg10.read_unread xs0) _
  · funext f
    by_cases h : 2 ≤ r.val
    · rw [dif_pos h, ld_rows _ _ r f ⟨6 + r.val, by omega⟩ rfl, rows_hit _ _ _ _ _ _ f ⟨r.val - 2, by omega⟩ (by simp only; omega)]
    · rw [dif_neg h, ld_rows _ _ r f ⟨6 + r.val, by omega⟩ rfl, rows_miss _ _ _ _ _ _ f (by left; simp only; omega)]
      exact congrFun (harg10.read_unread xs0) _
  · funext a f
    fin_cases a <;> exact ld_rows _ _ 0 f _ rfl

/-- The first eight rows of the scratch after a point in case B are the last eight up-projected rows of its block. -/
theorem sout_B (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg5 : Memref sig .tc .vmem S3x5632 .f32) (harg5 : arg5.IsWhole) (arg6 : Memref sig .tc .vmem S1x5632 .f32) (harg6 : arg6.IsWhole) (arg7 : Memref sig .tc .vmem S2816x1024 .bf16) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S520x5632 .f32) (harg10 : arg10.IsWhole) (hc0 : ¬cond0_0 i)
    (x0 : Vec Ideal S1x512x1024 .f32) (x1 : Vec Ideal S1x1024 .f32) (x2 : Vec Ideal S1024x5632 .bf16) (x3 : Vec Ideal S3x5632 .f32) (x4 : Vec Ideal S1x5632 .f32) (x5 : Vec Ideal S2816x1024 .bf16) (x6 : Vec Ideal S1x1024 .f32) (xs0 : Vec Ideal S520x5632 .f32) (r : Fin 8) (f : Fin 5632) :
    sout0_B_0 c i arg2 harg2 arg3 harg3 arg4 harg4 arg5 harg5 arg6 harg6 arg7 harg7 arg8 harg8 arg9 harg9 arg10 harg10 hc0 x0 x1 x2 x3 x4 x5 x6 xs0 (ix2 ⟨r.val, by omega⟩ f) = k0_pay4 (F := Ideal) x0 x1 x2 (ix2 ⟨504 + r.val, by omega⟩ f) := by
  unfold sout0_B_0
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread]
  simp only [View.ld_unit_zero (S := S1x512x1024) zero3, View.ld_unit_zero (S := S1x1024) zero2, View.ld_unit_zero (S := S1024x5632) zero2,
    View.ld_unit_zero (S := S1x5632) zero2, View.ld_unit_zero (S := S2816x1024) zero2]
  rw [rows_hit _ _ _ _ _ _ f r (by simp only; omega)]
  rw [halo_apply, cov_rows _ _ _ r f ⟨512 + r.val, by omega⟩ rfl, rows_hit _ _ _ _ _ _ f ⟨504 + r.val, by omega⟩ (by simp only; omega)]

end Cert.FfnFinalIdeal.Hand

end
-- ==== Proof.FfnFinalArray.lean ====
/-
  The last feed-forward block's kernel over the whole grid: its output array, at an element, is the block of the sequence.
-/
module

public import proofs.«01_k».proof.Proof.FfnFinalBlock
public import Idealize.ShloMosaic.Lib.Pipeline.ValueKit.Point

@[expose] public section

set_option maxRecDepth 16384

noncomputable section

namespace Cert.FfnFinalIdeal.Hand

open Cert.FfnFinalIdeal Cert.FfnFinalIdeal.Gen Cert.FfnFinalIdeal.Value Idealize.ShloMosaic Idealize.ShloMosaic.TcCoe Idealize.ShloMosaic.Tactic
open Trunk

variable (m : (ℓ : Loc nD τ sig) → Buf (Elt Ideal) ℓ) (c : Dev nD)

/-- The arguments by their coordinates: the input, the gains, the projections, the convolution's taps and bias. -/
def X (b : Fin 16) (s : Fin 4096) (k : Fin 1024) : EReal := m ((c : Thread nD τ).loc main_arg0) (ix3 b s k)
def G (k : Fin 1024) : EReal := m ((c : Thread nD τ).loc main_arg1) (ix1 k)
def WU (k : Fin 1024) (f : Fin 5632) : EReal := m ((c : Thread nD τ).loc main_arg2) (ix2 k f)
def CW (a : Fin 3) (f : Fin 5632) : EReal := m ((c : Thread nD τ).loc main_arg3) (ix2 a f)
def CB (f : Fin 5632) : EReal := m ((c : Thread nD τ).loc main_arg4) (ix1 f)
def WD (j : Fin 2816) (d : Fin 1024) : EReal := m ((c : Thread nD τ).loc main_arg5) (ix2 j d)
def GF (k : Fin 1024) : EReal := m ((c : Thread nD τ).loc main_arg6) (ix1 k)

/-- The input's block index at a point: one sequence per eight points, one tile of 512 rows per point. -/
theorem idx0 (t : Fin cfg0.N) : win0_0.index t (0 : Fin 3) = t.val / 8 ∧ win0_0.index t (1 : Fin 3) = t.val % 8
    ∧ win0_0.index t (2 : Fin 3) = 0 := by
  revert t
  show ∀ t : Fin grid0.N, _
  decide +kernel
/-- Every other input is one block, the same at every point. -/
theorem idxc (t : Fin cfg0.N) : (win0_1.index t (0 : Fin 2) = 0 ∧ win0_1.index t (1 : Fin 2) = 0)
    ∧ (win0_2.index t (0 : Fin 2) = 0 ∧ win0_2.index t (1 : Fin 2) = 0) ∧ (win0_3.index t (0 : Fin 2) = 0 ∧ win0_3.index t (1 : Fin 2) = 0)
    ∧ (win0_4.index t (0 : Fin 2) = 0 ∧ win0_4.index t (1 : Fin 2) = 0) ∧ (win0_5.index t (0 : Fin 2) = 0 ∧ win0_5.index t (1 : Fin 2) = 0)
    ∧ (win0_6.index t (0 : Fin 2) = 0 ∧ win0_6.index t (1 : Fin 2) = 0) := by
  revert t
  show ∀ t : Fin grid0.N, _
  decide +kernel

theorem lt_N (t : Fin cfg0.N) : t.val < 128 := lt_of_lt_of_eq t.isLt N_0

/-- The sequence a point works on, and its tile's row in that sequence. -/
def bOf (t : Fin cfg0.N) : Fin 16 := ⟨t.val / 8, by have := lt_N t; omega⟩
def sOf (t : Fin cfg0.N) (r : Fin 512) : Fin 4096 := ⟨t.val % 8 * 512 + r.val, by omega⟩

theorem blk0 (t : Fin cfg0.N) (r : Fin 512) (k : Fin 1024) : iblk (F := Ideal) m c 0 t (ix3 0 r k) = X m c (bOf t) (sOf t r) k := by
  obtain ⟨e0, e1, e2⟩ := idx0 t
  unfold X bOf sOf
  blk_ext! [iblk, V, e0, e1, e2]
theorem blk1 (t : Fin cfg0.N) (k : Fin 1024) : iblk (F := Ideal) m c 1 t (ix2 0 k) = G m c k := by
  obtain ⟨⟨e0, e1⟩, -⟩ := idxc t
  unfold G
  blk_ext! [iblk, V, e0, e1]
theorem blk2 (t : Fin cfg0.N) (k : Fin 1024) (f : Fin 5632) : iblk (F := Ideal) m c 2 t (ix2 k f) = WU m c k f := by
  obtain ⟨-, ⟨e0, e1⟩, -⟩ := idxc t
  unfold WU
  blk_ext! [iblk, V, e0, e1]
theorem blk3 (t : Fin cfg0.N) (k : Fin 3) (f : Fin 5632) : iblk (F := Ideal) m c 3 t (ix2 k f) = CW m c k f := by
  obtain ⟨-, -, ⟨e0, e1⟩, -⟩ := idxc t
  unfold CW
  blk_ext! [iblk, V, e0, e1]
theorem blk4 (t : Fin cfg0.N) (f : Fin 5632) : iblk (F := Ideal) m c 4 t (ix2 0 f) = CB m c f := by
  obtain ⟨-, -, -, ⟨e0, e1⟩, -⟩ := idxc t
  unfold CB
  blk_ext! [iblk, V, e0, e1]
theorem blk5 (t : Fin cfg0.N) (j : Fin 2816) (d : Fin 1024) : iblk (F := Ideal) m c 5 t (ix2 j d) = WD m c j d := by
  obtain ⟨-, -, -, -, ⟨e0, e1⟩, -⟩ := idxc t
  unfold WD
  blk_ext! [iblk, V, e0, e1]
theorem blk6 (t : Fin cfg0.N) (k : Fin 1024) : iblk (F := Ideal) m c 6 t (ix2 0 k) = GF m c k := by
  obtain ⟨-, -, -, -, -, e0, e1⟩ := idxc t
  unfold GF
  blk_ext! [iblk, V, e0, e1]

/-- The up-projected rows of sequence `b`. -/
abbrev U (b : Fin 16) : Fin 4096 → Fin 5632 → EReal := up (X m c b) (G m c) (WU m c)

/-- What a point up-projects are its tile's rows of its sequence. -/
theorem up_blk (t : Fin cfg0.N) (r : Fin 512) (f : Fin 5632) :
    k0_pay4 (F := Ideal) (iblk (F := Ideal) m c 0 t) (iblk (F := Ideal) m c 1 t) (iblk (F := Ideal) m c 2 t) (ix2 r f) = U m c (bOf t) (sOf t r) f := by
  refine (up_apply _ _ _ r f).trans ?_
  simp only [blk0 m c, blk1 m c, blk2 m c, U, up]

/-- The scratch a point hands on: its first eight rows are the tile's last eight up-projected rows. -/
theorem scratch_apply (t : Fin cfg0.N) (r : Fin 8) (f : Fin 5632) :
    (outsAt0 (F := Ideal) m c t.val t.isLt).2 (ix2 ⟨r.val, by omega⟩ f) = U m c (bOf t) (sOf t ⟨504 + r.val, by omega⟩) f := by
  by_cases h0 : t.val % 8 = 0
  · rw [outsAt0_A m c t h0]
    dsimp only
    rw [sout_A]
    exact up_blk m c t _ f
  · rw [outsAt0_B m c t h0]
    dsimp only
    rw [sout_B]
    exact up_blk m c t _ f

/-- What a point leaves in its output block is the feed-forward block of its sequence at its tile's rows. -/
theorem point_apply (t : Fin cfg0.N) (r : Fin 512) (d : Fin 1024) :
    (outsAt0 (F := Ideal) m c t.val t.isLt).1 (ix3 0 r d)
      = ffnFinal (X m c (bOf t)) (G m c) (WU m c) (CW m c) (CB m c) (WD m c) (GF m c) (sOf t r) d := by
  by_cases h0 : t.val % 8 = 0
  · rw [outsAt0_A m c t h0]
    dsimp only
    rw [out_A]
    simp only [up_blk m c, blk0 m c, blk3 m c, blk4 m c, blk5 m c, blk6 m c]
    unfold ffnFinal ffn
    congr 2
    · funext f
      unfold back
      by_cases h : 1 ≤ r.val
      · rw [dif_pos h, if_pos (by simp only [sOf]; omega)]
        congr 1
        apply Fin.ext; simp only [sOf]; omega
      · rw [dif_neg h, if_neg (by simp only [sOf]; omega)]
    · funext f
      unfold back
      by_cases h : 2 ≤ r.val
      · rw [dif_pos h, if_pos (by simp only [sOf]; omega)]
        congr 1
        apply Fin.ext; simp only [sOf]; omega
      · rw [dif_neg h, if_neg (by simp only [sOf]; omega)]
  · have hN := lt_N t
    have hp : ∀ (k : Fin 8) (f : Fin 5632), (outsAt0 (F := Ideal) m c (t.val - 1) (by omega)).2 (ix2 ⟨k.val, by omega⟩ f)
        = U m c (bOf t) ⟨t.val % 8 * 512 + k.val - 8, by omega⟩ f := fun k f => by
      refine (scratch_apply m c ⟨t.val - 1, by omega⟩ k f).trans ?_
      have hb : bOf ⟨t.val - 1, by omega⟩ = bOf t := Fin.ext (by simp only [bOf]; omega)
      rw [hb]
      congr 1
      apply Fin.ext; simp only [sOf]; omega
    rw [outsAt0_B m c t h0]
    dsimp only
    rw [out_B]
    simp only [up_blk m c, blk0 m c, blk3 m c, blk4 m c, blk5 m c, blk6 m c]
    unfold ffnFinal ffn
    congr 2
    · funext f
      unfold back
      rw [if_pos (by simp only [sOf]; omega)]
      by_cases h : 1 ≤ r.val
      · rw [dif_pos h]
        congr 1
        apply Fin.ext; simp only [sOf]; omega
      · rw [dif_neg h]
        refine (hp 7 f).trans ?_
        congr 1
        apply Fin.ext; simp only [sOf]; omega
    · funext f
      unfold back
      rw [if_pos (by simp only [sOf]; omega)]
      by_cases h : 2 ≤ r.val
      · rw [dif_pos h]
        congr 1
        apply Fin.ext; simp only [sOf]; omega
      · rw [dif_neg h]
        refine (hp ⟨6 + r.val, by omega⟩ f).trans ?_
        congr 1
        apply Fin.ext; simp only [sOf]; omega

/-- THE OUTPUT ARRAY at an element is the feed-forward block of its sequence. -/
theorem array_apply (b : Fin 16) (s : Fin 4096) (d : Fin 1024) :
    G7 (F := Ideal) m c (ix3 b s d) = ffnFinal (X m c b) (G m c) (WU m c) (CW m c) (CB m c) (WD m c) (GF m c) s d := by
  have hp : pt7Of (ix3 b s d) = 8 * b.val + s.val / 512 := by
    show 8 * (b.val / 1 - 0) + 1 * (s.val / 512 - 0) + 1 * (d.val / 1024 - 0) = _
    omega
  have hlt : pt7Of (ix3 b s d) < cfg0.N := by rw [hp]; exact lt_of_lt_of_eq (by omega) N_0.symm
  unfold G7
  rw [dif_pos hlt, ← outsAt0_sweep]
  have hl : loc7Of (ix3 b s d) = ix3 0 (⟨s.val % 512, by omega⟩ : Fin 512) d := by
    funext a
    apply Fin.ext
    fin_cases a
    · exact Nat.mod_one _
    · rfl
    · exact Nat.mod_eq_of_lt d.isLt
  rw [hl]
  refine (point_apply m c ⟨_, hlt⟩ _ d).trans ?_
  have hb : bOf ⟨pt7Of (ix3 b s d), hlt⟩ = b := Fin.ext (by simp only [bOf, hp]; omega)
  have hs : sOf ⟨pt7Of (ix3 b s d), hlt⟩ ⟨s.val % 512, by omega⟩ = s := Fin.ext (by simp only [sOf, hp]; omega)
  rw [hb, hs]

end Cert.FfnFinalIdeal.Hand

end
-- ==== Proof.FfnFinalRefVal.lean ====
/-
  The last feed-forward block's reference at an element: the up-projected rows, the convolution, the gated sum.
-/
module

public import proofs.«01_k».proof.Proof.Spec
public import proofs.«01_k».proof.Proof.Gen.FfnFinalRefIdeal.Run
public import proofs.«01_k».proof.Proof.Gen.FfnFinalRefIdeal.Read

@[expose] public section

noncomputable section

namespace Cert.FfnFinalRefIdeal.Hand

open Cert.FfnFinalRefIdeal Cert.FfnFinalRefIdeal.Gen Cert.FfnFinalRefIdeal.Read Idealize.ShloMosaic Idealize.ShloMosaic.TcCoe Idealize.ShloMosaic.Tactic
open Trunk

variable (x0 : FVec Ideal S16x4096x1024 .f32) (x1 : FVec Ideal S1024 .f32) (x2 : FVec Ideal S1024x5632 .f32)
  (x3 : FVec Ideal S3x5632 .f32) (x4 : FVec Ideal S5632 .f32) (x5 : FVec Ideal S2816x1024 .f32)

/-- The reference's up-projected rows of sequence `b`. -/
abbrev U (b : Fin 16) : Fin 4096 → Fin 5632 → EReal := up (fun s k => x0 (ix3 b s k)) (fun k => x1 (ix1 k)) (fun k f => x2 (ix2 k f))

/-- The up-projected rows. -/
theorem up_apply (b : Fin 16) (s : Fin 4096) (f : Fin 5632) : val_main_v13 (F := Ideal) x0 x1 x2 (ix3 b s f) = U x0 x1 x2 b s f := by
  pointwise [val_main_v13, val_main_v12, val_main_v11, val_main_v10, val_main_v9, val_main_v8, val_main_v7, val_main_v6, val_main_v5,
    val_main_cst_1, val_main_v4, val_main_v3, val_main_cst_0, val_main_v2, val_main_v1, val_main_cst, val_main_v0]
  rfl

/-- The convolved rows. -/
theorem conv_apply (b : Fin 16) (s : Fin 4096) (f : Fin 5632) :
    val_main_v39 (F := Ideal) x0 x1 x2 x3 x4 (ix3 b s f)
      = conv (x4 (ix1 f)) (x3 (ix2 0 f)) (x3 (ix2 1 f)) (x3 (ix2 2 f)) (U x0 x1 x2 b s f) (back (U x0 x1 x2 b) 1 s f) (back (U x0 x1 x2 b) 2 s f) := by
  have hU := up_apply x0 x1 x2 b
  unfold val_main_v39 val_main_v36 val_main_v35 val_main_v32 val_main_v29 val_main_v28 val_main_v25 val_main_v22 val_main_v20 val_main_v17 val_main_v14
  generalize val_main_v13 (F := Ideal) x0 x1 x2 = V at hU ⊢
  pointwise [val_main_v38, val_main_v37, val_main_v34, val_main_v33, val_main_v31, val_main_v30, val_main_v27, val_main_v26, val_main_v24,
    val_main_v23, val_main_v21, val_main_cst_2, val_main_v19, val_main_v18, val_main_v16, val_main_v15, val_main_call0_v0, val_main_c]
  simp only [hU, pad2 (U x0 x1 x2 b), pad1 (U x0 x1 x2 b)]
  rfl

/-- The reference's row before the closing normalization. -/
theorem ref_mid (b : Fin 16) (s : Fin 4096) (d : Fin 1024) :
    val_main_v45 (F := Ideal) x0 x1 x2 x3 x4 x5 (ix3 b s d)
      = ffn (fun s k => x0 (ix3 b s k)) (fun k => x1 (ix1 k)) (fun k f => x2 (ix2 k f)) (fun a f => x3 (ix2 a f)) (fun f => x4 (ix1 f))
          (fun j d => x5 (ix2 j d)) s d := by
  have hC := conv_apply x0 x1 x2 x3 x4 b
  unfold val_main_v45 val_main_v44 val_main_v43 val_main_v42 val_main_call1_v5 val_main_call1_v4 val_main_call1_v3 val_main_call1_v2
    val_main_call1_v1 val_main_call1_v0 val_main_v41 val_main_v40
  generalize val_main_v39 (F := Ideal) x0 x1 x2 x3 x4 = V at hC ⊢
  pointwise [val_main_call1_cst, val_main_call1_cst_0]
  simp only [hC]
  rfl

/-- THE REFERENCE at an element is the last feed-forward block of its sequence. -/
theorem ref_apply (x6 : FVec Ideal S1024 .f32) (b : Fin 16) (s : Fin 4096) (d : Fin 1024) :
    val_main_v58 (F := Ideal) x0 x1 x2 x3 x4 x5 x6 (ix3 b s d)
      = ffnFinal (fun s k => x0 (ix3 b s k)) (fun k => x1 (ix1 k)) (fun k f => x2 (ix2 k f)) (fun a f => x3 (ix2 a f)) (fun f => x4 (ix1 f))
          (fun j d => x5 (ix2 j d)) (fun k => x6 (ix1 k)) s d := by
  have hY := ref_mid x0 x1 x2 x3 x4 x5 b s
  unfold val_main_v58 val_main_v55 val_main_v54 val_main_v53 val_main_v52 val_main_v50 val_main_v48 val_main_v47 val_main_v46
  generalize val_main_v45 (F := Ideal) x0 x1 x2 x3 x4 x5 = Y at hY ⊢
  pointwise [val_main_v57, val_main_v56, val_main_v51, val_main_cst_5, val_main_v49, val_main_cst_4, val_main_cst_3]
  simp only [hY]
  rfl

end Cert.FfnFinalRefIdeal.Hand

end
-- ==== Proof.FfnFinalEq.lean ====
/-
  The feed-forward block: the reference's array is the kernel's.
-/
module

public import proofs.«01_k».proof.Proof.FfnFinalArray
public import proofs.«01_k».proof.Proof.FfnFinalRefVal

@[expose] public section

noncomputable section

namespace Cert.FfnFinalIdeal.Hand

open Cert.FfnFinalIdeal Cert.FfnFinalIdeal.Gen Cert.FfnFinalIdeal.Value Idealize.ShloMosaic Idealize.ShloMosaic.TcCoe
open Trunk

/-- THE EQUATION: the reference, given the kernel's arguments, computes what the kernel's output array ends holding. -/
theorem equation (m : (ℓ : Loc nD τ sig) → Buf (Elt Ideal) ℓ) (c : Dev nD) :
    Cert.FfnFinalRefIdeal.Read.val_main_v58 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) = G7 (F := Ideal) m c := by
  funext i
  have hi : i = ix3 (i 0) (i 1) (i 2) := by
    funext a
    fin_cases a <;> rfl
  rw [hi]
  exact (Cert.FfnFinalRefIdeal.Hand.ref_apply _ _ _ _ _ _ _ (i 0) (i 1) (i 2)).trans (array_apply m c (i 0) (i 1) (i 2)).symm

end Cert.FfnFinalIdeal.Hand

end
-- ==== Proof.OddBlock.lean ====
/-
  The short-convolution mixer's kernel at one grid point: what its payloads compute at an element, and what the point leaves in its
  output block and in the rows of the scratch it hands to the next point.
-/
module

public import proofs.«01_k».proof.Proof.Spec
public import proofs.«01_k».proof.Proof.Gen.OddIdeal.Value

@[expose] public section

set_option maxRecDepth 16384

noncomputable section

namespace Cert.OddIdeal.Hand

open Cert.OddIdeal Cert.OddIdeal.Gen Cert.OddIdeal.Value Idealize.ShloMosaic Idealize.ShloMosaic.TcCoe Idealize.ShloMosaic.Tactic
open Trunk

/-- The product the point stores, of a block: each row normalized and projected, its second third times its last third. -/
theorem gate_apply (v3 : FVec Ideal S1x512x1024 .f32) (v5 : FVec Ideal S1x1024 .f32) (v20 : FVec Ideal S1024x3072 .bf16)
    (r : Fin 512) (f : Fin 1024) :
    k0_pay6 (F := Ideal) v3 v5 v20 (ix2 r f)
      = proj (rms (fun k => v3 (ix3 0 r k)) (fun k => v5 (ix2 0 k))) (fun k => v20 (ix2 k ⟨1024 + f.val, by omega⟩))
        * proj (rms (fun k => v3 (ix3 0 r k)) (fun k => v5 (ix2 0 k))) (fun k => v20 (ix2 k ⟨2048 + f.val, by omega⟩)) := by
  pointwise [k0_pay6, k0_pay5, k0_pay4]
  rfl

/-- The gate of a block: the first third of the projected row. -/
theorem first_apply (v3 : FVec Ideal S1x512x1024 .f32) (v5 : FVec Ideal S1x1024 .f32) (v20 : FVec Ideal S1024x3072 .bf16)
    (r : Fin 512) (f : Fin 1024) :
    k0_pay7 (F := Ideal) v3 v5 v20 (ix2 r f)
      = proj (rms (fun k => v3 (ix3 0 r k)) (fun k => v5 (ix2 0 k))) (fun k => v20 (ix2 k ⟨f.val, by omega⟩)) := by
  pointwise [k0_pay7, k0_pay5, k0_pay4]
  rfl

/-- The output payload of a block, from the block's rows, its gate and the three bands of products it read back. -/
theorem out_apply (v3 : FVec Ideal S1x512x1024 .f32) (v29 : FVec Ideal S512x1024 .f32) (v26 v27 v28 : FVec Ideal S512x1024 .f32)
    (v33 v35 v40 v44 : FVec Ideal S1x1024 .f32) (v50 : FVec Ideal S1024x1024 .bf16) (r : Fin 512) (d : Fin 1024) :
    k0_pay1 (F := Ideal) (k0_pay4 v3) v29 v26 v27 v28 v33 v35 v40 v44 v50 (ix3 0 r d)
      = oddRow (fun k => v3 (ix3 0 r k)) (fun f => v29 (ix2 r f)) (fun f => v26 (ix2 r f)) (fun f => v27 (ix2 r f)) (fun f => v28 (ix2 r f))
          ![fun f => v35 (ix2 0 f), fun f => v40 (ix2 0 f), fun f => v44 (ix2 0 f)] (fun f => v33 (ix2 0 f)) (fun j d => v50 (ix2 j d)) d := by
  pointwise [k0_pay1, k0_pay4]
  simp only [oddRow, conv, add_assoc]
  rfl

/-- The eight rows stored before a sequence begins are zero. -/
theorem halo_zero (r : Fin 8) (f : Fin 1024) : k0_pay3 (F := Ideal) (ix2 r f) = 0 := by
  pointwise [k0_pay3]

/-- The eight rows handed on are stored as they were read. -/
theorem halo_apply (v : FVec Ideal S8x1024 .f32) (r : Fin 8) (f : Fin 1024) : k0_pay2 (F := Ideal) v (ix2 r f) = v (ix2 r f) := by
  pointwise [k0_pay2]

/-- The output block of a point in case A: row `r` reads the products `r`, `r - 1`, `r - 2` of its own block, and before
    the block's first row zeros. -/
theorem out_A (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x3072 .bf16) (harg4 : arg4.IsWhole) (arg5 : Memref sig .tc .vmem S3x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x512x1024 .f32) (harg8 : arg8.IsWhole) (arg9 : Memref sig .tc .vmem S520x1024 .f32) (harg9 : arg9.IsWhole) (hc0 : cond0_0 i)
    (x0 : Vec Ideal S1x512x1024 .f32) (x1 : Vec Ideal S1x1024 .f32) (x2 : Vec Ideal S1024x3072 .bf16) (x3 : Vec Ideal S3x1024 .f32) (x4 : Vec Ideal S1x1024 .f32) (x5 : Vec Ideal S1024x1024 .bf16) (r : Fin 512) (d : Fin 1024) :
    out0_A_6 c i arg2 harg2 arg3 harg3 arg4 harg4 arg5 harg5 arg6 harg6 arg7 harg7 arg8 harg8 arg9 harg9 hc0 x0 x1 x2 x3 x4 x5 (ix3 0 r d)
      = oddRow (fun k => x0 (ix3 0 r k)) (fun f => k0_pay7 (F := Ideal) x0 x1 x2 (ix2 r f)) (fun f => k0_pay6 (F := Ideal) x0 x1 x2 (ix2 r f))
          (fun f => if h : 1 ≤ r.val then k0_pay6 (F := Ideal) x0 x1 x2 (ix2 ⟨r.val - 1, by omega⟩ f) else 0)
          (fun f => if h : 2 ≤ r.val then k0_pay6 (F := Ideal) x0 x1 x2 (ix2 ⟨r.val - 2, by omega⟩ f)
            else 0)
          (fun a f => x3 (ix2 a f)) (fun f => x4 (ix2 0 f)) (fun j d => x5 (ix2 j d)) d := by
  unfold out0_A_6
  rw [View.read_writes_eq_canon _ _ _ (cover0_A_6 c i arg2 harg2 arg3 harg3 arg4 harg4 arg5 harg5 arg6 harg6 arg7 harg7 arg8 harg8 arg9 harg9 hc0 x0 x1 x2 x3 x4 x5)]
  unfold kernelRun0_A
  dsimp only
  sl_unfold_words
  simp only [View.readAt_eq_ld, harg2.read_unread, harg3.read_unread, harg4.read_unread, harg5.read_unread, harg6.read_unread, harg7.read_unread, harg8.read_unread, harg9.read_unread]
  simp only [View.ld_unit_zero (S := S1x512x1024) zero3, View.ld_unit_zero (S := S1x1024) zero2, View.ld_unit_zero (S := S1024x3072) zero2,
    View.ld_unit_zero (S := S1024x1024) zero2]
  rw [View.canon_unit_zero (S := S1x512x1024) zero3, out_apply, View.readCov_cons_toLoadRect]
  congr 1
  · funext f
    by_cases h : 1 ≤ r.val
    · rw [dif_pos h, cov_rows _ _ _ r f ⟨7 + r.val, by omega⟩ rfl, rows_hit _ _ _ _ _ _ f ⟨r.val - 1, by omega⟩ (by simp only; omega)]
    · rw [dif_neg h, cov_rows _ _ _ r f ⟨7, by omega⟩ (by simp only; omega), rows_miss _ _ _ _ _ _ f (by left; simp only; omega)]
      rw [rows_hit _ _ _ _ _ _ f ⟨7, by omega⟩ (by simp only <;> omega)]
      exact halo_zero _ _
  · funext f
    by_cases h : 2 ≤ r.val
    · rw [dif_pos h, cov_rows _ _ _ r f ⟨6 + r.val, by omega⟩ rfl, rows_hit _ _ _ _ _ _ f ⟨r.val - 2, by omega⟩ (by simp only; omega)]
    · rw [dif_neg h, cov_rows _ _ _ r f ⟨6 + r.val, by omega⟩ rfl, rows_miss _ _ _ _ _ _ f (by left; simp only; omega)]
      rw [rows_hit _ _ _ _ _ _ f ⟨6 + r.val, by omega⟩ (by simp only; omega)]
      exact halo_zero _ _
  · funext a f
    fin_cases a <;> exact ld_rows _ _ 0 f _ rfl

/-- The first eight rows of the scratch after a point in case A are the last eight products of its block. -/
theorem sout_A (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x3072 .bf16) (harg4 : arg4.IsWhole) (arg5 : Memref sig .tc .vmem S3x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x512x1024 .f32) (harg8 : arg8.IsWhole) (arg9 : Memref sig .tc .vmem S520x1024 .f32) (harg9 : arg9.IsWhole) (hc0 : cond0_0 i)
    (x0 : Vec Ideal S1x512x1024 .f32) (x1 : Vec Ideal S1x1024 .f32) (x2 : Vec Ideal S1024x3072 .bf16) (x3 : Vec Ideal S3x1024 .f32) (x4 : Vec Ideal S1x1024 .f32) (x5 : Vec Ideal S1024x1024 .bf16) (r : Fin 8) (f : Fin 1024) :
    sout0_A_0 c i arg2 harg2 arg3 harg3 arg4 harg4 arg5 harg5 arg6 harg6 arg7 harg7 arg8 harg8 arg9 harg9 hc0 x0 x1 x2 x3 x4 x5 (ix2 ⟨r.val, by omega⟩ f) = k0_pay6 (F := Ideal) x0 x1 x2 (ix2 ⟨504 + r.val, by omega⟩ f) := by
  unfold sout0_A_0
  unfold kernelRun0_A
  dsimp only
  sl_unfold_words
  simp only [View.readAt_eq_ld, harg2.read_unread, harg3.read_unread, harg4.read_unread, harg5.read_unread, harg6.read_unread, harg7.read_unread, harg8.read_unread, harg9.read_unread]
  simp only [View.ld_unit_zero (S := S1x512x1024) zero3, View.ld_unit_zero (S := S1x1024) zero2, View.ld_unit_zero (S := S1024x3072) zero2,
    View.ld_unit_zero (S := S1024x1024) zero2]
  rw [rows_hit _ _ _ _ _ _ f r (by simp only; omega)]
  rw [halo_apply, cov_rows _ _ _ r f ⟨512 + r.val, by omega⟩ rfl, rows_hit _ _ _ _ _ _ f ⟨504 + r.val, by omega⟩ (by simp only; omega)]

/-- The output block of a point in case B: row `r` reads the products `r`, `r - 1`, `r - 2` of its own block, and before
    the block's first row the last two rows of the scratch as the point before left it. -/
theorem out_B (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x3072 .bf16) (harg4 : arg4.IsWhole) (arg5 : Memref sig .tc .vmem S3x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x512x1024 .f32) (harg8 : arg8.IsWhole) (arg9 : Memref sig .tc .vmem S520x1024 .f32) (harg9 : arg9.IsWhole) (hc0 : ¬cond0_0 i)
    (x0 : Vec Ideal S1x512x1024 .f32) (x1 : Vec Ideal S1x1024 .f32) (x2 : Vec Ideal S1024x3072 .bf16) (x3 : Vec Ideal S3x1024 .f32) (x4 : Vec Ideal S1x1024 .f32) (x5 : Vec Ideal S1024x1024 .bf16) (xs0 : Vec Ideal S520x1024 .f32) (r : Fin 512) (d : Fin 1024) :
    out0_B_6 c i arg2 harg2 arg3 harg3 arg4 harg4 arg5 harg5 arg6 harg6 arg7 harg7 arg8 harg8 arg9 harg9 hc0 x0 x1 x2 x3 x4 x5 xs0 (ix3 0 r d)
      = oddRow (fun k => x0 (ix3 0 r k)) (fun f => k0_pay7 (F := Ideal) x0 x1 x2 (ix2 r f)) (fun f => k0_pay6 (F := Ideal) x0 x1 x2 (ix2 r f))
          (fun f => if h : 1 ≤ r.val then k0_pay6 (F := Ideal) x0 x1 x2 (ix2 ⟨r.val - 1, by omega⟩ f) else xs0 (ix2 7 f))
          (fun f => if h : 2 ≤ r.val then k0_pay6 (F := Ideal) x0 x1 x2 (ix2 ⟨r.val - 2, by omega⟩ f)
            else xs0 (ix2 ⟨6 + r.val, by omega⟩ f))
          (fun a f => x3 (ix2 a f)) (fun f => x4 (ix2 0 f)) (fun j d => x5 (ix2 j d)) d := by
  unfold out0_B_6
  rw [View.read_writes_eq_canon _ _ _ (cover0_B_6 c i arg2 harg2 arg3 harg3 arg4 harg4 arg5 harg5 arg6 harg6 arg7 harg7 arg8 harg8 arg9 harg9 hc0 x0 x1 x2 x3 x4 x5 xs0)]
  unfold kernelRun0_B
  dsimp only
  sl_unfold_words
  simp only [View.readAt_eq_ld, harg2.read_unread, harg3.read_unread, harg4.read_unread, harg5.read_unread, harg6.read_unread, harg7.read_unread, harg8.read_unread, harg9.read_unread]
  simp only [View.ld_unit_zero (S := S1x512x1024) zero3, View.ld_unit_zero (S := S1x1024) zero2, View.ld_unit_zero (S := S1024x3072) zero2,
    View.ld_unit_zero (S := S1024x1024) zero2]
  rw [View.canon_unit_zero (S := S1x512x1024) zero3, out_apply, View.readCov_cons_toLoadRect]
  congr 1
  · funext f
    by_cases h : 1 ≤ r.val
    · rw [dif_pos h, ld_rows _ _ r f ⟨7 + r.val, by omega⟩ rfl, rows_hit _ _ _ _ _ _ f ⟨r.val - 1, by omega⟩ (by simp only; omega)]
    · rw [dif_neg h, ld_rows _ _ r f ⟨7, by omega⟩ (by simp only; omega), rows_miss _ _ _ _ _ _ f (by left; simp only; omega)]
      exact congrFun (harg9.read_unread xs0) _
  · funext f
    by_cases h : 2 ≤ r.val
    · rw [dif_pos h, ld_rows _ _ r f ⟨6 + r.val, by omega⟩ rfl, rows_hit _ _ _ _ _ _ f ⟨r.val - 2, by omega⟩ (by simp only; omega)]
    · rw [dif_neg h, ld_rows _ _ r f ⟨6 + r.val, by omega⟩ rfl, rows_miss _ _ _ _ _ _ f (by left; simp only; omega)]
      exact congrFun (harg9.read_unread xs0) _
  · funext a f
    fin_cases a <;> exact ld_rows _ _ 0 f _ rfl

/-- The first eight rows of the scratch after a point in case B are the last eight products of its block. -/
theorem sout_B (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x3072 .bf16) (harg4 : arg4.IsWhole) (arg5 : Memref sig .tc .vmem S3x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x512x1024 .f32) (harg8 : arg8.IsWhole) (arg9 : Memref sig .tc .vmem S520x1024 .f32) (harg9 : arg9.IsWhole) (hc0 : ¬cond0_0 i)
    (x0 : Vec Ideal S1x512x1024 .f32) (x1 : Vec Ideal S1x1024 .f32) (x2 : Vec Ideal S1024x3072 .bf16) (x3 : Vec Ideal S3x1024 .f32) (x4 : Vec Ideal S1x1024 .f32) (x5 : Vec Ideal S1024x1024 .bf16) (xs0 : Vec Ideal S520x1024 .f32) (r : Fin 8) (f : Fin 1024) :
    sout0_B_0 c i arg2 harg2 arg3 harg3 arg4 harg4 arg5 harg5 arg6 harg6 arg7 harg7 arg8 harg8 arg9 harg9 hc0 x0 x1 x2 x3 x4 x5 xs0 (ix2 ⟨r.val, by omega⟩ f) = k0_pay6 (F := Ideal) x0 x1 x2 (ix2 ⟨504 + r.val, by omega⟩ f) := by
  unfold sout0_B_0
  unfold kernelRun0_B
  dsimp only
  sl_unfold_words
  simp only [View.readAt_eq_ld, harg2.read_unread, harg3.read_unread, harg4.read_unread, harg5.read_unread, harg6.read_unread, harg7.read_unread, harg8.read_unread, harg9.read_unread]
  simp only [View.ld_unit_zero (S := S1x512x1024) zero3, View.ld_unit_zero (S := S1x1024) zero2, View.ld_unit_zero (S := S1024x3072) zero2,
    View.ld_unit_zero (S := S1024x1024) zero2]
  rw [rows_hit _ _ _ _ _ _ f r (by simp only; omega)]
  rw [halo_apply, cov_rows _ _ _ r f ⟨512 + r.val, by omega⟩ rfl, rows_hit _ _ _ _ _ _ f ⟨504 + r.val, by omega⟩ (by simp only; omega)]

end Cert.OddIdeal.Hand

end
-- ==== Proof.OddArray.lean ====
/-
  The short-convolution mixer's kernel over the whole grid: its output array, at an element, is the mixer of its sequence.
-/
module

public import proofs.«01_k».proof.Proof.OddBlock
public import Idealize.ShloMosaic.Lib.Pipeline.ValueKit.Point

@[expose] public section

set_option maxRecDepth 16384

noncomputable section

namespace Cert.OddIdeal.Hand

open Cert.OddIdeal Cert.OddIdeal.Gen Cert.OddIdeal.Value Idealize.ShloMosaic Idealize.ShloMosaic.TcCoe Idealize.ShloMosaic.Tactic
open Trunk

variable (m : (ℓ : Loc nD τ sig) → Buf (Elt Ideal) ℓ) (c : Dev nD)

/-- The arguments by their coordinates: the input, the gains, the projections, the convolution's taps and bias. -/
def X (b : Fin 16) (s : Fin 4096) (k : Fin 1024) : EReal := m ((c : Thread nD τ).loc main_arg0) (ix3 b s k)
def G (k : Fin 1024) : EReal := m ((c : Thread nD τ).loc main_arg1) (ix1 k)
def WU (k : Fin 1024) (f : Fin 3072) : EReal := m ((c : Thread nD τ).loc main_arg2) (ix2 k f)
def CW (a : Fin 3) (f : Fin 1024) : EReal := m ((c : Thread nD τ).loc main_arg3) (ix2 a f)
def CB (f : Fin 1024) : EReal := m ((c : Thread nD τ).loc main_arg4) (ix1 f)
def WD (j : Fin 1024) (d : Fin 1024) : EReal := m ((c : Thread nD τ).loc main_arg5) (ix2 j d)

/-- The input's block index at a point: one sequence per eight points, one tile of 512 rows per point. -/
theorem idx0 (t : Fin cfg0.N) : win0_0.index t (0 : Fin 3) = t.val / 8 ∧ win0_0.index t (1 : Fin 3) = t.val % 8
    ∧ win0_0.index t (2 : Fin 3) = 0 := by
  revert t
  show ∀ t : Fin grid0.N, _
  decide +kernel
/-- Every other input is one block, the same at every point. -/
theorem idxc (t : Fin cfg0.N) : (win0_1.index t (0 : Fin 2) = 0 ∧ win0_1.index t (1 : Fin 2) = 0)
    ∧ (win0_2.index t (0 : Fin 2) = 0 ∧ win0_2.index t (1 : Fin 2) = 0) ∧ (win0_3.index t (0 : Fin 2) = 0 ∧ win0_3.index t (1 : Fin 2) = 0)
    ∧ (win0_4.index t (0 : Fin 2) = 0 ∧ win0_4.index t (1 : Fin 2) = 0) ∧ (win0_5.index t (0 : Fin 2) = 0 ∧ win0_5.index t (1 : Fin 2) = 0) := by
  revert t
  show ∀ t : Fin grid0.N, _
  decide +kernel

theorem lt_N (t : Fin cfg0.N) : t.val < 128 := lt_of_lt_of_eq t.isLt N_0

/-- The sequence a point works on, and its tile's row in that sequence. -/
def bOf (t : Fin cfg0.N) : Fin 16 := ⟨t.val / 8, by have := lt_N t; omega⟩
def sOf (t : Fin cfg0.N) (r : Fin 512) : Fin 4096 := ⟨t.val % 8 * 512 + r.val, by omega⟩

theorem blk0 (t : Fin cfg0.N) (r : Fin 512) (k : Fin 1024) : iblk (F := Ideal) m c 0 t (ix3 0 r k) = X m c (bOf t) (sOf t r) k := by
  obtain ⟨e0, e1, e2⟩ := idx0 t
  unfold X bOf sOf
  blk_ext! [iblk, V, e0, e1, e2]
theorem blk1 (t : Fin cfg0.N) (k : Fin 1024) : iblk (F := Ideal) m c 1 t (ix2 0 k) = G m c k := by
  obtain ⟨⟨e0, e1⟩, -⟩ := idxc t
  unfold G
  blk_ext! [iblk, V, e0, e1]
theorem blk2 (t : Fin cfg0.N) (k : Fin 1024) (f : Fin 3072) : iblk (F := Ideal) m c 2 t (ix2 k f) = WU m c k f := by
  obtain ⟨-, ⟨e0, e1⟩, -⟩ := idxc t
  unfold WU
  blk_ext! [iblk, V, e0, e1]
theorem blk3 (t : Fin cfg0.N) (k : Fin 3) (f : Fin 1024) : iblk (F := Ideal) m c 3 t (ix2 k f) = CW m c k f := by
  obtain ⟨-, -, ⟨e0, e1⟩, -⟩ := idxc t
  unfold CW
  blk_ext! [iblk, V, e0, e1]
theorem blk4 (t : Fin cfg0.N) (f : Fin 1024) : iblk (F := Ideal) m c 4 t (ix2 0 f) = CB m c f := by
  obtain ⟨-, -, -, ⟨e0, e1⟩, -⟩ := idxc t
  unfold CB
  blk_ext! [iblk, V, e0, e1]
theorem blk5 (t : Fin cfg0.N) (j : Fin 1024) (d : Fin 1024) : iblk (F := Ideal) m c 5 t (ix2 j d) = WD m c j d := by
  obtain ⟨-, -, -, -, e0, e1⟩ := idxc t
  unfold WD
  blk_ext! [iblk, V, e0, e1]

/-- The products of sequence `b`. -/
abbrev U (b : Fin 16) : Fin 4096 → Fin 1024 → EReal := gate (X m c b) (G m c) (WU m c)

/-- The products a point stores are its tile's rows of its sequence's. -/
theorem up_blk (t : Fin cfg0.N) (r : Fin 512) (f : Fin 1024) :
    k0_pay6 (F := Ideal) (iblk (F := Ideal) m c 0 t) (iblk (F := Ideal) m c 1 t) (iblk (F := Ideal) m c 2 t) (ix2 r f) = U m c (bOf t) (sOf t r) f := by
  refine (gate_apply _ _ _ r f).trans ?_
  simp only [blk0 m c, blk1 m c, blk2 m c, U, gate, up]

/-- The gate a point computes is its tile's rows of its sequence's. -/
theorem first_blk (t : Fin cfg0.N) (r : Fin 512) (f : Fin 1024) :
    k0_pay7 (F := Ideal) (iblk (F := Ideal) m c 0 t) (iblk (F := Ideal) m c 1 t) (iblk (F := Ideal) m c 2 t) (ix2 r f)
      = up (X m c (bOf t)) (G m c) (WU m c) (sOf t r) ⟨f.val, by omega⟩ := by
  refine (first_apply _ _ _ r f).trans ?_
  simp only [blk0 m c, blk1 m c, blk2 m c, up]

/-- The scratch a point hands on: its first eight rows are the tile's last eight products. -/
theorem scratch_apply (t : Fin cfg0.N) (r : Fin 8) (f : Fin 1024) :
    (outsAt0 (F := Ideal) m c t.val t.isLt).2 (ix2 ⟨r.val, by omega⟩ f) = U m c (bOf t) (sOf t ⟨504 + r.val, by omega⟩) f := by
  by_cases h0 : t.val % 8 = 0
  · rw [outsAt0_A m c t h0]
    dsimp only
    rw [sout_A]
    exact up_blk m c t _ f
  · rw [outsAt0_B m c t h0]
    dsimp only
    rw [sout_B]
    exact up_blk m c t _ f

/-- What a point leaves in its output block is the short-convolution mixer of its sequence at its tile's rows. -/
theorem point_apply (t : Fin cfg0.N) (r : Fin 512) (d : Fin 1024) :
    (outsAt0 (F := Ideal) m c t.val t.isLt).1 (ix3 0 r d)
      = odd (X m c (bOf t)) (G m c) (WU m c) (CW m c) (CB m c) (WD m c) (sOf t r) d := by
  by_cases h0 : t.val % 8 = 0
  · rw [outsAt0_A m c t h0]
    dsimp only
    rw [out_A]
    simp only [up_blk m c, first_blk m c, blk0 m c, blk3 m c, blk4 m c, blk5 m c]
    unfold odd
    congr 1
    · funext f
      unfold back
      by_cases h : 1 ≤ r.val
      · rw [dif_pos h, if_pos (by simp only [sOf]; omega)]
        congr 1
        apply Fin.ext; simp only [sOf]; omega
      · rw [dif_neg h, if_neg (by simp only [sOf]; omega)]
    · funext f
      unfold back
      by_cases h : 2 ≤ r.val
      · rw [dif_pos h, if_pos (by simp only [sOf]; omega)]
        congr 1
        apply Fin.ext; simp only [sOf]; omega
      · rw [dif_neg h, if_neg (by simp only [sOf]; omega)]
  · have hN := lt_N t
    have hp : ∀ (k : Fin 8) (f : Fin 1024), (outsAt0 (F := Ideal) m c (t.val - 1) (by omega)).2 (ix2 ⟨k.val, by omega⟩ f)
        = U m c (bOf t) ⟨t.val % 8 * 512 + k.val - 8, by omega⟩ f := fun k f => by
      refine (scratch_apply m c ⟨t.val - 1, by omega⟩ k f).trans ?_
      have hb : bOf ⟨t.val - 1, by omega⟩ = bOf t := Fin.ext (by simp only [bOf]; omega)
      rw [hb]
      congr 1
      apply Fin.ext; simp only [sOf]; omega
    rw [outsAt0_B m c t h0]
    dsimp only
    rw [out_B]
    simp only [up_blk m c, first_blk m c, blk0 m c, blk3 m c, blk4 m c, blk5 m c]
    unfold odd
    congr 1
    · funext f
      unfold back
      rw [if_pos (by simp only [sOf]; omega)]
      by_cases h : 1 ≤ r.val
      · rw [dif_pos h]
        congr 1
        apply Fin.ext; simp only [sOf]; omega
      · rw [dif_neg h]
        refine (hp 7 f).trans ?_
        congr 1
        apply Fin.ext; simp only [sOf]; omega
    · funext f
      unfold back
      rw [if_pos (by simp only [sOf]; omega)]
      by_cases h : 2 ≤ r.val
      · rw [dif_pos h]
        congr 1
        apply Fin.ext; simp only [sOf]; omega
      · rw [dif_neg h]
        refine (hp ⟨6 + r.val, by omega⟩ f).trans ?_
        congr 1
        apply Fin.ext; simp only [sOf]; omega

/-- THE OUTPUT ARRAY at an element is the short-convolution mixer of its sequence. -/
theorem array_apply (b : Fin 16) (s : Fin 4096) (d : Fin 1024) :
    G6 (F := Ideal) m c (ix3 b s d) = odd (X m c b) (G m c) (WU m c) (CW m c) (CB m c) (WD m c) s d := by
  have hp : pt6Of (ix3 b s d) = 8 * b.val + s.val / 512 := by
    show 8 * (b.val / 1 - 0) + 1 * (s.val / 512 - 0) + 1 * (d.val / 1024 - 0) = _
    omega
  have hlt : pt6Of (ix3 b s d) < cfg0.N := by rw [hp]; exact lt_of_lt_of_eq (by omega) N_0.symm
  unfold G6
  rw [dif_pos hlt, ← outsAt0_sweep]
  have hl : loc6Of (ix3 b s d) = ix3 0 (⟨s.val % 512, by omega⟩ : Fin 512) d := by
    funext a
    apply Fin.ext
    fin_cases a
    · exact Nat.mod_one _
    · rfl
    · exact Nat.mod_eq_of_lt d.isLt
  rw [hl]
  refine (point_apply m c ⟨_, hlt⟩ _ d).trans ?_
  have hb : bOf ⟨pt6Of (ix3 b s d), hlt⟩ = b := Fin.ext (by simp only [bOf, hp]; omega)
  have hs : sOf ⟨pt6Of (ix3 b s d), hlt⟩ ⟨s.val % 512, by omega⟩ = s := Fin.ext (by simp only [sOf, hp]; omega)
  rw [hb, hs]

end Cert.OddIdeal.Hand

end
-- ==== Proof.OddRefVal.lean ====
/-
  The short-convolution mixer's reference at an element: the projected rows, the convolution, the gated projection.
-/
module

public import proofs.«01_k».proof.Proof.Spec
public import proofs.«01_k».proof.Proof.Gen.OddRefIdeal.Run
public import proofs.«01_k».proof.Proof.Gen.OddRefIdeal.Read

@[expose] public section

noncomputable section

namespace Cert.OddRefIdeal.Hand

open Cert.OddRefIdeal Cert.OddRefIdeal.Gen Cert.OddRefIdeal.Read Idealize.ShloMosaic Idealize.ShloMosaic.TcCoe Idealize.ShloMosaic.Tactic
open Trunk

variable (x0 : FVec Ideal S16x4096x1024 .f32) (x1 : FVec Ideal S1024 .f32) (x2 : FVec Ideal S1024x3072 .f32)
  (x3 : FVec Ideal S3x1024 .f32) (x4 : FVec Ideal S1024 .f32) (x5 : FVec Ideal S1024x1024 .f32)

/-- The reference's projected rows of sequence `b`. -/
abbrev P (b : Fin 16) : Fin 4096 → Fin 3072 → EReal := up (fun s k => x0 (ix3 b s k)) (fun k => x1 (ix1 k)) (fun k f => x2 (ix2 k f))
/-- The reference's products of sequence `b`. -/
abbrev U (b : Fin 16) : Fin 4096 → Fin 1024 → EReal := gate (fun s k => x0 (ix3 b s k)) (fun k => x1 (ix1 k)) (fun k f => x2 (ix2 k f))

/-- The projected rows. -/
theorem up_apply (b : Fin 16) (s : Fin 4096) (f : Fin 3072) : val_main_v13 (F := Ideal) x0 x1 x2 (ix3 b s f) = P x0 x1 x2 b s f := by
  pointwise [val_main_v13, val_main_v12, val_main_v11, val_main_v10, val_main_v9, val_main_v8, val_main_v7, val_main_v6, val_main_v5,
    val_main_cst_1, val_main_v4, val_main_v3, val_main_cst_0, val_main_v2, val_main_v1, val_main_cst, val_main_v0]
  rfl

/-- The products the mixer convolves. -/
theorem gate_apply (b : Fin 16) (s : Fin 4096) (f : Fin 1024) : val_main_v17 (F := Ideal) x0 x1 x2 (ix3 b s f) = U x0 x1 x2 b s f := by
  have hP := up_apply x0 x1 x2 b
  unfold val_main_v17 val_main_v16 val_main_v15
  generalize val_main_v13 (F := Ideal) x0 x1 x2 = V at hP ⊢
  pointwise
  simp only [hP]
  rfl

/-- The convolved products. -/
theorem conv_apply (b : Fin 16) (s : Fin 4096) (f : Fin 1024) :
    val_main_v43 (F := Ideal) x0 x1 x2 x3 x4 (ix3 b s f)
      = conv (x4 (ix1 f)) (x3 (ix2 0 f)) (x3 (ix2 1 f)) (x3 (ix2 2 f)) (U x0 x1 x2 b s f) (back (U x0 x1 x2 b) 1 s f) (back (U x0 x1 x2 b) 2 s f) := by
  have hU := gate_apply x0 x1 x2 b
  unfold val_main_v43 val_main_v40 val_main_v39 val_main_v36 val_main_v33 val_main_v32 val_main_v29 val_main_v26 val_main_v24 val_main_v21 val_main_v18
  generalize val_main_v17 (F := Ideal) x0 x1 x2 = V at hU ⊢
  pointwise [val_main_v42, val_main_v41, val_main_v38, val_main_v37, val_main_v35, val_main_v34, val_main_v31, val_main_v30, val_main_v28,
    val_main_v27, val_main_v25, val_main_cst_2, val_main_v23, val_main_v22, val_main_v20, val_main_v19, val_main_call0_v0, val_main_c]
  simp only [hU, pad2 (U x0 x1 x2 b), pad1 (U x0 x1 x2 b)]
  rfl

/-- THE REFERENCE at an element is the short-convolution mixer of its sequence. -/
theorem ref_apply (b : Fin 16) (s : Fin 4096) (d : Fin 1024) :
    val_main_v46 (F := Ideal) x0 x1 x2 x3 x4 x5 (ix3 b s d)
      = odd (fun s k => x0 (ix3 b s k)) (fun k => x1 (ix1 k)) (fun k f => x2 (ix2 k f)) (fun a f => x3 (ix2 a f)) (fun f => x4 (ix1 f))
          (fun j d => x5 (ix2 j d)) s d := by
  have hC := conv_apply x0 x1 x2 x3 x4 b
  have hP := up_apply x0 x1 x2 b
  unfold val_main_v46 val_main_v45 val_main_v44 val_main_v14
  generalize val_main_v43 (F := Ideal) x0 x1 x2 x3 x4 = V at hC ⊢
  generalize val_main_v13 (F := Ideal) x0 x1 x2 = W at hP ⊢
  pointwise
  simp only [hC, hP]
  rfl

end Cert.OddRefIdeal.Hand

end
-- ==== Proof.OddEq.lean ====
/-
  The short-convolution mixer: the reference's array is the kernel's.
-/
module

public import proofs.«01_k».proof.Proof.OddArray
public import proofs.«01_k».proof.Proof.OddRefVal

@[expose] public section

noncomputable section

namespace Cert.OddIdeal.Hand

open Cert.OddIdeal Cert.OddIdeal.Gen Cert.OddIdeal.Value Idealize.ShloMosaic Idealize.ShloMosaic.TcCoe
open Trunk

/-- THE EQUATION: the reference, given the kernel's arguments, computes what the kernel's output array ends holding. -/
theorem equation (m : (ℓ : Loc nD τ sig) → Buf (Elt Ideal) ℓ) (c : Dev nD) :
    Cert.OddRefIdeal.Read.val_main_v46 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) = G6 (F := Ideal) m c := by
  funext i
  have hi : i = ix3 (i 0) (i 1) (i 2) := by
    funext a
    fin_cases a <;> rfl
  rw [hi]
  exact (Cert.OddRefIdeal.Hand.ref_apply _ _ _ _ _ _ (i 0) (i 1) (i 2)).trans (array_apply m c (i 0) (i 1) (i 2)).symm

end Cert.OddIdeal.Hand

end
-- ==== Proof.lean ====
/-
  The claims, assembled: each kernel's frame and each pair's equation of values. The equations are proved in the modules
  `EvenEq`, `FfnEq`, `FfnFinalEq` and `OddEq`.
-/
module

public import proofs.«01_k».proof.Defs
public import proofs.«01_k».proof.Proof.EvenFrame
public import proofs.«01_k».proof.Proof.EvenIdealFrame
public import proofs.«01_k».proof.Proof.EvenRef
public import proofs.«01_k».proof.Proof.EvenEq
public import proofs.«01_k».proof.Proof.FfnEq
public import proofs.«01_k».proof.Proof.FfnFinalEq
public import proofs.«01_k».proof.Proof.OddEq
public import proofs.«01_k».proof.Proof.Gen.Ffn.Frame
public import proofs.«01_k».proof.Proof.Gen.FfnFinal.Frame
public import proofs.«01_k».proof.Proof.Gen.FfnFinalIdeal.Value
public import proofs.«01_k».proof.Proof.Gen.FfnFinalRefIdeal.Run
public import proofs.«01_k».proof.Proof.Gen.FfnFinalRefIdeal.Read
public import proofs.«01_k».proof.Proof.Gen.FfnIdeal.Value
public import proofs.«01_k».proof.Proof.Gen.FfnRefIdeal.Run
public import proofs.«01_k».proof.Proof.Gen.FfnRefIdeal.Read
public import proofs.«01_k».proof.Proof.Gen.Odd.Frame
public import proofs.«01_k».proof.Proof.Gen.OddIdeal.Value
public import proofs.«01_k».proof.Proof.Gen.OddRefIdeal.Run
public import proofs.«01_k».proof.Proof.Gen.OddRefIdeal.Read
public import Idealize.ShloMosaic.Adequacy
public import Idealize.ShloMosaic.Init
public import Idealize.ShloMosaic.Lib.Quiescent
public import Idealize.ShloMosaic.Lib.Tactic.ValueTie

@[expose] public section

noncomputable section

namespace Cert.Proof

open Idealize.ShloMosaic Idealize.SL.Sem

/-- The reference of the even mixer runs and leaves no semaphore raised. -/
theorem quiescent_EvenRefIdeal : quiescent_EvenRefIdeal := fun m ρ _ =>
  (θ_run Cert.EvenRefIdeal.defs _ _).mono (fun r h => ⟨fun c => (h c).2, sem_eq_zero_of_no_sems (by decide) r.2⟩)
    (Cert.EvenRefIdeal.Hand.run_args (F := Ideal) m ρ)

/-- The even mixer's two programs under the precondition of its equation. -/
theorem quiescent_EvenIdeal_pre_finite : quiescent_EvenIdeal_pre_finite := fun m ρ _ => Cert.EvenIdeal.Hand.frame_all m ρ
theorem quiescent_EvenRefIdeal_pre_finite : quiescent_EvenRefIdeal_pre_finite := fun m ρ _ =>
  (θ_run Cert.EvenRefIdeal.defs _ _).mono (fun r h => ⟨fun c => (h c).2, sem_eq_zero_of_no_sems (by decide) r.2⟩)
    (Cert.EvenRefIdeal.Hand.run_args (F := Ideal) m ρ)

/-- The reference of the last feed-forward block runs and leaves no semaphore raised. -/
theorem quiescent_FfnFinalRefIdeal : quiescent_FfnFinalRefIdeal := fun m ρ _ =>
  (θ_run Cert.FfnFinalRefIdeal.defs _ _).mono (fun r h => ⟨fun c => (h c).2, sem_eq_zero_of_no_sems (by decide) r.2⟩)
    (Cert.FfnFinalRefIdeal.Value.run (F := Ideal) m ρ)

/-- The reference of the feed-forward block runs and leaves no semaphore raised. -/
theorem quiescent_FfnRefIdeal : quiescent_FfnRefIdeal := fun m ρ _ =>
  (θ_run Cert.FfnRefIdeal.defs _ _).mono (fun r h => ⟨fun c => (h c).2, sem_eq_zero_of_no_sems (by decide) r.2⟩)
    (Cert.FfnRefIdeal.Value.run (F := Ideal) m ρ)

/-- The reference of the short-convolution mixer runs and leaves no semaphore raised. -/
theorem quiescent_OddRefIdeal : quiescent_OddRefIdeal := fun m ρ _ =>
  (θ_run Cert.OddRefIdeal.defs _ _).mono (fun r h => ⟨fun c => (h c).2, sem_eq_zero_of_no_sems (by decide) r.2⟩)
    (Cert.OddRefIdeal.Value.run (F := Ideal) m ρ)

/-- The last feed-forward block, with the closing normalization, computes its reference. -/
theorem algebraic_FfnFinalIdeal_FfnFinalRefIdeal : algebraic_FfnFinalIdeal_FfnFinalRefIdeal := by
  intro m ρ m' ρ' _ hagree
  refine ⟨_, Cert.FfnFinalIdeal.Value.run (F := Ideal) m ρ, ?_⟩
  refine (θ_run Cert.FfnFinalRefIdeal.defs _ _).mono (fun _ h c => ⟨?_, (h c).2⟩) (Cert.FfnFinalRefIdeal.Value.run (F := Ideal) m' ρ')
  rw [(h c).1, Cert.FfnFinalRefIdeal.Read.val_main_v58_eq]
  simp only [hagree c]
  exact Cert.FfnFinalIdeal.Hand.equation m c

/-- The feed-forward block computes its reference. -/
theorem algebraic_FfnIdeal_FfnRefIdeal : algebraic_FfnIdeal_FfnRefIdeal := by
  intro m ρ m' ρ' _ hagree
  refine ⟨_, Cert.FfnIdeal.Value.run (F := Ideal) m ρ, ?_⟩
  refine (θ_run Cert.FfnRefIdeal.defs _ _).mono (fun _ h c => ⟨?_, (h c).2⟩) (Cert.FfnRefIdeal.Value.run (F := Ideal) m' ρ')
  rw [(h c).1, Cert.FfnRefIdeal.Read.val_main_v45_eq]
  simp only [hagree c]
  exact Cert.FfnIdeal.Hand.equation m c

/-- The short-convolution mixer computes its reference. -/
theorem algebraic_OddIdeal_OddRefIdeal : algebraic_OddIdeal_OddRefIdeal := by
  intro m ρ m' ρ' _ hagree
  refine ⟨_, Cert.OddIdeal.Value.run (F := Ideal) m ρ, ?_⟩
  refine (θ_run Cert.OddRefIdeal.defs _ _).mono (fun _ h c => ⟨?_, (h c).2⟩) (Cert.OddRefIdeal.Value.run (F := Ideal) m' ρ')
  rw [(h c).1, Cert.OddRefIdeal.Read.val_main_v46_eq]
  simp only [hagree c]
  exact Cert.OddIdeal.Hand.equation m c

/-- The even mixer computes its reference, where the values the recurrence is made of are finite. -/
theorem algebraic_EvenIdeal_EvenRefIdeal_pre_finite : algebraic_EvenIdeal_EvenRefIdeal_pre_finite := by
  intro m ρ m' ρ' hp hagree
  refine ⟨_, Cert.EvenIdeal.Hand.run_value m ρ fun c => Cert.EvenIdeal.Hand.real_args m c (hp c), ?_⟩
  refine (θ_run Cert.EvenRefIdeal.defs _ _).mono (fun _ h c => ⟨?_, (h c).2⟩) (Cert.EvenRefIdeal.Hand.run_args (F := Ideal) m' ρ')
  rw [(h c).1, Cert.EvenRefIdeal.Hand.ref_array]
  simp only [hagree c]
  exact Cert.EvenIdeal.Hand.equation m c

/-- Every claim stated. -/
theorem claim : Cert.Claim := ⟨Cert.Even.Gen.facts, Cert.EvenIdeal.Gen.facts, Cert.EvenRefIdeal.Gen.facts, Cert.FfnFinal.Gen.facts, Cert.FfnFinalIdeal.Gen.facts, Cert.FfnFinalRefIdeal.Gen.facts, Cert.Ffn.Gen.facts, Cert.FfnIdeal.Gen.facts, Cert.FfnRefIdeal.Gen.facts, Cert.Odd.Gen.facts, Cert.OddIdeal.Gen.facts, Cert.OddRefIdeal.Gen.facts, Cert.EvenIdeal.Hand.preFacts,
  fun m ρ _ => Cert.Even.Hand.frame_all m ρ, fun m ρ _ => Cert.EvenIdeal.Hand.frame_all m ρ, quiescent_EvenIdeal_pre_finite, quiescent_EvenRefIdeal, quiescent_EvenRefIdeal_pre_finite, fun m ρ _ => Cert.FfnFinal.Gen.frame m ρ, fun m ρ _ => Cert.FfnFinalIdeal.Gen.frame m ρ, quiescent_FfnFinalRefIdeal, fun m ρ _ => Cert.Ffn.Gen.frame m ρ, fun m ρ _ => Cert.FfnIdeal.Gen.frame m ρ, quiescent_FfnRefIdeal, fun m ρ _ => Cert.Odd.Gen.frame m ρ, fun m ρ _ => Cert.OddIdeal.Gen.frame m ρ, quiescent_OddRefIdeal, (trivial : preserves_Even_EvenIdeal), algebraic_EvenIdeal_EvenRefIdeal_pre_finite, (trivial : preserves_FfnFinal_FfnFinalIdeal), algebraic_FfnFinalIdeal_FfnFinalRefIdeal, (trivial : preserves_Ffn_FfnIdeal), algebraic_FfnIdeal_FfnRefIdeal, (trivial : preserves_Odd_OddIdeal), algebraic_OddIdeal_OddRefIdeal⟩

end Cert.Proof

end
